-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_bounded_KernelIdeal [hPre_products_bounded_KernelIdeal : Cert.Pre_products_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_products_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_products_bounded_ReferenceIdeal [hPre_products_bounded_ReferenceIdeal : Cert.Pre_products_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_products_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_products_bounded_KernelIdeal [hKernelIdeal : Cert.KernelIdeal.Facts] [hPre_products_bounded_KernelIdeal : Cert.Pre_products_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_products_bounded_ReferenceIdeal [hReferenceIdeal : Cert.ReferenceIdeal.Facts] [hPre_products_bounded_ReferenceIdeal : Cert.Pre_products_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_products_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_products_bounded_KernelIdeal [hKernelIdeal : Cert.KernelIdeal.Facts] [hReferenceIdeal : Cert.ReferenceIdeal.Facts] [hPre_products_bounded_KernelIdeal : Cert.Pre_products_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_products_bounded_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_products_bounded_KernelIdeal : Cert.Pre_products_bounded_KernelIdeal.Facts) (hPre_products_bounded_ReferenceIdeal : Cert.Pre_products_bounded_ReferenceIdeal.Facts),
    quiescent_Kernel (hKernel := hKernel)
    ∧ quiescent_KernelIdeal (hKernelIdeal := hKernelIdeal)
    ∧ quiescent_KernelIdeal_pre_products_bounded_KernelIdeal (hKernelIdeal := hKernelIdeal) (hPre_products_bounded_KernelIdeal := hPre_products_bounded_KernelIdeal)
    ∧ quiescent_ReferenceIdeal (hReferenceIdeal := hReferenceIdeal)
    ∧ quiescent_ReferenceIdeal_pre_products_bounded_ReferenceIdeal (hReferenceIdeal := hReferenceIdeal) (hPre_products_bounded_ReferenceIdeal := hPre_products_bounded_ReferenceIdeal)
    ∧ preserves_Kernel_KernelIdeal
    ∧ algebraic_KernelIdeal_ReferenceIdeal_pre_products_bounded_KernelIdeal (hKernelIdeal := hKernelIdeal) (hReferenceIdeal := hReferenceIdeal) (hPre_products_bounded_KernelIdeal := hPre_products_bounded_KernelIdeal)
-- ==== Pre_products_bounded_KernelIdeal.lean ====
abbrev S4096x128 : Shape := ⟨2, ![4096, 128]⟩
abbrev S128x2048 : Shape := ⟨2, ![128, 2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  dot_S4096x128_S128x2048_S4096x2048_1_0_0_1_n_n_wf : DotDims.WF S4096x128 S128x2048 S4096x2048 [1] [0] [0] [1] [] []

variable [Facts]

def dot_S4096x128_S128x2048_S4096x2048_1_0_0_1_n_n : DotDims S4096x128 S128x2048 S4096x2048 where
  lhsContracting := [1]
  rhsContracting := [0]
  lhsNonContracting := [0]
  rhsNonContracting := [1]
  lhsBatch := []
  rhsBatch := []
  wf := dot_S4096x128_S128x2048_S4096x2048_1_0_0_1_n_n_wf
def fn {F : FTy → Type} [FloatOps F] (main_arg0 : FVec F S4096x128 .bf16) (main_arg1 : FVec F S128x2048 .bf16) : IVec S4096x2048 1 :=
  let main_v0 : FVec F S4096x128 .f32 := (extf .f32 · bitsLt_bf16_f32) main_arg0
  let main_v1 : FVec F S128x2048 .f32 := (extf .f32 · bitsLt_bf16_f32) main_arg1
  let main_v2 : FVec F S4096x2048 .f32 := (fun l r => Host.dotGeneral dot_S4096x128_S128x2048_S4096x2048_1_0_0_1_n_n none l r) main_v0 main_v1
  let main_v3 : FVec F S4096x2048 .f32 := Host.absf main_v2
  let main_cst : FVec F S_ .f32 := constant S_ .f32 0x3FF00000#32
  let main_v4 : FVec F S4096x2048 .f32 := broadcastInDim S4096x2048 ![] bcast_S_S4096x2048 main_cst
  let main_v5 : IVec S4096x2048 1 := cmpf .ole main_v3 main_v4
  main_v5
-- ==== Pre_products_bounded_ReferenceIdeal.lean ====
abbrev S4096x4096 : Shape := ⟨2, ![4096, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S4096x2048 1 :=
  let main_v0 : FVec F S4096x4096 .f32 := (extf .f32 · bitsLt_bf16_f32) main_arg0
  let main_v1 : FVec F S4096x2048 .f32 := (extf .f32 · bitsLt_bf16_f32) main_arg1
  let main_v2 : FVec F S4096x2048 .f32 := (fun l r => Host.dotGeneral dot_S4096x4096_S4096x2048_S4096x2048_1_0_0_1_n_n none l r) main_v0 main_v1
  let main_v3 : FVec F S4096x2048 .f32 := Host.absf main_v2
  let main_cst : FVec F S_ .f32 := constant S_ .f32 0x3FF00000#32
  let main_v4 : FVec F S4096x2048 .f32 := broadcastInDim S4096x2048 ![] bcast_S_S4096x2048 main_cst
  let main_v5 : IVec S4096x2048 1 := cmpf .ole main_v3 main_v4
  main_v5
-- ==== Kernel.lean ====
abbrev S4096x128 : Shape := ⟨2, ![4096, 128]⟩
abbrev S128x2048 : Shape := ⟨2, ![128, 2048]⟩
abbrev S3x128 : Shape := ⟨2, ![3, 128]⟩
abbrev S4096x2048 : Shape := ⟨2, ![4096, 2048]⟩
abbrev S8x2x16x2048 : Shape := ⟨4, ![8, 2, 16, 2048]⟩
abbrev S8x4x16x2048 : Shape := ⟨4, ![8, 4, 16, 2048]⟩
abbrev S8x2 : Shape := ⟨2, ![8, 2]⟩
abbrev S8x4 : Shape := ⟨2, ![8, 4]⟩
abbrev S8 : Shape := ⟨1, ![8]⟩
abbrev S_ : Shape := ⟨0, ![]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S128x128 : Shape := ⟨2, ![128, 128]⟩
abbrev S16x2048 : Shape := ⟨2, ![16, 2048]⟩
abbrev S1x1x16x2048 : Shape := ⟨4, ![1, 1, 16, 2048]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S3x128, .i32⟩
  | .hbm, ⟨3, _⟩ => ⟨S4096x2048, .bf16⟩
  | .local _ .vmem, ⟨0, _⟩ => ⟨S4096x128, .bf16⟩
  | .local _ .vmem, ⟨1, _⟩ => ⟨S128x2048, .bf16⟩
  | .local _ .vmem, ⟨2, _⟩ => ⟨S3x128, .i32⟩
  | .local _ .vmem, ⟨3, _⟩ => ⟨S4096x2048, .bf16⟩
  | .local _ .vmem, ⟨4, _⟩ => ⟨S8x2x16x2048, .bf16⟩
  | .local _ .vmem, ⟨5, _⟩ => ⟨S8x4x16x2048, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 9 60 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 8

abbrev nD : Nat := 32
abbrev τ : Topo := Topo.v7x

variable {F : FTy → Type} [FloatOps F]

abbrev grid0 : Pipeline.Grid := .none

def k0_dev1 (v30 : BitVec 32) : Nat :=
  let c0_i32_27 : BitVec 32 := 0#32
  let c1_i32_26 : BitVec 32 := 1#32
  let v50 : BitVec 32 := Scalar.muli v30 c1_i32_26
  let v51 : BitVec 32 := Scalar.addi c0_i32_27 v50
  v51.toNat

def k0_dev2 (v21 : BitVec 32) : Nat :=
  let c0_i32_30 : BitVec 32 := 0#32
  let c1_i32_29 : BitVec 32 := 1#32
  let v52 : BitVec 32 := Scalar.muli v21 c1_i32_29
  let v53 : BitVec 32 := Scalar.addi c0_i32_30 v52
  v53.toNat

def k0_off1 (v12 : BitVec 32) : Fin 2 → Nat :=
  let c128_i32 : BitVec 32 := 128#32
  let v56 : BitVec 32 := Scalar.muli v12 c128_i32
  let v57 : Index := Scalar.indexCast v56
  let c0_33 : Index := 0#32
  ![v57.toNat, 0]

def k0_off2 (v12 : BitVec 32) : Fin 2 → Nat :=
  let c128_i32 : BitVec 32 := 128#32
  let v56 : BitVec 32 := Scalar.muli v12 c128_i32
  let v62 : Index := Scalar.indexCast v56
  let c0_35 : Index := 0#32
  ![v62.toNat, 0]
def k0_off3 (v12 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let c128_i32_36 : BitVec 32 := 128#32
  let v64 : BitVec 32 := Scalar.muli v32 c128_i32_36
  let v65 : Index := Scalar.indexCast v64
  let c0_37 : Index := 0#32
  ![v65.toNat, 0]
def k0_off4 (v12 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let c128_i32_36 : BitVec 32 := 128#32
  let v64 : BitVec 32 := Scalar.muli v32 c128_i32_36
  let v70 : Index := Scalar.indexCast v64
  let c0_39 : Index := 0#32
  ![v70.toNat, 0]
def k0_off5 (v12 : BitVec 32) (c0_i32_41 : BitVec 32) : Fin 2 → Nat :=
  let c128_i32_40 : BitVec 32 := 128#32
  let v72 : BitVec 32 := Scalar.muli v12 c128_i32_40
  let v73 : BitVec 32 := Scalar.addi v72 c0_i32_41
  let v74 : Index := Scalar.indexCast v73
  let c0_42 : Index := 0#32
  ![v74.toNat, 0]
def k0_dev3 (v21 : BitVec 32) : Nat :=
  let c0_i32_56 : BitVec 32 := 0#32
  let c1_i32_55 : BitVec 32 := 1#32
  let v80 : BitVec 32 := Scalar.muli v21 c1_i32_55
  let v81 : BitVec 32 := Scalar.addi c0_i32_56 v80
  v81.toNat
def k0_dev4 (v21 : BitVec 32) : Nat :=
  let c0_i32_76 : BitVec 32 := 0#32
  let c1_i32_75 : BitVec 32 := 1#32
  let v98 : BitVec 32 := Scalar.muli v21 c1_i32_75
  let v99 : BitVec 32 := Scalar.addi c0_i32_76 v98
  v99.toNat
def k0_dev5 (v21 : BitVec 32) : Nat :=
  let c0_i32_97 : BitVec 32 := 0#32
  let c1_i32_96 : BitVec 32 := 1#32
  let v116 : BitVec 32 := Scalar.muli v21 c1_i32_96
  let v117 : BitVec 32 := Scalar.addi c0_i32_97 v116
  v117.toNat
def k0_dev6 (v21 : BitVec 32) : Nat :=
  let c0_i32_115 : BitVec 32 := 0#32
  let c1_i32_114 : BitVec 32 := 1#32
  let v134 : BitVec 32 := Scalar.muli v21 c1_i32_114
  let v135 : BitVec 32 := Scalar.addi c0_i32_115 v134
  v135.toNat
def k0_off6 (v12 : BitVec 32) (c64_i32 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let c128_i32_120 : BitVec 32 := 128#32
  let v144 : BitVec 32 := Scalar.muli v32 c128_i32_120
  let v145 : BitVec 32 := Scalar.addi v144 c64_i32
  let v146 : Index := Scalar.indexCast v145
  let c0_121 : Index := 0#32
  ![v146.toNat, 0]
def k0_dev7 (v30 : BitVec 32) : Nat :=
  let c0_i32_133 : BitVec 32 := 0#32
  let c1_i32_132 : BitVec 32 := 1#32
  let v152 : BitVec 32 := Scalar.muli v30 c1_i32_132
  let v153 : BitVec 32 := Scalar.addi c0_i32_133 v152
  v153.toNat
def k0_dev8 (v30 : BitVec 32) : Nat :=
  let c0_i32_151 : BitVec 32 := 0#32
  let c1_i32_150 : BitVec 32 := 1#32
  let v170 : BitVec 32 := Scalar.muli v30 c1_i32_150
  let v171 : BitVec 32 := Scalar.addi c0_i32_151 v170
  v171.toNat
def k0_dev9 (v30 : BitVec 32) : Nat :=
  let c0_i32_169 : BitVec 32 := 0#32
  let c1_i32_168 : BitVec 32 := 1#32
  let v188 : BitVec 32 := Scalar.muli v30 c1_i32_168
  let v189 : BitVec 32 := Scalar.addi c0_i32_169 v188
  v189.toNat
def k0_dev10 (v30 : BitVec 32) : Nat :=
  let c0_i32_187 : BitVec 32 := 0#32
  let c1_i32_186 : BitVec 32 := 1#32
  let v206 : BitVec 32 := Scalar.muli v30 c1_i32_186
  let v207 : BitVec 32 := Scalar.addi c0_i32_187 v206
  v207.toNat
def k0_off7 (v12 : BitVec 32) (c0_i32_211 : BitVec 32) (c0_i32_216 : BitVec 32) : Fin 2 → Nat :=
  let v229 : BitVec 32 := Scalar.subi v12 c0_i32_211
  let c1_i32_212 : BitVec 32 := 1#32
  let v230 : BitVec 32 := Scalar.subi v229 c1_i32_212
  let c64_i32_213 : BitVec 32 := 64#32
  let v231 : BitVec 32 := Scalar.addi v230 c64_i32_213
  let c32_i32_214 : BitVec 32 := 32#32
  let v232 : BitVec 32 := Scalar.remsi v231 c32_i32_214
  let c128_i32_215 : BitVec 32 := 128#32
  let v233 : BitVec 32 := Scalar.muli v232 c128_i32_215
  let v234 : BitVec 32 := Scalar.addi v233 c0_i32_216
  let v235 : Index := Scalar.indexCast v234
  let c0_217 : Index := 0#32
  ![v235.toNat, 0]
def k0_off7_at (r : Fin 28) : BitVec 32 × BitVec 32 :=
  if r.val < 14 then
    if r.val < 7 then
      if r.val < 3 then
        if r.val < 1 then
          (0#32, 0#32)
        else
          if r.val < 2 then
            (0#32, 16#32)
          else
            (0#32, 32#32)
      else
        if r.val < 5 then
          if r.val < 4 then
            (0#32, 48#32)
          else
            (1#32, 0#32)
        else
          if r.val < 6 then
            (1#32, 16#32)
          else
            (1#32, 32#32)
    else
      if r.val < 10 then
        if r.val < 8 then
          (1#32, 48#32)
        else
          if r.val < 9 then
            (2#32, 0#32)
          else
            (2#32, 16#32)
      else
        if r.val < 12 then
          if r.val < 11 then
            (2#32, 32#32)
          else
            (2#32, 48#32)
        else
          if r.val < 13 then
            (3#32, 0#32)
          else
            (3#32, 16#32)
  else
    if r.val < 21 then
      if r.val < 17 then
        if r.val < 15 then
          (3#32, 32#32)
        else
          if r.val < 16 then
            (3#32, 48#32)
          else
            (28#32, 0#32)
      else
        if r.val < 19 then
          if r.val < 18 then
            (28#32, 16#32)
          else
            (28#32, 32#32)
        else
          if r.val < 20 then
            (28#32, 48#32)
          else
            (29#32, 0#32)
    else
      if r.val < 24 then
        if r.val < 22 then
          (29#32, 16#32)
        else
          if r.val < 23 then
            (29#32, 32#32)
          else
            (29#32, 48#32)
      else
        if r.val < 26 then
          if r.val < 25 then
            (30#32, 0#32)
          else
            (30#32, 16#32)
        else
          if r.val < 27 then
            (30#32, 32#32)
          else
            (30#32, 48#32)
def k0_dev11 (v21 : BitVec 32) : Nat :=
  let c0_i32_235 : BitVec 32 := 0#32
  let c1_i32_234 : BitVec 32 := 1#32
  let v244 : BitVec 32 := Scalar.muli v21 c1_i32_234
  let v245 : BitVec 32 := Scalar.addi c0_i32_235 v244
  v245.toNat
def k0_dev12 (v30 : BitVec 32) : Nat :=
  let c0_i32_242 : BitVec 32 := 0#32
  let c1_i32_241 : BitVec 32 := 1#32
  let v254 : BitVec 32 := Scalar.muli v30 c1_i32_241
  let v255 : BitVec 32 := Scalar.addi c0_i32_242 v254
  v255.toNat
def k0_dev13 (v21 : BitVec 32) : Nat :=
  let c0_i32_281 : BitVec 32 := 0#32
  let c1_i32_280 : BitVec 32 := 1#32
  let v279 : BitVec 32 := Scalar.muli v21 c1_i32_280
  let v280 : BitVec 32 := Scalar.addi c0_i32_281 v279
  v280.toNat
def k0_dev14 (v30 : BitVec 32) : Nat :=
  let c0_i32_288 : BitVec 32 := 0#32
  let c1_i32_287 : BitVec 32 := 1#32
  let v289 : BitVec 32 := Scalar.muli v30 c1_i32_287
  let v290 : BitVec 32 := Scalar.addi c0_i32_288 v289
  v290.toNat
def k0_dev15 (v21 : BitVec 32) : Nat :=
  let c0_i32_327 : BitVec 32 := 0#32
  let c1_i32_326 : BitVec 32 := 1#32
  let v314 : BitVec 32 := Scalar.muli v21 c1_i32_326
  let v315 : BitVec 32 := Scalar.addi c0_i32_327 v314
  v315.toNat
def k0_dev16 (v30 : BitVec 32) : Nat :=
  let c0_i32_334 : BitVec 32 := 0#32
  let c1_i32_333 : BitVec 32 := 1#32
  let v324 : BitVec 32 := Scalar.muli v30 c1_i32_333
  let v325 : BitVec 32 := Scalar.addi c0_i32_334 v324
  v325.toNat
def k0_dev17 (v21 : BitVec 32) : Nat :=
  let c0_i32_373 : BitVec 32 := 0#32
  let c1_i32_372 : BitVec 32 := 1#32
  let v349 : BitVec 32 := Scalar.muli v21 c1_i32_372
  let v350 : BitVec 32 := Scalar.addi c0_i32_373 v349
  v350.toNat
def k0_dev18 (v30 : BitVec 32) : Nat :=
  let c0_i32_380 : BitVec 32 := 0#32
  let c1_i32_379 : BitVec 32 := 1#32
  let v359 : BitVec 32 := Scalar.muli v30 c1_i32_379
  let v360 : BitVec 32 := Scalar.addi c0_i32_380 v359
  v360.toNat
def k0_off8 (v12 : BitVec 32) (c0_i32_395 : BitVec 32) (c64_i32_400 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let v369 : BitVec 32 := Scalar.subi v32 c0_i32_395
  let c1_i32_396 : BitVec 32 := 1#32
  let v370 : BitVec 32 := Scalar.subi v369 c1_i32_396
  let c64_i32_397 : BitVec 32 := 64#32
  let v371 : BitVec 32 := Scalar.addi v370 c64_i32_397
  let c32_i32_398 : BitVec 32 := 32#32
  let v372 : BitVec 32 := Scalar.remsi v371 c32_i32_398
  let c128_i32_399 : BitVec 32 := 128#32
  let v373 : BitVec 32 := Scalar.muli v372 c128_i32_399
  let v374 : BitVec 32 := Scalar.addi v373 c64_i32_400
  let v375 : Index := Scalar.indexCast v374
  let c0_401 : Index := 0#32
  ![v375.toNat, 0]
def k0_off8_at (r : Fin 28) : BitVec 32 × BitVec 32 :=
  if r.val < 14 then
    if r.val < 7 then
      if r.val < 3 then
        if r.val < 1 then
          (0#32, 64#32)
        else
          if r.val < 2 then
            (0#32, 80#32)
          else
            (0#32, 96#32)
      else
        if r.val < 5 then
          if r.val < 4 then
            (0#32, 112#32)
          else
            (1#32, 64#32)
        else
          if r.val < 6 then
            (1#32, 80#32)
          else
            (1#32, 96#32)
    else
      if r.val < 10 then
        if r.val < 8 then
          (1#32, 112#32)
        else
          if r.val < 9 then
            (2#32, 64#32)
          else
            (2#32, 80#32)
      else
        if r.val < 12 then
          if r.val < 11 then
            (2#32, 96#32)
          else
            (2#32, 112#32)
        else
          if r.val < 13 then
            (3#32, 64#32)
          else
            (3#32, 80#32)
  else
    if r.val < 21 then
      if r.val < 17 then
        if r.val < 15 then
          (3#32, 96#32)
        else
          if r.val < 16 then
            (3#32, 112#32)
          else
            (28#32, 64#32)
      else
        if r.val < 19 then
          if r.val < 18 then
            (28#32, 80#32)
          else
            (28#32, 96#32)
        else
          if r.val < 20 then
            (28#32, 112#32)
          else
            (29#32, 64#32)
    else
      if r.val < 24 then
        if r.val < 22 then
          (29#32, 80#32)
        else
          if r.val < 23 then
            (29#32, 96#32)
          else
            (29#32, 112#32)
      else
        if r.val < 26 then
          if r.val < 25 then
            (30#32, 64#32)
          else
            (30#32, 80#32)
        else
          if r.val < 27 then
            (30#32, 96#32)
          else
            (30#32, 112#32)
def k0_dev19 (v30 : BitVec 32) : Nat :=
  let c0_i32_419 : BitVec 32 := 0#32
  let c1_i32_418 : BitVec 32 := 1#32
  let v384 : BitVec 32 := Scalar.muli v30 c1_i32_418
  let v385 : BitVec 32 := Scalar.addi c0_i32_419 v384
  v385.toNat
def k0_dev20 (v21 : BitVec 32) : Nat :=
  let c0_i32_426 : BitVec 32 := 0#32
  let c1_i32_425 : BitVec 32 := 1#32
  let v394 : BitVec 32 := Scalar.muli v21 c1_i32_425
  let v395 : BitVec 32 := Scalar.addi c0_i32_426 v394
  v395.toNat
def k0_dev21 (v30 : BitVec 32) : Nat :=
  let c0_i32_465 : BitVec 32 := 0#32
  let c1_i32_464 : BitVec 32 := 1#32
  let v419 : BitVec 32 := Scalar.muli v30 c1_i32_464
  let v420 : BitVec 32 := Scalar.addi c0_i32_465 v419
  v420.toNat
def k0_dev22 (v21 : BitVec 32) : Nat :=
  let c0_i32_472 : BitVec 32 := 0#32
  let c1_i32_471 : BitVec 32 := 1#32
  let v429 : BitVec 32 := Scalar.muli v21 c1_i32_471
  let v430 : BitVec 32 := Scalar.addi c0_i32_472 v429
  v430.toNat
def k0_dev23 (v30 : BitVec 32) : Nat :=
  let c0_i32_511 : BitVec 32 := 0#32
  let c1_i32_510 : BitVec 32 := 1#32
  let v454 : BitVec 32 := Scalar.muli v30 c1_i32_510
  let v455 : BitVec 32 := Scalar.addi c0_i32_511 v454
  v455.toNat
def k0_dev24 (v21 : BitVec 32) : Nat :=
  let c0_i32_518 : BitVec 32 := 0#32
  let c1_i32_517 : BitVec 32 := 1#32
  let v464 : BitVec 32 := Scalar.muli v21 c1_i32_517
  let v465 : BitVec 32 := Scalar.addi c0_i32_518 v464
  v465.toNat
def k0_dev25 (v30 : BitVec 32) : Nat :=
  let c0_i32_557 : BitVec 32 := 0#32
  let c1_i32_556 : BitVec 32 := 1#32
  let v489 : BitVec 32 := Scalar.muli v30 c1_i32_556
  let v490 : BitVec 32 := Scalar.addi c0_i32_557 v489
  v490.toNat
def k0_dev26 (v21 : BitVec 32) : Nat :=
  let c0_i32_564 : BitVec 32 := 0#32
  let c1_i32_563 : BitVec 32 := 1#32
  let v499 : BitVec 32 := Scalar.muli v21 c1_i32_563
  let v500 : BitVec 32 := Scalar.addi c0_i32_564 v499
  v500.toNat
def k0_dev27 (v21 : BitVec 32) : Nat :=
  let c0_i32_616 : BitVec 32 := 0#32
  let c1_i32_615 : BitVec 32 := 1#32
  let v530 : BitVec 32 := Scalar.muli v21 c1_i32_615
  let v531 : BitVec 32 := Scalar.addi c0_i32_616 v530
  v531.toNat
def k0_dev28 (v30 : BitVec 32) : Nat :=
  let c0_i32_623 : BitVec 32 := 0#32
  let c1_i32_622 : BitVec 32 := 1#32
  let v540 : BitVec 32 := Scalar.muli v30 c1_i32_622
  let v541 : BitVec 32 := Scalar.addi c0_i32_623 v540
  v541.toNat
def k0_dev29 (v21 : BitVec 32) : Nat :=
  let c0_i32_675 : BitVec 32 := 0#32
  let c1_i32_674 : BitVec 32 := 1#32
  let v571 : BitVec 32 := Scalar.muli v21 c1_i32_674
  let v572 : BitVec 32 := Scalar.addi c0_i32_675 v571
  v572.toNat
def k0_dev30 (v30 : BitVec 32) : Nat :=
  let c0_i32_682 : BitVec 32 := 0#32
  let c1_i32_681 : BitVec 32 := 1#32
  let v581 : BitVec 32 := Scalar.muli v30 c1_i32_681
  let v582 : BitVec 32 := Scalar.addi c0_i32_682 v581
  v582.toNat
def k0_dev31 (v21 : BitVec 32) : Nat :=
  let c0_i32_734 : BitVec 32 := 0#32
  let c1_i32_733 : BitVec 32 := 1#32
  let v612 : BitVec 32 := Scalar.muli v21 c1_i32_733
  let v613 : BitVec 32 := Scalar.addi c0_i32_734 v612
  v613.toNat
def k0_dev32 (v30 : BitVec 32) : Nat :=
  let c0_i32_741 : BitVec 32 := 0#32
  let c1_i32_740 : BitVec 32 := 1#32
  let v622 : BitVec 32 := Scalar.muli v30 c1_i32_740
  let v623 : BitVec 32 := Scalar.addi c0_i32_741 v622
  v623.toNat
def k0_dev33 (v21 : BitVec 32) : Nat :=
  let c0_i32_793 : BitVec 32 := 0#32
  let c1_i32_792 : BitVec 32 := 1#32
  let v653 : BitVec 32 := Scalar.muli v21 c1_i32_792
  let v654 : BitVec 32 := Scalar.addi c0_i32_793 v653
  v654.toNat
def k0_dev34 (v30 : BitVec 32) : Nat :=
  let c0_i32_800 : BitVec 32 := 0#32
  let c1_i32_799 : BitVec 32 := 1#32
  let v663 : BitVec 32 := Scalar.muli v30 c1_i32_799
  let v664 : BitVec 32 := Scalar.addi c0_i32_800 v663
  v664.toNat
def k0_dev35 (v30 : BitVec 32) : Nat :=
  let c0_i32_852 : BitVec 32 := 0#32
  let c1_i32_851 : BitVec 32 := 1#32
  let v694 : BitVec 32 := Scalar.muli v30 c1_i32_851
  let v695 : BitVec 32 := Scalar.addi c0_i32_852 v694
  v695.toNat
def k0_dev36 (v21 : BitVec 32) : Nat :=
  let c0_i32_859 : BitVec 32 := 0#32
  let c1_i32_858 : BitVec 32 := 1#32
  let v704 : BitVec 32 := Scalar.muli v21 c1_i32_858
  let v705 : BitVec 32 := Scalar.addi c0_i32_859 v704
  v705.toNat
def k0_dev37 (v30 : BitVec 32) : Nat :=
  let c0_i32_911 : BitVec 32 := 0#32
  let c1_i32_910 : BitVec 32 := 1#32
  let v735 : BitVec 32 := Scalar.muli v30 c1_i32_910
  let v736 : BitVec 32 := Scalar.addi c0_i32_911 v735
  v736.toNat
def k0_dev38 (v21 : BitVec 32) : Nat :=
  let c0_i32_918 : BitVec 32 := 0#32
  let c1_i32_917 : BitVec 32 := 1#32
  let v745 : BitVec 32 := Scalar.muli v21 c1_i32_917
  let v746 : BitVec 32 := Scalar.addi c0_i32_918 v745
  v746.toNat
def k0_dev39 (v30 : BitVec 32) : Nat :=
  let c0_i32_970 : BitVec 32 := 0#32
  let c1_i32_969 : BitVec 32 := 1#32
  let v776 : BitVec 32 := Scalar.muli v30 c1_i32_969
  let v777 : BitVec 32 := Scalar.addi c0_i32_970 v776
  v777.toNat
def k0_dev40 (v21 : BitVec 32) : Nat :=
  let c0_i32_977 : BitVec 32 := 0#32
  let c1_i32_976 : BitVec 32 := 1#32
  let v786 : BitVec 32 := Scalar.muli v21 c1_i32_976
  let v787 : BitVec 32 := Scalar.addi c0_i32_977 v786
  v787.toNat
def k0_dev41 (v30 : BitVec 32) : Nat :=
  let c0_i32_1029 : BitVec 32 := 0#32
  let c1_i32_1028 : BitVec 32 := 1#32
  let v817 : BitVec 32 := Scalar.muli v30 c1_i32_1028
  let v818 : BitVec 32 := Scalar.addi c0_i32_1029 v817
  v818.toNat
def k0_dev42 (v21 : BitVec 32) : Nat :=
  let c0_i32_1036 : BitVec 32 := 0#32
  let c1_i32_1035 : BitVec 32 := 1#32
  let v827 : BitVec 32 := Scalar.muli v21 c1_i32_1035
  let v828 : BitVec 32 := Scalar.addi c0_i32_1036 v827
  v828.toNat
def k0_dev43 (v21 : BitVec 32) : Nat :=
  let c0_i32_1088 : BitVec 32 := 0#32
  let c1_i32_1087 : BitVec 32 := 1#32
  let v858 : BitVec 32 := Scalar.muli v21 c1_i32_1087
  let v859 : BitVec 32 := Scalar.addi c0_i32_1088 v858
  v859.toNat
def k0_dev44 (v30 : BitVec 32) : Nat :=
  let c0_i32_1095 : BitVec 32 := 0#32
  let c1_i32_1094 : BitVec 32 := 1#32
  let v868 : BitVec 32 := Scalar.muli v30 c1_i32_1094
  let v869 : BitVec 32 := Scalar.addi c0_i32_1095 v868
  v869.toNat
def k0_dev45 (v21 : BitVec 32) : Nat :=
  let c0_i32_1147 : BitVec 32 := 0#32
  let c1_i32_1146 : BitVec 32 := 1#32
  let v899 : BitVec 32 := Scalar.muli v21 c1_i32_1146
  let v900 : BitVec 32 := Scalar.addi c0_i32_1147 v899
  v900.toNat
def k0_dev46 (v30 : BitVec 32) : Nat :=
  let c0_i32_1154 : BitVec 32 := 0#32
  let c1_i32_1153 : BitVec 32 := 1#32
  let v909 : BitVec 32 := Scalar.muli v30 c1_i32_1153
  let v910 : BitVec 32 := Scalar.addi c0_i32_1154 v909
  v910.toNat
def k0_dev47 (v21 : BitVec 32) : Nat :=
  let c0_i32_1206 : BitVec 32 := 0#32
  let c1_i32_1205 : BitVec 32 := 1#32
  let v940 : BitVec 32 := Scalar.muli v21 c1_i32_1205
  let v941 : BitVec 32 := Scalar.addi c0_i32_1206 v940
  v941.toNat
def k0_dev48 (v30 : BitVec 32) : Nat :=
  let c0_i32_1213 : BitVec 32 := 0#32
  let c1_i32_1212 : BitVec 32 := 1#32
  let v950 : BitVec 32 := Scalar.muli v30 c1_i32_1212
  let v951 : BitVec 32 := Scalar.addi c0_i32_1213 v950
  v951.toNat
def k0_dev49 (v21 : BitVec 32) : Nat :=
  let c0_i32_1265 : BitVec 32 := 0#32
  let c1_i32_1264 : BitVec 32 := 1#32
  let v981 : BitVec 32 := Scalar.muli v21 c1_i32_1264
  let v982 : BitVec 32 := Scalar.addi c0_i32_1265 v981
  v982.toNat
def k0_dev50 (v30 : BitVec 32) : Nat :=
  let c0_i32_1272 : BitVec 32 := 0#32
  let c1_i32_1271 : BitVec 32 := 1#32
  let v991 : BitVec 32 := Scalar.muli v30 c1_i32_1271
  let v992 : BitVec 32 := Scalar.addi c0_i32_1272 v991
  v992.toNat
def k0_dev51 (v30 : BitVec 32) : Nat :=
  let c0_i32_1324 : BitVec 32 := 0#32
  let c1_i32_1323 : BitVec 32 := 1#32
  let v1022 : BitVec 32 := Scalar.muli v30 c1_i32_1323
  let v1023 : BitVec 32 := Scalar.addi c0_i32_1324 v1022
  v1023.toNat
def k0_dev52 (v21 : BitVec 32) : Nat :=
  let c0_i32_1331 : BitVec 32 := 0#32
  let c1_i32_1330 : BitVec 32 := 1#32
  let v1032 : BitVec 32 := Scalar.muli v21 c1_i32_1330
  let v1033 : BitVec 32 := Scalar.addi c0_i32_1331 v1032
  v1033.toNat
def k0_dev53 (v30 : BitVec 32) : Nat :=
  let c0_i32_1383 : BitVec 32 := 0#32
  let c1_i32_1382 : BitVec 32 := 1#32
  let v1063 : BitVec 32 := Scalar.muli v30 c1_i32_1382
  let v1064 : BitVec 32 := Scalar.addi c0_i32_1383 v1063
  v1064.toNat
def k0_dev54 (v21 : BitVec 32) : Nat :=
  let c0_i32_1390 : BitVec 32 := 0#32
  let c1_i32_1389 : BitVec 32 := 1#32
  let v1073 : BitVec 32 := Scalar.muli v21 c1_i32_1389
  let v1074 : BitVec 32 := Scalar.addi c0_i32_1390 v1073
  v1074.toNat
def k0_dev55 (v30 : BitVec 32) : Nat :=
  let c0_i32_1442 : BitVec 32 := 0#32
  let c1_i32_1441 : BitVec 32 := 1#32
  let v1104 : BitVec 32 := Scalar.muli v30 c1_i32_1441
  let v1105 : BitVec 32 := Scalar.addi c0_i32_1442 v1104
  v1105.toNat
def k0_dev56 (v21 : BitVec 32) : Nat :=
  let c0_i32_1449 : BitVec 32 := 0#32
  let c1_i32_1448 : BitVec 32 := 1#32
  let v1114 : BitVec 32 := Scalar.muli v21 c1_i32_1448
  let v1115 : BitVec 32 := Scalar.addi c0_i32_1449 v1114
  v1115.toNat
def k0_dev57 (v30 : BitVec 32) : Nat :=
  let c0_i32_1501 : BitVec 32 := 0#32
  let c1_i32_1500 : BitVec 32 := 1#32
  let v1145 : BitVec 32 := Scalar.muli v30 c1_i32_1500
  let v1146 : BitVec 32 := Scalar.addi c0_i32_1501 v1145
  v1146.toNat
def k0_dev58 (v21 : BitVec 32) : Nat :=
  let c0_i32_1508 : BitVec 32 := 0#32
  let c1_i32_1507 : BitVec 32 := 1#32
  let v1155 : BitVec 32 := Scalar.muli v21 c1_i32_1507
  let v1156 : BitVec 32 := Scalar.addi c0_i32_1508 v1155
  v1156.toNat
def k0_dev59 (v21 : BitVec 32) : Nat :=
  let c0_i32_1562 : BitVec 32 := 0#32
  let c1_i32_1561 : BitVec 32 := 1#32
  let v1186 : BitVec 32 := Scalar.muli v21 c1_i32_1561
  let v1187 : BitVec 32 := Scalar.addi c0_i32_1562 v1186
  v1187.toNat
def k0_dev60 (v30 : BitVec 32) : Nat :=
  let c0_i32_1569 : BitVec 32 := 0#32
  let c1_i32_1568 : BitVec 32 := 1#32
  let v1196 : BitVec 32 := Scalar.muli v30 c1_i32_1568
  let v1197 : BitVec 32 := Scalar.addi c0_i32_1569 v1196
  v1197.toNat
def k0_dev61 (v21 : BitVec 32) : Nat :=
  let c0_i32_1623 : BitVec 32 := 0#32
  let c1_i32_1622 : BitVec 32 := 1#32
  let v1227 : BitVec 32 := Scalar.muli v21 c1_i32_1622
  let v1228 : BitVec 32 := Scalar.addi c0_i32_1623 v1227
  v1228.toNat
def k0_dev62 (v30 : BitVec 32) : Nat :=
  let c0_i32_1630 : BitVec 32 := 0#32
  let c1_i32_1629 : BitVec 32 := 1#32
  let v1237 : BitVec 32 := Scalar.muli v30 c1_i32_1629
  let v1238 : BitVec 32 := Scalar.addi c0_i32_1630 v1237
  v1238.toNat
def k0_dev63 (v21 : BitVec 32) : Nat :=
  let c0_i32_1684 : BitVec 32 := 0#32
  let c1_i32_1683 : BitVec 32 := 1#32
  let v1268 : BitVec 32 := Scalar.muli v21 c1_i32_1683
  let v1269 : BitVec 32 := Scalar.addi c0_i32_1684 v1268
  v1269.toNat
def k0_dev64 (v30 : BitVec 32) : Nat :=
  let c0_i32_1691 : BitVec 32 := 0#32
  let c1_i32_1690 : BitVec 32 := 1#32
  let v1278 : BitVec 32 := Scalar.muli v30 c1_i32_1690
  let v1279 : BitVec 32 := Scalar.addi c0_i32_1691 v1278
  v1279.toNat
def k0_dev65 (v21 : BitVec 32) : Nat :=
  let c0_i32_1745 : BitVec 32 := 0#32
  let c1_i32_1744 : BitVec 32 := 1#32
  let v1309 : BitVec 32 := Scalar.muli v21 c1_i32_1744
  let v1310 : BitVec 32 := Scalar.addi c0_i32_1745 v1309
  v1310.toNat
def k0_dev66 (v30 : BitVec 32) : Nat :=
  let c0_i32_1752 : BitVec 32 := 0#32
  let c1_i32_1751 : BitVec 32 := 1#32
  let v1319 : BitVec 32 := Scalar.muli v30 c1_i32_1751
  let v1320 : BitVec 32 := Scalar.addi c0_i32_1752 v1319
  v1320.toNat
def k0_dev67 (v30 : BitVec 32) : Nat :=
  let c0_i32_1806 : BitVec 32 := 0#32
  let c1_i32_1805 : BitVec 32 := 1#32
  let v1350 : BitVec 32 := Scalar.muli v30 c1_i32_1805
  let v1351 : BitVec 32 := Scalar.addi c0_i32_1806 v1350
  v1351.toNat
def k0_dev68 (v21 : BitVec 32) : Nat :=
  let c0_i32_1813 : BitVec 32 := 0#32
  let c1_i32_1812 : BitVec 32 := 1#32
  let v1360 : BitVec 32 := Scalar.muli v21 c1_i32_1812
  let v1361 : BitVec 32 := Scalar.addi c0_i32_1813 v1360
  v1361.toNat
def k0_dev69 (v30 : BitVec 32) : Nat :=
  let c0_i32_1867 : BitVec 32 := 0#32
  let c1_i32_1866 : BitVec 32 := 1#32
  let v1391 : BitVec 32 := Scalar.muli v30 c1_i32_1866
  let v1392 : BitVec 32 := Scalar.addi c0_i32_1867 v1391
  v1392.toNat
def k0_dev70 (v21 : BitVec 32) : Nat :=
  let c0_i32_1874 : BitVec 32 := 0#32
  let c1_i32_1873 : BitVec 32 := 1#32
  let v1401 : BitVec 32 := Scalar.muli v21 c1_i32_1873
  let v1402 : BitVec 32 := Scalar.addi c0_i32_1874 v1401
  v1402.toNat
def k0_dev71 (v30 : BitVec 32) : Nat :=
  let c0_i32_1928 : BitVec 32 := 0#32
  let c1_i32_1927 : BitVec 32 := 1#32
  let v1432 : BitVec 32 := Scalar.muli v30 c1_i32_1927
  let v1433 : BitVec 32 := Scalar.addi c0_i32_1928 v1432
  v1433.toNat
def k0_dev72 (v21 : BitVec 32) : Nat :=
  let c0_i32_1935 : BitVec 32 := 0#32
  let c1_i32_1934 : BitVec 32 := 1#32
  let v1442 : BitVec 32 := Scalar.muli v21 c1_i32_1934
  let v1443 : BitVec 32 := Scalar.addi c0_i32_1935 v1442
  v1443.toNat
def k0_dev73 (v30 : BitVec 32) : Nat :=
  let c0_i32_1989 : BitVec 32 := 0#32
  let c1_i32_1988 : BitVec 32 := 1#32
  let v1473 : BitVec 32 := Scalar.muli v30 c1_i32_1988
  let v1474 : BitVec 32 := Scalar.addi c0_i32_1989 v1473
  v1474.toNat
def k0_dev74 (v21 : BitVec 32) : Nat :=
  let c0_i32_1996 : BitVec 32 := 0#32
  let c1_i32_1995 : BitVec 32 := 1#32
  let v1483 : BitVec 32 := Scalar.muli v21 c1_i32_1995
  let v1484 : BitVec 32 := Scalar.addi c0_i32_1996 v1483
  v1484.toNat
@[reducible] def k0_t1_loop : Scf.Loop 32 :=
  let c1_i32_1997 : BitVec 32 := 1#32
  let c6_i32_1998 : BitVec 32 := 6#32
  let v1485 : BitVec 32 := Scalar.addi c1_i32_1997 c6_i32_1998
  let c1_i32_1999 : BitVec 32 := 1#32
  ⟨c1_i32_1997, v1485, c1_i32_1999⟩
def k0_off9 (v12 : BitVec 32) (k0_t1 : Fin k0_t1_loop.trips) (c0_i32_4955 : BitVec 32) (c0_i32_4987 : BitVec 32) : Fin 2 → Nat :=
  let c4_i32_4954 : BitVec 32 := 4#32
  let c1_i32_1997 : BitVec 32 := 1#32
  let c1_i32_1999 : BitVec 32 := 1#32
  let arg17 : BitVec 32 := Scf.iv c1_i32_1997 c1_i32_1999 k0_t1
  let v3471 : BitVec 32 := Scalar.muli c4_i32_4954 arg17
  let v3472 : BitVec 32 := Scalar.addi v3471 c0_i32_4955
  let v3487 : BitVec 32 := Scalar.subi v12 v3472
  let c1_i32_4983 : BitVec 32 := 1#32
  let v3488 : BitVec 32 := Scalar.subi v3487 c1_i32_4983
  let c64_i32_4984 : BitVec 32 := 64#32
  let v3489 : BitVec 32 := Scalar.addi v3488 c64_i32_4984
  let c32_i32_4985 : BitVec 32 := 32#32
  let v3490 : BitVec 32 := Scalar.remsi v3489 c32_i32_4985
  let c128_i32_4986 : BitVec 32 := 128#32
  let v3491 : BitVec 32 := Scalar.muli v3490 c128_i32_4986
  let v3492 : BitVec 32 := Scalar.addi v3491 c0_i32_4987
  let v3493 : Index := Scalar.indexCast v3492
  let c0_4988 : Index := 0#32
  ![v3493.toNat, 0]
def k0_dev75 (v21 : BitVec 32) : Nat :=
  let c0_i32_5008 : BitVec 32 := 0#32
  let c1_i32_5007 : BitVec 32 := 1#32
  let v3502 : BitVec 32 := Scalar.muli v21 c1_i32_5007
  let v3503 : BitVec 32 := Scalar.addi c0_i32_5008 v3502
  v3503.toNat
def k0_dev76 (v30 : BitVec 32) : Nat :=
  let c0_i32_5015 : BitVec 32 := 0#32
  let c1_i32_5014 : BitVec 32 := 1#32
  let v3512 : BitVec 32 := Scalar.muli v30 c1_i32_5014
  let v3513 : BitVec 32 := Scalar.addi c0_i32_5015 v3512
  v3513.toNat
def k0_dev77 (v21 : BitVec 32) : Nat :=
  let c0_i32_5068 : BitVec 32 := 0#32
  let c1_i32_5067 : BitVec 32 := 1#32
  let v3543 : BitVec 32 := Scalar.muli v21 c1_i32_5067
  let v3544 : BitVec 32 := Scalar.addi c0_i32_5068 v3543
  v3544.toNat
def k0_dev78 (v30 : BitVec 32) : Nat :=
  let c0_i32_5075 : BitVec 32 := 0#32
  let c1_i32_5074 : BitVec 32 := 1#32
  let v3553 : BitVec 32 := Scalar.muli v30 c1_i32_5074
  let v3554 : BitVec 32 := Scalar.addi c0_i32_5075 v3553
  v3554.toNat
def k0_dev79 (v21 : BitVec 32) : Nat :=
  let c0_i32_5128 : BitVec 32 := 0#32
  let c1_i32_5127 : BitVec 32 := 1#32
  let v3584 : BitVec 32 := Scalar.muli v21 c1_i32_5127
  let v3585 : BitVec 32 := Scalar.addi c0_i32_5128 v3584
  v3585.toNat
def k0_dev80 (v30 : BitVec 32) : Nat :=
  let c0_i32_5135 : BitVec 32 := 0#32
  let c1_i32_5134 : BitVec 32 := 1#32
  let v3594 : BitVec 32 := Scalar.muli v30 c1_i32_5134
  let v3595 : BitVec 32 := Scalar.addi c0_i32_5135 v3594
  v3595.toNat
def k0_dev81 (v21 : BitVec 32) : Nat :=
  let c0_i32_5188 : BitVec 32 := 0#32
  let c1_i32_5187 : BitVec 32 := 1#32
  let v3625 : BitVec 32 := Scalar.muli v21 c1_i32_5187
  let v3626 : BitVec 32 := Scalar.addi c0_i32_5188 v3625
  v3626.toNat
def k0_dev82 (v30 : BitVec 32) : Nat :=
  let c0_i32_5195 : BitVec 32 := 0#32
  let c1_i32_5194 : BitVec 32 := 1#32
  let v3635 : BitVec 32 := Scalar.muli v30 c1_i32_5194
  let v3636 : BitVec 32 := Scalar.addi c0_i32_5195 v3635
  v3636.toNat
def k0_off10 (v12 : BitVec 32) (k0_t1 : Fin k0_t1_loop.trips) (c0_i32_4955 : BitVec 32) (c64_i32_5227 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let c4_i32_4954 : BitVec 32 := 4#32
  let c1_i32_1997 : BitVec 32 := 1#32
  let c1_i32_1999 : BitVec 32 := 1#32
  let arg17 : BitVec 32 := Scf.iv c1_i32_1997 c1_i32_1999 k0_t1
  let v3471 : BitVec 32 := Scalar.muli c4_i32_4954 arg17
  let v3472 : BitVec 32 := Scalar.addi v3471 c0_i32_4955
  let v3651 : BitVec 32 := Scalar.subi v32 v3472
  let c1_i32_5223 : BitVec 32 := 1#32
  let v3652 : BitVec 32 := Scalar.subi v3651 c1_i32_5223
  let c64_i32_5224 : BitVec 32 := 64#32
  let v3653 : BitVec 32 := Scalar.addi v3652 c64_i32_5224
  let c32_i32_5225 : BitVec 32 := 32#32
  let v3654 : BitVec 32 := Scalar.remsi v3653 c32_i32_5225
  let c128_i32_5226 : BitVec 32 := 128#32
  let v3655 : BitVec 32 := Scalar.muli v3654 c128_i32_5226
  let v3656 : BitVec 32 := Scalar.addi v3655 c64_i32_5227
  let v3657 : Index := Scalar.indexCast v3656
  let c0_5228 : Index := 0#32
  ![v3657.toNat, 0]
def k0_dev83 (v30 : BitVec 32) : Nat :=
  let c0_i32_5248 : BitVec 32 := 0#32
  let c1_i32_5247 : BitVec 32 := 1#32
  let v3666 : BitVec 32 := Scalar.muli v30 c1_i32_5247
  let v3667 : BitVec 32 := Scalar.addi c0_i32_5248 v3666
  v3667.toNat
def k0_dev84 (v21 : BitVec 32) : Nat :=
  let c0_i32_5255 : BitVec 32 := 0#32
  let c1_i32_5254 : BitVec 32 := 1#32
  let v3676 : BitVec 32 := Scalar.muli v21 c1_i32_5254
  let v3677 : BitVec 32 := Scalar.addi c0_i32_5255 v3676
  v3677.toNat
def k0_dev85 (v30 : BitVec 32) : Nat :=
  let c0_i32_5308 : BitVec 32 := 0#32
  let c1_i32_5307 : BitVec 32 := 1#32
  let v3707 : BitVec 32 := Scalar.muli v30 c1_i32_5307
  let v3708 : BitVec 32 := Scalar.addi c0_i32_5308 v3707
  v3708.toNat
def k0_dev86 (v21 : BitVec 32) : Nat :=
  let c0_i32_5315 : BitVec 32 := 0#32
  let c1_i32_5314 : BitVec 32 := 1#32
  let v3717 : BitVec 32 := Scalar.muli v21 c1_i32_5314
  let v3718 : BitVec 32 := Scalar.addi c0_i32_5315 v3717
  v3718.toNat
def k0_dev87 (v30 : BitVec 32) : Nat :=
  let c0_i32_5368 : BitVec 32 := 0#32
  let c1_i32_5367 : BitVec 32 := 1#32
  let v3748 : BitVec 32 := Scalar.muli v30 c1_i32_5367
  let v3749 : BitVec 32 := Scalar.addi c0_i32_5368 v3748
  v3749.toNat
def k0_dev88 (v21 : BitVec 32) : Nat :=
  let c0_i32_5375 : BitVec 32 := 0#32
  let c1_i32_5374 : BitVec 32 := 1#32
  let v3758 : BitVec 32 := Scalar.muli v21 c1_i32_5374
  let v3759 : BitVec 32 := Scalar.addi c0_i32_5375 v3758
  v3759.toNat
def k0_dev89 (v30 : BitVec 32) : Nat :=
  let c0_i32_5428 : BitVec 32 := 0#32
  let c1_i32_5427 : BitVec 32 := 1#32
  let v3789 : BitVec 32 := Scalar.muli v30 c1_i32_5427
  let v3790 : BitVec 32 := Scalar.addi c0_i32_5428 v3789
  v3790.toNat
def k0_dev90 (v21 : BitVec 32) : Nat :=
  let c0_i32_5435 : BitVec 32 := 0#32
  let c1_i32_5434 : BitVec 32 := 1#32
  let v3799 : BitVec 32 := Scalar.muli v21 c1_i32_5434
  let v3800 : BitVec 32 := Scalar.addi c0_i32_5435 v3799
  v3800.toNat
def k0_dev91 (v21 : BitVec 32) : Nat :=
  let c0_i32_5489 : BitVec 32 := 0#32
  let c1_i32_5488 : BitVec 32 := 1#32
  let v3831 : BitVec 32 := Scalar.muli v21 c1_i32_5488
  let v3832 : BitVec 32 := Scalar.addi c0_i32_5489 v3831
  v3832.toNat
def k0_dev92 (v30 : BitVec 32) : Nat :=
  let c0_i32_5496 : BitVec 32 := 0#32
  let c1_i32_5495 : BitVec 32 := 1#32
  let v3841 : BitVec 32 := Scalar.muli v30 c1_i32_5495
  let v3842 : BitVec 32 := Scalar.addi c0_i32_5496 v3841
  v3842.toNat
def k0_dev93 (v21 : BitVec 32) : Nat :=
  let c0_i32_5549 : BitVec 32 := 0#32
  let c1_i32_5548 : BitVec 32 := 1#32
  let v3872 : BitVec 32 := Scalar.muli v21 c1_i32_5548
  let v3873 : BitVec 32 := Scalar.addi c0_i32_5549 v3872
  v3873.toNat
def k0_dev94 (v30 : BitVec 32) : Nat :=
  let c0_i32_5556 : BitVec 32 := 0#32
  let c1_i32_5555 : BitVec 32 := 1#32
  let v3882 : BitVec 32 := Scalar.muli v30 c1_i32_5555
  let v3883 : BitVec 32 := Scalar.addi c0_i32_5556 v3882
  v3883.toNat
def k0_dev95 (v21 : BitVec 32) : Nat :=
  let c0_i32_5609 : BitVec 32 := 0#32
  let c1_i32_5608 : BitVec 32 := 1#32
  let v3913 : BitVec 32 := Scalar.muli v21 c1_i32_5608
  let v3914 : BitVec 32 := Scalar.addi c0_i32_5609 v3913
  v3914.toNat
def k0_dev96 (v30 : BitVec 32) : Nat :=
  let c0_i32_5616 : BitVec 32 := 0#32
  let c1_i32_5615 : BitVec 32 := 1#32
  let v3923 : BitVec 32 := Scalar.muli v30 c1_i32_5615
  let v3924 : BitVec 32 := Scalar.addi c0_i32_5616 v3923
  v3924.toNat
def k0_dev97 (v21 : BitVec 32) : Nat :=
  let c0_i32_5669 : BitVec 32 := 0#32
  let c1_i32_5668 : BitVec 32 := 1#32
  let v3954 : BitVec 32 := Scalar.muli v21 c1_i32_5668
  let v3955 : BitVec 32 := Scalar.addi c0_i32_5669 v3954
  v3955.toNat
def k0_dev98 (v30 : BitVec 32) : Nat :=
  let c0_i32_5676 : BitVec 32 := 0#32
  let c1_i32_5675 : BitVec 32 := 1#32
  let v3964 : BitVec 32 := Scalar.muli v30 c1_i32_5675
  let v3965 : BitVec 32 := Scalar.addi c0_i32_5676 v3964
  v3965.toNat
def k0_dev99 (v30 : BitVec 32) : Nat :=
  let c0_i32_5729 : BitVec 32 := 0#32
  let c1_i32_5728 : BitVec 32 := 1#32
  let v3995 : BitVec 32 := Scalar.muli v30 c1_i32_5728
  let v3996 : BitVec 32 := Scalar.addi c0_i32_5729 v3995
  v3996.toNat
def k0_dev100 (v21 : BitVec 32) : Nat :=
  let c0_i32_5736 : BitVec 32 := 0#32
  let c1_i32_5735 : BitVec 32 := 1#32
  let v4005 : BitVec 32 := Scalar.muli v21 c1_i32_5735
  let v4006 : BitVec 32 := Scalar.addi c0_i32_5736 v4005
  v4006.toNat
def k0_dev101 (v30 : BitVec 32) : Nat :=
  let c0_i32_5789 : BitVec 32 := 0#32
  let c1_i32_5788 : BitVec 32 := 1#32
  let v4036 : BitVec 32 := Scalar.muli v30 c1_i32_5788
  let v4037 : BitVec 32 := Scalar.addi c0_i32_5789 v4036
  v4037.toNat
def k0_dev102 (v21 : BitVec 32) : Nat :=
  let c0_i32_5796 : BitVec 32 := 0#32
  let c1_i32_5795 : BitVec 32 := 1#32
  let v4046 : BitVec 32 := Scalar.muli v21 c1_i32_5795
  let v4047 : BitVec 32 := Scalar.addi c0_i32_5796 v4046
  v4047.toNat
def k0_dev103 (v30 : BitVec 32) : Nat :=
  let c0_i32_5849 : BitVec 32 := 0#32
  let c1_i32_5848 : BitVec 32 := 1#32
  let v4077 : BitVec 32 := Scalar.muli v30 c1_i32_5848
  let v4078 : BitVec 32 := Scalar.addi c0_i32_5849 v4077
  v4078.toNat
def k0_dev104 (v21 : BitVec 32) : Nat :=
  let c0_i32_5856 : BitVec 32 := 0#32
  let c1_i32_5855 : BitVec 32 := 1#32
  let v4087 : BitVec 32 := Scalar.muli v21 c1_i32_5855
  let v4088 : BitVec 32 := Scalar.addi c0_i32_5856 v4087
  v4088.toNat
def k0_dev105 (v30 : BitVec 32) : Nat :=
  let c0_i32_5909 : BitVec 32 := 0#32
  let c1_i32_5908 : BitVec 32 := 1#32
  let v4118 : BitVec 32 := Scalar.muli v30 c1_i32_5908
  let v4119 : BitVec 32 := Scalar.addi c0_i32_5909 v4118
  v4119.toNat
def k0_dev106 (v21 : BitVec 32) : Nat :=
  let c0_i32_5916 : BitVec 32 := 0#32
  let c1_i32_5915 : BitVec 32 := 1#32
  let v4128 : BitVec 32 := Scalar.muli v21 c1_i32_5915
  let v4129 : BitVec 32 := Scalar.addi c0_i32_5916 v4128
  v4129.toNat
def k0_dev107 (v21 : BitVec 32) : Nat :=
  let c0_i32_5970 : BitVec 32 := 0#32
  let c1_i32_5969 : BitVec 32 := 1#32
  let v4160 : BitVec 32 := Scalar.muli v21 c1_i32_5969
  let v4161 : BitVec 32 := Scalar.addi c0_i32_5970 v4160
  v4161.toNat
def k0_dev108 (v30 : BitVec 32) : Nat :=
  let c0_i32_5977 : BitVec 32 := 0#32
  let c1_i32_5976 : BitVec 32 := 1#32
  let v4170 : BitVec 32 := Scalar.muli v30 c1_i32_5976
  let v4171 : BitVec 32 := Scalar.addi c0_i32_5977 v4170
  v4171.toNat
def k0_dev109 (v21 : BitVec 32) : Nat :=
  let c0_i32_6030 : BitVec 32 := 0#32
  let c1_i32_6029 : BitVec 32 := 1#32
  let v4201 : BitVec 32 := Scalar.muli v21 c1_i32_6029
  let v4202 : BitVec 32 := Scalar.addi c0_i32_6030 v4201
  v4202.toNat
def k0_dev110 (v30 : BitVec 32) : Nat :=
  let c0_i32_6037 : BitVec 32 := 0#32
  let c1_i32_6036 : BitVec 32 := 1#32
  let v4211 : BitVec 32 := Scalar.muli v30 c1_i32_6036
  let v4212 : BitVec 32 := Scalar.addi c0_i32_6037 v4211
  v4212.toNat
def k0_dev111 (v21 : BitVec 32) : Nat :=
  let c0_i32_6090 : BitVec 32 := 0#32
  let c1_i32_6089 : BitVec 32 := 1#32
  let v4242 : BitVec 32 := Scalar.muli v21 c1_i32_6089
  let v4243 : BitVec 32 := Scalar.addi c0_i32_6090 v4242
  v4243.toNat
def k0_dev112 (v30 : BitVec 32) : Nat :=
  let c0_i32_6097 : BitVec 32 := 0#32
  let c1_i32_6096 : BitVec 32 := 1#32
  let v4252 : BitVec 32 := Scalar.muli v30 c1_i32_6096
  let v4253 : BitVec 32 := Scalar.addi c0_i32_6097 v4252
  v4253.toNat
def k0_dev113 (v21 : BitVec 32) : Nat :=
  let c0_i32_6150 : BitVec 32 := 0#32
  let c1_i32_6149 : BitVec 32 := 1#32
  let v4283 : BitVec 32 := Scalar.muli v21 c1_i32_6149
  let v4284 : BitVec 32 := Scalar.addi c0_i32_6150 v4283
  v4284.toNat
def k0_dev114 (v30 : BitVec 32) : Nat :=
  let c0_i32_6157 : BitVec 32 := 0#32
  let c1_i32_6156 : BitVec 32 := 1#32
  let v4293 : BitVec 32 := Scalar.muli v30 c1_i32_6156
  let v4294 : BitVec 32 := Scalar.addi c0_i32_6157 v4293
  v4294.toNat
def k0_dev115 (v30 : BitVec 32) : Nat :=
  let c0_i32_6210 : BitVec 32 := 0#32
  let c1_i32_6209 : BitVec 32 := 1#32
  let v4324 : BitVec 32 := Scalar.muli v30 c1_i32_6209
  let v4325 : BitVec 32 := Scalar.addi c0_i32_6210 v4324
  v4325.toNat
def k0_dev116 (v21 : BitVec 32) : Nat :=
  let c0_i32_6217 : BitVec 32 := 0#32
  let c1_i32_6216 : BitVec 32 := 1#32
  let v4334 : BitVec 32 := Scalar.muli v21 c1_i32_6216
  let v4335 : BitVec 32 := Scalar.addi c0_i32_6217 v4334
  v4335.toNat
def k0_dev117 (v30 : BitVec 32) : Nat :=
  let c0_i32_6270 : BitVec 32 := 0#32
  let c1_i32_6269 : BitVec 32 := 1#32
  let v4365 : BitVec 32 := Scalar.muli v30 c1_i32_6269
  let v4366 : BitVec 32 := Scalar.addi c0_i32_6270 v4365
  v4366.toNat
def k0_dev118 (v21 : BitVec 32) : Nat :=
  let c0_i32_6277 : BitVec 32 := 0#32
  let c1_i32_6276 : BitVec 32 := 1#32
  let v4375 : BitVec 32 := Scalar.muli v21 c1_i32_6276
  let v4376 : BitVec 32 := Scalar.addi c0_i32_6277 v4375
  v4376.toNat
def k0_dev119 (v30 : BitVec 32) : Nat :=
  let c0_i32_6330 : BitVec 32 := 0#32
  let c1_i32_6329 : BitVec 32 := 1#32
  let v4406 : BitVec 32 := Scalar.muli v30 c1_i32_6329
  let v4407 : BitVec 32 := Scalar.addi c0_i32_6330 v4406
  v4407.toNat
def k0_dev120 (v21 : BitVec 32) : Nat :=
  let c0_i32_6337 : BitVec 32 := 0#32
  let c1_i32_6336 : BitVec 32 := 1#32
  let v4416 : BitVec 32 := Scalar.muli v21 c1_i32_6336
  let v4417 : BitVec 32 := Scalar.addi c0_i32_6337 v4416
  v4417.toNat
def k0_dev121 (v30 : BitVec 32) : Nat :=
  let c0_i32_6390 : BitVec 32 := 0#32
  let c1_i32_6389 : BitVec 32 := 1#32
  let v4447 : BitVec 32 := Scalar.muli v30 c1_i32_6389
  let v4448 : BitVec 32 := Scalar.addi c0_i32_6390 v4447
  v4448.toNat
def k0_dev122 (v21 : BitVec 32) : Nat :=
  let c0_i32_6397 : BitVec 32 := 0#32
  let c1_i32_6396 : BitVec 32 := 1#32
  let v4457 : BitVec 32 := Scalar.muli v21 c1_i32_6396
  let v4458 : BitVec 32 := Scalar.addi c0_i32_6397 v4457
  v4458.toNat
def k0_dev123 (v21 : BitVec 32) : Nat :=
  let c0_i32_6451 : BitVec 32 := 0#32
  let c1_i32_6450 : BitVec 32 := 1#32
  let v4489 : BitVec 32 := Scalar.muli v21 c1_i32_6450
  let v4490 : BitVec 32 := Scalar.addi c0_i32_6451 v4489
  v4490.toNat
def k0_dev124 (v30 : BitVec 32) : Nat :=
  let c0_i32_6458 : BitVec 32 := 0#32
  let c1_i32_6457 : BitVec 32 := 1#32
  let v4499 : BitVec 32 := Scalar.muli v30 c1_i32_6457
  let v4500 : BitVec 32 := Scalar.addi c0_i32_6458 v4499
  v4500.toNat
def k0_dev125 (v21 : BitVec 32) : Nat :=
  let c0_i32_6511 : BitVec 32 := 0#32
  let c1_i32_6510 : BitVec 32 := 1#32
  let v4530 : BitVec 32 := Scalar.muli v21 c1_i32_6510
  let v4531 : BitVec 32 := Scalar.addi c0_i32_6511 v4530
  v4531.toNat
def k0_dev126 (v30 : BitVec 32) : Nat :=
  let c0_i32_6518 : BitVec 32 := 0#32
  let c1_i32_6517 : BitVec 32 := 1#32
  let v4540 : BitVec 32 := Scalar.muli v30 c1_i32_6517
  let v4541 : BitVec 32 := Scalar.addi c0_i32_6518 v4540
  v4541.toNat
def k0_dev127 (v21 : BitVec 32) : Nat :=
  let c0_i32_6571 : BitVec 32 := 0#32
  let c1_i32_6570 : BitVec 32 := 1#32
  let v4571 : BitVec 32 := Scalar.muli v21 c1_i32_6570
  let v4572 : BitVec 32 := Scalar.addi c0_i32_6571 v4571
  v4572.toNat
def k0_dev128 (v30 : BitVec 32) : Nat :=
  let c0_i32_6578 : BitVec 32 := 0#32
  let c1_i32_6577 : BitVec 32 := 1#32
  let v4581 : BitVec 32 := Scalar.muli v30 c1_i32_6577
  let v4582 : BitVec 32 := Scalar.addi c0_i32_6578 v4581
  v4582.toNat
def k0_dev129 (v21 : BitVec 32) : Nat :=
  let c0_i32_6631 : BitVec 32 := 0#32
  let c1_i32_6630 : BitVec 32 := 1#32
  let v4612 : BitVec 32 := Scalar.muli v21 c1_i32_6630
  let v4613 : BitVec 32 := Scalar.addi c0_i32_6631 v4612
  v4613.toNat
def k0_dev130 (v30 : BitVec 32) : Nat :=
  let c0_i32_6638 : BitVec 32 := 0#32
  let c1_i32_6637 : BitVec 32 := 1#32
  let v4622 : BitVec 32 := Scalar.muli v30 c1_i32_6637
  let v4623 : BitVec 32 := Scalar.addi c0_i32_6638 v4622
  v4623.toNat
def k0_dev131 (v30 : BitVec 32) : Nat :=
  let c0_i32_6691 : BitVec 32 := 0#32
  let c1_i32_6690 : BitVec 32 := 1#32
  let v4653 : BitVec 32 := Scalar.muli v30 c1_i32_6690
  let v4654 : BitVec 32 := Scalar.addi c0_i32_6691 v4653
  v4654.toNat
def k0_dev132 (v21 : BitVec 32) : Nat :=
  let c0_i32_6698 : BitVec 32 := 0#32
  let c1_i32_6697 : BitVec 32 := 1#32
  let v4663 : BitVec 32 := Scalar.muli v21 c1_i32_6697
  let v4664 : BitVec 32 := Scalar.addi c0_i32_6698 v4663
  v4664.toNat
def k0_dev133 (v30 : BitVec 32) : Nat :=
  let c0_i32_6751 : BitVec 32 := 0#32
  let c1_i32_6750 : BitVec 32 := 1#32
  let v4694 : BitVec 32 := Scalar.muli v30 c1_i32_6750
  let v4695 : BitVec 32 := Scalar.addi c0_i32_6751 v4694
  v4695.toNat
def k0_dev134 (v21 : BitVec 32) : Nat :=
  let c0_i32_6758 : BitVec 32 := 0#32
  let c1_i32_6757 : BitVec 32 := 1#32
  let v4704 : BitVec 32 := Scalar.muli v21 c1_i32_6757
  let v4705 : BitVec 32 := Scalar.addi c0_i32_6758 v4704
  v4705.toNat
def k0_dev135 (v30 : BitVec 32) : Nat :=
  let c0_i32_6811 : BitVec 32 := 0#32
  let c1_i32_6810 : BitVec 32 := 1#32
  let v4735 : BitVec 32 := Scalar.muli v30 c1_i32_6810
  let v4736 : BitVec 32 := Scalar.addi c0_i32_6811 v4735
  v4736.toNat
def k0_dev136 (v21 : BitVec 32) : Nat :=
  let c0_i32_6818 : BitVec 32 := 0#32
  let c1_i32_6817 : BitVec 32 := 1#32
  let v4745 : BitVec 32 := Scalar.muli v21 c1_i32_6817
  let v4746 : BitVec 32 := Scalar.addi c0_i32_6818 v4745
  v4746.toNat
def k0_dev137 (v30 : BitVec 32) : Nat :=
  let c0_i32_6871 : BitVec 32 := 0#32
  let c1_i32_6870 : BitVec 32 := 1#32
  let v4776 : BitVec 32 := Scalar.muli v30 c1_i32_6870
  let v4777 : BitVec 32 := Scalar.addi c0_i32_6871 v4776
  v4777.toNat
def k0_dev138 (v21 : BitVec 32) : Nat :=
  let c0_i32_6878 : BitVec 32 := 0#32
  let c1_i32_6877 : BitVec 32 := 1#32
  let v4786 : BitVec 32 := Scalar.muli v21 c1_i32_6877
  let v4787 : BitVec 32 := Scalar.addi c0_i32_6878 v4786
  v4787.toNat
def k0_dev139 (v21 : BitVec 32) : Nat :=
  let c0_i32_2053 : BitVec 32 := 0#32
  let c1_i32_2052 : BitVec 32 := 1#32
  let v1515 : BitVec 32 := Scalar.muli v21 c1_i32_2052
  let v1516 : BitVec 32 := Scalar.addi c0_i32_2053 v1515
  v1516.toNat
def k0_dev140 (v30 : BitVec 32) : Nat :=
  let c0_i32_2060 : BitVec 32 := 0#32
  let c1_i32_2059 : BitVec 32 := 1#32
  let v1525 : BitVec 32 := Scalar.muli v30 c1_i32_2059
  let v1526 : BitVec 32 := Scalar.addi c0_i32_2060 v1525
  v1526.toNat
def k0_dev141 (v21 : BitVec 32) : Nat :=
  let c0_i32_2114 : BitVec 32 := 0#32
  let c1_i32_2113 : BitVec 32 := 1#32
  let v1556 : BitVec 32 := Scalar.muli v21 c1_i32_2113
  let v1557 : BitVec 32 := Scalar.addi c0_i32_2114 v1556
  v1557.toNat
def k0_dev142 (v30 : BitVec 32) : Nat :=
  let c0_i32_2121 : BitVec 32 := 0#32
  let c1_i32_2120 : BitVec 32 := 1#32
  let v1566 : BitVec 32 := Scalar.muli v30 c1_i32_2120
  let v1567 : BitVec 32 := Scalar.addi c0_i32_2121 v1566
  v1567.toNat
def k0_dev143 (v21 : BitVec 32) : Nat :=
  let c0_i32_2175 : BitVec 32 := 0#32
  let c1_i32_2174 : BitVec 32 := 1#32
  let v1597 : BitVec 32 := Scalar.muli v21 c1_i32_2174
  let v1598 : BitVec 32 := Scalar.addi c0_i32_2175 v1597
  v1598.toNat
def k0_dev144 (v30 : BitVec 32) : Nat :=
  let c0_i32_2182 : BitVec 32 := 0#32
  let c1_i32_2181 : BitVec 32 := 1#32
  let v1607 : BitVec 32 := Scalar.muli v30 c1_i32_2181
  let v1608 : BitVec 32 := Scalar.addi c0_i32_2182 v1607
  v1608.toNat
def k0_dev145 (v21 : BitVec 32) : Nat :=
  let c0_i32_2236 : BitVec 32 := 0#32
  let c1_i32_2235 : BitVec 32 := 1#32
  let v1638 : BitVec 32 := Scalar.muli v21 c1_i32_2235
  let v1639 : BitVec 32 := Scalar.addi c0_i32_2236 v1638
  v1639.toNat
def k0_dev146 (v30 : BitVec 32) : Nat :=
  let c0_i32_2243 : BitVec 32 := 0#32
  let c1_i32_2242 : BitVec 32 := 1#32
  let v1648 : BitVec 32 := Scalar.muli v30 c1_i32_2242
  let v1649 : BitVec 32 := Scalar.addi c0_i32_2243 v1648
  v1649.toNat
def k0_dev147 (v30 : BitVec 32) : Nat :=
  let c0_i32_2297 : BitVec 32 := 0#32
  let c1_i32_2296 : BitVec 32 := 1#32
  let v1679 : BitVec 32 := Scalar.muli v30 c1_i32_2296
  let v1680 : BitVec 32 := Scalar.addi c0_i32_2297 v1679
  v1680.toNat
def k0_dev148 (v21 : BitVec 32) : Nat :=
  let c0_i32_2304 : BitVec 32 := 0#32
  let c1_i32_2303 : BitVec 32 := 1#32
  let v1689 : BitVec 32 := Scalar.muli v21 c1_i32_2303
  let v1690 : BitVec 32 := Scalar.addi c0_i32_2304 v1689
  v1690.toNat
def k0_dev149 (v30 : BitVec 32) : Nat :=
  let c0_i32_2358 : BitVec 32 := 0#32
  let c1_i32_2357 : BitVec 32 := 1#32
  let v1720 : BitVec 32 := Scalar.muli v30 c1_i32_2357
  let v1721 : BitVec 32 := Scalar.addi c0_i32_2358 v1720
  v1721.toNat
def k0_dev150 (v21 : BitVec 32) : Nat :=
  let c0_i32_2365 : BitVec 32 := 0#32
  let c1_i32_2364 : BitVec 32 := 1#32
  let v1730 : BitVec 32 := Scalar.muli v21 c1_i32_2364
  let v1731 : BitVec 32 := Scalar.addi c0_i32_2365 v1730
  v1731.toNat
def k0_dev151 (v30 : BitVec 32) : Nat :=
  let c0_i32_2419 : BitVec 32 := 0#32
  let c1_i32_2418 : BitVec 32 := 1#32
  let v1761 : BitVec 32 := Scalar.muli v30 c1_i32_2418
  let v1762 : BitVec 32 := Scalar.addi c0_i32_2419 v1761
  v1762.toNat
def k0_dev152 (v21 : BitVec 32) : Nat :=
  let c0_i32_2426 : BitVec 32 := 0#32
  let c1_i32_2425 : BitVec 32 := 1#32
  let v1771 : BitVec 32 := Scalar.muli v21 c1_i32_2425
  let v1772 : BitVec 32 := Scalar.addi c0_i32_2426 v1771
  v1772.toNat
def k0_dev153 (v30 : BitVec 32) : Nat :=
  let c0_i32_2480 : BitVec 32 := 0#32
  let c1_i32_2479 : BitVec 32 := 1#32
  let v1802 : BitVec 32 := Scalar.muli v30 c1_i32_2479
  let v1803 : BitVec 32 := Scalar.addi c0_i32_2480 v1802
  v1803.toNat
def k0_dev154 (v21 : BitVec 32) : Nat :=
  let c0_i32_2487 : BitVec 32 := 0#32
  let c1_i32_2486 : BitVec 32 := 1#32
  let v1812 : BitVec 32 := Scalar.muli v21 c1_i32_2486
  let v1813 : BitVec 32 := Scalar.addi c0_i32_2487 v1812
  v1813.toNat
def k0_dev155 (v21 : BitVec 32) : Nat :=
  let c0_i32_2540 : BitVec 32 := 0#32
  let c1_i32_2539 : BitVec 32 := 1#32
  let v1843 : BitVec 32 := Scalar.muli v21 c1_i32_2539
  let v1844 : BitVec 32 := Scalar.addi c0_i32_2540 v1843
  v1844.toNat
def k0_dev156 (v30 : BitVec 32) : Nat :=
  let c0_i32_2547 : BitVec 32 := 0#32
  let c1_i32_2546 : BitVec 32 := 1#32
  let v1853 : BitVec 32 := Scalar.muli v30 c1_i32_2546
  let v1854 : BitVec 32 := Scalar.addi c0_i32_2547 v1853
  v1854.toNat
def k0_dev157 (v21 : BitVec 32) : Nat :=
  let c0_i32_2601 : BitVec 32 := 0#32
  let c1_i32_2600 : BitVec 32 := 1#32
  let v1884 : BitVec 32 := Scalar.muli v21 c1_i32_2600
  let v1885 : BitVec 32 := Scalar.addi c0_i32_2601 v1884
  v1885.toNat
def k0_dev158 (v30 : BitVec 32) : Nat :=
  let c0_i32_2608 : BitVec 32 := 0#32
  let c1_i32_2607 : BitVec 32 := 1#32
  let v1894 : BitVec 32 := Scalar.muli v30 c1_i32_2607
  let v1895 : BitVec 32 := Scalar.addi c0_i32_2608 v1894
  v1895.toNat
def k0_dev159 (v21 : BitVec 32) : Nat :=
  let c0_i32_2662 : BitVec 32 := 0#32
  let c1_i32_2661 : BitVec 32 := 1#32
  let v1925 : BitVec 32 := Scalar.muli v21 c1_i32_2661
  let v1926 : BitVec 32 := Scalar.addi c0_i32_2662 v1925
  v1926.toNat
def k0_dev160 (v30 : BitVec 32) : Nat :=
  let c0_i32_2669 : BitVec 32 := 0#32
  let c1_i32_2668 : BitVec 32 := 1#32
  let v1935 : BitVec 32 := Scalar.muli v30 c1_i32_2668
  let v1936 : BitVec 32 := Scalar.addi c0_i32_2669 v1935
  v1936.toNat
def k0_dev161 (v21 : BitVec 32) : Nat :=
  let c0_i32_2723 : BitVec 32 := 0#32
  let c1_i32_2722 : BitVec 32 := 1#32
  let v1966 : BitVec 32 := Scalar.muli v21 c1_i32_2722
  let v1967 : BitVec 32 := Scalar.addi c0_i32_2723 v1966
  v1967.toNat
def k0_dev162 (v30 : BitVec 32) : Nat :=
  let c0_i32_2730 : BitVec 32 := 0#32
  let c1_i32_2729 : BitVec 32 := 1#32
  let v1976 : BitVec 32 := Scalar.muli v30 c1_i32_2729
  let v1977 : BitVec 32 := Scalar.addi c0_i32_2730 v1976
  v1977.toNat
def k0_dev163 (v30 : BitVec 32) : Nat :=
  let c0_i32_2784 : BitVec 32 := 0#32
  let c1_i32_2783 : BitVec 32 := 1#32
  let v2007 : BitVec 32 := Scalar.muli v30 c1_i32_2783
  let v2008 : BitVec 32 := Scalar.addi c0_i32_2784 v2007
  v2008.toNat
def k0_dev164 (v21 : BitVec 32) : Nat :=
  let c0_i32_2791 : BitVec 32 := 0#32
  let c1_i32_2790 : BitVec 32 := 1#32
  let v2017 : BitVec 32 := Scalar.muli v21 c1_i32_2790
  let v2018 : BitVec 32 := Scalar.addi c0_i32_2791 v2017
  v2018.toNat
def k0_dev165 (v30 : BitVec 32) : Nat :=
  let c0_i32_2845 : BitVec 32 := 0#32
  let c1_i32_2844 : BitVec 32 := 1#32
  let v2048 : BitVec 32 := Scalar.muli v30 c1_i32_2844
  let v2049 : BitVec 32 := Scalar.addi c0_i32_2845 v2048
  v2049.toNat
def k0_dev166 (v21 : BitVec 32) : Nat :=
  let c0_i32_2852 : BitVec 32 := 0#32
  let c1_i32_2851 : BitVec 32 := 1#32
  let v2058 : BitVec 32 := Scalar.muli v21 c1_i32_2851
  let v2059 : BitVec 32 := Scalar.addi c0_i32_2852 v2058
  v2059.toNat
def k0_dev167 (v30 : BitVec 32) : Nat :=
  let c0_i32_2906 : BitVec 32 := 0#32
  let c1_i32_2905 : BitVec 32 := 1#32
  let v2089 : BitVec 32 := Scalar.muli v30 c1_i32_2905
  let v2090 : BitVec 32 := Scalar.addi c0_i32_2906 v2089
  v2090.toNat
def k0_dev168 (v21 : BitVec 32) : Nat :=
  let c0_i32_2913 : BitVec 32 := 0#32
  let c1_i32_2912 : BitVec 32 := 1#32
  let v2099 : BitVec 32 := Scalar.muli v21 c1_i32_2912
  let v2100 : BitVec 32 := Scalar.addi c0_i32_2913 v2099
  v2100.toNat
def k0_dev169 (v30 : BitVec 32) : Nat :=
  let c0_i32_2967 : BitVec 32 := 0#32
  let c1_i32_2966 : BitVec 32 := 1#32
  let v2130 : BitVec 32 := Scalar.muli v30 c1_i32_2966
  let v2131 : BitVec 32 := Scalar.addi c0_i32_2967 v2130
  v2131.toNat
def k0_dev170 (v21 : BitVec 32) : Nat :=
  let c0_i32_2974 : BitVec 32 := 0#32
  let c1_i32_2973 : BitVec 32 := 1#32
  let v2140 : BitVec 32 := Scalar.muli v21 c1_i32_2973
  let v2141 : BitVec 32 := Scalar.addi c0_i32_2974 v2140
  v2141.toNat
def k0_dev171 (v21 : BitVec 32) : Nat :=
  let c0_i32_3030 : BitVec 32 := 0#32
  let c1_i32_3029 : BitVec 32 := 1#32
  let v2180 : BitVec 32 := Scalar.muli v21 c1_i32_3029
  let v2181 : BitVec 32 := Scalar.addi c0_i32_3030 v2180
  v2181.toNat
def k0_dev172 (v30 : BitVec 32) : Nat :=
  let c0_i32_3037 : BitVec 32 := 0#32
  let c1_i32_3036 : BitVec 32 := 1#32
  let v2190 : BitVec 32 := Scalar.muli v30 c1_i32_3036
  let v2191 : BitVec 32 := Scalar.addi c0_i32_3037 v2190
  v2191.toNat
def k0_dev173 (v21 : BitVec 32) : Nat :=
  let c0_i32_3094 : BitVec 32 := 0#32
  let c1_i32_3093 : BitVec 32 := 1#32
  let v2230 : BitVec 32 := Scalar.muli v21 c1_i32_3093
  let v2231 : BitVec 32 := Scalar.addi c0_i32_3094 v2230
  v2231.toNat
def k0_dev174 (v30 : BitVec 32) : Nat :=
  let c0_i32_3101 : BitVec 32 := 0#32
  let c1_i32_3100 : BitVec 32 := 1#32
  let v2240 : BitVec 32 := Scalar.muli v30 c1_i32_3100
  let v2241 : BitVec 32 := Scalar.addi c0_i32_3101 v2240
  v2241.toNat
def k0_dev175 (v21 : BitVec 32) : Nat :=
  let c0_i32_3158 : BitVec 32 := 0#32
  let c1_i32_3157 : BitVec 32 := 1#32
  let v2280 : BitVec 32 := Scalar.muli v21 c1_i32_3157
  let v2281 : BitVec 32 := Scalar.addi c0_i32_3158 v2280
  v2281.toNat
def k0_dev176 (v30 : BitVec 32) : Nat :=
  let c0_i32_3165 : BitVec 32 := 0#32
  let c1_i32_3164 : BitVec 32 := 1#32
  let v2290 : BitVec 32 := Scalar.muli v30 c1_i32_3164
  let v2291 : BitVec 32 := Scalar.addi c0_i32_3165 v2290
  v2291.toNat
def k0_dev177 (v21 : BitVec 32) : Nat :=
  let c0_i32_3222 : BitVec 32 := 0#32
  let c1_i32_3221 : BitVec 32 := 1#32
  let v2330 : BitVec 32 := Scalar.muli v21 c1_i32_3221
  let v2331 : BitVec 32 := Scalar.addi c0_i32_3222 v2330
  v2331.toNat
def k0_dev178 (v30 : BitVec 32) : Nat :=
  let c0_i32_3229 : BitVec 32 := 0#32
  let c1_i32_3228 : BitVec 32 := 1#32
  let v2340 : BitVec 32 := Scalar.muli v30 c1_i32_3228
  let v2341 : BitVec 32 := Scalar.addi c0_i32_3229 v2340
  v2341.toNat
def k0_dev179 (v30 : BitVec 32) : Nat :=
  let c0_i32_3286 : BitVec 32 := 0#32
  let c1_i32_3285 : BitVec 32 := 1#32
  let v2380 : BitVec 32 := Scalar.muli v30 c1_i32_3285
  let v2381 : BitVec 32 := Scalar.addi c0_i32_3286 v2380
  v2381.toNat
def k0_dev180 (v21 : BitVec 32) : Nat :=
  let c0_i32_3293 : BitVec 32 := 0#32
  let c1_i32_3292 : BitVec 32 := 1#32
  let v2390 : BitVec 32 := Scalar.muli v21 c1_i32_3292
  let v2391 : BitVec 32 := Scalar.addi c0_i32_3293 v2390
  v2391.toNat
def k0_dev181 (v30 : BitVec 32) : Nat :=
  let c0_i32_3350 : BitVec 32 := 0#32
  let c1_i32_3349 : BitVec 32 := 1#32
  let v2430 : BitVec 32 := Scalar.muli v30 c1_i32_3349
  let v2431 : BitVec 32 := Scalar.addi c0_i32_3350 v2430
  v2431.toNat
def k0_dev182 (v21 : BitVec 32) : Nat :=
  let c0_i32_3357 : BitVec 32 := 0#32
  let c1_i32_3356 : BitVec 32 := 1#32
  let v2440 : BitVec 32 := Scalar.muli v21 c1_i32_3356
  let v2441 : BitVec 32 := Scalar.addi c0_i32_3357 v2440
  v2441.toNat
def k0_dev183 (v30 : BitVec 32) : Nat :=
  let c0_i32_3414 : BitVec 32 := 0#32
  let c1_i32_3413 : BitVec 32 := 1#32
  let v2480 : BitVec 32 := Scalar.muli v30 c1_i32_3413
  let v2481 : BitVec 32 := Scalar.addi c0_i32_3414 v2480
  v2481.toNat
def k0_dev184 (v21 : BitVec 32) : Nat :=
  let c0_i32_3421 : BitVec 32 := 0#32
  let c1_i32_3420 : BitVec 32 := 1#32
  let v2490 : BitVec 32 := Scalar.muli v21 c1_i32_3420
  let v2491 : BitVec 32 := Scalar.addi c0_i32_3421 v2490
  v2491.toNat
def k0_dev185 (v30 : BitVec 32) : Nat :=
  let c0_i32_3478 : BitVec 32 := 0#32
  let c1_i32_3477 : BitVec 32 := 1#32
  let v2530 : BitVec 32 := Scalar.muli v30 c1_i32_3477
  let v2531 : BitVec 32 := Scalar.addi c0_i32_3478 v2530
  v2531.toNat
def k0_dev186 (v21 : BitVec 32) : Nat :=
  let c0_i32_3485 : BitVec 32 := 0#32
  let c1_i32_3484 : BitVec 32 := 1#32
  let v2540 : BitVec 32 := Scalar.muli v21 c1_i32_3484
  let v2541 : BitVec 32 := Scalar.addi c0_i32_3485 v2540
  v2541.toNat
def k0_dev187 (v21 : BitVec 32) : Nat :=
  let c0_i32_3524 : BitVec 32 := 0#32
  let c1_i32_3523 : BitVec 32 := 1#32
  let v2556 : BitVec 32 := Scalar.muli v21 c1_i32_3523
  let v2557 : BitVec 32 := Scalar.addi c0_i32_3524 v2556
  v2557.toNat
def k0_off11 (v12 : BitVec 32) (c0_i32_3529 : BitVec 32) (c0_i32_3534 : BitVec 32) : Fin 2 → Nat :=
  let c1_i32_9 : BitVec 32 := 1#32
  let v33 : BitVec 32 := Scalar.addi v12 c1_i32_9
  let c32_i32_10 : BitVec 32 := 32#32
  let v34 : BitVec 32 := Scalar.remsi v33 c32_i32_10
  let v2566 : BitVec 32 := Scalar.subi v34 c0_i32_3529
  let c1_i32_3530 : BitVec 32 := 1#32
  let v2567 : BitVec 32 := Scalar.subi v2566 c1_i32_3530
  let c64_i32_3531 : BitVec 32 := 64#32
  let v2568 : BitVec 32 := Scalar.addi v2567 c64_i32_3531
  let c32_i32_3532 : BitVec 32 := 32#32
  let v2569 : BitVec 32 := Scalar.remsi v2568 c32_i32_3532
  let c128_i32_3533 : BitVec 32 := 128#32
  let v2570 : BitVec 32 := Scalar.muli v2569 c128_i32_3533
  let v2571 : BitVec 32 := Scalar.addi v2570 c0_i32_3534
  let c0_i32_3538 : BitVec 32 := 0#32
  ![v2571.toNat, 0]
def k0_off11_at (r : Fin 12) : BitVec 32 × BitVec 32 :=
  if r.val < 6 then
    if r.val < 3 then
      if r.val < 1 then
        (0#32, 0#32)
      else
        if r.val < 2 then
          (0#32, 16#32)
        else
          (0#32, 32#32)
    else
      if r.val < 4 then
        (0#32, 48#32)
      else
        if r.val < 5 then
          (1#32, 0#32)
        else
          (1#32, 16#32)
  else
    if r.val < 9 then
      if r.val < 7 then
        (1#32, 32#32)
      else
        if r.val < 8 then
          (1#32, 48#32)
        else
          (30#32, 0#32)
    else
      if r.val < 10 then
        (30#32, 16#32)
      else
        if r.val < 11 then
          (30#32, 32#32)
        else
          (30#32, 48#32)
def k0_dev188 (v21 : BitVec 32) : Nat :=
  let c0_i32_3579 : BitVec 32 := 0#32
  let c1_i32_3578 : BitVec 32 := 1#32
  let v2591 : BitVec 32 := Scalar.muli v21 c1_i32_3578
  let v2592 : BitVec 32 := Scalar.addi c0_i32_3579 v2591
  v2592.toNat
def k0_dev189 (v21 : BitVec 32) : Nat :=
  let c0_i32_3634 : BitVec 32 := 0#32
  let c1_i32_3633 : BitVec 32 := 1#32
  let v2626 : BitVec 32 := Scalar.muli v21 c1_i32_3633
  let v2627 : BitVec 32 := Scalar.addi c0_i32_3634 v2626
  v2627.toNat
def k0_dev190 (v21 : BitVec 32) : Nat :=
  let c0_i32_3689 : BitVec 32 := 0#32
  let c1_i32_3688 : BitVec 32 := 1#32
  let v2661 : BitVec 32 := Scalar.muli v21 c1_i32_3688
  let v2662 : BitVec 32 := Scalar.addi c0_i32_3689 v2661
  v2662.toNat
def k0_dev191 (v30 : BitVec 32) : Nat :=
  let c0_i32_3744 : BitVec 32 := 0#32
  let c1_i32_3743 : BitVec 32 := 1#32
  let v2696 : BitVec 32 := Scalar.muli v30 c1_i32_3743
  let v2697 : BitVec 32 := Scalar.addi c0_i32_3744 v2696
  v2697.toNat
def k0_off12 (v12 : BitVec 32) (c0_i32_3749 : BitVec 32) (c64_i32_3754 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let c1_i32_17 : BitVec 32 := 1#32
  let v41 : BitVec 32 := Scalar.addi v32 c1_i32_17
  let c32_i32_18 : BitVec 32 := 32#32
  let v42 : BitVec 32 := Scalar.remsi v41 c32_i32_18
  let v2706 : BitVec 32 := Scalar.subi v42 c0_i32_3749
  let c1_i32_3750 : BitVec 32 := 1#32
  let v2707 : BitVec 32 := Scalar.subi v2706 c1_i32_3750
  let c64_i32_3751 : BitVec 32 := 64#32
  let v2708 : BitVec 32 := Scalar.addi v2707 c64_i32_3751
  let c32_i32_3752 : BitVec 32 := 32#32
  let v2709 : BitVec 32 := Scalar.remsi v2708 c32_i32_3752
  let c128_i32_3753 : BitVec 32 := 128#32
  let v2710 : BitVec 32 := Scalar.muli v2709 c128_i32_3753
  let v2711 : BitVec 32 := Scalar.addi v2710 c64_i32_3754
  let c0_i32_3758 : BitVec 32 := 0#32
  ![v2711.toNat, 0]
def k0_off12_at (r : Fin 12) : BitVec 32 × BitVec 32 :=
  if r.val < 6 then
    if r.val < 3 then
      if r.val < 1 then
        (0#32, 64#32)
      else
        if r.val < 2 then
          (0#32, 80#32)
        else
          (0#32, 96#32)
    else
      if r.val < 4 then
        (0#32, 112#32)
      else
        if r.val < 5 then
          (1#32, 64#32)
        else
          (1#32, 80#32)
  else
    if r.val < 9 then
      if r.val < 7 then
        (1#32, 96#32)
      else
        if r.val < 8 then
          (1#32, 112#32)
        else
          (30#32, 64#32)
    else
      if r.val < 10 then
        (30#32, 80#32)
      else
        if r.val < 11 then
          (30#32, 96#32)
        else
          (30#32, 112#32)
def k0_dev192 (v30 : BitVec 32) : Nat :=
  let c0_i32_3799 : BitVec 32 := 0#32
  let c1_i32_3798 : BitVec 32 := 1#32
  let v2731 : BitVec 32 := Scalar.muli v30 c1_i32_3798
  let v2732 : BitVec 32 := Scalar.addi c0_i32_3799 v2731
  v2732.toNat
def k0_dev193 (v30 : BitVec 32) : Nat :=
  let c0_i32_3854 : BitVec 32 := 0#32
  let c1_i32_3853 : BitVec 32 := 1#32
  let v2766 : BitVec 32 := Scalar.muli v30 c1_i32_3853
  let v2767 : BitVec 32 := Scalar.addi c0_i32_3854 v2766
  v2767.toNat
def k0_dev194 (v30 : BitVec 32) : Nat :=
  let c0_i32_3909 : BitVec 32 := 0#32
  let c1_i32_3908 : BitVec 32 := 1#32
  let v2801 : BitVec 32 := Scalar.muli v30 c1_i32_3908
  let v2802 : BitVec 32 := Scalar.addi c0_i32_3909 v2801
  v2802.toNat
def k0_dev195 (v21 : BitVec 32) : Nat :=
  let c0_i32_3964 : BitVec 32 := 0#32
  let c1_i32_3963 : BitVec 32 := 1#32
  let v2836 : BitVec 32 := Scalar.muli v21 c1_i32_3963
  let v2837 : BitVec 32 := Scalar.addi c0_i32_3964 v2836
  v2837.toNat
def k0_dev196 (v21 : BitVec 32) : Nat :=
  let c0_i32_4026 : BitVec 32 := 0#32
  let c1_i32_4025 : BitVec 32 := 1#32
  let v2876 : BitVec 32 := Scalar.muli v21 c1_i32_4025
  let v2877 : BitVec 32 := Scalar.addi c0_i32_4026 v2876
  v2877.toNat
def k0_dev197 (v21 : BitVec 32) : Nat :=
  let c0_i32_4088 : BitVec 32 := 0#32
  let c1_i32_4087 : BitVec 32 := 1#32
  let v2916 : BitVec 32 := Scalar.muli v21 c1_i32_4087
  let v2917 : BitVec 32 := Scalar.addi c0_i32_4088 v2916
  v2917.toNat
def k0_dev198 (v21 : BitVec 32) : Nat :=
  let c0_i32_4150 : BitVec 32 := 0#32
  let c1_i32_4149 : BitVec 32 := 1#32
  let v2956 : BitVec 32 := Scalar.muli v21 c1_i32_4149
  let v2957 : BitVec 32 := Scalar.addi c0_i32_4150 v2956
  v2957.toNat
def k0_dev199 (v30 : BitVec 32) : Nat :=
  let c0_i32_4212 : BitVec 32 := 0#32
  let c1_i32_4211 : BitVec 32 := 1#32
  let v2996 : BitVec 32 := Scalar.muli v30 c1_i32_4211
  let v2997 : BitVec 32 := Scalar.addi c0_i32_4212 v2996
  v2997.toNat
def k0_dev200 (v30 : BitVec 32) : Nat :=
  let c0_i32_4274 : BitVec 32 := 0#32
  let c1_i32_4273 : BitVec 32 := 1#32
  let v3036 : BitVec 32 := Scalar.muli v30 c1_i32_4273
  let v3037 : BitVec 32 := Scalar.addi c0_i32_4274 v3036
  v3037.toNat
def k0_dev201 (v30 : BitVec 32) : Nat :=
  let c0_i32_4336 : BitVec 32 := 0#32
  let c1_i32_4335 : BitVec 32 := 1#32
  let v3076 : BitVec 32 := Scalar.muli v30 c1_i32_4335
  let v3077 : BitVec 32 := Scalar.addi c0_i32_4336 v3076
  v3077.toNat
def k0_dev202 (v30 : BitVec 32) : Nat :=
  let c0_i32_4398 : BitVec 32 := 0#32
  let c1_i32_4397 : BitVec 32 := 1#32
  let v3116 : BitVec 32 := Scalar.muli v30 c1_i32_4397
  let v3117 : BitVec 32 := Scalar.addi c0_i32_4398 v3116
  v3117.toNat
@[reducible] def k0_t2_loop : Scf.Loop 32 :=
  let c0_i32_4422 : BitVec 32 := 0#32
  let c7_i32_4423 : BitVec 32 := 7#32
  let v3142 : BitVec 32 := Scalar.addi c0_i32_4422 c7_i32_4423
  let c1_i32_4424 : BitVec 32 := 1#32
  ⟨c0_i32_4422, v3142, c1_i32_4424⟩
def k0_dev203 (v21 : BitVec 32) : Nat :=
  let c0_i32_4995 : BitVec 32 := 0#32
  let c1_i32_4994 : BitVec 32 := 1#32
  let v3488 : BitVec 32 := Scalar.muli v21 c1_i32_4994
  let v3489 : BitVec 32 := Scalar.addi c0_i32_4995 v3488
  v3489.toNat
def k0_off13 (v12 : BitVec 32) (k0_t2 : Fin k0_t2_loop.trips) (c0_i32_4956 : BitVec 32) (c0_i32_5011 : BitVec 32) : Fin 2 → Nat :=
  let c1_i32_9 : BitVec 32 := 1#32
  let v33 : BitVec 32 := Scalar.addi v12 c1_i32_9
  let c32_i32_10 : BitVec 32 := 32#32
  let v34 : BitVec 32 := Scalar.remsi v33 c32_i32_10
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let v3473 : BitVec 32 := Scalar.addi v3472 c0_i32_4956
  let v3503 : BitVec 32 := Scalar.subi v34 v3473
  let c1_i32_5007 : BitVec 32 := 1#32
  let v3504 : BitVec 32 := Scalar.subi v3503 c1_i32_5007
  let c64_i32_5008 : BitVec 32 := 64#32
  let v3505 : BitVec 32 := Scalar.addi v3504 c64_i32_5008
  let c32_i32_5009 : BitVec 32 := 32#32
  let v3506 : BitVec 32 := Scalar.remsi v3505 c32_i32_5009
  let c128_i32_5010 : BitVec 32 := 128#32
  let v3507 : BitVec 32 := Scalar.muli v3506 c128_i32_5010
  let v3508 : BitVec 32 := Scalar.addi v3507 c0_i32_5011
  let c0_i32_5015 : BitVec 32 := 0#32
  ![v3508.toNat, 0]
def k0_cond1 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5018 : BitVec 32 := 28#32
  let v3514 : BitVec 1 := Scalar.cmpi .sle v3473 c28_i32_5018
  let v3515 : BitVec 32 := Scalar.extui v3514
  let c0_i32_5019 : BitVec 32 := 0#32
  let v3516 : BitVec 1 := Scalar.cmpi .ne v3515 c0_i32_5019
  v3516

def k0_dev204 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev205 (v21 : BitVec 32) : Nat :=
  let c0_i32_5058 : BitVec 32 := 0#32
  let c1_i32_5057 : BitVec 32 := 1#32
  let v3531 : BitVec 32 := Scalar.muli v21 c1_i32_5057
  let v3532 : BitVec 32 := Scalar.addi c0_i32_5058 v3531
  v3532.toNat
def k0_cond2 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5081 : BitVec 32 := 28#32
  let v3557 : BitVec 1 := Scalar.cmpi .sle v3473 c28_i32_5081
  let v3558 : BitVec 32 := Scalar.extui v3557
  let c0_i32_5082 : BitVec 32 := 0#32
  let v3559 : BitVec 1 := Scalar.cmpi .ne v3558 c0_i32_5082
  v3559

def k0_dev206 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev207 (v21 : BitVec 32) : Nat :=
  let c0_i32_5121 : BitVec 32 := 0#32
  let c1_i32_5120 : BitVec 32 := 1#32
  let v3574 : BitVec 32 := Scalar.muli v21 c1_i32_5120
  let v3575 : BitVec 32 := Scalar.addi c0_i32_5121 v3574
  v3575.toNat
def k0_cond3 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5144 : BitVec 32 := 28#32
  let v3600 : BitVec 1 := Scalar.cmpi .sle v3473 c28_i32_5144
  let v3601 : BitVec 32 := Scalar.extui v3600
  let c0_i32_5145 : BitVec 32 := 0#32
  let v3602 : BitVec 1 := Scalar.cmpi .ne v3601 c0_i32_5145
  v3602

def k0_dev208 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev209 (v21 : BitVec 32) : Nat :=
  let c0_i32_5184 : BitVec 32 := 0#32
  let c1_i32_5183 : BitVec 32 := 1#32
  let v3617 : BitVec 32 := Scalar.muli v21 c1_i32_5183
  let v3618 : BitVec 32 := Scalar.addi c0_i32_5184 v3617
  v3618.toNat
def k0_cond4 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5207 : BitVec 32 := 28#32
  let v3643 : BitVec 1 := Scalar.cmpi .sle v3473 c28_i32_5207
  let v3644 : BitVec 32 := Scalar.extui v3643
  let c0_i32_5208 : BitVec 32 := 0#32
  let v3645 : BitVec 1 := Scalar.cmpi .ne v3644 c0_i32_5208
  v3645

def k0_dev210 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev211 (v30 : BitVec 32) : Nat :=
  let c0_i32_5247 : BitVec 32 := 0#32
  let c1_i32_5246 : BitVec 32 := 1#32
  let v3660 : BitVec 32 := Scalar.muli v30 c1_i32_5246
  let v3661 : BitVec 32 := Scalar.addi c0_i32_5247 v3660
  v3661.toNat
def k0_off14 (v12 : BitVec 32) (k0_t2 : Fin k0_t2_loop.trips) (c0_i32_4956 : BitVec 32) (c64_i32_5263 : BitVec 32) : Fin 2 → Nat :=
  let c32_i32_7 : BitVec 32 := 32#32
  let v31 : BitVec 32 := Scalar.subi c32_i32_7 v12
  let c32_i32_8 : BitVec 32 := 32#32
  let v32 : BitVec 32 := Scalar.remsi v31 c32_i32_8
  let c1_i32_17 : BitVec 32 := 1#32
  let v41 : BitVec 32 := Scalar.addi v32 c1_i32_17
  let c32_i32_18 : BitVec 32 := 32#32
  let v42 : BitVec 32 := Scalar.remsi v41 c32_i32_18
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let v3473 : BitVec 32 := Scalar.addi v3472 c0_i32_4956
  let v3675 : BitVec 32 := Scalar.subi v42 v3473
  let c1_i32_5259 : BitVec 32 := 1#32
  let v3676 : BitVec 32 := Scalar.subi v3675 c1_i32_5259
  let c64_i32_5260 : BitVec 32 := 64#32
  let v3677 : BitVec 32 := Scalar.addi v3676 c64_i32_5260
  let c32_i32_5261 : BitVec 32 := 32#32
  let v3678 : BitVec 32 := Scalar.remsi v3677 c32_i32_5261
  let c128_i32_5262 : BitVec 32 := 128#32
  let v3679 : BitVec 32 := Scalar.muli v3678 c128_i32_5262
  let v3680 : BitVec 32 := Scalar.addi v3679 c64_i32_5263
  let c0_i32_5267 : BitVec 32 := 0#32
  ![v3680.toNat, 0]

def k0_chk3 (v12 : BitVec 32) : Prop :=
  (∀ a, (k0_off1 v12) a + S128x128.size a ≤ S4096x128.size a) ∧
  (∀ a, (k0_off2 v12) a + S128x2048.size a ≤ S4096x2048.size a) ∧
  (∀ (hinb : ∀ a, (k0_off2 v12) a + S128x2048.size a ≤ S4096x2048.size a), (Rect.unit (s := S4096x2048) (k0_off2 v12) S128x2048.size hinb).PackedRows (EltTy.packing .bf16)) ∧
  (∀ a, (k0_off3 v12) a + S128x128.size a ≤ S4096x128.size a) ∧
  (∀ a, (k0_off4 v12) a + S128x2048.size a ≤ S4096x2048.size a) ∧
  (∀ (hinb : ∀ a, (k0_off4 v12) a + S128x2048.size a ≤ S4096x2048.size a), (Rect.unit (s := S4096x2048) (k0_off4 v12) S128x2048.size hinb).PackedRows (EltTy.packing .bf16)) ∧
  (∀ (r : Fin 4), ∀ a, (k0_off5 v12 (BitVec.ofNat 32 (16 * r.val))) a + S16x2048.size a ≤ S4096x2048.size a) ∧
  (∀ (r : Fin 4), ∀ a, (k0_off6 v12 (BitVec.ofNat 32 (64 + 16 * r.val))) a + S16x2048.size a ≤ S4096x2048.size a) ∧
  (∀ (r : Fin 28), ∀ a, (k0_off7 v12 (k0_off7_at r).1 (k0_off7_at r).2) a + S16x2048.size a ≤ S4096x2048.size a) ∧
  (∀ (r : Fin 28), ∀ a, (k0_off8 v12 (k0_off8_at r).1 (k0_off8_at r).2) a + S16x2048.size a ≤ S4096x2048.size a) ∧
  (∀ k0_t1 : Fin k0_t1_loop.trips, ∀ (r₁ : Fin 4) (r₂ : Fin 4), ∀ a, (k0_off9 v12 k0_t1 (BitVec.ofNat 32 r₁.val) (BitVec.ofNat 32 (16 * r₂.val))) a + S16x2048.size a ≤ S4096x2048.size a) ∧
  (∀ k0_t1 : Fin k0_t1_loop.trips, ∀ (r₁ : Fin 4) (r₂ : Fin 4), ∀ a, (k0_off10 v12 k0_t1 (BitVec.ofNat 32 r₁.val) (BitVec.ofNat 32 (64 + 16 * r₂.val))) a + S16x2048.size a ≤ S4096x2048.size a) ∧
  (∀ (r : Fin 28), ∀ (hinb : ∀ a, (k0_off7 v12 (k0_off7_at r).1 (k0_off7_at r).2) a + S16x2048.size a ≤ S4096x2048.size a), (Rect.unit (s := S4096x2048) (k0_off7 v12 (k0_off7_at r).1 (k0_off7_at r).2) S16x2048.size hinb).PackedRows (EltTy.packing .bf16)) ∧
  (∀ (r : Fin 28), ∀ (hinb : ∀ a, (k0_off8 v12 (k0_off8_at r).1 (k0_off8_at r).2) a + S16x2048.size a ≤ S4096x2048.size a), (Rect.unit (s := S4096x2048) (k0_off8 v12 (k0_off8_at r).1 (k0_off8_at r).2) S16x2048.size hinb).PackedRows (EltTy.packing .bf16)) ∧
  (∀ (r : Fin 12), ∀ a, (k0_off11 v12 (k0_off11_at r).1 (k0_off11_at r).2) a + S16x2048.size a ≤ S4096x2048.size a) ∧
  (∀ (r : Fin 12), ∀ (hinb : ∀ a, (k0_off11 v12 (k0_off11_at r).1 (k0_off11_at r).2) a + S16x2048.size a ≤ S4096x2048.size a), (Rect.unit (s := S4096x2048) (k0_off11 v12 (k0_off11_at r).1 (k0_off11_at r).2) S16x2048.size hinb).WholeWords (EltTy.packing .bf16)) ∧
  (∀ (r : Fin 12), ∀ a, (k0_off12 v12 (k0_off12_at r).1 (k0_off12_at r).2) a + S16x2048.size a ≤ S4096x2048.size a) ∧
  (∀ (r : Fin 12), ∀ (hinb : ∀ a, (k0_off12 v12 (k0_off12_at r).1 (k0_off12_at r).2) a + S16x2048.size a ≤ S4096x2048.size a), (Rect.unit (s := S4096x2048) (k0_off12 v12 (k0_off12_at r).1 (k0_off12_at r).2) S16x2048.size hinb).WholeWords (EltTy.packing .bf16)) ∧
  (∀ k0_t2 : Fin k0_t2_loop.trips, ∀ (r₁ : Fin 4) (r₂ : Fin 4), ∀ a, (k0_off13 v12 k0_t2 (BitVec.ofNat 32 r₁.val) (BitVec.ofNat 32 (16 * r₂.val))) a + S16x2048.size a ≤ S4096x2048.size a) ∧
  (∀ k0_t2 : Fin k0_t2_loop.trips, ∀ (r₁ : Fin 4) (r₂ : Fin 4), ∀ (hinb : ∀ a, (k0_off13 v12 k0_t2 (BitVec.ofNat 32 r₁.val) (BitVec.ofNat 32 (16 * r₂.val))) a + S16x2048.size a ≤ S4096x2048.size a), (Rect.unit (s := S4096x2048) (k0_off13 v12 k0_t2 (BitVec.ofNat 32 r₁.val) (BitVec.ofNat 32 (16 * r₂.val))) S16x2048.size hinb).WholeWords (EltTy.packing .bf16)) ∧
  (∀ k0_t2 : Fin k0_t2_loop.trips, ∀ (r₁ : Fin 4) (r₂ : Fin 4), ∀ a, (k0_off14 v12 k0_t2 (BitVec.ofNat 32 r₁.val) (BitVec.ofNat 32 (64 + 16 * r₂.val))) a + S16x2048.size a ≤ S4096x2048.size a) ∧
  (∀ k0_t2 : Fin k0_t2_loop.trips, ∀ (r₁ : Fin 4) (r₂ : Fin 4), ∀ (hinb : ∀ a, (k0_off14 v12 k0_t2 (BitVec.ofNat 32 r₁.val) (BitVec.ofNat 32 (64 + 16 * r₂.val))) a + S16x2048.size a ≤ S4096x2048.size a), (Rect.unit (s := S4096x2048) (k0_off14 v12 k0_t2 (BitVec.ofNat 32 r₁.val) (BitVec.ofNat 32 (64 + 16 * r₂.val))) S16x2048.size hinb).WholeWords (EltTy.packing .bf16))
theorem k0_off1_inb : ∀ (v12 : BitVec 32) (k0_hw3 : k0_chk3 v12), ∀ a, (k0_off1 v12) a + S128x128.size a ≤ S4096x128.size a := fun v12 k0_hw3 => k0_hw3.1
theorem k0_off2_inb : ∀ (v12 : BitVec 32) (k0_hw3 : k0_chk3 v12), ∀ a, (k0_off2 v12) a + S128x2048.size a ≤ S4096x2048.size a := fun v12 k0_hw3 => k0_hw3.2.1
theorem k0_off2_packedbf16 : ∀ (v12 : BitVec 32) (k0_hw3 : k0_chk3 v12), (Rect.unit (s := S4096x2048) (k0_off2 v12) S128x2048.size (k0_off2_inb v12 k0_hw3)).PackedRows (EltTy.packing .bf16) := fun v12 k0_hw3 => k0_hw3.2.2.1 (k0_off2_inb v12 k0_hw3)
theorem k0_off3_inb : ∀ (v12 : BitVec 32) (k0_hw3 : k0_chk3 v12), ∀ a, (k0_off3 v12) a + S128x128.size a ≤ S4096x128.size a := fun v12 k0_hw3 => k0_hw3.2.2.2.1
theorem k0_off4_inb : ∀ (v12 : BitVec 32) (k0_hw3 : k0_chk3 v12), ∀ a, (k0_off4 v12) a + S128x2048.size a ≤ S4096x2048.size a := fun v12 k0_hw3 => k0_hw3.2.2.2.2.1
theorem k0_off4_packedbf16 : ∀ (v12 : BitVec 32) (k0_hw3 : k0_chk3 v12), (Rect.unit (s := S4096x2048) (k0_off4 v12) S128x2048.size (k0_off4_inb v12 k0_hw3)).PackedRows (EltTy.packing .bf16) := fun v12 k0_hw3 => k0_hw3.2.2.2.2.2.1 (k0_off4_inb v12 k0_hw3)
theorem k0_off5_inb : ∀ (v12 : BitVec 32) (k0_hw3 : k0_chk3 v12), ∀ (r : Fin 4), ∀ a, (k0_off5 v12 (BitVec.ofNat 32 (16 * r.val))) a + S16x2048.size a ≤ S4096x2048.size a := fun v12 k0_hw3 r => k0_hw3.2.2.2.2.2.2.1 r
theorem k0_off6_inb : ∀ (v12 : BitVec 32) (k0_hw3 : k0_chk3 v12), ∀ (r : Fin 4), ∀ a, (k0_off6 v12 (BitVec.ofNat 32 (64 + 16 * r.val))) a + S16x2048.size a ≤ S4096x2048.size a := fun v12 k0_hw3 r => k0_hw3.2.2.2.2.2.2.2.1 r
theorem k0_off7_inb : ∀ (v12 : BitVec 32) (k0_hw3 : k0_chk3 v12), ∀ (r : Fin 28), ∀ a, (k0_off7 v12 (k0_off7_at r).1 (k0_off7_at r).2) a + S16x2048.size a ≤ S4096x2048.size a := fun v12 k0_hw3 r => k0_hw3.2.2.2.2.2.2.2.2.1 r
theorem k0_off8_inb : ∀ (v12 : BitVec 32) (k0_hw3 : k0_chk3 v12), ∀ (r : Fin 28), ∀ a, (k0_off8 v12 (k0_off8_at r).1 (k0_off8_at r).2) a + S16x2048.size a ≤ S4096x2048.size a := fun v12 k0_hw3 r => k0_hw3.2.2.2.2.2.2.2.2.2.1 r
theorem k0_off9_inb : ∀ (v12 : BitVec 32) (k0_hw3 : k0_chk3 v12) (k0_t1 : Fin k0_t1_loop.trips), ∀ (r₁ : Fin 4) (r₂ : Fin 4), ∀ a, (k0_off9 v12 k0_t1 (BitVec.ofNat 32 r₁.val) (BitVec.ofNat 32 (16 * r₂.val))) a + S16x2048.size a ≤ S4096x2048.size a := fun v12 k0_hw3 k0_t1 r₁ r₂ => k0_hw3.2.2.2.2.2.2.2.2.2.2.1 k0_t1 r₁ r₂
theorem k0_off10_inb : ∀ (v12 : BitVec 32) (k0_hw3 : k0_chk3 v12) (k0_t1 : Fin k0_t1_loop.trips), ∀ (r₁ : Fin 4) (r₂ : Fin 4), ∀ a, (k0_off10 v12 k0_t1 (BitVec.ofNat 32 r₁.val) (BitVec.ofNat 32 (64 + 16 * r₂.val))) a + S16x2048.size a ≤ S4096x2048.size a := fun v12 k0_hw3 k0_t1 r₁ r₂ => k0_hw3.2.2.2.2.2.2.2.2.2.2.2.1 k0_t1 r₁ r₂
theorem k0_off7_packedbf16 : ∀ (v12 : BitVec 32) (k0_hw3 : k0_chk3 v12), ∀ (r : Fin 28), (Rect.unit (s := S4096x2048) (k0_off7 v12 (k0_off7_at r).1 (k0_off7_at r).2) S16x2048.size (k0_off7_inb v12 k0_hw3 r)).PackedRows (EltTy.packing .bf16) := fun v12 k0_hw3 r => k0_hw3.2.2.2.2.2.2.2.2.2.2.2.2.1 r (k0_off7_inb v12 k0_hw3 r)
theorem k0_off8_packedbf16 : ∀ (v12 : BitVec 32) (k0_hw3 : k0_chk3 v12), ∀ (r : Fin 28), (Rect.unit (s := S4096x2048) (k0_off8 v12 (k0_off8_at r).1 (k0_off8_at r).2) S16x2048.size (k0_off8_inb v12 k0_hw3 r)).PackedRows (EltTy.packing .bf16) := fun v12 k0_hw3 r => k0_hw3.2.2.2.2.2.2.2.2.2.2.2.2.2.1 r (k0_off8_inb v12 k0_hw3 r)
theorem k0_off11_inb : ∀ (v12 : BitVec 32) (k0_hw3 : k0_chk3 v12), ∀ (r : Fin 12), ∀ a, (k0_off11 v12 (k0_off11_at r).1 (k0_off11_at r).2) a + S16x2048.size a ≤ S4096x2048.size a := fun v12 k0_hw3 r => k0_hw3.2.2.2.2.2.2.2.2.2.2.2.2.2.2.1 r
theorem k0_off11_wordsbf16 : ∀ (v12 : BitVec 32) (k0_hw3 : k0_chk3 v12), ∀ (r : Fin 12), (Rect.unit (s := S4096x2048) (k0_off11 v12 (k0_off11_at r).1 (k0_off11_at r).2) S16x2048.size (k0_off11_inb v12 k0_hw3 r)).WholeWords (EltTy.packing .bf16) := fun v12 k0_hw3 r => k0_hw3.2.2.2.2.2.2.2.2.2.2.2.2.2.2.2.1 r (k0_off11_inb v12 k0_hw3 r)
theorem k0_off12_inb : ∀ (v12 : BitVec 32) (k0_hw3 : k0_chk3 v12), ∀ (r : Fin 12), ∀ a, (k0_off12 v12 (k0_off12_at r).1 (k0_off12_at r).2) a + S16x2048.size a ≤ S4096x2048.size a := fun v12 k0_hw3 r => k0_hw3.2.2.2.2.2.2.2.2.2.2.2.2.2.2.2.2.1 r
theorem k0_off12_wordsbf16 : ∀ (v12 : BitVec 32) (k0_hw3 : k0_chk3 v12), ∀ (r : Fin 12), (Rect.unit (s := S4096x2048) (k0_off12 v12 (k0_off12_at r).1 (k0_off12_at r).2) S16x2048.size (k0_off12_inb v12 k0_hw3 r)).WholeWords (EltTy.packing .bf16) := fun v12 k0_hw3 r => k0_hw3.2.2.2.2.2.2.2.2.2.2.2.2.2.2.2.2.2.1 r (k0_off12_inb v12 k0_hw3 r)
theorem k0_off13_inb : ∀ (v12 : BitVec 32) (k0_hw3 : k0_chk3 v12) (k0_t2 : Fin k0_t2_loop.trips), ∀ (r₁ : Fin 4) (r₂ : Fin 4), ∀ a, (k0_off13 v12 k0_t2 (BitVec.ofNat 32 r₁.val) (BitVec.ofNat 32 (16 * r₂.val))) a + S16x2048.size a ≤ S4096x2048.size a := fun v12 k0_hw3 k0_t2 r₁ r₂ => k0_hw3.2.2.2.2.2.2.2.2.2.2.2.2.2.2.2.2.2.2.1 k0_t2 r₁ r₂
theorem k0_off13_wordsbf16 : ∀ (v12 : BitVec 32) (k0_hw3 : k0_chk3 v12) (k0_t2 : Fin k0_t2_loop.trips), ∀ (r₁ : Fin 4) (r₂ : Fin 4), (Rect.unit (s := S4096x2048) (k0_off13 v12 k0_t2 (BitVec.ofNat 32 r₁.val) (BitVec.ofNat 32 (16 * r₂.val))) S16x2048.size (k0_off13_inb v12 k0_hw3 k0_t2 r₁ r₂)).WholeWords (EltTy.packing .bf16) := fun v12 k0_hw3 k0_t2 r₁ r₂ => k0_hw3.2.2.2.2.2.2.2.2.2.2.2.2.2.2.2.2.2.2.2.1 k0_t2 r₁ r₂ (k0_off13_inb v12 k0_hw3 k0_t2 r₁ r₂)
theorem k0_off14_inb : ∀ (v12 : BitVec 32) (k0_hw3 : k0_chk3 v12) (k0_t2 : Fin k0_t2_loop.trips), ∀ (r₁ : Fin 4) (r₂ : Fin 4), ∀ a, (k0_off14 v12 k0_t2 (BitVec.ofNat 32 r₁.val) (BitVec.ofNat 32 (64 + 16 * r₂.val))) a + S16x2048.size a ≤ S4096x2048.size a := fun v12 k0_hw3 k0_t2 r₁ r₂ => k0_hw3.2.2.2.2.2.2.2.2.2.2.2.2.2.2.2.2.2.2.2.2.1 k0_t2 r₁ r₂
theorem k0_off14_wordsbf16 : ∀ (v12 : BitVec 32) (k0_hw3 : k0_chk3 v12) (k0_t2 : Fin k0_t2_loop.trips), ∀ (r₁ : Fin 4) (r₂ : Fin 4), (Rect.unit (s := S4096x2048) (k0_off14 v12 k0_t2 (BitVec.ofNat 32 r₁.val) (BitVec.ofNat 32 (64 + 16 * r₂.val))) S16x2048.size (k0_off14_inb v12 k0_hw3 k0_t2 r₁ r₂)).WholeWords (EltTy.packing .bf16) := fun v12 k0_hw3 k0_t2 r₁ r₂ => k0_hw3.2.2.2.2.2.2.2.2.2.2.2.2.2.2.2.2.2.2.2.2.2 k0_t2 r₁ r₂ (k0_off14_inb v12 k0_hw3 k0_t2 r₁ r₂)

def k0_cond5 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5270 : BitVec 32 := 28#32
  let v3686 : BitVec 1 := Scalar.cmpi .sle v3473 c28_i32_5270
  let v3687 : BitVec 32 := Scalar.extui v3686
  let c0_i32_5271 : BitVec 32 := 0#32
  let v3688 : BitVec 1 := Scalar.cmpi .ne v3687 c0_i32_5271
  v3688

def k0_dev212 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev213 (v30 : BitVec 32) : Nat :=
  let c0_i32_5310 : BitVec 32 := 0#32
  let c1_i32_5309 : BitVec 32 := 1#32
  let v3703 : BitVec 32 := Scalar.muli v30 c1_i32_5309
  let v3704 : BitVec 32 := Scalar.addi c0_i32_5310 v3703
  v3704.toNat
def k0_cond6 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5333 : BitVec 32 := 28#32
  let v3729 : BitVec 1 := Scalar.cmpi .sle v3473 c28_i32_5333
  let v3730 : BitVec 32 := Scalar.extui v3729
  let c0_i32_5334 : BitVec 32 := 0#32
  let v3731 : BitVec 1 := Scalar.cmpi .ne v3730 c0_i32_5334
  v3731

def k0_dev214 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev215 (v30 : BitVec 32) : Nat :=
  let c0_i32_5373 : BitVec 32 := 0#32
  let c1_i32_5372 : BitVec 32 := 1#32
  let v3746 : BitVec 32 := Scalar.muli v30 c1_i32_5372
  let v3747 : BitVec 32 := Scalar.addi c0_i32_5373 v3746
  v3747.toNat
def k0_cond7 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5396 : BitVec 32 := 28#32
  let v3772 : BitVec 1 := Scalar.cmpi .sle v3473 c28_i32_5396
  let v3773 : BitVec 32 := Scalar.extui v3772
  let c0_i32_5397 : BitVec 32 := 0#32
  let v3774 : BitVec 1 := Scalar.cmpi .ne v3773 c0_i32_5397
  v3774

def k0_dev216 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev217 (v30 : BitVec 32) : Nat :=
  let c0_i32_5436 : BitVec 32 := 0#32
  let c1_i32_5435 : BitVec 32 := 1#32
  let v3789 : BitVec 32 := Scalar.muli v30 c1_i32_5435
  let v3790 : BitVec 32 := Scalar.addi c0_i32_5436 v3789
  v3790.toNat
def k0_cond8 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c0_i32_4956 : BitVec 32 := 0#32
  let v3473 : BitVec 32 := Scalar.addi v3472 c0_i32_4956
  let c28_i32_5459 : BitVec 32 := 28#32
  let v3815 : BitVec 1 := Scalar.cmpi .sle v3473 c28_i32_5459
  let v3816 : BitVec 32 := Scalar.extui v3815
  let c0_i32_5460 : BitVec 32 := 0#32
  let v3817 : BitVec 1 := Scalar.cmpi .ne v3816 c0_i32_5460
  v3817

def k0_dev218 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev219 (v21 : BitVec 32) : Nat :=
  let c0_i32_5500 : BitVec 32 := 0#32
  let c1_i32_5499 : BitVec 32 := 1#32
  let v3833 : BitVec 32 := Scalar.muli v21 c1_i32_5499
  let v3834 : BitVec 32 := Scalar.addi c0_i32_5500 v3833
  v3834.toNat
def k0_cond9 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5523 : BitVec 32 := 28#32
  let v3859 : BitVec 1 := Scalar.cmpi .sle v3818 c28_i32_5523
  let v3860 : BitVec 32 := Scalar.extui v3859
  let c0_i32_5524 : BitVec 32 := 0#32
  let v3861 : BitVec 1 := Scalar.cmpi .ne v3860 c0_i32_5524
  v3861

def k0_dev220 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev221 (v21 : BitVec 32) : Nat :=
  let c0_i32_5563 : BitVec 32 := 0#32
  let c1_i32_5562 : BitVec 32 := 1#32
  let v3876 : BitVec 32 := Scalar.muli v21 c1_i32_5562
  let v3877 : BitVec 32 := Scalar.addi c0_i32_5563 v3876
  v3877.toNat
def k0_cond10 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5586 : BitVec 32 := 28#32
  let v3902 : BitVec 1 := Scalar.cmpi .sle v3818 c28_i32_5586
  let v3903 : BitVec 32 := Scalar.extui v3902
  let c0_i32_5587 : BitVec 32 := 0#32
  let v3904 : BitVec 1 := Scalar.cmpi .ne v3903 c0_i32_5587
  v3904

def k0_dev222 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev223 (v21 : BitVec 32) : Nat :=
  let c0_i32_5626 : BitVec 32 := 0#32
  let c1_i32_5625 : BitVec 32 := 1#32
  let v3919 : BitVec 32 := Scalar.muli v21 c1_i32_5625
  let v3920 : BitVec 32 := Scalar.addi c0_i32_5626 v3919
  v3920.toNat
def k0_cond11 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5649 : BitVec 32 := 28#32
  let v3945 : BitVec 1 := Scalar.cmpi .sle v3818 c28_i32_5649
  let v3946 : BitVec 32 := Scalar.extui v3945
  let c0_i32_5650 : BitVec 32 := 0#32
  let v3947 : BitVec 1 := Scalar.cmpi .ne v3946 c0_i32_5650
  v3947

def k0_dev224 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev225 (v21 : BitVec 32) : Nat :=
  let c0_i32_5689 : BitVec 32 := 0#32
  let c1_i32_5688 : BitVec 32 := 1#32
  let v3962 : BitVec 32 := Scalar.muli v21 c1_i32_5688
  let v3963 : BitVec 32 := Scalar.addi c0_i32_5689 v3962
  v3963.toNat
def k0_cond12 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5712 : BitVec 32 := 28#32
  let v3988 : BitVec 1 := Scalar.cmpi .sle v3818 c28_i32_5712
  let v3989 : BitVec 32 := Scalar.extui v3988
  let c0_i32_5713 : BitVec 32 := 0#32
  let v3990 : BitVec 1 := Scalar.cmpi .ne v3989 c0_i32_5713
  v3990

def k0_dev226 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev227 (v30 : BitVec 32) : Nat :=
  let c0_i32_5752 : BitVec 32 := 0#32
  let c1_i32_5751 : BitVec 32 := 1#32
  let v4005 : BitVec 32 := Scalar.muli v30 c1_i32_5751
  let v4006 : BitVec 32 := Scalar.addi c0_i32_5752 v4005
  v4006.toNat
def k0_cond13 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5775 : BitVec 32 := 28#32
  let v4031 : BitVec 1 := Scalar.cmpi .sle v3818 c28_i32_5775
  let v4032 : BitVec 32 := Scalar.extui v4031
  let c0_i32_5776 : BitVec 32 := 0#32
  let v4033 : BitVec 1 := Scalar.cmpi .ne v4032 c0_i32_5776
  v4033

def k0_dev228 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev229 (v30 : BitVec 32) : Nat :=
  let c0_i32_5815 : BitVec 32 := 0#32
  let c1_i32_5814 : BitVec 32 := 1#32
  let v4048 : BitVec 32 := Scalar.muli v30 c1_i32_5814
  let v4049 : BitVec 32 := Scalar.addi c0_i32_5815 v4048
  v4049.toNat
def k0_cond14 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5838 : BitVec 32 := 28#32
  let v4074 : BitVec 1 := Scalar.cmpi .sle v3818 c28_i32_5838
  let v4075 : BitVec 32 := Scalar.extui v4074
  let c0_i32_5839 : BitVec 32 := 0#32
  let v4076 : BitVec 1 := Scalar.cmpi .ne v4075 c0_i32_5839
  v4076

def k0_dev230 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev231 (v30 : BitVec 32) : Nat :=
  let c0_i32_5878 : BitVec 32 := 0#32
  let c1_i32_5877 : BitVec 32 := 1#32
  let v4091 : BitVec 32 := Scalar.muli v30 c1_i32_5877
  let v4092 : BitVec 32 := Scalar.addi c0_i32_5878 v4091
  v4092.toNat
def k0_cond15 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5901 : BitVec 32 := 28#32
  let v4117 : BitVec 1 := Scalar.cmpi .sle v3818 c28_i32_5901
  let v4118 : BitVec 32 := Scalar.extui v4117
  let c0_i32_5902 : BitVec 32 := 0#32
  let v4119 : BitVec 1 := Scalar.cmpi .ne v4118 c0_i32_5902
  v4119

def k0_dev232 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev233 (v30 : BitVec 32) : Nat :=
  let c0_i32_5941 : BitVec 32 := 0#32
  let c1_i32_5940 : BitVec 32 := 1#32
  let v4134 : BitVec 32 := Scalar.muli v30 c1_i32_5940
  let v4135 : BitVec 32 := Scalar.addi c0_i32_5941 v4134
  v4135.toNat
def k0_cond16 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c1_i32_5461 : BitVec 32 := 1#32
  let v3818 : BitVec 32 := Scalar.addi v3472 c1_i32_5461
  let c28_i32_5964 : BitVec 32 := 28#32
  let v4160 : BitVec 1 := Scalar.cmpi .sle v3818 c28_i32_5964
  let v4161 : BitVec 32 := Scalar.extui v4160
  let c0_i32_5965 : BitVec 32 := 0#32
  let v4162 : BitVec 1 := Scalar.cmpi .ne v4161 c0_i32_5965
  v4162

def k0_dev234 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev235 (v21 : BitVec 32) : Nat :=
  let c0_i32_6005 : BitVec 32 := 0#32
  let c1_i32_6004 : BitVec 32 := 1#32
  let v4178 : BitVec 32 := Scalar.muli v21 c1_i32_6004
  let v4179 : BitVec 32 := Scalar.addi c0_i32_6005 v4178
  v4179.toNat
def k0_cond17 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6028 : BitVec 32 := 28#32
  let v4204 : BitVec 1 := Scalar.cmpi .sle v4163 c28_i32_6028
  let v4205 : BitVec 32 := Scalar.extui v4204
  let c0_i32_6029 : BitVec 32 := 0#32
  let v4206 : BitVec 1 := Scalar.cmpi .ne v4205 c0_i32_6029
  v4206

def k0_dev236 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev237 (v21 : BitVec 32) : Nat :=
  let c0_i32_6068 : BitVec 32 := 0#32
  let c1_i32_6067 : BitVec 32 := 1#32
  let v4221 : BitVec 32 := Scalar.muli v21 c1_i32_6067
  let v4222 : BitVec 32 := Scalar.addi c0_i32_6068 v4221
  v4222.toNat
def k0_cond18 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6091 : BitVec 32 := 28#32
  let v4247 : BitVec 1 := Scalar.cmpi .sle v4163 c28_i32_6091
  let v4248 : BitVec 32 := Scalar.extui v4247
  let c0_i32_6092 : BitVec 32 := 0#32
  let v4249 : BitVec 1 := Scalar.cmpi .ne v4248 c0_i32_6092
  v4249

def k0_dev238 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev239 (v21 : BitVec 32) : Nat :=
  let c0_i32_6131 : BitVec 32 := 0#32
  let c1_i32_6130 : BitVec 32 := 1#32
  let v4264 : BitVec 32 := Scalar.muli v21 c1_i32_6130
  let v4265 : BitVec 32 := Scalar.addi c0_i32_6131 v4264
  v4265.toNat
def k0_cond19 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6154 : BitVec 32 := 28#32
  let v4290 : BitVec 1 := Scalar.cmpi .sle v4163 c28_i32_6154
  let v4291 : BitVec 32 := Scalar.extui v4290
  let c0_i32_6155 : BitVec 32 := 0#32
  let v4292 : BitVec 1 := Scalar.cmpi .ne v4291 c0_i32_6155
  v4292

def k0_dev240 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev241 (v21 : BitVec 32) : Nat :=
  let c0_i32_6194 : BitVec 32 := 0#32
  let c1_i32_6193 : BitVec 32 := 1#32
  let v4307 : BitVec 32 := Scalar.muli v21 c1_i32_6193
  let v4308 : BitVec 32 := Scalar.addi c0_i32_6194 v4307
  v4308.toNat
def k0_cond20 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6217 : BitVec 32 := 28#32
  let v4333 : BitVec 1 := Scalar.cmpi .sle v4163 c28_i32_6217
  let v4334 : BitVec 32 := Scalar.extui v4333
  let c0_i32_6218 : BitVec 32 := 0#32
  let v4335 : BitVec 1 := Scalar.cmpi .ne v4334 c0_i32_6218
  v4335

def k0_dev242 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev243 (v30 : BitVec 32) : Nat :=
  let c0_i32_6257 : BitVec 32 := 0#32
  let c1_i32_6256 : BitVec 32 := 1#32
  let v4350 : BitVec 32 := Scalar.muli v30 c1_i32_6256
  let v4351 : BitVec 32 := Scalar.addi c0_i32_6257 v4350
  v4351.toNat
def k0_cond21 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6280 : BitVec 32 := 28#32
  let v4376 : BitVec 1 := Scalar.cmpi .sle v4163 c28_i32_6280
  let v4377 : BitVec 32 := Scalar.extui v4376
  let c0_i32_6281 : BitVec 32 := 0#32
  let v4378 : BitVec 1 := Scalar.cmpi .ne v4377 c0_i32_6281
  v4378

def k0_dev244 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev245 (v30 : BitVec 32) : Nat :=
  let c0_i32_6320 : BitVec 32 := 0#32
  let c1_i32_6319 : BitVec 32 := 1#32
  let v4393 : BitVec 32 := Scalar.muli v30 c1_i32_6319
  let v4394 : BitVec 32 := Scalar.addi c0_i32_6320 v4393
  v4394.toNat
def k0_cond22 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6343 : BitVec 32 := 28#32
  let v4419 : BitVec 1 := Scalar.cmpi .sle v4163 c28_i32_6343
  let v4420 : BitVec 32 := Scalar.extui v4419
  let c0_i32_6344 : BitVec 32 := 0#32
  let v4421 : BitVec 1 := Scalar.cmpi .ne v4420 c0_i32_6344
  v4421

def k0_dev246 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev247 (v30 : BitVec 32) : Nat :=
  let c0_i32_6383 : BitVec 32 := 0#32
  let c1_i32_6382 : BitVec 32 := 1#32
  let v4436 : BitVec 32 := Scalar.muli v30 c1_i32_6382
  let v4437 : BitVec 32 := Scalar.addi c0_i32_6383 v4436
  v4437.toNat
def k0_cond23 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6406 : BitVec 32 := 28#32
  let v4462 : BitVec 1 := Scalar.cmpi .sle v4163 c28_i32_6406
  let v4463 : BitVec 32 := Scalar.extui v4462
  let c0_i32_6407 : BitVec 32 := 0#32
  let v4464 : BitVec 1 := Scalar.cmpi .ne v4463 c0_i32_6407
  v4464

def k0_dev248 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev249 (v30 : BitVec 32) : Nat :=
  let c0_i32_6446 : BitVec 32 := 0#32
  let c1_i32_6445 : BitVec 32 := 1#32
  let v4479 : BitVec 32 := Scalar.muli v30 c1_i32_6445
  let v4480 : BitVec 32 := Scalar.addi c0_i32_6446 v4479
  v4480.toNat
def k0_cond24 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c2_i32_5966 : BitVec 32 := 2#32
  let v4163 : BitVec 32 := Scalar.addi v3472 c2_i32_5966
  let c28_i32_6469 : BitVec 32 := 28#32
  let v4505 : BitVec 1 := Scalar.cmpi .sle v4163 c28_i32_6469
  let v4506 : BitVec 32 := Scalar.extui v4505
  let c0_i32_6470 : BitVec 32 := 0#32
  let v4507 : BitVec 1 := Scalar.cmpi .ne v4506 c0_i32_6470
  v4507

def k0_dev250 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev251 (v21 : BitVec 32) : Nat :=
  let c0_i32_6510 : BitVec 32 := 0#32
  let c1_i32_6509 : BitVec 32 := 1#32
  let v4523 : BitVec 32 := Scalar.muli v21 c1_i32_6509
  let v4524 : BitVec 32 := Scalar.addi c0_i32_6510 v4523
  v4524.toNat
def k0_cond25 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6533 : BitVec 32 := 28#32
  let v4549 : BitVec 1 := Scalar.cmpi .sle v4508 c28_i32_6533
  let v4550 : BitVec 32 := Scalar.extui v4549
  let c0_i32_6534 : BitVec 32 := 0#32
  let v4551 : BitVec 1 := Scalar.cmpi .ne v4550 c0_i32_6534
  v4551

def k0_dev252 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev253 (v21 : BitVec 32) : Nat :=
  let c0_i32_6573 : BitVec 32 := 0#32
  let c1_i32_6572 : BitVec 32 := 1#32
  let v4566 : BitVec 32 := Scalar.muli v21 c1_i32_6572
  let v4567 : BitVec 32 := Scalar.addi c0_i32_6573 v4566
  v4567.toNat
def k0_cond26 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6596 : BitVec 32 := 28#32
  let v4592 : BitVec 1 := Scalar.cmpi .sle v4508 c28_i32_6596
  let v4593 : BitVec 32 := Scalar.extui v4592
  let c0_i32_6597 : BitVec 32 := 0#32
  let v4594 : BitVec 1 := Scalar.cmpi .ne v4593 c0_i32_6597
  v4594

def k0_dev254 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev255 (v21 : BitVec 32) : Nat :=
  let c0_i32_6636 : BitVec 32 := 0#32
  let c1_i32_6635 : BitVec 32 := 1#32
  let v4609 : BitVec 32 := Scalar.muli v21 c1_i32_6635
  let v4610 : BitVec 32 := Scalar.addi c0_i32_6636 v4609
  v4610.toNat
def k0_cond27 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6659 : BitVec 32 := 28#32
  let v4635 : BitVec 1 := Scalar.cmpi .sle v4508 c28_i32_6659
  let v4636 : BitVec 32 := Scalar.extui v4635
  let c0_i32_6660 : BitVec 32 := 0#32
  let v4637 : BitVec 1 := Scalar.cmpi .ne v4636 c0_i32_6660
  v4637

def k0_dev256 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev257 (v21 : BitVec 32) : Nat :=
  let c0_i32_6699 : BitVec 32 := 0#32
  let c1_i32_6698 : BitVec 32 := 1#32
  let v4652 : BitVec 32 := Scalar.muli v21 c1_i32_6698
  let v4653 : BitVec 32 := Scalar.addi c0_i32_6699 v4652
  v4653.toNat
def k0_cond28 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6722 : BitVec 32 := 28#32
  let v4678 : BitVec 1 := Scalar.cmpi .sle v4508 c28_i32_6722
  let v4679 : BitVec 32 := Scalar.extui v4678
  let c0_i32_6723 : BitVec 32 := 0#32
  let v4680 : BitVec 1 := Scalar.cmpi .ne v4679 c0_i32_6723
  v4680

def k0_dev258 (v30 : BitVec 32) : Nat :=
  let c0_i32_6978 : BitVec 32 := 0#32
  let c1_i32_6977 : BitVec 32 := 1#32
  let v4853 : BitVec 32 := Scalar.muli v30 c1_i32_6977
  let v4854 : BitVec 32 := Scalar.addi c0_i32_6978 v4853
  v4854.toNat
def k0_dev259 (v30 : BitVec 32) : Nat :=
  let c0_i32_6762 : BitVec 32 := 0#32
  let c1_i32_6761 : BitVec 32 := 1#32
  let v4695 : BitVec 32 := Scalar.muli v30 c1_i32_6761
  let v4696 : BitVec 32 := Scalar.addi c0_i32_6762 v4695
  v4696.toNat
def k0_cond29 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6785 : BitVec 32 := 28#32
  let v4721 : BitVec 1 := Scalar.cmpi .sle v4508 c28_i32_6785
  let v4722 : BitVec 32 := Scalar.extui v4721
  let c0_i32_6786 : BitVec 32 := 0#32
  let v4723 : BitVec 1 := Scalar.cmpi .ne v4722 c0_i32_6786
  v4723

def k0_dev260 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev261 (v30 : BitVec 32) : Nat :=
  let c0_i32_6825 : BitVec 32 := 0#32
  let c1_i32_6824 : BitVec 32 := 1#32
  let v4738 : BitVec 32 := Scalar.muli v30 c1_i32_6824
  let v4739 : BitVec 32 := Scalar.addi c0_i32_6825 v4738
  v4739.toNat
def k0_cond30 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6848 : BitVec 32 := 28#32
  let v4764 : BitVec 1 := Scalar.cmpi .sle v4508 c28_i32_6848
  let v4765 : BitVec 32 := Scalar.extui v4764
  let c0_i32_6849 : BitVec 32 := 0#32
  let v4766 : BitVec 1 := Scalar.cmpi .ne v4765 c0_i32_6849
  v4766

def k0_dev262 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev263 (v30 : BitVec 32) : Nat :=
  let c0_i32_6888 : BitVec 32 := 0#32
  let c1_i32_6887 : BitVec 32 := 1#32
  let v4781 : BitVec 32 := Scalar.muli v30 c1_i32_6887
  let v4782 : BitVec 32 := Scalar.addi c0_i32_6888 v4781
  v4782.toNat
def k0_cond31 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6911 : BitVec 32 := 28#32
  let v4807 : BitVec 1 := Scalar.cmpi .sle v4508 c28_i32_6911
  let v4808 : BitVec 32 := Scalar.extui v4807
  let c0_i32_6912 : BitVec 32 := 0#32
  let v4809 : BitVec 1 := Scalar.cmpi .ne v4808 c0_i32_6912
  v4809

def k0_dev264 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat
def k0_dev265 (v30 : BitVec 32) : Nat :=
  let c0_i32_6951 : BitVec 32 := 0#32
  let c1_i32_6950 : BitVec 32 := 1#32
  let v4824 : BitVec 32 := Scalar.muli v30 c1_i32_6950
  let v4825 : BitVec 32 := Scalar.addi c0_i32_6951 v4824
  v4825.toNat

def k0_chk1_0 (v30 : BitVec 32) : Prop :=
  ((k0_dev1 v30) < nD) ∧
  ((k0_dev7 v30) < nD) ∧
  ((k0_dev8 v30) < nD) ∧
  ((k0_dev9 v30) < nD) ∧
  ((k0_dev10 v30) < nD) ∧
  ((k0_dev12 v30) < nD) ∧
  ((k0_dev14 v30) < nD) ∧
  ((k0_dev16 v30) < nD) ∧
  ((k0_dev18 v30) < nD) ∧
  ((k0_dev19 v30) < nD) ∧
  ((k0_dev21 v30) < nD) ∧
  ((k0_dev23 v30) < nD) ∧
  ((k0_dev25 v30) < nD) ∧
  ((k0_dev28 v30) < nD) ∧
  ((k0_dev30 v30) < nD) ∧
  ((k0_dev32 v30) < nD) ∧
  ((k0_dev34 v30) < nD) ∧
  ((k0_dev35 v30) < nD) ∧
  ((k0_dev37 v30) < nD) ∧
  ((k0_dev39 v30) < nD) ∧
  ((k0_dev41 v30) < nD) ∧
  ((k0_dev44 v30) < nD) ∧
  ((k0_dev46 v30) < nD) ∧
  ((k0_dev48 v30) < nD) ∧
  ((k0_dev50 v30) < nD) ∧
  ((k0_dev51 v30) < nD) ∧
  ((k0_dev53 v30) < nD) ∧
  ((k0_dev55 v30) < nD) ∧
  ((k0_dev57 v30) < nD) ∧
  ((k0_dev60 v30) < nD) ∧
  ((k0_dev62 v30) < nD) ∧
  ((k0_dev64 v30) < nD)
def k0_chk1_1 (v30 : BitVec 32) : Prop :=
  ((k0_dev66 v30) < nD) ∧
  ((k0_dev67 v30) < nD) ∧
  ((k0_dev69 v30) < nD) ∧
  ((k0_dev71 v30) < nD) ∧
  ((k0_dev73 v30) < nD) ∧
  ((k0_dev76 v30) < nD) ∧
  ((k0_dev78 v30) < nD) ∧
  ((k0_dev80 v30) < nD) ∧
  ((k0_dev82 v30) < nD) ∧
  ((k0_dev83 v30) < nD) ∧
  ((k0_dev85 v30) < nD) ∧
  ((k0_dev87 v30) < nD) ∧
  ((k0_dev89 v30) < nD) ∧
  ((k0_dev92 v30) < nD) ∧
  ((k0_dev94 v30) < nD) ∧
  ((k0_dev96 v30) < nD) ∧
  ((k0_dev98 v30) < nD) ∧
  ((k0_dev99 v30) < nD) ∧
  ((k0_dev101 v30) < nD) ∧
  ((k0_dev103 v30) < nD) ∧
  ((k0_dev105 v30) < nD) ∧
  ((k0_dev108 v30) < nD) ∧
  ((k0_dev110 v30) < nD) ∧
  ((k0_dev112 v30) < nD) ∧
  ((k0_dev114 v30) < nD) ∧
  ((k0_dev115 v30) < nD) ∧
  ((k0_dev117 v30) < nD) ∧
  ((k0_dev119 v30) < nD) ∧
  ((k0_dev121 v30) < nD) ∧
  ((k0_dev124 v30) < nD) ∧
  ((k0_dev126 v30) < nD) ∧
  ((k0_dev128 v30) < nD)
def k0_chk1_2 (v30 : BitVec 32) : Prop :=
  ((k0_dev130 v30) < nD) ∧
  ((k0_dev131 v30) < nD) ∧
  ((k0_dev133 v30) < nD) ∧
  ((k0_dev135 v30) < nD) ∧
  ((k0_dev137 v30) < nD) ∧
  ((k0_dev140 v30) < nD) ∧
  ((k0_dev142 v30) < nD) ∧
  ((k0_dev144 v30) < nD) ∧
  ((k0_dev146 v30) < nD) ∧
  ((k0_dev147 v30) < nD) ∧
  ((k0_dev149 v30) < nD) ∧
  ((k0_dev151 v30) < nD) ∧
  ((k0_dev153 v30) < nD) ∧
  ((k0_dev156 v30) < nD) ∧
  ((k0_dev158 v30) < nD) ∧
  ((k0_dev160 v30) < nD) ∧
  ((k0_dev162 v30) < nD) ∧
  ((k0_dev163 v30) < nD) ∧
  ((k0_dev165 v30) < nD) ∧
  ((k0_dev167 v30) < nD) ∧
  ((k0_dev169 v30) < nD) ∧
  ((k0_dev172 v30) < nD) ∧
  ((k0_dev174 v30) < nD) ∧
  ((k0_dev176 v30) < nD) ∧
  ((k0_dev178 v30) < nD) ∧
  ((k0_dev179 v30) < nD) ∧
  ((k0_dev181 v30) < nD) ∧
  ((k0_dev183 v30) < nD) ∧
  ((k0_dev185 v30) < nD) ∧
  ((k0_dev191 v30) < nD) ∧
  ((k0_dev192 v30) < nD) ∧
  ((k0_dev193 v30) < nD)
def k0_chk1_3 (v30 : BitVec 32) : Prop :=
  ((k0_dev194 v30) < nD) ∧
  ((k0_dev199 v30) < nD) ∧
  ((k0_dev200 v30) < nD) ∧
  ((k0_dev201 v30) < nD) ∧
  ((k0_dev202 v30) < nD) ∧
  (∀ k0_t2 : Fin k0_t2_loop.trips, ∀ (k0_h1 : k0_cond1 k0_t2 = 1#1), (k0_dev204 v30) < nD) ∧
  (∀ k0_t2 : Fin k0_t2_loop.trips, ∀ (k0_h2 : k0_cond2 k0_t2 = 1#1), (k0_dev206 v30) < nD) ∧
  (∀ k0_t2 : Fin k0_t2_loop.trips, ∀ (k0_h3 : k0_cond3 k0_t2 = 1#1), (k0_dev208 v30) < nD) ∧
  (∀ k0_t2 : Fin k0_t2_loop.trips, ∀ (k0_h4 : k0_cond4 k0_t2 = 1#1), (k0_dev210 v30) < nD) ∧
  ((k0_dev211 v30) < nD) ∧
  ((k0_dev213 v30) < nD) ∧
  ((k0_dev215 v30) < nD) ∧
  ((k0_dev217 v30) < nD) ∧
  (∀ k0_t2 : Fin k0_t2_loop.trips, ∀ (k0_h9 : k0_cond9 k0_t2 = 1#1), (k0_dev220 v30) < nD) ∧
  (∀ k0_t2 : Fin k0_t2_loop.trips, ∀ (k0_h10 : k0_cond10 k0_t2 = 1#1), (k0_dev222 v30) < nD) ∧
  (∀ k0_t2 : Fin k0_t2_loop.trips, ∀ (k0_h11 : k0_cond11 k0_t2 = 1#1), (k0_dev224 v30) < nD) ∧
  (∀ k0_t2 : Fin k0_t2_loop.trips, ∀ (k0_h12 : k0_cond12 k0_t2 = 1#1), (k0_dev226 v30) < nD) ∧
  ((k0_dev227 v30) < nD) ∧
  ((k0_dev229 v30) < nD) ∧
  ((k0_dev231 v30) < nD) ∧
  ((k0_dev233 v30) < nD) ∧
  (∀ k0_t2 : Fin k0_t2_loop.trips, ∀ (k0_h17 : k0_cond17 k0_t2 = 1#1), (k0_dev236 v30) < nD) ∧
  (∀ k0_t2 : Fin k0_t2_loop.trips, ∀ (k0_h18 : k0_cond18 k0_t2 = 1#1), (k0_dev238 v30) < nD) ∧
  (∀ k0_t2 : Fin k0_t2_loop.trips, ∀ (k0_h19 : k0_cond19 k0_t2 = 1#1), (k0_dev240 v30) < nD) ∧
  (∀ k0_t2 : Fin k0_t2_loop.trips, ∀ (k0_h20 : k0_cond20 k0_t2 = 1#1), (k0_dev242 v30) < nD) ∧
  ((k0_dev243 v30) < nD) ∧
  ((k0_dev245 v30) < nD) ∧
  ((k0_dev247 v30) < nD) ∧
  ((k0_dev249 v30) < nD) ∧
  (∀ k0_t2 : Fin k0_t2_loop.trips, ∀ (k0_h25 : k0_cond25 k0_t2 = 1#1), (k0_dev252 v30) < nD) ∧
  (∀ k0_t2 : Fin k0_t2_loop.trips, ∀ (k0_h26 : k0_cond26 k0_t2 = 1#1), (k0_dev254 v30) < nD) ∧
  (∀ k0_t2 : Fin k0_t2_loop.trips, ∀ (k0_h27 : k0_cond27 k0_t2 = 1#1), (k0_dev256 v30) < nD)
def k0_chk1_4 (v30 : BitVec 32) : Prop :=
  (∀ k0_t2 : Fin k0_t2_loop.trips, ∀ (k0_h28 : k0_cond28 k0_t2 = 1#1), (k0_dev258 v30) < nD) ∧
  ((k0_dev259 v30) < nD) ∧
  ((k0_dev261 v30) < nD) ∧
  ((k0_dev263 v30) < nD) ∧
  ((k0_dev265 v30) < nD)
def k0_chk1 (v30 : BitVec 32) : Prop :=
  k0_chk1_0 v30 ∧
  k0_chk1_1 v30 ∧
  k0_chk1_2 v30 ∧
  k0_chk1_3 v30 ∧
  k0_chk1_4 v30
theorem k0_dev1_lt : ∀ (v30 : BitVec 32) (k0_hw1 : k0_chk1 v30), (k0_dev1 v30) < nD := fun v30 k0_hw1 => k0_hw1.1.1
theorem k0_dev7_lt : ∀ (v30 : BitVec 32) (k0_hw1 : k0_chk1 v30), (k0_dev7 v30) < nD := fun v30 k0_hw1 => k0_hw1.1.2.1
theorem k0_dev8_lt : ∀ (v30 : BitVec 32) (k0_hw1 : k0_chk1 v30), (k0_dev8 v30) < nD := fun v30 k0_hw1 => k0_hw1.1.2.2.1
theorem k0_dev9_lt : ∀ (v30 : BitVec 32) (k0_hw1 : k0_chk1 v30), (k0_dev9 v30) < nD := fun v30 k0_hw1 => k0_hw1.1.2.2.2.1
theorem k0_dev10_lt : ∀ (v30 : BitVec 32) (k0_hw1 : k0_chk1 v30), (k0_dev10 v30) < nD := fun v30 k0_hw1 => k0_hw1.1.2.2.2.2.1
theorem k0_dev12_lt : ∀ (v30 : BitVec 32) (k0_hw1 : k0_chk1 v30), (k0_dev12 v30) < nD := fun v30 k0_hw1 => k0_hw1.1.2.2.2.2.2.1
theorem k0_dev14_lt : ∀ (v30 : BitVec 32) (k0_hw1 : k0_chk1 v30), (k0_dev14 v30) < nD := fun v30 k0_hw1 => k0_hw1.1.2.2.2.2.2.2.1
theorem k0_dev16_lt : ∀ (v30 : BitVec 32) (k0_hw1 : k0_chk1 v30), (k0_dev16 v30) < nD := fun v30 k0_hw1 => k0_hw1.1.2.2.2.2.2.2.2.1
theorem k0_dev18_lt : ∀ (v30 : BitVec 32) (k0_hw1 : k0_chk1 v30), (k0_dev18 v30) < nD := fun v30 k0_hw1 => k0_hw1.1.2.2.2.2.2.2.2.2.1
theorem k0_dev19_lt : ∀ (v30 : BitVec 32) (k0_hw1 : k0_chk1 v30), (k0_dev19 v30) < nD := fun v30 k0_hw1 => k0_hw1.1.2.2.2.2.2.2.2.2.2.1
theorem k0_dev21_lt : ∀ (v30 : BitVec 32) (k0_hw1 : k0_chk1 v30), (k0_dev21 v30) < nD := fun v30 k0_hw1 => k0_hw1.1.2.2.2.2.2.2.2.2.2.2.1
theorem k0_dev23_lt : ∀ (v30 : BitVec 32) (k0_hw1 : k0_chk1 v30), (k0_dev23 v30) < nD := fun v30 k0_hw1 => k0_hw1.1.2.2.2.2.2.2.2.2.2.2.2.1
theorem k0_dev25_lt : ∀ (v30 : BitVec 32) (k0_hw1 : k0_chk1 v30), (k0_dev25 v30) < nD := fun v30 k0_hw1 => k0_hw1.1.2.2.2.2.2.2.2.2.2.2.2.2.1
theorem k0_dev28_lt : ∀ (v30 : BitVec 32) (k0_hw1 : k0_chk1 v30), (k0_dev28 v30) < nD := fun v30 k0_hw1 => k0_hw1.1.2.2.2.2.2.2.2.2.2.2.2.2.2.1
theorem k0_dev30_lt : ∀ (v30 : BitVec 32) (k0_hw1 : k0_chk1 v30), (k0_dev30 v30) < nD := fun v30 k0_hw1 => k0_hw1.1.2.2.2.2.2.2.2.2.2.2.2.2.2.2.1
theorem k0_dev32_lt : ∀ (v30 : BitVec 32) (k0_hw1 : k0_chk1 v30), (k0_dev32 v30) < nD := fun v30 k0_hw1 => k0_hw1.1.2.2.2.2.2.2.2.2.2.2.2.2.2.2.2.1
theorem k0_dev34_lt : ∀ (v30 : BitVec 32) (k0_hw1 : k0_chk1 v30), (k0_dev34 v30) < nD := fun v30 k0_hw1 => k0_hw1.1.2.2.2.2.2.2.2.2.2.2.2.2.2.2.2.2.1
theorem k0_dev35_lt : ∀ (v30 : BitVec 32) (k0_hw1 : k0_chk1 v30), (k0_dev35 v30) < nD := fun v30 k0_hw1 => k0_hw1.1.2.2.2.2.2.2.2.2.2.2.2.2.2.2.2.2.2.1
theorem k0_dev37_lt : ∀ (v30 : BitVec 32) (k0_hw1 : k0_chk1 v30), (k0_dev37 v30) < nD := fun v30 k0_hw1 => k0_hw1.1.2.2.2.2.2.2.2.2.2.2.2.2.2.2.2.2.2.2.1
theorem k0_dev39_lt : ∀ (v30 : BitVec 32) (k0_hw1 : k0_chk1 v30), (k0_dev39 v30) < nD := fun v30 k0_hw1 => k0_hw1.1.2.2.2.2.2.2.2.2.2.2.2.2.2.2.2.2.2.2.2.1
theorem k0_dev41_lt : ∀ (v30 : BitVec 32) (k0_hw1 : k0_chk1 v30), (k0_dev41 v30) < nD := fun v30 k0_hw1 => k0_hw1.1.2.2.2.2.2.2.2.2.2.2.2.2.2.2.2.2.2.2.2.2.1
theorem k0_dev44_lt : ∀ (v30 : BitVec 32) (k0_hw1 : k0_chk1 v30), (k0_dev44 v30) < nD := fun v30 k0_hw1 => k0_hw1.1.2.2.2.2.2.2.2.2.2.2.2.2.2.2.2.2.2.2.2.2.2.1
theorem k0_dev46_lt : ∀ (v30 : BitVec 32) (k0_hw1 : k0_chk1 v30), (k0_dev46 v30) < nD := fun v30 k0_hw1 => k0_hw1.1.2.2.2.2.2.2.2.2.2.2.2.2.2.2.2.2.2.2.2.2.2.2.1
theorem k0_dev48_lt : ∀ (v30 : BitVec 32) (k0_hw1 : k0_chk1 v30), (k0_dev48 v30) < nD := fun v30 k0_hw1 => k0_hw1.1.2.2.2.2.2.2.2.2.2.2.2.2.2.2.2.2.2.2.2.2.2.2.2.1
theorem k0_dev50_lt : ∀ (v30 : BitVec 32) (k0_hw1 : k0_chk1 v30), (k0_dev50 v30) < nD := fun v30 k0_hw1 => k0_hw1.1.2.2.2.2.2.2.2.2.2.2.2.2.2.2.2.2.2.2.2.2.2.2.2.2.1
theorem k0_dev51_lt : ∀ (v30 : BitVec 32) (k0_hw1 : k0_chk1 v30), (k0_dev51 v30) < nD := fun v30 k0_hw1 => k0_hw1.1.2.2.2.2.2.2.2.2.2.2.2.2.2.2.2.2.2.2.2.2.2.2.2.2.2.1
theorem k0_dev53_lt : ∀ (v30 : BitVec 32) (k0_hw1 : k0_chk1 v30), (k0_dev53 v30) < nD := fun v30 k0_hw1 => k0_hw1.1.2.2.2.2.2.2.2.2.2.2.2.2.2.2.2.2.2.2.2.2.2.2.2.2.2.2.1
theorem k0_dev55_lt : ∀ (v30 : BitVec 32) (k0_hw1 : k0_chk1 v30), (k0_dev55 v30) < nD := fun v30 k0_hw1 => k0_hw1.1.2.2.2.2.2.2.2.2.2.2.2.2.2.2.2.2.2.2.2.2.2.2.2.2.2.2.2.1
theorem k0_dev57_lt : ∀ (v30 : BitVec 32) (k0_hw1 : k0_chk1 v30), (k0_dev57 v30) < nD := fun v30 k0_hw1 => k0_hw1.1.2.2.2.2.2.2.2.2.2.2.2.2.2.2.2.2.2.2.2.2.2.2.2.2.2.2.2.2.1
theorem k0_dev60_lt : ∀ (v30 : BitVec 32) (k0_hw1 : k0_chk1 v30), (k0_dev60 v30) < nD := fun v30 k0_hw1 => k0_hw1.1.2.2.2.2.2.2.2.2.2.2.2.2.2.2.2.2.2.2.2.2.2.2.2.2.2.2.2.2.2.1
theorem k0_dev62_lt : ∀ (v30 : BitVec 32) (k0_hw1 : k0_chk1 v30), (k0_dev62 v30) < nD := fun v30 k0_hw1 => k0_hw1.1.2.2.2.2.2.2.2.2.2.2.2.2.2.2.2.2.2.2.2.2.2.2.2.2.2.2.2.2.2.2.1
theorem k0_dev64_lt : ∀ (v30 : BitVec 32) (k0_hw1 : k0_chk1 v30), (k0_dev64 v30) < nD := fun v30 k0_hw1 => k0_hw1.1.2.2.2.2.2.2.2.2.2.2.2.2.2.2.2.2.2.2.2.2.2.2.2.2.2.2.2.2.2.2.2
theorem k0_dev66_lt : ∀ (v30 : BitVec 32) (k0_hw1 : k0_chk1 v30), (k0_dev66 v30) < nD := fun v30 k0_hw1 => k0_hw1.2.1.1
theorem k0_dev67_lt : ∀ (v30 : BitVec 32) (k0_hw1 : k0_chk1 v30), (k0_dev67 v30) < nD := fun v30 k0_hw1 => k0_hw1.2.1.2.1
theorem k0_dev69_lt : ∀ (v30 : BitVec 32) (k0_hw1 : k0_chk1 v30), (k0_dev69 v30) < nD := fun v30 k0_hw1 => k0_hw1.2.1.2.2.1
theorem k0_dev71_lt : ∀ (v30 : BitVec 32) (k0_hw1 : k0_chk1 v30), (k0_dev71 v30) < nD := fun v30 k0_hw1 => k0_hw1.2.1.2.2.2.1
theorem k0_dev73_lt : ∀ (v30 : BitVec 32) (k0_hw1 : k0_chk1 v30), (k0_dev73 v30) < nD := fun v30 k0_hw1 => k0_hw1.2.1.2.2.2.2.1
theorem k0_dev76_lt : ∀ (v30 : BitVec 32) (k0_hw1 : k0_chk1 v30), (k0_dev76 v30) < nD := fun v30 k0_hw1 => k0_hw1.2.1.2.2.2.2.2.1
theorem k0_dev78_lt : ∀ (v30 : BitVec 32) (k0_hw1 : k0_chk1 v30), (k0_dev78 v30) < nD := fun v30 k0_hw1 => k0_hw1.2.1.2.2.2.2.2.2.1
theorem k0_dev80_lt : ∀ (v30 : BitVec 32) (k0_hw1 : k0_chk1 v30), (k0_dev80 v30) < nD := fun v30 k0_hw1 => k0_hw1.2.1.2.2.2.2.2.2.2.1
theorem k0_dev82_lt : ∀ (v30 : BitVec 32) (k0_hw1 : k0_chk1 v30), (k0_dev82 v30) < nD := fun v30 k0_hw1 => k0_hw1.2.1.2.2.2.2.2.2.2.2.1
theorem k0_dev83_lt : ∀ (v30 : BitVec 32) (k0_hw1 : k0_chk1 v30), (k0_dev83 v30) < nD := fun v30 k0_hw1 => k0_hw1.2.1.2.2.2.2.2.2.2.2.2.1
theorem k0_dev85_lt : ∀ (v30 : BitVec 32) (k0_hw1 : k0_chk1 v30), (k0_dev85 v30) < nD := fun v30 k0_hw1 => k0_hw1.2.1.2.2.2.2.2.2.2.2.2.2.1
theorem k0_dev87_lt : ∀ (v30 : BitVec 32) (k0_hw1 : k0_chk1 v30), (k0_dev87 v30) < nD := fun v30 k0_hw1 => k0_hw1.2.1.2.2.2.2.2.2.2.2.2.2.2.1
theorem k0_dev89_lt : ∀ (v30 : BitVec 32) (k0_hw1 : k0_chk1 v30), (k0_dev89 v30) < nD := fun v30 k0_hw1 => k0_hw1.2.1.2.2.2.2.2.2.2.2.2.2.2.2.1
theorem k0_dev92_lt : ∀ (v30 : BitVec 32) (k0_hw1 : k0_chk1 v30), (k0_dev92 v30) < nD := fun v30 k0_hw1 => k0_hw1.2.1.2.2.2.2.2.2.2.2.2.2.2.2.2.1
theorem k0_dev94_lt : ∀ (v30 : BitVec 32) (k0_hw1 : k0_chk1 v30), (k0_dev94 v30) < nD := fun v30 k0_hw1 => k0_hw1.2.1.2.2.2.2.2.2.2.2.2.2.2.2.2.2.1
theorem k0_dev96_lt : ∀ (v30 : BitVec 32) (k0_hw1 : k0_chk1 v30), (k0_dev96 v30) < nD := fun v30 k0_hw1 => k0_hw1.2.1.2.2.2.2.2.2.2.2.2.2.2.2.2.2.2.1
theorem k0_dev98_lt : ∀ (v30 : BitVec 32) (k0_hw1 : k0_chk1 v30), (k0_dev98 v30) < nD := fun v30 k0_hw1 => k0_hw1.2.1.2.2.2.2.2.2.2.2.2.2.2.2.2.2.2.2.1
theorem k0_dev99_lt : ∀ (v30 : BitVec 32) (k0_hw1 : k0_chk1 v30), (k0_dev99 v30) < nD := fun v30 k0_hw1 => k0_hw1.2.1.2.2.2.2.2.2.2.2.2.2.2.2.2.2.2.2.2.1
theorem k0_dev101_lt : ∀ (v30 : BitVec 32) (k0_hw1 : k0_chk1 v30), (k0_dev101 v30) < nD := fun v30 k0_hw1 => k0_hw1.2.1.2.2.2.2.2.2.2.2.2.2.2.2.2.2.2.2.2.2.1
theorem k0_dev103_lt : ∀ (v30 : BitVec 32) (k0_hw1 : k0_chk1 v30), (k0_dev103 v30) < nD := fun v30 k0_hw1 => k0_hw1.2.1.2.2.2.2.2.2.2.2.2.2.2.2.2.2.2.2.2.2.2.1
theorem k0_dev105_lt : ∀ (v30 : BitVec 32) (k0_hw1 : k0_chk1 v30), (k0_dev105 v30) < nD := fun v30 k0_hw1 => k0_hw1.2.1.2.2.2.2.2.2.2.2.2.2.2.2.2.2.2.2.2.2.2.2.1
theorem k0_dev108_lt : ∀ (v30 : BitVec 32) (k0_hw1 : k0_chk1 v30), (k0_dev108 v30) < nD := fun v30 k0_hw1 => k0_hw1.2.1.2.2.2.2.2.2.2.2.2.2.2.2.2.2.2.2.2.2.2.2.2.1
theorem k0_dev110_lt : ∀ (v30 : BitVec 32) (k0_hw1 : k0_chk1 v30), (k0_dev110 v30) < nD := fun v30 k0_hw1 => k0_hw1.2.1.2.2.2.2.2.2.2.2.2.2.2.2.2.2.2.2.2.2.2.2.2.2.1
theorem k0_dev112_lt : ∀ (v30 : BitVec 32) (k0_hw1 : k0_chk1 v30), (k0_dev112 v30) < nD := fun v30 k0_hw1 => k0_hw1.2.1.2.2.2.2.2.2.2.2.2.2.2.2.2.2.2.2.2.2.2.2.2.2.2.1
theorem k0_dev114_lt : ∀ (v30 : BitVec 32) (k0_hw1 : k0_chk1 v30), (k0_dev114 v30) < nD := fun v30 k0_hw1 => k0_hw1.2.1.2.2.2.2.2.2.2.2.2.2.2.2.2.2.2.2.2.2.2.2.2.2.2.2.1
theorem k0_dev115_lt : ∀ (v30 : BitVec 32) (k0_hw1 : k0_chk1 v30), (k0_dev115 v30) < nD := fun v30 k0_hw1 => k0_hw1.2.1.2.2.2.2.2.2.2.2.2.2.2.2.2.2.2.2.2.2.2.2.2.2.2.2.2.1
theorem k0_dev117_lt : ∀ (v30 : BitVec 32) (k0_hw1 : k0_chk1 v30), (k0_dev117 v30) < nD := fun v30 k0_hw1 => k0_hw1.2.1.2.2.2.2.2.2.2.2.2.2.2.2.2.2.2.2.2.2.2.2.2.2.2.2.2.2.1
theorem k0_dev119_lt : ∀ (v30 : BitVec 32) (k0_hw1 : k0_chk1 v30), (k0_dev119 v30) < nD := fun v30 k0_hw1 => k0_hw1.2.1.2.2.2.2.2.2.2.2.2.2.2.2.2.2.2.2.2.2.2.2.2.2.2.2.2.2.2.1
theorem k0_dev121_lt : ∀ (v30 : BitVec 32) (k0_hw1 : k0_chk1 v30), (k0_dev121 v30) < nD := fun v30 k0_hw1 => k0_hw1.2.1.2.2.2.2.2.2.2.2.2.2.2.2.2.2.2.2.2.2.2.2.2.2.2.2.2.2.2.2.1
theorem k0_dev124_lt : ∀ (v30 : BitVec 32) (k0_hw1 : k0_chk1 v30), (k0_dev124 v30) < nD := fun v30 k0_hw1 => k0_hw1.2.1.2.2.2.2.2.2.2.2.2.2.2.2.2.2.2.2.2.2.2.2.2.2.2.2.2.2.2.2.2.1
theorem k0_dev126_lt : ∀ (v30 : BitVec 32) (k0_hw1 : k0_chk1 v30), (k0_dev126 v30) < nD := fun v30 k0_hw1 => k0_hw1.2.1.2.2.2.2.2.2.2.2.2.2.2.2.2.2.2.2.2.2.2.2.2.2.2.2.2.2.2.2.2.2.1
theorem k0_dev128_lt : ∀ (v30 : BitVec 32) (k0_hw1 : k0_chk1 v30), (k0_dev128 v30) < nD := fun v30 k0_hw1 => k0_hw1.2.1.2.2.2.2.2.2.2.2.2.2.2.2.2.2.2.2.2.2.2.2.2.2.2.2.2.2.2.2.2.2.2
theorem k0_dev130_lt : ∀ (v30 : BitVec 32) (k0_hw1 : k0_chk1 v30), (k0_dev130 v30) < nD := fun v30 k0_hw1 => k0_hw1.2.2.1.1
theorem k0_dev131_lt : ∀ (v30 : BitVec 32) (k0_hw1 : k0_chk1 v30), (k0_dev131 v30) < nD := fun v30 k0_hw1 => k0_hw1.2.2.1.2.1
theorem k0_dev133_lt : ∀ (v30 : BitVec 32) (k0_hw1 : k0_chk1 v30), (k0_dev133 v30) < nD := fun v30 k0_hw1 => k0_hw1.2.2.1.2.2.1
theorem k0_dev135_lt : ∀ (v30 : BitVec 32) (k0_hw1 : k0_chk1 v30), (k0_dev135 v30) < nD := fun v30 k0_hw1 => k0_hw1.2.2.1.2.2.2.1
theorem k0_dev137_lt : ∀ (v30 : BitVec 32) (k0_hw1 : k0_chk1 v30), (k0_dev137 v30) < nD := fun v30 k0_hw1 => k0_hw1.2.2.1.2.2.2.2.1
theorem k0_dev140_lt : ∀ (v30 : BitVec 32) (k0_hw1 : k0_chk1 v30), (k0_dev140 v30) < nD := fun v30 k0_hw1 => k0_hw1.2.2.1.2.2.2.2.2.1
theorem k0_dev142_lt : ∀ (v30 : BitVec 32) (k0_hw1 : k0_chk1 v30), (k0_dev142 v30) < nD := fun v30 k0_hw1 => k0_hw1.2.2.1.2.2.2.2.2.2.1
theorem k0_dev144_lt : ∀ (v30 : BitVec 32) (k0_hw1 : k0_chk1 v30), (k0_dev144 v30) < nD := fun v30 k0_hw1 => k0_hw1.2.2.1.2.2.2.2.2.2.2.1
theorem k0_dev146_lt : ∀ (v30 : BitVec 32) (k0_hw1 : k0_chk1 v30), (k0_dev146 v30) < nD := fun v30 k0_hw1 => k0_hw1.2.2.1.2.2.2.2.2.2.2.2.1
theorem k0_dev147_lt : ∀ (v30 : BitVec 32) (k0_hw1 : k0_chk1 v30), (k0_dev147 v30) < nD := fun v30 k0_hw1 => k0_hw1.2.2.1.2.2.2.2.2.2.2.2.2.1
theorem k0_dev149_lt : ∀ (v30 : BitVec 32) (k0_hw1 : k0_chk1 v30), (k0_dev149 v30) < nD := fun v30 k0_hw1 => k0_hw1.2.2.1.2.2.2.2.2.2.2.2.2.2.1
theorem k0_dev151_lt : ∀ (v30 : BitVec 32) (k0_hw1 : k0_chk1 v30), (k0_dev151 v30) < nD := fun v30 k0_hw1 => k0_hw1.2.2.1.2.2.2.2.2.2.2.2.2.2.2.1
theorem k0_dev153_lt : ∀ (v30 : BitVec 32) (k0_hw1 : k0_chk1 v30), (k0_dev153 v30) < nD := fun v30 k0_hw1 => k0_hw1.2.2.1.2.2.2.2.2.2.2.2.2.2.2.2.1
theorem k0_dev156_lt : ∀ (v30 : BitVec 32) (k0_hw1 : k0_chk1 v30), (k0_dev156 v30) < nD := fun v30 k0_hw1 => k0_hw1.2.2.1.2.2.2.2.2.2.2.2.2.2.2.2.2.1
theorem k0_dev158_lt : ∀ (v30 : BitVec 32) (k0_hw1 : k0_chk1 v30), (k0_dev158 v30) < nD := fun v30 k0_hw1 => k0_hw1.2.2.1.2.2.2.2.2.2.2.2.2.2.2.2.2.2.1
theorem k0_dev160_lt : ∀ (v30 : BitVec 32) (k0_hw1 : k0_chk1 v30), (k0_dev160 v30) < nD := fun v30 k0_hw1 => k0_hw1.2.2.1.2.2.2.2.2.2.2.2.2.2.2.2.2.2.2.1
theorem k0_dev162_lt : ∀ (v30 : BitVec 32) (k0_hw1 : k0_chk1 v30), (k0_dev162 v30) < nD := fun v30 k0_hw1 => k0_hw1.2.2.1.2.2.2.2.2.2.2.2.2.2.2.2.2.2.2.2.1
theorem k0_dev163_lt : ∀ (v30 : BitVec 32) (k0_hw1 : k0_chk1 v30), (k0_dev163 v30) < nD := fun v30 k0_hw1 => k0_hw1.2.2.1.2.2.2.2.2.2.2.2.2.2.2.2.2.2.2.2.2.1
theorem k0_dev165_lt : ∀ (v30 : BitVec 32) (k0_hw1 : k0_chk1 v30), (k0_dev165 v30) < nD := fun v30 k0_hw1 => k0_hw1.2.2.1.2.2.2.2.2.2.2.2.2.2.2.2.2.2.2.2.2.2.1
theorem k0_dev167_lt : ∀ (v30 : BitVec 32) (k0_hw1 : k0_chk1 v30), (k0_dev167 v30) < nD := fun v30 k0_hw1 => k0_hw1.2.2.1.2.2.2.2.2.2.2.2.2.2.2.2.2.2.2.2.2.2.2.1
theorem k0_dev169_lt : ∀ (v30 : BitVec 32) (k0_hw1 : k0_chk1 v30), (k0_dev169 v30) < nD := fun v30 k0_hw1 => k0_hw1.2.2.1.2.2.2.2.2.2.2.2.2.2.2.2.2.2.2.2.2.2.2.2.1
theorem k0_dev172_lt : ∀ (v30 : BitVec 32) (k0_hw1 : k0_chk1 v30), (k0_dev172 v30) < nD := fun v30 k0_hw1 => k0_hw1.2.2.1.2.2.2.2.2.2.2.2.2.2.2.2.2.2.2.2.2.2.2.2.2.1
theorem k0_dev174_lt : ∀ (v30 : BitVec 32) (k0_hw1 : k0_chk1 v30), (k0_dev174 v30) < nD := fun v30 k0_hw1 => k0_hw1.2.2.1.2.2.2.2.2.2.2.2.2.2.2.2.2.2.2.2.2.2.2.2.2.2.1
theorem k0_dev176_lt : ∀ (v30 : BitVec 32) (k0_hw1 : k0_chk1 v30), (k0_dev176 v30) < nD := fun v30 k0_hw1 => k0_hw1.2.2.1.2.2.2.2.2.2.2.2.2.2.2.2.2.2.2.2.2.2.2.2.2.2.2.1
theorem k0_dev178_lt : ∀ (v30 : BitVec 32) (k0_hw1 : k0_chk1 v30), (k0_dev178 v30) < nD := fun v30 k0_hw1 => k0_hw1.2.2.1.2.2.2.2.2.2.2.2.2.2.2.2.2.2.2.2.2.2.2.2.2.2.2.2.1
theorem k0_dev179_lt : ∀ (v30 : BitVec 32) (k0_hw1 : k0_chk1 v30), (k0_dev179 v30) < nD := fun v30 k0_hw1 => k0_hw1.2.2.1.2.2.2.2.2.2.2.2.2.2.2.2.2.2.2.2.2.2.2.2.2.2.2.2.2.1
theorem k0_dev181_lt : ∀ (v30 : BitVec 32) (k0_hw1 : k0_chk1 v30), (k0_dev181 v30) < nD := fun v30 k0_hw1 => k0_hw1.2.2.1.2.2.2.2.2.2.2.2.2.2.2.2.2.2.2.2.2.2.2.2.2.2.2.2.2.2.1
theorem k0_dev183_lt : ∀ (v30 : BitVec 32) (k0_hw1 : k0_chk1 v30), (k0_dev183 v30) < nD := fun v30 k0_hw1 => k0_hw1.2.2.1.2.2.2.2.2.2.2.2.2.2.2.2.2.2.2.2.2.2.2.2.2.2.2.2.2.2.2.1
theorem k0_dev185_lt : ∀ (v30 : BitVec 32) (k0_hw1 : k0_chk1 v30), (k0_dev185 v30) < nD := fun v30 k0_hw1 => k0_hw1.2.2.1.2.2.2.2.2.2.2.2.2.2.2.2.2.2.2.2.2.2.2.2.2.2.2.2.2.2.2.2.1
theorem k0_dev191_lt : ∀ (v30 : BitVec 32) (k0_hw1 : k0_chk1 v30), (k0_dev191 v30) < nD := fun v30 k0_hw1 => k0_hw1.2.2.1.2.2.2.2.2.2.2.2.2.2.2.2.2.2.2.2.2.2.2.2.2.2.2.2.2.2.2.2.2.1
theorem k0_dev192_lt : ∀ (v30 : BitVec 32) (k0_hw1 : k0_chk1 v30), (k0_dev192 v30) < nD := fun v30 k0_hw1 => k0_hw1.2.2.1.2.2.2.2.2.2.2.2.2.2.2.2.2.2.2.2.2.2.2.2.2.2.2.2.2.2.2.2.2.2.1
theorem k0_dev193_lt : ∀ (v30 : BitVec 32) (k0_hw1 : k0_chk1 v30), (k0_dev193 v30) < nD := fun v30 k0_hw1 => k0_hw1.2.2.1.2.2.2.2.2.2.2.2.2.2.2.2.2.2.2.2.2.2.2.2.2.2.2.2.2.2.2.2.2.2.2
theorem k0_dev194_lt : ∀ (v30 : BitVec 32) (k0_hw1 : k0_chk1 v30), (k0_dev194 v30) < nD := fun v30 k0_hw1 => k0_hw1.2.2.2.1.1
theorem k0_dev199_lt : ∀ (v30 : BitVec 32) (k0_hw1 : k0_chk1 v30), (k0_dev199 v30) < nD := fun v30 k0_hw1 => k0_hw1.2.2.2.1.2.1
theorem k0_dev200_lt : ∀ (v30 : BitVec 32) (k0_hw1 : k0_chk1 v30), (k0_dev200 v30) < nD := fun v30 k0_hw1 => k0_hw1.2.2.2.1.2.2.1
theorem k0_dev201_lt : ∀ (v30 : BitVec 32) (k0_hw1 : k0_chk1 v30), (k0_dev201 v30) < nD := fun v30 k0_hw1 => k0_hw1.2.2.2.1.2.2.2.1
theorem k0_dev202_lt : ∀ (v30 : BitVec 32) (k0_hw1 : k0_chk1 v30), (k0_dev202 v30) < nD := fun v30 k0_hw1 => k0_hw1.2.2.2.1.2.2.2.2.1
theorem k0_dev204_lt : ∀ (v30 : BitVec 32) (k0_hw1 : k0_chk1 v30) (k0_t2 : Fin k0_t2_loop.trips), ∀ (k0_h1 : k0_cond1 k0_t2 = 1#1), (k0_dev204 v30) < nD := fun v30 k0_hw1 k0_t2 k0_h1 => k0_hw1.2.2.2.1.2.2.2.2.2.1 k0_t2 k0_h1
theorem k0_dev206_lt : ∀ (v30 : BitVec 32) (k0_hw1 : k0_chk1 v30) (k0_t2 : Fin k0_t2_loop.trips), ∀ (k0_h2 : k0_cond2 k0_t2 = 1#1), (k0_dev206 v30) < nD := fun v30 k0_hw1 k0_t2 k0_h2 => k0_hw1.2.2.2.1.2.2.2.2.2.2.1 k0_t2 k0_h2
theorem k0_dev208_lt : ∀ (v30 : BitVec 32) (k0_hw1 : k0_chk1 v30) (k0_t2 : Fin k0_t2_loop.trips), ∀ (k0_h3 : k0_cond3 k0_t2 = 1#1), (k0_dev208 v30) < nD := fun v30 k0_hw1 k0_t2 k0_h3 => k0_hw1.2.2.2.1.2.2.2.2.2.2.2.1 k0_t2 k0_h3
theorem k0_dev210_lt : ∀ (v30 : BitVec 32) (k0_hw1 : k0_chk1 v30) (k0_t2 : Fin k0_t2_loop.trips), ∀ (k0_h4 : k0_cond4 k0_t2 = 1#1), (k0_dev210 v30) < nD := fun v30 k0_hw1 k0_t2 k0_h4 => k0_hw1.2.2.2.1.2.2.2.2.2.2.2.2.1 k0_t2 k0_h4
theorem k0_dev211_lt : ∀ (v30 : BitVec 32) (k0_hw1 : k0_chk1 v30), (k0_dev211 v30) < nD := fun v30 k0_hw1 => k0_hw1.2.2.2.1.2.2.2.2.2.2.2.2.2.1
theorem k0_dev213_lt : ∀ (v30 : BitVec 32) (k0_hw1 : k0_chk1 v30), (k0_dev213 v30) < nD := fun v30 k0_hw1 => k0_hw1.2.2.2.1.2.2.2.2.2.2.2.2.2.2.1
theorem k0_dev215_lt : ∀ (v30 : BitVec 32) (k0_hw1 : k0_chk1 v30), (k0_dev215 v30) < nD := fun v30 k0_hw1 => k0_hw1.2.2.2.1.2.2.2.2.2.2.2.2.2.2.2.1
theorem k0_dev217_lt : ∀ (v30 : BitVec 32) (k0_hw1 : k0_chk1 v30), (k0_dev217 v30) < nD := fun v30 k0_hw1 => k0_hw1.2.2.2.1.2.2.2.2.2.2.2.2.2.2.2.2.1
theorem k0_dev220_lt : ∀ (v30 : BitVec 32) (k0_hw1 : k0_chk1 v30) (k0_t2 : Fin k0_t2_loop.trips), ∀ (k0_h9 : k0_cond9 k0_t2 = 1#1), (k0_dev220 v30) < nD := fun v30 k0_hw1 k0_t2 k0_h9 => k0_hw1.2.2.2.1.2.2.2.2.2.2.2.2.2.2.2.2.2.1 k0_t2 k0_h9
theorem k0_dev222_lt : ∀ (v30 : BitVec 32) (k0_hw1 : k0_chk1 v30) (k0_t2 : Fin k0_t2_loop.trips), ∀ (k0_h10 : k0_cond10 k0_t2 = 1#1), (k0_dev222 v30) < nD := fun v30 k0_hw1 k0_t2 k0_h10 => k0_hw1.2.2.2.1.2.2.2.2.2.2.2.2.2.2.2.2.2.2.1 k0_t2 k0_h10
theorem k0_dev224_lt : ∀ (v30 : BitVec 32) (k0_hw1 : k0_chk1 v30) (k0_t2 : Fin k0_t2_loop.trips), ∀ (k0_h11 : k0_cond11 k0_t2 = 1#1), (k0_dev224 v30) < nD := fun v30 k0_hw1 k0_t2 k0_h11 => k0_hw1.2.2.2.1.2.2.2.2.2.2.2.2.2.2.2.2.2.2.2.1 k0_t2 k0_h11
theorem k0_dev226_lt : ∀ (v30 : BitVec 32) (k0_hw1 : k0_chk1 v30) (k0_t2 : Fin k0_t2_loop.trips), ∀ (k0_h12 : k0_cond12 k0_t2 = 1#1), (k0_dev226 v30) < nD := fun v30 k0_hw1 k0_t2 k0_h12 => k0_hw1.2.2.2.1.2.2.2.2.2.2.2.2.2.2.2.2.2.2.2.2.1 k0_t2 k0_h12
theorem k0_dev227_lt : ∀ (v30 : BitVec 32) (k0_hw1 : k0_chk1 v30), (k0_dev227 v30) < nD := fun v30 k0_hw1 => k0_hw1.2.2.2.1.2.2.2.2.2.2.2.2.2.2.2.2.2.2.2.2.2.1
theorem k0_dev229_lt : ∀ (v30 : BitVec 32) (k0_hw1 : k0_chk1 v30), (k0_dev229 v30) < nD := fun v30 k0_hw1 => k0_hw1.2.2.2.1.2.2.2.2.2.2.2.2.2.2.2.2.2.2.2.2.2.2.1
theorem k0_dev231_lt : ∀ (v30 : BitVec 32) (k0_hw1 : k0_chk1 v30), (k0_dev231 v30) < nD := fun v30 k0_hw1 => k0_hw1.2.2.2.1.2.2.2.2.2.2.2.2.2.2.2.2.2.2.2.2.2.2.2.1
theorem k0_dev233_lt : ∀ (v30 : BitVec 32) (k0_hw1 : k0_chk1 v30), (k0_dev233 v30) < nD := fun v30 k0_hw1 => k0_hw1.2.2.2.1.2.2.2.2.2.2.2.2.2.2.2.2.2.2.2.2.2.2.2.2.1
theorem k0_dev236_lt : ∀ (v30 : BitVec 32) (k0_hw1 : k0_chk1 v30) (k0_t2 : Fin k0_t2_loop.trips), ∀ (k0_h17 : k0_cond17 k0_t2 = 1#1), (k0_dev236 v30) < nD := fun v30 k0_hw1 k0_t2 k0_h17 => k0_hw1.2.2.2.1.2.2.2.2.2.2.2.2.2.2.2.2.2.2.2.2.2.2.2.2.2.1 k0_t2 k0_h17
theorem k0_dev238_lt : ∀ (v30 : BitVec 32) (k0_hw1 : k0_chk1 v30) (k0_t2 : Fin k0_t2_loop.trips), ∀ (k0_h18 : k0_cond18 k0_t2 = 1#1), (k0_dev238 v30) < nD := fun v30 k0_hw1 k0_t2 k0_h18 => k0_hw1.2.2.2.1.2.2.2.2.2.2.2.2.2.2.2.2.2.2.2.2.2.2.2.2.2.2.1 k0_t2 k0_h18
theorem k0_dev240_lt : ∀ (v30 : BitVec 32) (k0_hw1 : k0_chk1 v30) (k0_t2 : Fin k0_t2_loop.trips), ∀ (k0_h19 : k0_cond19 k0_t2 = 1#1), (k0_dev240 v30) < nD := fun v30 k0_hw1 k0_t2 k0_h19 => k0_hw1.2.2.2.1.2.2.2.2.2.2.2.2.2.2.2.2.2.2.2.2.2.2.2.2.2.2.2.1 k0_t2 k0_h19
theorem k0_dev242_lt : ∀ (v30 : BitVec 32) (k0_hw1 : k0_chk1 v30) (k0_t2 : Fin k0_t2_loop.trips), ∀ (k0_h20 : k0_cond20 k0_t2 = 1#1), (k0_dev242 v30) < nD := fun v30 k0_hw1 k0_t2 k0_h20 => k0_hw1.2.2.2.1.2.2.2.2.2.2.2.2.2.2.2.2.2.2.2.2.2.2.2.2.2.2.2.2.1 k0_t2 k0_h20
theorem k0_dev243_lt : ∀ (v30 : BitVec 32) (k0_hw1 : k0_chk1 v30), (k0_dev243 v30) < nD := fun v30 k0_hw1 => k0_hw1.2.2.2.1.2.2.2.2.2.2.2.2.2.2.2.2.2.2.2.2.2.2.2.2.2.2.2.2.2.1
theorem k0_dev245_lt : ∀ (v30 : BitVec 32) (k0_hw1 : k0_chk1 v30), (k0_dev245 v30) < nD := fun v30 k0_hw1 => k0_hw1.2.2.2.1.2.2.2.2.2.2.2.2.2.2.2.2.2.2.2.2.2.2.2.2.2.2.2.2.2.2.1
theorem k0_dev247_lt : ∀ (v30 : BitVec 32) (k0_hw1 : k0_chk1 v30), (k0_dev247 v30) < nD := fun v30 k0_hw1 => k0_hw1.2.2.2.1.2.2.2.2.2.2.2.2.2.2.2.2.2.2.2.2.2.2.2.2.2.2.2.2.2.2.2.1
theorem k0_dev249_lt : ∀ (v30 : BitVec 32) (k0_hw1 : k0_chk1 v30), (k0_dev249 v30) < nD := fun v30 k0_hw1 => k0_hw1.2.2.2.1.2.2.2.2.2.2.2.2.2.2.2.2.2.2.2.2.2.2.2.2.2.2.2.2.2.2.2.2.1
theorem k0_dev252_lt : ∀ (v30 : BitVec 32) (k0_hw1 : k0_chk1 v30) (k0_t2 : Fin k0_t2_loop.trips), ∀ (k0_h25 : k0_cond25 k0_t2 = 1#1), (k0_dev252 v30) < nD := fun v30 k0_hw1 k0_t2 k0_h25 => k0_hw1.2.2.2.1.2.2.2.2.2.2.2.2.2.2.2.2.2.2.2.2.2.2.2.2.2.2.2.2.2.2.2.2.2.1 k0_t2 k0_h25
theorem k0_dev254_lt : ∀ (v30 : BitVec 32) (k0_hw1 : k0_chk1 v30) (k0_t2 : Fin k0_t2_loop.trips), ∀ (k0_h26 : k0_cond26 k0_t2 = 1#1), (k0_dev254 v30) < nD := fun v30 k0_hw1 k0_t2 k0_h26 => k0_hw1.2.2.2.1.2.2.2.2.2.2.2.2.2.2.2.2.2.2.2.2.2.2.2.2.2.2.2.2.2.2.2.2.2.2.1 k0_t2 k0_h26
theorem k0_dev256_lt : ∀ (v30 : BitVec 32) (k0_hw1 : k0_chk1 v30) (k0_t2 : Fin k0_t2_loop.trips), ∀ (k0_h27 : k0_cond27 k0_t2 = 1#1), (k0_dev256 v30) < nD := fun v30 k0_hw1 k0_t2 k0_h27 => k0_hw1.2.2.2.1.2.2.2.2.2.2.2.2.2.2.2.2.2.2.2.2.2.2.2.2.2.2.2.2.2.2.2.2.2.2.2 k0_t2 k0_h27
theorem k0_dev258_lt : ∀ (v30 : BitVec 32) (k0_hw1 : k0_chk1 v30) (k0_t2 : Fin k0_t2_loop.trips), ∀ (k0_h28 : k0_cond28 k0_t2 = 1#1), (k0_dev258 v30) < nD := fun v30 k0_hw1 k0_t2 k0_h28 => k0_hw1.2.2.2.2.1 k0_t2 k0_h28
theorem k0_dev259_lt : ∀ (v30 : BitVec 32) (k0_hw1 : k0_chk1 v30), (k0_dev259 v30) < nD := fun v30 k0_hw1 => k0_hw1.2.2.2.2.2.1
theorem k0_dev261_lt : ∀ (v30 : BitVec 32) (k0_hw1 : k0_chk1 v30), (k0_dev261 v30) < nD := fun v30 k0_hw1 => k0_hw1.2.2.2.2.2.2.1
theorem k0_dev263_lt : ∀ (v30 : BitVec 32) (k0_hw1 : k0_chk1 v30), (k0_dev263 v30) < nD := fun v30 k0_hw1 => k0_hw1.2.2.2.2.2.2.2.1
theorem k0_dev265_lt : ∀ (v30 : BitVec 32) (k0_hw1 : k0_chk1 v30), (k0_dev265 v30) < nD := fun v30 k0_hw1 => k0_hw1.2.2.2.2.2.2.2.2

def k0_cond32 (k0_t2 : Fin k0_t2_loop.trips) : BitVec 1 :=
  let c2_i32_4955 : BitVec 32 := 2#32
  let c4_i32_4954 : BitVec 32 := 4#32
  let c0_i32_4422 : BitVec 32 := 0#32
  let c1_i32_4424 : BitVec 32 := 1#32
  let arg17 : BitVec 32 := Scf.iv c0_i32_4422 c1_i32_4424 k0_t2
  let v3471 : BitVec 32 := Scalar.muli c4_i32_4954 arg17
  let v3472 : BitVec 32 := Scalar.addi c2_i32_4955 v3471
  let c3_i32_6471 : BitVec 32 := 3#32
  let v4508 : BitVec 32 := Scalar.addi v3472 c3_i32_6471
  let c28_i32_6974 : BitVec 32 := 28#32
  let v4850 : BitVec 1 := Scalar.cmpi .sle v4508 c28_i32_6974
  let v4851 : BitVec 32 := Scalar.extui v4850
  let c0_i32_6975 : BitVec 32 := 0#32
  let v4852 : BitVec 1 := Scalar.cmpi .ne v4851 c0_i32_6975
  v4852

def k0_dev266 (v21 : BitVec 32) : Nat :=
  let c0_i32_6978 : BitVec 32 := 0#32
  let c1_i32_6977 : BitVec 32 := 1#32
  let v4853 : BitVec 32 := Scalar.muli v21 c1_i32_6977
  let v4854 : BitVec 32 := Scalar.addi c0_i32_6978 v4853
  v4854.toNat

def k0_chk2_0 (v21 : BitVec 32) : Prop :=
  ((k0_dev2 v21) < nD) ∧
  ((k0_dev3 v21) < nD) ∧
  ((k0_dev4 v21) < nD) ∧
  ((k0_dev5 v21) < nD) ∧
  ((k0_dev6 v21) < nD) ∧
  ((k0_dev11 v21) < nD) ∧
  ((k0_dev13 v21) < nD) ∧
  ((k0_dev15 v21) < nD) ∧
  ((k0_dev17 v21) < nD) ∧
  ((k0_dev20 v21) < nD) ∧
  ((k0_dev22 v21) < nD) ∧
  ((k0_dev24 v21) < nD) ∧
  ((k0_dev26 v21) < nD) ∧
  ((k0_dev27 v21) < nD) ∧
  ((k0_dev29 v21) < nD) ∧
  ((k0_dev31 v21) < nD) ∧
  ((k0_dev33 v21) < nD) ∧
  ((k0_dev36 v21) < nD) ∧
  ((k0_dev38 v21) < nD) ∧
  ((k0_dev40 v21) < nD) ∧
  ((k0_dev42 v21) < nD) ∧
  ((k0_dev43 v21) < nD) ∧
  ((k0_dev45 v21) < nD) ∧
  ((k0_dev47 v21) < nD) ∧
  ((k0_dev49 v21) < nD) ∧
  ((k0_dev52 v21) < nD) ∧
  ((k0_dev54 v21) < nD) ∧
  ((k0_dev56 v21) < nD) ∧
  ((k0_dev58 v21) < nD) ∧
  ((k0_dev59 v21) < nD) ∧
  ((k0_dev61 v21) < nD) ∧
  ((k0_dev63 v21) < nD)
def k0_chk2_1 (v21 : BitVec 32) : Prop :=
  ((k0_dev65 v21) < nD) ∧
  ((k0_dev68 v21) < nD) ∧
  ((k0_dev70 v21) < nD) ∧
  ((k0_dev72 v21) < nD) ∧
  ((k0_dev74 v21) < nD) ∧
  ((k0_dev75 v21) < nD) ∧
  ((k0_dev77 v21) < nD) ∧
  ((k0_dev79 v21) < nD) ∧
  ((k0_dev81 v21) < nD) ∧
  ((k0_dev84 v21) < nD) ∧
  ((k0_dev86 v21) < nD) ∧
  ((k0_dev88 v21) < nD) ∧
  ((k0_dev90 v21) < nD) ∧
  ((k0_dev91 v21) < nD) ∧
  ((k0_dev93 v21) < nD) ∧
  ((k0_dev95 v21) < nD) ∧
  ((k0_dev97 v21) < nD) ∧
  ((k0_dev100 v21) < nD) ∧
  ((k0_dev102 v21) < nD) ∧
  ((k0_dev104 v21) < nD) ∧
  ((k0_dev106 v21) < nD) ∧
  ((k0_dev107 v21) < nD) ∧
  ((k0_dev109 v21) < nD) ∧
  ((k0_dev111 v21) < nD) ∧
  ((k0_dev113 v21) < nD) ∧
  ((k0_dev116 v21) < nD) ∧
  ((k0_dev118 v21) < nD) ∧
  ((k0_dev120 v21) < nD) ∧
  ((k0_dev122 v21) < nD) ∧
  ((k0_dev123 v21) < nD) ∧
  ((k0_dev125 v21) < nD) ∧
  ((k0_dev127 v21) < nD)
def k0_chk2_2 (v21 : BitVec 32) : Prop :=
  ((k0_dev129 v21) < nD) ∧
  ((k0_dev132 v21) < nD) ∧
  ((k0_dev134 v21) < nD) ∧
  ((k0_dev136 v21) < nD) ∧
  ((k0_dev138 v21) < nD) ∧
  ((k0_dev139 v21) < nD) ∧
  ((k0_dev141 v21) < nD) ∧
  ((k0_dev143 v21) < nD) ∧
  ((k0_dev145 v21) < nD) ∧
  ((k0_dev148 v21) < nD) ∧
  ((k0_dev150 v21) < nD) ∧
  ((k0_dev152 v21) < nD) ∧
  ((k0_dev154 v21) < nD) ∧
  ((k0_dev155 v21) < nD) ∧
  ((k0_dev157 v21) < nD) ∧
  ((k0_dev159 v21) < nD) ∧
  ((k0_dev161 v21) < nD) ∧
  ((k0_dev164 v21) < nD) ∧
  ((k0_dev166 v21) < nD) ∧
  ((k0_dev168 v21) < nD) ∧
  ((k0_dev170 v21) < nD) ∧
  ((k0_dev171 v21) < nD) ∧
  ((k0_dev173 v21) < nD) ∧
  ((k0_dev175 v21) < nD) ∧
  ((k0_dev177 v21) < nD) ∧
  ((k0_dev180 v21) < nD) ∧
  ((k0_dev182 v21) < nD) ∧
  ((k0_dev184 v21) < nD) ∧
  ((k0_dev186 v21) < nD) ∧
  ((k0_dev187 v21) < nD) ∧
  ((k0_dev188 v21) < nD) ∧
  ((k0_dev189 v21) < nD)
def k0_chk2_3 (v21 : BitVec 32) : Prop :=
  ((k0_dev190 v21) < nD) ∧
  ((k0_dev195 v21) < nD) ∧
  ((k0_dev196 v21) < nD) ∧
  ((k0_dev197 v21) < nD) ∧
  ((k0_dev198 v21) < nD) ∧
  ((k0_dev203 v21) < nD) ∧
  ((k0_dev205 v21) < nD) ∧
  ((k0_dev207 v21) < nD) ∧
  ((k0_dev209 v21) < nD) ∧
  (∀ k0_t2 : Fin k0_t2_loop.trips, ∀ (k0_h5 : k0_cond5 k0_t2 = 1#1), (k0_dev212 v21) < nD) ∧
  (∀ k0_t2 : Fin k0_t2_loop.trips, ∀ (k0_h6 : k0_cond6 k0_t2 = 1#1), (k0_dev214 v21) < nD) ∧
  (∀ k0_t2 : Fin k0_t2_loop.trips, ∀ (k0_h7 : k0_cond7 k0_t2 = 1#1), (k0_dev216 v21) < nD) ∧
  (∀ k0_t2 : Fin k0_t2_loop.trips, ∀ (k0_h8 : k0_cond8 k0_t2 = 1#1), (k0_dev218 v21) < nD) ∧
  ((k0_dev219 v21) < nD) ∧
  ((k0_dev221 v21) < nD) ∧
  ((k0_dev223 v21) < nD) ∧
  ((k0_dev225 v21) < nD) ∧
  (∀ k0_t2 : Fin k0_t2_loop.trips, ∀ (k0_h13 : k0_cond13 k0_t2 = 1#1), (k0_dev228 v21) < nD) ∧
  (∀ k0_t2 : Fin k0_t2_loop.trips, ∀ (k0_h14 : k0_cond14 k0_t2 = 1#1), (k0_dev230 v21) < nD) ∧
  (∀ k0_t2 : Fin k0_t2_loop.trips, ∀ (k0_h15 : k0_cond15 k0_t2 = 1#1), (k0_dev232 v21) < nD) ∧
  (∀ k0_t2 : Fin k0_t2_loop.trips, ∀ (k0_h16 : k0_cond16 k0_t2 = 1#1), (k0_dev234 v21) < nD) ∧
  ((k0_dev235 v21) < nD) ∧
  ((k0_dev237 v21) < nD) ∧
  ((k0_dev239 v21) < nD) ∧
  ((k0_dev241 v21) < nD) ∧
  (∀ k0_t2 : Fin k0_t2_loop.trips, ∀ (k0_h21 : k0_cond21 k0_t2 = 1#1), (k0_dev244 v21) < nD) ∧
  (∀ k0_t2 : Fin k0_t2_loop.trips, ∀ (k0_h22 : k0_cond22 k0_t2 = 1#1), (k0_dev246 v21) < nD) ∧
  (∀ k0_t2 : Fin k0_t2_loop.trips, ∀ (k0_h23 : k0_cond23 k0_t2 = 1#1), (k0_dev248 v21) < nD) ∧
  (∀ k0_t2 : Fin k0_t2_loop.trips, ∀ (k0_h24 : k0_cond24 k0_t2 = 1#1), (k0_dev250 v21) < nD) ∧
  ((k0_dev251 v21) < nD) ∧
  ((k0_dev253 v21) < nD) ∧
  ((k0_dev255 v21) < nD)
def k0_chk2_4 (v21 : BitVec 32) : Prop :=
  ((k0_dev257 v21) < nD) ∧
  (∀ k0_t2 : Fin k0_t2_loop.trips, ∀ (k0_h29 : k0_cond29 k0_t2 = 1#1), (k0_dev260 v21) < nD) ∧
  (∀ k0_t2 : Fin k0_t2_loop.trips, ∀ (k0_h30 : k0_cond30 k0_t2 = 1#1), (k0_dev262 v21) < nD) ∧
  (∀ k0_t2 : Fin k0_t2_loop.trips, ∀ (k0_h31 : k0_cond31 k0_t2 = 1#1), (k0_dev264 v21) < nD) ∧
  (∀ k0_t2 : Fin k0_t2_loop.trips, ∀ (k0_h32 : k0_cond32 k0_t2 = 1#1), (k0_dev266 v21) < nD)
def k0_chk2 (v21 : BitVec 32) : Prop :=
  k0_chk2_0 v21 ∧
  k0_chk2_1 v21 ∧
  k0_chk2_2 v21 ∧
  k0_chk2_3 v21 ∧
  k0_chk2_4 v21
theorem k0_dev2_lt : ∀ (v21 : BitVec 32) (k0_hw2 : k0_chk2 v21), (k0_dev2 v21) < nD := fun v21 k0_hw2 => k0_hw2.1.1
theorem k0_dev3_lt : ∀ (v21 : BitVec 32) (k0_hw2 : k0_chk2 v21), (k0_dev3 v21) < nD := fun v21 k0_hw2 => k0_hw2.1.2.1
theorem k0_dev4_lt : ∀ (v21 : BitVec 32) (k0_hw2 : k0_chk2 v21), (k0_dev4 v21) < nD := fun v21 k0_hw2 => k0_hw2.1.2.2.1
theorem k0_dev5_lt : ∀ (v21 : BitVec 32) (k0_hw2 : k0_chk2 v21), (k0_dev5 v21) < nD := fun v21 k0_hw2 => k0_hw2.1.2.2.2.1
theorem k0_dev6_lt : ∀ (v21 : BitVec 32) (k0_hw2 : k0_chk2 v21), (k0_dev6 v21) < nD := fun v21 k0_hw2 => k0_hw2.1.2.2.2.2.1
theorem k0_dev11_lt : ∀ (v21 : BitVec 32) (k0_hw2 : k0_chk2 v21), (k0_dev11 v21) < nD := fun v21 k0_hw2 => k0_hw2.1.2.2.2.2.2.1
theorem k0_dev13_lt : ∀ (v21 : BitVec 32) (k0_hw2 : k0_chk2 v21), (k0_dev13 v21) < nD := fun v21 k0_hw2 => k0_hw2.1.2.2.2.2.2.2.1
theorem k0_dev15_lt : ∀ (v21 : BitVec 32) (k0_hw2 : k0_chk2 v21), (k0_dev15 v21) < nD := fun v21 k0_hw2 => k0_hw2.1.2.2.2.2.2.2.2.1
theorem k0_dev17_lt : ∀ (v21 : BitVec 32) (k0_hw2 : k0_chk2 v21), (k0_dev17 v21) < nD := fun v21 k0_hw2 => k0_hw2.1.2.2.2.2.2.2.2.2.1
theorem k0_dev20_lt : ∀ (v21 : BitVec 32) (k0_hw2 : k0_chk2 v21), (k0_dev20 v21) < nD := fun v21 k0_hw2 => k0_hw2.1.2.2.2.2.2.2.2.2.2.1
theorem k0_dev22_lt : ∀ (v21 : BitVec 32) (k0_hw2 : k0_chk2 v21), (k0_dev22 v21) < nD := fun v21 k0_hw2 => k0_hw2.1.2.2.2.2.2.2.2.2.2.2.1
theorem k0_dev24_lt : ∀ (v21 : BitVec 32) (k0_hw2 : k0_chk2 v21), (k0_dev24 v21) < nD := fun v21 k0_hw2 => k0_hw2.1.2.2.2.2.2.2.2.2.2.2.2.1
theorem k0_dev26_lt : ∀ (v21 : BitVec 32) (k0_hw2 : k0_chk2 v21), (k0_dev26 v21) < nD := fun v21 k0_hw2 => k0_hw2.1.2.2.2.2.2.2.2.2.2.2.2.2.1
theorem k0_dev27_lt : ∀ (v21 : BitVec 32) (k0_hw2 : k0_chk2 v21), (k0_dev27 v21) < nD := fun v21 k0_hw2 => k0_hw2.1.2.2.2.2.2.2.2.2.2.2.2.2.2.1
theorem k0_dev29_lt : ∀ (v21 : BitVec 32) (k0_hw2 : k0_chk2 v21), (k0_dev29 v21) < nD := fun v21 k0_hw2 => k0_hw2.1.2.2.2.2.2.2.2.2.2.2.2.2.2.2.1
theorem k0_dev31_lt : ∀ (v21 : BitVec 32) (k0_hw2 : k0_chk2 v21), (k0_dev31 v21) < nD := fun v21 k0_hw2 => k0_hw2.1.2.2.2.2.2.2.2.2.2.2.2.2.2.2.2.1
theorem k0_dev33_lt : ∀ (v21 : BitVec 32) (k0_hw2 : k0_chk2 v21), (k0_dev33 v21) < nD := fun v21 k0_hw2 => k0_hw2.1.2.2.2.2.2.2.2.2.2.2.2.2.2.2.2.2.1
theorem k0_dev36_lt : ∀ (v21 : BitVec 32) (k0_hw2 : k0_chk2 v21), (k0_dev36 v21) < nD := fun v21 k0_hw2 => k0_hw2.1.2.2.2.2.2.2.2.2.2.2.2.2.2.2.2.2.2.1
theorem k0_dev38_lt : ∀ (v21 : BitVec 32) (k0_hw2 : k0_chk2 v21), (k0_dev38 v21) < nD := fun v21 k0_hw2 => k0_hw2.1.2.2.2.2.2.2.2.2.2.2.2.2.2.2.2.2.2.2.1
theorem k0_dev40_lt : ∀ (v21 : BitVec 32) (k0_hw2 : k0_chk2 v21), (k0_dev40 v21) < nD := fun v21 k0_hw2 => k0_hw2.1.2.2.2.2.2.2.2.2.2.2.2.2.2.2.2.2.2.2.2.1
theorem k0_dev42_lt : ∀ (v21 : BitVec 32) (k0_hw2 : k0_chk2 v21), (k0_dev42 v21) < nD := fun v21 k0_hw2 => k0_hw2.1.2.2.2.2.2.2.2.2.2.2.2.2.2.2.2.2.2.2.2.2.1
theorem k0_dev43_lt : ∀ (v21 : BitVec 32) (k0_hw2 : k0_chk2 v21), (k0_dev43 v21) < nD := fun v21 k0_hw2 => k0_hw2.1.2.2.2.2.2.2.2.2.2.2.2.2.2.2.2.2.2.2.2.2.2.1
theorem k0_dev45_lt : ∀ (v21 : BitVec 32) (k0_hw2 : k0_chk2 v21), (k0_dev45 v21) < nD := fun v21 k0_hw2 => k0_hw2.1.2.2.2.2.2.2.2.2.2.2.2.2.2.2.2.2.2.2.2.2.2.2.1
theorem k0_dev47_lt : ∀ (v21 : BitVec 32) (k0_hw2 : k0_chk2 v21), (k0_dev47 v21) < nD := fun v21 k0_hw2 => k0_hw2.1.2.2.2.2.2.2.2.2.2.2.2.2.2.2.2.2.2.2.2.2.2.2.2.1
theorem k0_dev49_lt : ∀ (v21 : BitVec 32) (k0_hw2 : k0_chk2 v21), (k0_dev49 v21) < nD := fun v21 k0_hw2 => k0_hw2.1.2.2.2.2.2.2.2.2.2.2.2.2.2.2.2.2.2.2.2.2.2.2.2.2.1
theorem k0_dev52_lt : ∀ (v21 : BitVec 32) (k0_hw2 : k0_chk2 v21), (k0_dev52 v21) < nD := fun v21 k0_hw2 => k0_hw2.1.2.2.2.2.2.2.2.2.2.2.2.2.2.2.2.2.2.2.2.2.2.2.2.2.2.1
theorem k0_dev54_lt : ∀ (v21 : BitVec 32) (k0_hw2 : k0_chk2 v21), (k0_dev54 v21) < nD := fun v21 k0_hw2 => k0_hw2.1.2.2.2.2.2.2.2.2.2.2.2.2.2.2.2.2.2.2.2.2.2.2.2.2.2.2.1
theorem k0_dev56_lt : ∀ (v21 : BitVec 32) (k0_hw2 : k0_chk2 v21), (k0_dev56 v21) < nD := fun v21 k0_hw2 => k0_hw2.1.2.2.2.2.2.2.2.2.2.2.2.2.2.2.2.2.2.2.2.2.2.2.2.2.2.2.2.1
theorem k0_dev58_lt : ∀ (v21 : BitVec 32) (k0_hw2 : k0_chk2 v21), (k0_dev58 v21) < nD := fun v21 k0_hw2 => k0_hw2.1.2.2.2.2.2.2.2.2.2.2.2.2.2.2.2.2.2.2.2.2.2.2.2.2.2.2.2.2.1
theorem k0_dev59_lt : ∀ (v21 : BitVec 32) (k0_hw2 : k0_chk2 v21), (k0_dev59 v21) < nD := fun v21 k0_hw2 => k0_hw2.1.2.2.2.2.2.2.2.2.2.2.2.2.2.2.2.2.2.2.2.2.2.2.2.2.2.2.2.2.2.1
theorem k0_dev61_lt : ∀ (v21 : BitVec 32) (k0_hw2 : k0_chk2 v21), (k0_dev61 v21) < nD := fun v21 k0_hw2 => k0_hw2.1.2.2.2.2.2.2.2.2.2.2.2.2.2.2.2.2.2.2.2.2.2.2.2.2.2.2.2.2.2.2.1
theorem k0_dev63_lt : ∀ (v21 : BitVec 32) (k0_hw2 : k0_chk2 v21), (k0_dev63 v21) < nD := fun v21 k0_hw2 => k0_hw2.1.2.2.2.2.2.2.2.2.2.2.2.2.2.2.2.2.2.2.2.2.2.2.2.2.2.2.2.2.2.2.2
theorem k0_dev65_lt : ∀ (v21 : BitVec 32) (k0_hw2 : k0_chk2 v21), (k0_dev65 v21) < nD := fun v21 k0_hw2 => k0_hw2.2.1.1
theorem k0_dev68_lt : ∀ (v21 : BitVec 32) (k0_hw2 : k0_chk2 v21), (k0_dev68 v21) < nD := fun v21 k0_hw2 => k0_hw2.2.1.2.1
theorem k0_dev70_lt : ∀ (v21 : BitVec 32) (k0_hw2 : k0_chk2 v21), (k0_dev70 v21) < nD := fun v21 k0_hw2 => k0_hw2.2.1.2.2.1
theorem k0_dev72_lt : ∀ (v21 : BitVec 32) (k0_hw2 : k0_chk2 v21), (k0_dev72 v21) < nD := fun v21 k0_hw2 => k0_hw2.2.1.2.2.2.1
theorem k0_dev74_lt : ∀ (v21 : BitVec 32) (k0_hw2 : k0_chk2 v21), (k0_dev74 v21) < nD := fun v21 k0_hw2 => k0_hw2.2.1.2.2.2.2.1
theorem k0_dev75_lt : ∀ (v21 : BitVec 32) (k0_hw2 : k0_chk2 v21), (k0_dev75 v21) < nD := fun v21 k0_hw2 => k0_hw2.2.1.2.2.2.2.2.1
theorem k0_dev77_lt : ∀ (v21 : BitVec 32) (k0_hw2 : k0_chk2 v21), (k0_dev77 v21) < nD := fun v21 k0_hw2 => k0_hw2.2.1.2.2.2.2.2.2.1
theorem k0_dev79_lt : ∀ (v21 : BitVec 32) (k0_hw2 : k0_chk2 v21), (k0_dev79 v21) < nD := fun v21 k0_hw2 => k0_hw2.2.1.2.2.2.2.2.2.2.1
theorem k0_dev81_lt : ∀ (v21 : BitVec 32) (k0_hw2 : k0_chk2 v21), (k0_dev81 v21) < nD := fun v21 k0_hw2 => k0_hw2.2.1.2.2.2.2.2.2.2.2.1
theorem k0_dev84_lt : ∀ (v21 : BitVec 32) (k0_hw2 : k0_chk2 v21), (k0_dev84 v21) < nD := fun v21 k0_hw2 => k0_hw2.2.1.2.2.2.2.2.2.2.2.2.1
theorem k0_dev86_lt : ∀ (v21 : BitVec 32) (k0_hw2 : k0_chk2 v21), (k0_dev86 v21) < nD := fun v21 k0_hw2 => k0_hw2.2.1.2.2.2.2.2.2.2.2.2.2.1
theorem k0_dev88_lt : ∀ (v21 : BitVec 32) (k0_hw2 : k0_chk2 v21), (k0_dev88 v21) < nD := fun v21 k0_hw2 => k0_hw2.2.1.2.2.2.2.2.2.2.2.2.2.2.1
theorem k0_dev90_lt : ∀ (v21 : BitVec 32) (k0_hw2 : k0_chk2 v21), (k0_dev90 v21) < nD := fun v21 k0_hw2 => k0_hw2.2.1.2.2.2.2.2.2.2.2.2.2.2.2.1
theorem k0_dev91_lt : ∀ (v21 : BitVec 32) (k0_hw2 : k0_chk2 v21), (k0_dev91 v21) < nD := fun v21 k0_hw2 => k0_hw2.2.1.2.2.2.2.2.2.2.2.2.2.2.2.2.1
theorem k0_dev93_lt : ∀ (v21 : BitVec 32) (k0_hw2 : k0_chk2 v21), (k0_dev93 v21) < nD := fun v21 k0_hw2 => k0_hw2.2.1.2.2.2.2.2.2.2.2.2.2.2.2.2.2.1
theorem k0_dev95_lt : ∀ (v21 : BitVec 32) (k0_hw2 : k0_chk2 v21), (k0_dev95 v21) < nD := fun v21 k0_hw2 => k0_hw2.2.1.2.2.2.2.2.2.2.2.2.2.2.2.2.2.2.1
theorem k0_dev97_lt : ∀ (v21 : BitVec 32) (k0_hw2 : k0_chk2 v21), (k0_dev97 v21) < nD := fun v21 k0_hw2 => k0_hw2.2.1.2.2.2.2.2.2.2.2.2.2.2.2.2.2.2.2.1
theorem k0_dev100_lt : ∀ (v21 : BitVec 32) (k0_hw2 : k0_chk2 v21), (k0_dev100 v21) < nD := fun v21 k0_hw2 => k0_hw2.2.1.2.2.2.2.2.2.2.2.2.2.2.2.2.2.2.2.2.1
theorem k0_dev102_lt : ∀ (v21 : BitVec 32) (k0_hw2 : k0_chk2 v21), (k0_dev102 v21) < nD := fun v21 k0_hw2 => k0_hw2.2.1.2.2.2.2.2.2.2.2.2.2.2.2.2.2.2.2.2.2.1
theorem k0_dev104_lt : ∀ (v21 : BitVec 32) (k0_hw2 : k0_chk2 v21), (k0_dev104 v21) < nD := fun v21 k0_hw2 => k0_hw2.2.1.2.2.2.2.2.2.2.2.2.2.2.2.2.2.2.2.2.2.2.1
theorem k0_dev106_lt : ∀ (v21 : BitVec 32) (k0_hw2 : k0_chk2 v21), (k0_dev106 v21) < nD := fun v21 k0_hw2 => k0_hw2.2.1.2.2.2.2.2.2.2.2.2.2.2.2.2.2.2.2.2.2.2.2.1
theorem k0_dev107_lt : ∀ (v21 : BitVec 32) (k0_hw2 : k0_chk2 v21), (k0_dev107 v21) < nD := fun v21 k0_hw2 => k0_hw2.2.1.2.2.2.2.2.2.2.2.2.2.2.2.2.2.2.2.2.2.2.2.2.1
theorem k0_dev109_lt : ∀ (v21 : BitVec 32) (k0_hw2 : k0_chk2 v21), (k0_dev109 v21) < nD := fun v21 k0_hw2 => k0_hw2.2.1.2.2.2.2.2.2.2.2.2.2.2.2.2.2.2.2.2.2.2.2.2.2.1
theorem k0_dev111_lt : ∀ (v21 : BitVec 32) (k0_hw2 : k0_chk2 v21), (k0_dev111 v21) < nD := fun v21 k0_hw2 => k0_hw2.2.1.2.2.2.2.2.2.2.2.2.2.2.2.2.2.2.2.2.2.2.2.2.2.2.1
theorem k0_dev113_lt : ∀ (v21 : BitVec 32) (k0_hw2 : k0_chk2 v21), (k0_dev113 v21) < nD := fun v21 k0_hw2 => k0_hw2.2.1.2.2.2.2.2.2.2.2.2.2.2.2.2.2.2.2.2.2.2.2.2.2.2.2.1
theorem k0_dev116_lt : ∀ (v21 : BitVec 32) (k0_hw2 : k0_chk2 v21), (k0_dev116 v21) < nD := fun v21 k0_hw2 => k0_hw2.2.1.2.2.2.2.2.2.2.2.2.2.2.2.2.2.2.2.2.2.2.2.2.2.2.2.2.1
theorem k0_dev118_lt : ∀ (v21 : BitVec 32) (k0_hw2 : k0_chk2 v21), (k0_dev118 v21) < nD := fun v21 k0_hw2 => k0_hw2.2.1.2.2.2.2.2.2.2.2.2.2.2.2.2.2.2.2.2.2.2.2.2.2.2.2.2.2.1
theorem k0_dev120_lt : ∀ (v21 : BitVec 32) (k0_hw2 : k0_chk2 v21), (k0_dev120 v21) < nD := fun v21 k0_hw2 => k0_hw2.2.1.2.2.2.2.2.2.2.2.2.2.2.2.2.2.2.2.2.2.2.2.2.2.2.2.2.2.2.1
theorem k0_dev122_lt : ∀ (v21 : BitVec 32) (k0_hw2 : k0_chk2 v21), (k0_dev122 v21) < nD := fun v21 k0_hw2 => k0_hw2.2.1.2.2.2.2.2.2.2.2.2.2.2.2.2.2.2.2.2.2.2.2.2.2.2.2.2.2.2.2.1
theorem k0_dev123_lt : ∀ (v21 : BitVec 32) (k0_hw2 : k0_chk2 v21), (k0_dev123 v21) < nD := fun v21 k0_hw2 => k0_hw2.2.1.2.2.2.2.2.2.2.2.2.2.2.2.2.2.2.2.2.2.2.2.2.2.2.2.2.2.2.2.2.1
theorem k0_dev125_lt : ∀ (v21 : BitVec 32) (k0_hw2 : k0_chk2 v21), (k0_dev125 v21) < nD := fun v21 k0_hw2 => k0_hw2.2.1.2.2.2.2.2.2.2.2.2.2.2.2.2.2.2.2.2.2.2.2.2.2.2.2.2.2.2.2.2.2.1
theorem k0_dev127_lt : ∀ (v21 : BitVec 32) (k0_hw2 : k0_chk2 v21), (k0_dev127 v21) < nD := fun v21 k0_hw2 => k0_hw2.2.1.2.2.2.2.2.2.2.2.2.2.2.2.2.2.2.2.2.2.2.2.2.2.2.2.2.2.2.2.2.2.2
theorem k0_dev129_lt : ∀ (v21 : BitVec 32) (k0_hw2 : k0_chk2 v21), (k0_dev129 v21) < nD := fun v21 k0_hw2 => k0_hw2.2.2.1.1
theorem k0_dev132_lt : ∀ (v21 : BitVec 32) (k0_hw2 : k0_chk2 v21), (k0_dev132 v21) < nD := fun v21 k0_hw2 => k0_hw2.2.2.1.2.1
theorem k0_dev134_lt : ∀ (v21 : BitVec 32) (k0_hw2 : k0_chk2 v21), (k0_dev134 v21) < nD := fun v21 k0_hw2 => k0_hw2.2.2.1.2.2.1
theorem k0_dev136_lt : ∀ (v21 : BitVec 32) (k0_hw2 : k0_chk2 v21), (k0_dev136 v21) < nD := fun v21 k0_hw2 => k0_hw2.2.2.1.2.2.2.1
theorem k0_dev138_lt : ∀ (v21 : BitVec 32) (k0_hw2 : k0_chk2 v21), (k0_dev138 v21) < nD := fun v21 k0_hw2 => k0_hw2.2.2.1.2.2.2.2.1
theorem k0_dev139_lt : ∀ (v21 : BitVec 32) (k0_hw2 : k0_chk2 v21), (k0_dev139 v21) < nD := fun v21 k0_hw2 => k0_hw2.2.2.1.2.2.2.2.2.1
theorem k0_dev141_lt : ∀ (v21 : BitVec 32) (k0_hw2 : k0_chk2 v21), (k0_dev141 v21) < nD := fun v21 k0_hw2 => k0_hw2.2.2.1.2.2.2.2.2.2.1
theorem k0_dev143_lt : ∀ (v21 : BitVec 32) (k0_hw2 : k0_chk2 v21), (k0_dev143 v21) < nD := fun v21 k0_hw2 => k0_hw2.2.2.1.2.2.2.2.2.2.2.1
theorem k0_dev145_lt : ∀ (v21 : BitVec 32) (k0_hw2 : k0_chk2 v21), (k0_dev145 v21) < nD := fun v21 k0_hw2 => k0_hw2.2.2.1.2.2.2.2.2.2.2.2.1
theorem k0_dev148_lt : ∀ (v21 : BitVec 32) (k0_hw2 : k0_chk2 v21), (k0_dev148 v21) < nD := fun v21 k0_hw2 => k0_hw2.2.2.1.2.2.2.2.2.2.2.2.2.1
theorem k0_dev150_lt : ∀ (v21 : BitVec 32) (k0_hw2 : k0_chk2 v21), (k0_dev150 v21) < nD := fun v21 k0_hw2 => k0_hw2.2.2.1.2.2.2.2.2.2.2.2.2.2.1
theorem k0_dev152_lt : ∀ (v21 : BitVec 32) (k0_hw2 : k0_chk2 v21), (k0_dev152 v21) < nD := fun v21 k0_hw2 => k0_hw2.2.2.1.2.2.2.2.2.2.2.2.2.2.2.1
theorem k0_dev154_lt : ∀ (v21 : BitVec 32) (k0_hw2 : k0_chk2 v21), (k0_dev154 v21) < nD := fun v21 k0_hw2 => k0_hw2.2.2.1.2.2.2.2.2.2.2.2.2.2.2.2.1
theorem k0_dev155_lt : ∀ (v21 : BitVec 32) (k0_hw2 : k0_chk2 v21), (k0_dev155 v21) < nD := fun v21 k0_hw2 => k0_hw2.2.2.1.2.2.2.2.2.2.2.2.2.2.2.2.2.1
theorem k0_dev157_lt : ∀ (v21 : BitVec 32) (k0_hw2 : k0_chk2 v21), (k0_dev157 v21) < nD := fun v21 k0_hw2 => k0_hw2.2.2.1.2.2.2.2.2.2.2.2.2.2.2.2.2.2.1
theorem k0_dev159_lt : ∀ (v21 : BitVec 32) (k0_hw2 : k0_chk2 v21), (k0_dev159 v21) < nD := fun v21 k0_hw2 => k0_hw2.2.2.1.2.2.2.2.2.2.2.2.2.2.2.2.2.2.2.1
theorem k0_dev161_lt : ∀ (v21 : BitVec 32) (k0_hw2 : k0_chk2 v21), (k0_dev161 v21) < nD := fun v21 k0_hw2 => k0_hw2.2.2.1.2.2.2.2.2.2.2.2.2.2.2.2.2.2.2.2.1
theorem k0_dev164_lt : ∀ (v21 : BitVec 32) (k0_hw2 : k0_chk2 v21), (k0_dev164 v21) < nD := fun v21 k0_hw2 => k0_hw2.2.2.1.2.2.2.2.2.2.2.2.2.2.2.2.2.2.2.2.2.1
theorem k0_dev166_lt : ∀ (v21 : BitVec 32) (k0_hw2 : k0_chk2 v21), (k0_dev166 v21) < nD := fun v21 k0_hw2 => k0_hw2.2.2.1.2.2.2.2.2.2.2.2.2.2.2.2.2.2.2.2.2.2.1
theorem k0_dev168_lt : ∀ (v21 : BitVec 32) (k0_hw2 : k0_chk2 v21), (k0_dev168 v21) < nD := fun v21 k0_hw2 => k0_hw2.2.2.1.2.2.2.2.2.2.2.2.2.2.2.2.2.2.2.2.2.2.2.1
theorem k0_dev170_lt : ∀ (v21 : BitVec 32) (k0_hw2 : k0_chk2 v21), (k0_dev170 v21) < nD := fun v21 k0_hw2 => k0_hw2.2.2.1.2.2.2.2.2.2.2.2.2.2.2.2.2.2.2.2.2.2.2.2.1
theorem k0_dev171_lt : ∀ (v21 : BitVec 32) (k0_hw2 : k0_chk2 v21), (k0_dev171 v21) < nD := fun v21 k0_hw2 => k0_hw2.2.2.1.2.2.2.2.2.2.2.2.2.2.2.2.2.2.2.2.2.2.2.2.2.1
theorem k0_dev173_lt : ∀ (v21 : BitVec 32) (k0_hw2 : k0_chk2 v21), (k0_dev173 v21) < nD := fun v21 k0_hw2 => k0_hw2.2.2.1.2.2.2.2.2.2.2.2.2.2.2.2.2.2.2.2.2.2.2.2.2.2.1
theorem k0_dev175_lt : ∀ (v21 : BitVec 32) (k0_hw2 : k0_chk2 v21), (k0_dev175 v21) < nD := fun v21 k0_hw2 => k0_hw2.2.2.1.2.2.2.2.2.2.2.2.2.2.2.2.2.2.2.2.2.2.2.2.2.2.2.1
theorem k0_dev177_lt : ∀ (v21 : BitVec 32) (k0_hw2 : k0_chk2 v21), (k0_dev177 v21) < nD := fun v21 k0_hw2 => k0_hw2.2.2.1.2.2.2.2.2.2.2.2.2.2.2.2.2.2.2.2.2.2.2.2.2.2.2.2.1
theorem k0_dev180_lt : ∀ (v21 : BitVec 32) (k0_hw2 : k0_chk2 v21), (k0_dev180 v21) < nD := fun v21 k0_hw2 => k0_hw2.2.2.1.2.2.2.2.2.2.2.2.2.2.2.2.2.2.2.2.2.2.2.2.2.2.2.2.2.1
theorem k0_dev182_lt : ∀ (v21 : BitVec 32) (k0_hw2 : k0_chk2 v21), (k0_dev182 v21) < nD := fun v21 k0_hw2 => k0_hw2.2.2.1.2.2.2.2.2.2.2.2.2.2.2.2.2.2.2.2.2.2.2.2.2.2.2.2.2.2.1
theorem k0_dev184_lt : ∀ (v21 : BitVec 32) (k0_hw2 : k0_chk2 v21), (k0_dev184 v21) < nD := fun v21 k0_hw2 => k0_hw2.2.2.1.2.2.2.2.2.2.2.2.2.2.2.2.2.2.2.2.2.2.2.2.2.2.2.2.2.2.2.1
theorem k0_dev186_lt : ∀ (v21 : BitVec 32) (k0_hw2 : k0_chk2 v21), (k0_dev186 v21) < nD := fun v21 k0_hw2 => k0_hw2.2.2.1.2.2.2.2.2.2.2.2.2.2.2.2.2.2.2.2.2.2.2.2.2.2.2.2.2.2.2.2.1
theorem k0_dev187_lt : ∀ (v21 : BitVec 32) (k0_hw2 : k0_chk2 v21), (k0_dev187 v21) < nD := fun v21 k0_hw2 => k0_hw2.2.2.1.2.2.2.2.2.2.2.2.2.2.2.2.2.2.2.2.2.2.2.2.2.2.2.2.2.2.2.2.2.1
theorem k0_dev188_lt : ∀ (v21 : BitVec 32) (k0_hw2 : k0_chk2 v21), (k0_dev188 v21) < nD := fun v21 k0_hw2 => k0_hw2.2.2.1.2.2.2.2.2.2.2.2.2.2.2.2.2.2.2.2.2.2.2.2.2.2.2.2.2.2.2.2.2.2.1
theorem k0_dev189_lt : ∀ (v21 : BitVec 32) (k0_hw2 : k0_chk2 v21), (k0_dev189 v21) < nD := fun v21 k0_hw2 => k0_hw2.2.2.1.2.2.2.2.2.2.2.2.2.2.2.2.2.2.2.2.2.2.2.2.2.2.2.2.2.2.2.2.2.2.2
theorem k0_dev190_lt : ∀ (v21 : BitVec 32) (k0_hw2 : k0_chk2 v21), (k0_dev190 v21) < nD := fun v21 k0_hw2 => k0_hw2.2.2.2.1.1
theorem k0_dev195_lt : ∀ (v21 : BitVec 32) (k0_hw2 : k0_chk2 v21), (k0_dev195 v21) < nD := fun v21 k0_hw2 => k0_hw2.2.2.2.1.2.1
theorem k0_dev196_lt : ∀ (v21 : BitVec 32) (k0_hw2 : k0_chk2 v21), (k0_dev196 v21) < nD := fun v21 k0_hw2 => k0_hw2.2.2.2.1.2.2.1
theorem k0_dev197_lt : ∀ (v21 : BitVec 32) (k0_hw2 : k0_chk2 v21), (k0_dev197 v21) < nD := fun v21 k0_hw2 => k0_hw2.2.2.2.1.2.2.2.1
theorem k0_dev198_lt : ∀ (v21 : BitVec 32) (k0_hw2 : k0_chk2 v21), (k0_dev198 v21) < nD := fun v21 k0_hw2 => k0_hw2.2.2.2.1.2.2.2.2.1
theorem k0_dev203_lt : ∀ (v21 : BitVec 32) (k0_hw2 : k0_chk2 v21), (k0_dev203 v21) < nD := fun v21 k0_hw2 => k0_hw2.2.2.2.1.2.2.2.2.2.1
theorem k0_dev205_lt : ∀ (v21 : BitVec 32) (k0_hw2 : k0_chk2 v21), (k0_dev205 v21) < nD := fun v21 k0_hw2 => k0_hw2.2.2.2.1.2.2.2.2.2.2.1
theorem k0_dev207_lt : ∀ (v21 : BitVec 32) (k0_hw2 : k0_chk2 v21), (k0_dev207 v21) < nD := fun v21 k0_hw2 => k0_hw2.2.2.2.1.2.2.2.2.2.2.2.1
theorem k0_dev209_lt : ∀ (v21 : BitVec 32) (k0_hw2 : k0_chk2 v21), (k0_dev209 v21) < nD := fun v21 k0_hw2 => k0_hw2.2.2.2.1.2.2.2.2.2.2.2.2.1
theorem k0_dev212_lt : ∀ (v21 : BitVec 32) (k0_hw2 : k0_chk2 v21) (k0_t2 : Fin k0_t2_loop.trips), ∀ (k0_h5 : k0_cond5 k0_t2 = 1#1), (k0_dev212 v21) < nD := fun v21 k0_hw2 k0_t2 k0_h5 => k0_hw2.2.2.2.1.2.2.2.2.2.2.2.2.2.1 k0_t2 k0_h5
theorem k0_dev214_lt : ∀ (v21 : BitVec 32) (k0_hw2 : k0_chk2 v21) (k0_t2 : Fin k0_t2_loop.trips), ∀ (k0_h6 : k0_cond6 k0_t2 = 1#1), (k0_dev214 v21) < nD := fun v21 k0_hw2 k0_t2 k0_h6 => k0_hw2.2.2.2.1.2.2.2.2.2.2.2.2.2.2.1 k0_t2 k0_h6
theorem k0_dev216_lt : ∀ (v21 : BitVec 32) (k0_hw2 : k0_chk2 v21) (k0_t2 : Fin k0_t2_loop.trips), ∀ (k0_h7 : k0_cond7 k0_t2 = 1#1), (k0_dev216 v21) < nD := fun v21 k0_hw2 k0_t2 k0_h7 => k0_hw2.2.2.2.1.2.2.2.2.2.2.2.2.2.2.2.1 k0_t2 k0_h7
theorem k0_dev218_lt : ∀ (v21 : BitVec 32) (k0_hw2 : k0_chk2 v21) (k0_t2 : Fin k0_t2_loop.trips), ∀ (k0_h8 : k0_cond8 k0_t2 = 1#1), (k0_dev218 v21) < nD := fun v21 k0_hw2 k0_t2 k0_h8 => k0_hw2.2.2.2.1.2.2.2.2.2.2.2.2.2.2.2.2.1 k0_t2 k0_h8
theorem k0_dev219_lt : ∀ (v21 : BitVec 32) (k0_hw2 : k0_chk2 v21), (k0_dev219 v21) < nD := fun v21 k0_hw2 => k0_hw2.2.2.2.1.2.2.2.2.2.2.2.2.2.2.2.2.2.1
theorem k0_dev221_lt : ∀ (v21 : BitVec 32) (k0_hw2 : k0_chk2 v21), (k0_dev221 v21) < nD := fun v21 k0_hw2 => k0_hw2.2.2.2.1.2.2.2.2.2.2.2.2.2.2.2.2.2.2.1
theorem k0_dev223_lt : ∀ (v21 : BitVec 32) (k0_hw2 : k0_chk2 v21), (k0_dev223 v21) < nD := fun v21 k0_hw2 => k0_hw2.2.2.2.1.2.2.2.2.2.2.2.2.2.2.2.2.2.2.2.1
theorem k0_dev225_lt : ∀ (v21 : BitVec 32) (k0_hw2 : k0_chk2 v21), (k0_dev225 v21) < nD := fun v21 k0_hw2 => k0_hw2.2.2.2.1.2.2.2.2.2.2.2.2.2.2.2.2.2.2.2.2.1
theorem k0_dev228_lt : ∀ (v21 : BitVec 32) (k0_hw2 : k0_chk2 v21) (k0_t2 : Fin k0_t2_loop.trips), ∀ (k0_h13 : k0_cond13 k0_t2 = 1#1), (k0_dev228 v21) < nD := fun v21 k0_hw2 k0_t2 k0_h13 => k0_hw2.2.2.2.1.2.2.2.2.2.2.2.2.2.2.2.2.2.2.2.2.2.1 k0_t2 k0_h13
theorem k0_dev230_lt : ∀ (v21 : BitVec 32) (k0_hw2 : k0_chk2 v21) (k0_t2 : Fin k0_t2_loop.trips), ∀ (k0_h14 : k0_cond14 k0_t2 = 1#1), (k0_dev230 v21) < nD := fun v21 k0_hw2 k0_t2 k0_h14 => k0_hw2.2.2.2.1.2.2.2.2.2.2.2.2.2.2.2.2.2.2.2.2.2.2.1 k0_t2 k0_h14
theorem k0_dev232_lt : ∀ (v21 : BitVec 32) (k0_hw2 : k0_chk2 v21) (k0_t2 : Fin k0_t2_loop.trips), ∀ (k0_h15 : k0_cond15 k0_t2 = 1#1), (k0_dev232 v21) < nD := fun v21 k0_hw2 k0_t2 k0_h15 => k0_hw2.2.2.2.1.2.2.2.2.2.2.2.2.2.2.2.2.2.2.2.2.2.2.2.1 k0_t2 k0_h15
theorem k0_dev234_lt : ∀ (v21 : BitVec 32) (k0_hw2 : k0_chk2 v21) (k0_t2 : Fin k0_t2_loop.trips), ∀ (k0_h16 : k0_cond16 k0_t2 = 1#1), (k0_dev234 v21) < nD := fun v21 k0_hw2 k0_t2 k0_h16 => k0_hw2.2.2.2.1.2.2.2.2.2.2.2.2.2.2.2.2.2.2.2.2.2.2.2.2.1 k0_t2 k0_h16
theorem k0_dev235_lt : ∀ (v21 : BitVec 32) (k0_hw2 : k0_chk2 v21), (k0_dev235 v21) < nD := fun v21 k0_hw2 => k0_hw2.2.2.2.1.2.2.2.2.2.2.2.2.2.2.2.2.2.2.2.2.2.2.2.2.2.1
theorem k0_dev237_lt : ∀ (v21 : BitVec 32) (k0_hw2 : k0_chk2 v21), (k0_dev237 v21) < nD := fun v21 k0_hw2 => k0_hw2.2.2.2.1.2.2.2.2.2.2.2.2.2.2.2.2.2.2.2.2.2.2.2.2.2.2.1
theorem k0_dev239_lt : ∀ (v21 : BitVec 32) (k0_hw2 : k0_chk2 v21), (k0_dev239 v21) < nD := fun v21 k0_hw2 => k0_hw2.2.2.2.1.2.2.2.2.2.2.2.2.2.2.2.2.2.2.2.2.2.2.2.2.2.2.2.1
theorem k0_dev241_lt : ∀ (v21 : BitVec 32) (k0_hw2 : k0_chk2 v21), (k0_dev241 v21) < nD := fun v21 k0_hw2 => k0_hw2.2.2.2.1.2.2.2.2.2.2.2.2.2.2.2.2.2.2.2.2.2.2.2.2.2.2.2.2.1
theorem k0_dev244_lt : ∀ (v21 : BitVec 32) (k0_hw2 : k0_chk2 v21) (k0_t2 : Fin k0_t2_loop.trips), ∀ (k0_h21 : k0_cond21 k0_t2 = 1#1), (k0_dev244 v21) < nD := fun v21 k0_hw2 k0_t2 k0_h21 => k0_hw2.2.2.2.1.2.2.2.2.2.2.2.2.2.2.2.2.2.2.2.2.2.2.2.2.2.2.2.2.2.1 k0_t2 k0_h21
theorem k0_dev246_lt : ∀ (v21 : BitVec 32) (k0_hw2 : k0_chk2 v21) (k0_t2 : Fin k0_t2_loop.trips), ∀ (k0_h22 : k0_cond22 k0_t2 = 1#1), (k0_dev246 v21) < nD := fun v21 k0_hw2 k0_t2 k0_h22 => k0_hw2.2.2.2.1.2.2.2.2.2.2.2.2.2.2.2.2.2.2.2.2.2.2.2.2.2.2.2.2.2.2.1 k0_t2 k0_h22
theorem k0_dev248_lt : ∀ (v21 : BitVec 32) (k0_hw2 : k0_chk2 v21) (k0_t2 : Fin k0_t2_loop.trips), ∀ (k0_h23 : k0_cond23 k0_t2 = 1#1), (k0_dev248 v21) < nD := fun v21 k0_hw2 k0_t2 k0_h23 => k0_hw2.2.2.2.1.2.2.2.2.2.2.2.2.2.2.2.2.2.2.2.2.2.2.2.2.2.2.2.2.2.2.2.1 k0_t2 k0_h23
theorem k0_dev250_lt : ∀ (v21 : BitVec 32) (k0_hw2 : k0_chk2 v21) (k0_t2 : Fin k0_t2_loop.trips), ∀ (k0_h24 : k0_cond24 k0_t2 = 1#1), (k0_dev250 v21) < nD := fun v21 k0_hw2 k0_t2 k0_h24 => k0_hw2.2.2.2.1.2.2.2.2.2.2.2.2.2.2.2.2.2.2.2.2.2.2.2.2.2.2.2.2.2.2.2.2.1 k0_t2 k0_h24
theorem k0_dev251_lt : ∀ (v21 : BitVec 32) (k0_hw2 : k0_chk2 v21), (k0_dev251 v21) < nD := fun v21 k0_hw2 => k0_hw2.2.2.2.1.2.2.2.2.2.2.2.2.2.2.2.2.2.2.2.2.2.2.2.2.2.2.2.2.2.2.2.2.2.1
theorem k0_dev253_lt : ∀ (v21 : BitVec 32) (k0_hw2 : k0_chk2 v21), (k0_dev253 v21) < nD := fun v21 k0_hw2 => k0_hw2.2.2.2.1.2.2.2.2.2.2.2.2.2.2.2.2.2.2.2.2.2.2.2.2.2.2.2.2.2.2.2.2.2.2.1
theorem k0_dev255_lt : ∀ (v21 : BitVec 32) (k0_hw2 : k0_chk2 v21), (k0_dev255 v21) < nD := fun v21 k0_hw2 => k0_hw2.2.2.2.1.2.2.2.2.2.2.2.2.2.2.2.2.2.2.2.2.2.2.2.2.2.2.2.2.2.2.2.2.2.2.2
theorem k0_dev257_lt : ∀ (v21 : BitVec 32) (k0_hw2 : k0_chk2 v21), (k0_dev257 v21) < nD := fun v21 k0_hw2 => k0_hw2.2.2.2.2.1
theorem k0_dev260_lt : ∀ (v21 : BitVec 32) (k0_hw2 : k0_chk2 v21) (k0_t2 : Fin k0_t2_loop.trips), ∀ (k0_h29 : k0_cond29 k0_t2 = 1#1), (k0_dev260 v21) < nD := fun v21 k0_hw2 k0_t2 k0_h29 => k0_hw2.2.2.2.2.2.1 k0_t2 k0_h29
theorem k0_dev262_lt : ∀ (v21 : BitVec 32) (k0_hw2 : k0_chk2 v21) (k0_t2 : Fin k0_t2_loop.trips), ∀ (k0_h30 : k0_cond30 k0_t2 = 1#1), (k0_dev262 v21) < nD := fun v21 k0_hw2 k0_t2 k0_h30 => k0_hw2.2.2.2.2.2.2.1 k0_t2 k0_h30
theorem k0_dev264_lt : ∀ (v21 : BitVec 32) (k0_hw2 : k0_chk2 v21) (k0_t2 : Fin k0_t2_loop.trips), ∀ (k0_h31 : k0_cond31 k0_t2 = 1#1), (k0_dev264 v21) < nD := fun v21 k0_hw2 k0_t2 k0_h31 => k0_hw2.2.2.2.2.2.2.2.1 k0_t2 k0_h31
theorem k0_dev266_lt : ∀ (v21 : BitVec 32) (k0_hw2 : k0_chk2 v21) (k0_t2 : Fin k0_t2_loop.trips), ∀ (k0_h32 : k0_cond32 k0_t2 = 1#1), (k0_dev266 v21) < nD := fun v21 k0_hw2 k0_t2 k0_h32 => k0_hw2.2.2.2.2.2.2.2.2 k0_t2 k0_h32

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Steps.lean ====
/-
  The kernel's body restated as what one device does, step by step, over eight streams: the entry (neighbour
  barrier, the two chunks the first messages need, the first messages, the whole local product), one step of the
  reduce-scatter, one step of the all-gather, the end. Every step is a function of the stream and of the step's
  slots, so that it is reasoned about once; `Body.lean` shows that the printed text is these steps in order.
-/
module

public import proofs.«01_k».proof.Proof.Gen.KernelIdeal.Skeleton

@[expose] public section

noncomputable section

namespace Cert.KernelIdeal.Allreduce

open Idealize.ShloMosaic Idealize.ShloMosaic.TcCoe Idealize.SL.Sem
open Cert.KernelIdeal.Gen

variable {F : FTy → Type} [FloatOps F]

abbrev TC (F : FTy → Type) [FloatOps F] := TpuEff nD τ sig (Elt F) Λ₀ .tc

/-! ## The operands -/

abbrev aX : Memref sig .tc .vmem S4096x128 .bf16 := Memref.whole cc0_stg0_0
abbrev aW : Memref sig .tc .vmem S128x2048 .bf16 := Memref.whole cc0_stg1_0
abbrev aT : Memref sig .tc .vmem S3x128 .i32 := Memref.whole cc0_stg2_0
abbrev aO : Memref sig .tc .vmem S4096x2048 .bf16 := Memref.whole cc0_stg3_0
abbrev aS : Memref sig .tc .vmem S8x2x16x2048 .bf16 := Memref.whole cc0_scratch0
abbrev aR : Memref sig .tc .vmem S8x4x16x2048 .bf16 := Memref.whole cc0_scratch1

theorem inbS : ∀ (j : Fin 8) (k : Fin 2), ∀ a, (![j.val, k.val, 0, 0] : Fin 4 → Nat) a + S1x1x16x2048.size a ≤ S8x2x16x2048.size a := by decide
theorem inbR : ∀ (j : Fin 8) (k : Fin 4), ∀ a, (![j.val, k.val, 0, 0] : Fin 4 → Nat) a + S1x1x16x2048.size a ≤ S8x4x16x2048.size a := by decide
theorem inbSS : ∀ (j : Fin 8) (k : Fin 2), ∀ a, (![j.val, k.val] : Fin 2 → Nat) a + S1x1.size a ≤ S8x2.size a := by decide
theorem inbRS : ∀ (j : Fin 8) (k : Fin 4), ∀ a, (![j.val, k.val] : Fin 2 → Nat) a + S1x1.size a ≤ S8x4.size a := by decide
theorem inbTS : ∀ (j : Fin 8), ∀ a, (![j.val] : Fin 1 → Nat) a + S1.size a ≤ S8.size a := by decide
theorem inbO0 : ∀ (j : Fin 8), ∀ a, (![16 * j.val, 0] : Fin 2 → Nat) a + S16x2048.size a ≤ S4096x2048.size a := by decide

/-- The rectangle of send slot `k` of stream `j`. -/
abbrev rectS (j : Fin 8) (k : Fin 2) : Rect S8x2x16x2048 := Rect.unit (s := S8x2x16x2048) ![j.val, k.val, 0, 0] S1x1x16x2048.size (inbS j k)
/-- The rectangle of receive slot `k` of stream `j`. -/
abbrev rectR (j : Fin 8) (k : Fin 4) : Rect S8x4x16x2048 := Rect.unit (s := S8x4x16x2048) ![j.val, k.val, 0, 0] S1x1x16x2048.size (inbR j k)

/-- Send slot `k` of stream `j`. -/
abbrev slotS (j : Fin 8) (k : Fin 2) : Memref sig .tc .vmem S16x2048 .bf16 := (aS.slice (rectS j k) (fun _ => rfl)).squeeze S16x2048 Facts₀.squeezes_S1x1x16x2048_S16x2048
/-- Receive slot `k` of stream `j`. -/
abbrev slotR (j : Fin 8) (k : Fin 4) : Memref sig .tc .vmem S16x2048 .bf16 := (aR.slice (rectR j k) (fun _ => rfl)).squeeze S16x2048 Facts₀.squeezes_S1x1x16x2048_S16x2048

/-- The send semaphore of slot `k` of stream `j`, the receive semaphore, the store semaphore, the credit semaphore. -/
abbrev semS (j : Fin 8) (k : Fin 2) : DmaSem sig := ((cc0_scratch2.slice (Rect.unit (s := S8x2) ![j.val, k.val] S1x1.size (inbSS j k))).squeeze S_ Facts₀.squeezes_S1x1_S_).sem
abbrev semR (j : Fin 8) (k : Fin 4) : DmaSem sig := ((cc0_scratch3.slice (Rect.unit (s := S8x4) ![j.val, k.val] S1x1.size (inbRS j k))).squeeze S_ Facts₀.squeezes_S1x1_S_).sem
abbrev semT (j : Fin 8) : DmaSem sig := ((cc0_scratch4.slice (Rect.unit (s := S8) ![j.val] S1.size (inbTS j))).squeeze S_ Facts₀.squeezes_S1_S_).sem
theorem hcredit : ∀ j : Fin 8, j.val + S_.numel ≤ 9 := by decide
abbrev semC (j : Fin 8) : Sem sig := (SemArray.consecutive j.val S_ (hcredit j) : Sems sig S_).sem

theorem wordsS : ∀ (j : Fin 8) (k : Fin 2), (rectS j k).WholeWords (EltTy.packing .bf16) := by decide
theorem wordsR : ∀ (j : Fin 8) (k : Fin 4), (rectR j k).WholeWords (EltTy.packing .bf16) := by decide
theorem packedS : ∀ (j : Fin 8) (k : Fin 2), (rectS j k).PackedRows (EltTy.packing .bf16) := by decide

/-! ## Rows of the output -/

/-- The first row of sixteen rows of the output. -/
abbrev Row16 : Type := {r : Nat // 16 ∣ r ∧ r + 16 ≤ 4096}
/-- The first row of a chunk of 128 rows. -/
abbrev Row128 : Type := {r : Nat // 128 ∣ r ∧ r + 128 ≤ 4096}

theorem row16_inb (r : Row16) : ∀ a, (![r.1, 0] : Fin 2 → Nat) a + S16x2048.size a ≤ S4096x2048.size a := by
  obtain ⟨r, h1, h2⟩ := r
  intro a; fin_cases a
  · exact h2
  · exact (by decide : 0 + 2048 ≤ 2048)
theorem row128_inb (r : Row128) : ∀ a, (![r.1, 0] : Fin 2 → Nat) a + S128x2048.size a ≤ S4096x2048.size a := by
  obtain ⟨r, h1, h2⟩ := r
  intro a; fin_cases a
  · exact h2
  · exact (by decide : 0 + 2048 ≤ 2048)
theorem row128_inbX (r : Row128) : ∀ a, (![r.1, 0] : Fin 2 → Nat) a + S128x128.size a ≤ S4096x128.size a := by
  obtain ⟨r, h1, h2⟩ := r
  intro a; fin_cases a
  · exact h2
  · exact (by decide : 0 + 128 ≤ 128)

/-- Sixteen rows of the output. -/
abbrev rectO (r : Row16) : Rect S4096x2048 := Rect.unit (s := S4096x2048) ![r.1, 0] S16x2048.size (row16_inb r)
/-- A chunk of the output. -/
abbrev rectOC (r : Row128) : Rect S4096x2048 := Rect.unit (s := S4096x2048) ![r.1, 0] S128x2048.size (row128_inb r)
/-- A chunk of the first operand's rows. -/
abbrev rectXC (r : Row128) : Rect S4096x128 := Rect.unit (s := S4096x128) ![r.1, 0] S128x128.size (row128_inbX r)

theorem rank2 : 2 ≤ S4096x2048.rank := by decide
theorem packedO (r : Row16) : (rectO r).PackedRows (EltTy.packing .bf16) := by
  refine .inr ⟨rank2, rfl, .inl ⟨?_, ?_⟩⟩
  · exact (Nat.dvd_trans (by decide) r.2.1 : 2 ∣ r.1)
  · exact (by decide : 2 ∣ 16)
theorem packedOC (r : Row128) : (rectOC r).PackedRows (EltTy.packing .bf16) := by
  refine .inr ⟨rank2, rfl, .inl ⟨?_, ?_⟩⟩
  · exact (Nat.dvd_trans (by decide) r.2.1 : 2 ∣ r.1)
  · exact (by decide : 2 ∣ 128)

/-! ## Words of rows -/

/-- A stream's place on its ring as a word: the forward streams' own, the backward streams' mirrored. -/
abbrev posW (v12 : BitVec 32) (j : Fin 8) : BitVec 32 := cond (Nat.blt j.val 4) v12 (Scalar.remsi (Scalar.subi 32#32 v12) 32#32)
/-- The word of the row a reduce-scatter step reads: chunk `pos - s - 1`, rows of stream `j`. -/
abbrev wordRS (v12 sw : BitVec 32) (j : Fin 8) : BitVec 32 :=
  Scalar.addi (Scalar.muli (Scalar.remsi (Scalar.addi (Scalar.subi (Scalar.subi (posW v12 j) sw) 1#32) 64#32) 32#32) 128#32) (BitVec.ofNat 32 (16 * j.val))
/-- The word of the row an all-gather step writes: chunk `pos - t`, rows of stream `j`. -/
abbrev wordAG (v12 tw : BitVec 32) (j : Fin 8) : BitVec 32 :=
  Scalar.addi (Scalar.muli (Scalar.remsi (Scalar.addi (Scalar.subi (Scalar.subi (Scalar.remsi (Scalar.addi (posW v12 j) 1#32) 32#32) tw) 1#32) 64#32) 32#32) 128#32) (BitVec.ofNat 32 (16 * j.val))
/-- The word of the row the first message takes. -/
abbrev wordFS (v12 : BitVec 32) (j : Fin 8) : BitVec 32 := Scalar.addi (Scalar.muli (posW v12 j) 128#32) (BitVec.ofNat 32 (16 * j.val))

set_option maxRecDepth 65536 in
theorem posW_nat : ∀ (p : Fin 32) (j : Fin 8), (posW (BitVec.ofNat 32 p.val) j).toNat = if j.val < 4 then p.val else (32 - p.val) % 32 := by decide

set_option maxRecDepth 65536 in
theorem remW_nat : ∀ p s : Fin 32, (Scalar.remsi (Scalar.addi (Scalar.subi (Scalar.subi (BitVec.ofNat 32 p.val) (BitVec.ofNat 32 s.val)) 1#32) 64#32) 32#32).toNat = (p.val + 31 - s.val) % 32 := by decide

set_option maxRecDepth 65536 in
theorem ownW_nat : ∀ p : Fin 32, (Scalar.remsi (Scalar.addi (BitVec.ofNat 32 p.val) 1#32) 32#32).toNat = (p.val + 1) % 32 := by decide

theorem ofNat_toNat_fin {w : BitVec 32} (h : w.toNat < 32) : w = BitVec.ofNat 32 (⟨w.toNat, h⟩ : Fin 32).val := by simp

/-- A chunk number and a stream as a row of the output. -/
def rowOf (k : Nat) (j : Fin 8) : Nat := 128 * (k % 32) + 16 * j.val

theorem rowOf_ok (k : Nat) (j : Fin 8) : 16 ∣ rowOf k j ∧ rowOf k j + 16 ≤ 4096 := by
  unfold rowOf
  have := j.isLt
  have h2 : k % 32 < 32 := Nat.mod_lt _ (by decide)
  exact ⟨by omega, by omega⟩

theorem wordMul_nat {a : BitVec 32} (h : a.toNat < 32) (j : Fin 8) : (Scalar.addi (Scalar.muli a 128#32) (BitVec.ofNat 32 (16 * j.val))).toNat = rowOf a.toNat j := by
  have := j.isLt
  show (a * 128#32 + BitVec.ofNat 32 (16 * j.val)).toNat = _
  rw [BitVec.toNat_add, BitVec.toNat_mul, BitVec.toNat_ofNat, BitVec.toNat_ofNat]
  unfold rowOf
  omega

/-- A stream's place on its ring. -/
def posN (p : Nat) (j : Fin 8) : Nat := if j.val < 4 then p else (32 - p) % 32

theorem wordRS_nat (p s : Fin 32) (j : Fin 8) : (wordRS (BitVec.ofNat 32 p.val) (BitVec.ofNat 32 s.val) j).toNat = rowOf (posN p.val j + 31 - s.val) j := by
  have hp := posW_nat p j
  have hq : (if j.val < 4 then p.val else (32 - p.val) % 32) < 32 := by split <;> omega
  have hw : (posW (BitVec.ofNat 32 p.val) j).toNat < 32 := hp ▸ hq
  have h1 := remW_nat ⟨_, hw⟩ s
  rw [← ofNat_toNat_fin hw] at h1
  have hlt := lt_of_eq_of_lt h1 (Nat.mod_lt _ (by decide))
  refine (wordMul_nat hlt j).trans ?_
  rw [h1]
  unfold rowOf posN
  rw [← hp, Nat.mod_mod]

theorem wordAG_nat (p t : Fin 32) (j : Fin 8) : (wordAG (BitVec.ofNat 32 p.val) (BitVec.ofNat 32 t.val) j).toNat = rowOf (posN p.val j + 32 - t.val) j := by
  have hp := posW_nat p j
  have hq : (if j.val < 4 then p.val else (32 - p.val) % 32) < 32 := by split <;> omega
  have hw : (posW (BitVec.ofNat 32 p.val) j).toNat < 32 := hp ▸ hq
  have h0 := ownW_nat ⟨_, hw⟩
  rw [← ofNat_toNat_fin hw] at h0
  have hw0 := lt_of_eq_of_lt h0 (Nat.mod_lt _ (by decide))
  have h1 := remW_nat ⟨_, hw0⟩ t
  rw [← ofNat_toNat_fin hw0] at h1
  have hlt := lt_of_eq_of_lt h1 (Nat.mod_lt _ (by decide))
  refine (wordMul_nat hlt j).trans ?_
  rw [h1]
  unfold rowOf posN
  rw [← hp]
  simp only [h0]
  have := t.isLt
  congr 2
  omega

theorem wordFS_nat (p : Fin 32) (j : Fin 8) : (wordFS (BitVec.ofNat 32 p.val) j).toNat = rowOf (posN p.val j) j := by
  have hp := posW_nat p j
  have hq : (if j.val < 4 then p.val else (32 - p.val) % 32) < 32 := by split <;> omega
  refine (wordMul_nat (hp ▸ hq) j).trans ?_
  rw [hp]; rfl

/-- The row a reduce-scatter step reads, by the step's word. -/
abbrev rowRS (p : Fin 32) (sw : BitVec 32) (hs : sw.toNat < 32) (j : Fin 8) : Row16 :=
  ⟨(Scalar.indexCast (wordRS (BitVec.ofNat 32 p.val) sw j)).toNat, by
    rw [ofNat_toNat_fin hs]; exact (wordRS_nat p ⟨_, hs⟩ j) ▸ rowOf_ok _ j⟩
/-- The row an all-gather step writes, by the step's word. -/
abbrev rowAG (p : Fin 32) (tw : BitVec 32) (ht : tw.toNat < 32) (j : Fin 8) : Row16 :=
  ⟨(wordAG (BitVec.ofNat 32 p.val) tw j).toNat, by
    rw [ofNat_toNat_fin ht]; exact (wordAG_nat p ⟨_, ht⟩ j) ▸ rowOf_ok _ j⟩
/-- The row the first message takes. -/
abbrev rowFS (p : Fin 32) (j : Fin 8) : Row16 :=
  ⟨(Scalar.indexCast (wordFS (BitVec.ofNat 32 p.val) j)).toNat, (wordFS_nat p j) ▸ rowOf_ok _ j⟩

theorem chunkW_nat : ∀ p : Fin 32, 128 ∣ (Scalar.muli (BitVec.ofNat 32 p.val) 128#32).toNat ∧ (Scalar.muli (BitVec.ofNat 32 p.val) 128#32).toNat + 128 ≤ 4096 := by decide
theorem chunkWB_nat : ∀ p : Fin 32, 128 ∣ (Scalar.muli (Scalar.remsi (Scalar.subi 32#32 (BitVec.ofNat 32 p.val)) 32#32) 128#32).toNat ∧ (Scalar.muli (Scalar.remsi (Scalar.subi 32#32 (BitVec.ofNat 32 p.val)) 32#32) 128#32).toNat + 128 ≤ 4096 := by decide
/-- The chunk the forward streams' first messages take. -/
abbrev rowCF (p : Fin 32) : Row128 := ⟨(Scalar.indexCast (Scalar.muli (BitVec.ofNat 32 p.val) 128#32)).toNat, chunkW_nat p⟩
/-- The chunk the backward streams' first messages take. -/
abbrev rowCB (p : Fin 32) : Row128 := ⟨(Scalar.indexCast (Scalar.muli (Scalar.remsi (Scalar.subi 32#32 (BitVec.ofNat 32 p.val)) 32#32) 128#32)).toNat, chunkWB_nat p⟩

/-! ## The steps -/

/-- The neighbour a stream's messages go to, and the one its credits go to. -/
abbrev sndTo (dR dL : Dev nD) (j : Fin 8) : Dev nD := cond (Nat.blt j.val 4) dR dL
abbrev crdTo (dR dL : Dev nD) (j : Fin 8) : Dev nD := cond (Nat.blt j.val 4) dL dR

abbrev wholeS : aS.IsWhole := Memref.isWhole_whole _
abbrev wholeR : aR.IsWhole := Memref.isWhole_whole _
abbrev wholeO : aO.IsWhole := Memref.isWhole_whole _

theorem wexS (j : Fin 8) (k : Fin 2) : (slotS j k).view.WordExact := (wholeS.wordExact_slice rfl _ (wordsS j k)).reshape _ _
theorem wexR (j : Fin 8) (k : Fin 4) : (slotR j k).view.WordExact := (wholeR.wordExact_slice rfl _ (wordsR j k)).reshape _ _

/-- Sixteen rows of the output as a view. -/
abbrev rowsO (r : Row16) : Memref sig .tc .vmem S16x2048 .bf16 := aO.slice (rectO r) (fun _ => rfl)
theorem wexO (r : Row16) : (rowsO r).view.WordExact := wholeO.wordExact_slice rfl _ (packedO r).wholeWords

/-- Wait for a message to have come into receive slot `k`. -/
def waitRecv (j : Fin 8) (k : Fin 4) : Prog (TC F) PUnit := Prog.lift (.waitDma2 (semR j k) (slotS j 0) (slotR j k) (wexS j 0) (wexR j k))
/-- Wait for a message to have left through send semaphore `k`. -/
def waitSend (j : Fin 8) (k : Fin 2) : Prog (TC F) PUnit := Prog.lift (.waitDma2 (semS j k) (slotR j 0) (slotS j 0) (wexR j 0) (wexS j 0))
/-- Wait for the copy of a received block into the output. -/
def waitStore (j : Fin 8) : Prog (TC F) PUnit := Prog.lift (.waitDma2 (semT j) (slotR j 0) (rowsO ⟨16 * j.val, ⟨_, rfl⟩, by have := j.isLt; omega⟩) (wexR j 0) (wexO _))
/-- Wait for a credit. -/
def waitCredit (j : Fin 8) : Prog (TC F) PUnit := semWaitWord (semC j) 1#32
/-- Give a credit. -/
def giveCredit (dR dL : Dev nD) (j : Fin 8) : Prog (TC F) PUnit := semSignalWord (crdTo dR dL j) (semC j) 1#32
/-- Send slot `k2`'s contents into the neighbour's receive slot `k4`. -/
def sendS (dR dL : Dev nD) (j : Fin 8) (k2 : Fin 2) (k4 : Fin 4) : Prog (TC F) PUnit :=
  Prog.lift (.enqueueDma (slotS j k2) (.remote (Dev.tc (sndTo dR dL j)) (slotR j k4) (.dma (semS j k2))) (.dma (semR j k4)) (wexS j k2) (wexR j k4) ⟨⟨rfl, Or.inl rfl⟩, trivial⟩)
/-- Pass receive slot `k`'s contents on into the neighbour's receive slot `k4`. -/
def sendR (dR dL : Dev nD) (j : Fin 8) (k : Fin 4) (k2 : Fin 2) (k4 : Fin 4) : Prog (TC F) PUnit :=
  Prog.lift (.enqueueDma (slotR j k) (.remote (Dev.tc (sndTo dR dL j)) (slotR j k4) (.dma (semS j k2))) (.dma (semR j k4)) (wexR j k) (wexR j k4) ⟨⟨rfl, Or.inl rfl⟩, trivial⟩)
/-- Copy receive slot `k` into sixteen rows of the output. -/
def startStore (j : Fin 8) (k : Fin 4) (r : Row16) : Prog (TC F) PUnit :=
  Prog.lift (.enqueueDma (slotR j k) (.here (rowsO r)) (.dma (semT j)) (wexR j k) (wexO r) ⟨Or.inl rfl, trivial⟩)

/-- Load sixteen rows of the output, a receive slot, a send slot; store a send slot, sixteen rows of the output. -/
def loadO (r : Row16) : Prog (TC F) (Vec F S16x2048 .bf16) := Prog.lift (.load aO (rectO r).toLoadRect (View.loadsAt_vmem Facts₀.h_S16x2048))
def loadR (j : Fin 8) (k : Fin 4) : Prog (TC F) (Vec F S1x1x16x2048 .bf16) := Prog.lift (.load aR (rectR j k).toLoadRect (View.loadsAt_vmem Facts₀.h_S1x1x16x2048))
def loadS (j : Fin 8) (k : Fin 2) : Prog (TC F) (Vec F S1x1x16x2048 .bf16) := Prog.lift (.load aS (rectS j k).toLoadRect (View.loadsAt_vmem Facts₀.h_S1x1x16x2048))
def storeS (j : Fin 8) (k : Fin 2) (v : FVec F S1x1x16x2048 .bf16) : Prog (TC F) PUnit :=
  Prog.lift (.store aS (rectS j k) v Finset.univ (View.stores_vmem Facts₀.h_S1x1x16x2048 (wholeS.storeExact_slice rfl _ (packedS j k)) (fun _ => rfl)) (.inl rfl))
def storeO (r : Row16) (v : FVec F S16x2048 .bf16) : Prog (TC F) PUnit :=
  Prog.lift (.store aO (rectO r) v Finset.univ (View.stores_vmem Facts₀.h_S16x2048 (wholeO.storeExact_slice rfl _ (packedO r)) (fun _ => rfl)) (.inl rfl))

/-- One step of the reduce-scatter on one stream: wait for the message, add it to this device's own block and send the sum on. -/
def rsStep (dR dL : Dev nD) (cw wp : Bool) (k : Fin 4) (k2 : Fin 2) (k4 : Fin 4) (row : Fin 8 → Row16) (j : Fin 8) : Prog (TC F) PUnit := do
  waitRecv j k
  cond wp (waitSend j k2) (pure ⟨⟩)
  let a ← loadO (row j)
  let b ← loadR j k
  let _ ← loadS j k2
  storeS j k2 (k0_pay1 a b)
  cond cw (waitCredit j) (pure ⟨⟩)
  sendS dR dL j k2 k4
  giveCredit dR dL j

/-- The last step of the reduce-scatter on one stream: the sum is complete; its activation is kept and sent. -/
def rsLast (dR dL : Dev nD) (row : Fin 8 → Row16) (j : Fin 8) : Prog (TC F) PUnit := do
  waitRecv j 2
  waitSend j 1
  let a ← loadO (row j)
  let b ← loadR j 2
  let _ ← loadO (row j)
  storeO (row j) (k0_pay129 a b)
  let _ ← loadS j 1
  storeS j 1 (k0_pay130 a b)
  waitCredit j
  sendS dR dL j 1 3
  giveCredit dR dL j

/-- One step of the all-gather on one stream: wait for a block, pass it on, copy it into the output. -/
def agStep (dR dL : Dev nD) (fw ws : Bool) (sg : Bool) (k : Fin 4) (k2 : Fin 2) (k4 : Fin 4) (row : Fin 8 → Row16) (j : Fin 8) : Prog (TC F) PUnit := do
  waitRecv j k
  waitSend j k2
  cond fw (do waitCredit j; sendR dR dL j k k2 k4) (pure ⟨⟩)
  cond ws (waitStore j) (pure ⟨⟩)
  startStore j k (row j)
  cond sg (giveCredit dR dL j) (pure ⟨⟩)

/-- The first message of a stream. -/
def firstSend (dR dL : Dev nD) (row : Fin 8 → Row16) (j : Fin 8) : Prog (TC F) PUnit := do
  let a ← loadO (row j)
  let _ ← loadS j 0
  storeS j 0 (k0_pay47 a)
  sendS dR dL j 0 0

/-- The end of a stream: the last copy into the output has landed, the last message has left. -/
def lastWaits (j : Fin 8) : Prog (TC F) PUnit := do
  waitStore j
  waitSend j 1

/-- A program for every stream, in order. -/
def forJ (f : Fin 8 → Prog (TC F) PUnit) : Prog (TC F) PUnit := do
  f 0; f 1; f 2; f 3; f 4; f 5; f 6; f 7

/-- The word of reduce-scatter loop trip `t`'s step `c`. -/
abbrev rsWord (t : Fin k0_t1_loop.trips) (c : BitVec 32) : BitVec 32 := Scalar.addi (Scalar.muli 4#32 (Scf.iv 1#32 1#32 t)) c
/-- The word of all-gather loop trip `t`'s step `c`. -/
abbrev agWord (t : Fin k0_t2_loop.trips) (c : BitVec 32) : BitVec 32 := Scalar.addi (Scalar.addi 2#32 (Scalar.muli 4#32 (Scf.iv 0#32 1#32 t))) c
theorem rsWord_nat : ∀ (t : Fin k0_t1_loop.trips) (c : Fin 4), (rsWord t (BitVec.ofNat 32 c.val)).toNat = 4 * (t.val + 1) + c.val := by decide
theorem agWord_nat : ∀ (t : Fin k0_t2_loop.trips) (c : Fin 4), (agWord t (BitVec.ofNat 32 c.val)).toNat = 2 + 4 * t.val + c.val := by decide
theorem rsWord_lt : ∀ (t : Fin k0_t1_loop.trips) (c : Fin 4), (rsWord t (BitVec.ofNat 32 c.val)).toNat < 32 := by decide
theorem agWord_lt : ∀ (t : Fin k0_t2_loop.trips) (c : Fin 4), (agWord t (BitVec.ofNat 32 c.val)).toNat < 32 := by decide

/-- One trip of the reduce-scatter loop. -/
def rsBody (dR dL : Dev nD) (p : Fin 32) (t : Fin k0_t1_loop.trips) (_ : Unit) : Prog (TC F) Unit := do
  forJ (rsStep dR dL true true 0 1 1 (rowRS p (rsWord t 0#32) (rsWord_lt t 0)))
  forJ (rsStep dR dL true true 1 0 2 (rowRS p (rsWord t 1#32) (rsWord_lt t 1)))
  forJ (rsStep dR dL true true 2 1 3 (rowRS p (rsWord t 2#32) (rsWord_lt t 2)))
  forJ (rsStep dR dL true true 3 0 0 (rowRS p (rsWord t 3#32) (rsWord_lt t 3)))
  pure ⟨⟩

/-- One trip of the all-gather loop: the last steps give no credit. -/
def agBody (dR dL : Dev nD) (p : Fin 32) (t : Fin k0_t2_loop.trips) (_ : Unit) : Prog (TC F) Unit := do
  forJ (agStep dR dL true true (Nat.ble (2 + 4 * t.val) 28) 1 0 2 (rowAG p (agWord t 0#32) (agWord_lt t 0)))
  forJ (agStep dR dL true true (Nat.ble (3 + 4 * t.val) 28) 2 1 3 (rowAG p (agWord t 1#32) (agWord_lt t 1)))
  forJ (agStep dR dL true true (Nat.ble (4 + 4 * t.val) 28) 3 0 0 (rowAG p (agWord t 2#32) (agWord_lt t 2)))
  forJ (agStep dR dL true true (Nat.ble (5 + 4 * t.val) 28) 0 1 1 (rowAG p (agWord t 3#32) (agWord_lt t 3)))
  pure ⟨⟩

/-- The entry: both neighbours are told that this device is there, and it waits for both; then the two chunks of the
    local product that the first messages take. The second operand is kept. -/
def front (dR dL : Dev nD) (p : Fin 32) : Prog (TC F) (FVec F S128x2048 .bf16) := do
  semSignalWord dL (SemArray.scalar (sig.barrier 0 rfl) : Sems sig S_).sem 1#32
  semSignalWord dR (SemArray.scalar (sig.barrier 0 rfl) : Sems sig S_).sem 1#32
  semWaitWord (SemArray.scalar (sig.barrier 0 rfl) : Sems sig S_).sem 2#32
  let w ← Prog.lift (.load aW (Rect.unit (s := S128x2048) ![0, 0] S128x2048.size Facts₀.inb_S128x2048_S128x2048_0_0).toLoadRect (View.loadsAt_vmem Facts₀.h_S128x2048))
  let x ← Prog.lift (.load aX (rectXC (rowCF p)).toLoadRect (View.loadsAt_vmem Facts₀.h_S128x128))
  let _ ← Prog.lift (.load aO (rectOC (rowCF p)).toLoadRect (View.loadsAt_vmem Facts₀.h_S128x2048))
  Prog.lift (.store aO (rectOC (rowCF p)) (k0_pay45 w x) Finset.univ (View.stores_vmem Facts₀.h_S128x2048 (wholeO.storeExact_slice rfl _ (packedOC (rowCF p))) (fun _ => rfl)) (.inl rfl))
  let y ← Prog.lift (.load aX (rectXC (rowCB p)).toLoadRect (View.loadsAt_vmem Facts₀.h_S128x128))
  let _ ← Prog.lift (.load aO (rectOC (rowCB p)).toLoadRect (View.loadsAt_vmem Facts₀.h_S128x2048))
  Prog.lift (.store aO (rectOC (rowCB p)) (k0_pay46 (k0_pay44 w) y) Finset.univ (View.stores_vmem Facts₀.h_S128x2048 (wholeO.storeExact_slice rfl _ (packedOC (rowCB p))) (fun _ => rfl)) (.inl rfl))
  pure (k0_pay44 w)

/-- The whole local product, written over the output. -/
def gemm (w : FVec F S128x2048 .bf16) : Prog (TC F) PUnit := do
  let x ← Prog.lift (.load aX (Rect.unit (s := S4096x128) ![0, 0] S4096x128.size Facts₀.inb_S4096x128_S4096x128_0_0).toLoadRect (View.loadsAt_vmem Facts₀.h_S4096x128))
  let _ ← Prog.lift (.load aO (Rect.unit (s := S4096x2048) ![0, 0] S4096x2048.size Facts₀.inb_S4096x2048_S4096x2048_0_0).toLoadRect (View.loadsAt_vmem Facts₀.h_S4096x2048))
  Prog.lift (.store aO (Rect.unit (s := S4096x2048) ![0, 0] S4096x2048.size Facts₀.inb_S4096x2048_S4096x2048_0_0) (k0_pay56 w x) Finset.univ (View.stores_vmem Facts₀.h_S4096x2048 (wholeO.storeExact_slice rfl _ Facts₀.packedbf16_S4096x2048_S4096x2048_0_0) (fun _ => rfl)) (.inl rfl))

/-- What a device does once it knows its place and its neighbours. -/
def rest (dR dL : Dev nD) (p : Fin 32) : Prog (TC F) PUnit := do
  let w ← front dR dL p
  forJ (firstSend dR dL (rowFS p))
  gemm w
  forJ (rsStep dR dL false false 0 1 1 (rowRS p 0#32 (by decide)))
  forJ (rsStep dR dL false true 1 0 2 (rowRS p 1#32 (by decide)))
  forJ (rsStep dR dL false true 2 1 3 (rowRS p 2#32 (by decide)))
  forJ (rsStep dR dL true true 3 0 0 (rowRS p 3#32 (by decide)))
  Scf.Loop.for k0_t1_loop Facts₀.k0_t1_ok ⟨⟩ (rsBody dR dL p)
  forJ (rsStep dR dL true true 0 1 1 (rowRS p 28#32 (by decide)))
  forJ (rsStep dR dL true true 1 0 2 (rowRS p 29#32 (by decide)))
  forJ (rsLast dR dL (rowRS p 30#32 (by decide)))
  forJ (agStep dR dL true false false 3 0 0 (rowAG p 0#32 (by decide)))
  forJ (agStep dR dL true true false 0 1 1 (rowAG p 1#32 (by decide)))
  Scf.Loop.for k0_t2_loop Facts₀.k0_t2_ok ⟨⟩ (agBody dR dL p)
  forJ (agStep dR dL false true false 1 0 0 (rowAG p 30#32 (by decide)))
  forJ lastWaits

end Cert.KernelIdeal.Allreduce
-- ==== Proof.Protocol.lean ====
/-
  The protocol of the kernel's eight streams: who a device's neighbours are, which message travels when and what it
  holds, and what every semaphore's rounds deliver.

  On each stream a device receives messages 0, 1, …, 61 from the device before it and sends messages 0, …, 61 to the
  device after it; message `n` lands in receive slot `n % 4`. Messages 0 to 30 carry growing sums (the
  reduce-scatter), messages 31 to 61 finished blocks (the all-gather). A slot read is given back by a credit.
-/
module

public import proofs.«01_k».proof.Proof.Steps
public import Idealize.ShloMosaic.Lib.Pipeline.Kit
public import Idealize.ShloMosaic.Lib.Rounds
public import Idealize.ShloMosaic.Lib.Release
public import Idealize.ShloMosaic.Lib.VecWindow
public import Idealize.ShloMosaic.Lib.Exec.Context
public import Idealize.ShloMosaic.Lib.Tactic

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## The ring -/

/-- The device at a place of the ring. -/
def ringTab : Fin 32 → Dev nD := ![0, 1, 2, 3, 4, 5, 6, 7, 15, 14, 13, 12, 11, 10, 9, 17, 18, 19, 20, 21, 22, 23, 31, 30, 29, 28, 27, 26, 25, 24, 16, 8]
/-- The place of a device on the ring. -/
def posD : Dev nD → Fin 32 := ![0, 1, 2, 3, 4, 5, 6, 7, 31, 14, 13, 12, 11, 10, 9, 8, 30, 15, 16, 17, 18, 19, 20, 21, 29, 28, 27, 26, 25, 24, 23, 22]
/-- The next device on the ring, and the one before. -/
def nextD (c : Dev nD) : Dev nD := ringTab (posD c + 1)
def prevD (c : Dev nD) : Dev nD := ringTab (posD c + 31)

theorem prev_next : ∀ c, prevD (nextD c) = c := by decide
theorem next_prev : ∀ c, nextD (prevD c) = c := by decide

/-- The device a stream's messages go to, and the one they come from. -/
def snd (c : Dev nD) (j : Fin 8) : Dev nD := sndTo (nextD c) (prevD c) j
def up (c : Dev nD) (j : Fin 8) : Dev nD := crdTo (nextD c) (prevD c) j

theorem snd_up (c : Dev nD) (j : Fin 8) : snd (up c j) j = c := by
  unfold snd up sndTo crdTo; cases Nat.blt j.val 4
  · exact prev_next c
  · exact next_prev c
theorem up_snd (c : Dev nD) (j : Fin 8) : up (snd c j) j = c := by
  unfold snd up sndTo crdTo; cases Nat.blt j.val 4
  · exact next_prev c
  · exact prev_next c

theorem posN_up : ∀ (c : Dev nD) (j : Fin 8), (posN (posD (up c j)) j + 1) % 32 = posN (posD c) j := by decide

/-! ## What the devices hold and send -/

abbrev f4 (n : ℕ) : Fin 4 := ⟨n % 4, Nat.mod_lt _ (by decide)⟩
abbrev f2 (n : ℕ) : Fin 2 := ⟨n % 2, Nat.mod_lt _ (by decide)⟩

/-- The sixteen rows a stream handles at stage `t`. -/
def rowAt (c : Dev nD) (j : Fin 8) (t : ℕ) : Row16 := ⟨rowOf (posN (posD c) j + 32 - t) j, rowOf_ok _ _⟩

theorem numel_slot : S16x2048.numel = S1x1x16x2048.numel := Facts₀.squeezes_S1x1x16x2048_S16x2048.numel_eq
/-- A block as a slot holds it, and back. -/
def lift4 (v : FVec F S16x2048 .bf16) : FVec F S1x1x16x2048 .bf16 := fun z => v ((Shape.reshapeEquiv numel_slot).symm z)
def drop4 (v : FVec F S1x1x16x2048 .bf16) : FVec F S16x2048 .bf16 := fun y => v (Shape.reshapeEquiv numel_slot y)
theorem drop4_lift4 (v : FVec F S16x2048 .bf16) : drop4 (lift4 v) = v := by
  funext y; unfold drop4 lift4; rw [Equiv.symm_apply_apply]
theorem lift4_drop4 (v : FVec F S1x1x16x2048 .bf16) : lift4 (drop4 v) = v := by
  funext y; unfold drop4 lift4; show v (Shape.reshapeEquiv numel_slot ((Shape.reshapeEquiv numel_slot).symm y)) = v y; rw [Equiv.apply_symm_apply]

variable (X : Dev nD → Vec F S4096x128 .bf16) (Wt : Dev nD → Vec F S128x2048 .bf16)

/-- A device's local product. -/
def prodG (c : Dev nD) : Vec F S4096x2048 .bf16 := k0_pay56 (k0_pay44 (Wt c)) (X c)
/-- Its block at stage `t`. -/
def gRows (c : Dev nD) (j : Fin 8) (t : ℕ) : FVec F S16x2048 .bf16 := (rowsO (rowAt c j t)).view.read (Elt F) (prodG X Wt c)

theorem chunkRow_ok (p : Fin 32) (j : Fin 8) : 128 ∣ 128 * posN p.val j ∧ 128 * posN p.val j + 128 ≤ 4096 := by
  refine ⟨⟨_, rfl⟩, ?_⟩
  have : posN p.val j < 32 := by have := p.isLt; unfold posN; split <;> omega
  omega
/-- The rows of the first operand that a stream's first message takes. -/
def chunkRow (c : Dev nD) (j : Fin 8) : Row128 := ⟨128 * posN (posD c).val j, chunkRow_ok _ _⟩
/-- Their product, computed on its own. -/
def chunkV (c : Dev nD) (j : Fin 8) : FVec F S128x2048 .bf16 :=
  k0_pay46 (k0_pay44 (Wt c)) ((aX.slice (rectXC (chunkRow c j)) (fun _ => rfl)).view.read (Elt F) (X c))
/-- Stream `j`'s rows of it. -/
def firstV (c : Dev nD) (j : Fin 8) : FVec F S16x2048 .bf16 :=
  fun i => chunkV X Wt c j fun a => match a with
    | ⟨0, _⟩ => ⟨16 * j.val + (i 0).val, by have h := j.isLt; have h' : (i 0).val < 16 := (i 0).isLt; show _ < 128; omega⟩
    | ⟨1, _⟩ => i 1

/-- Message `n` as device `c` sends it on stream `j`. -/
def msg : ℕ → Dev nD → Fin 8 → FVec F S16x2048 .bf16
  | 0, c, j => drop4 (k0_pay47 (firstV X Wt c j))
  | n + 1, c, j =>
    if n < 30 then drop4 (k0_pay1 (gRows X Wt c j (n + 1)) (lift4 (msg n (up c j) j)))
    else if n = 30 then drop4 (k0_pay130 (gRows X Wt c j 31) (lift4 (msg n (up c j) j)))
    else msg n (up c j) j

/-- Message `n` as device `c` receives it. -/
abbrev got (n : ℕ) (c : Dev nD) (j : Fin 8) : FVec F S16x2048 .bf16 := msg X Wt n (up c j) j

theorem msg_rs {n : ℕ} (h : n < 30) (c : Dev nD) (j : Fin 8) :
    msg X Wt (n + 1) c j = drop4 (k0_pay1 (gRows X Wt c j (n + 1)) (lift4 (got X Wt n c j))) := if_pos h
theorem msg_last (c : Dev nD) (j : Fin 8) :
    msg X Wt 31 c j = drop4 (k0_pay130 (gRows X Wt c j 31) (lift4 (got X Wt 30 c j))) := rfl
theorem msg_ag {n : ℕ} (h : 30 < n) (c : Dev nD) (j : Fin 8) : msg X Wt (n + 1) c j = got X Wt n c j := by
  show (if n < 30 then _ else if n = 30 then _ else _) = _
  rw [if_neg (by omega), if_neg (by omega)]

/-- What a device's block ends up as. -/
def finV (c : Dev nD) (j : Fin 8) (t : ℕ) : FVec F S16x2048 .bf16 :=
  if t = 31 then k0_pay129 (gRows X Wt c j 31) (lift4 (got X Wt 30 c j)) else got X Wt (31 + t) c j

/-! ## The resource algebra -/

abbrev Key : Type := Dev nD × Fin 8 × Fin 4
abbrev UX : Type := URounds (GSem nD τ sig) ℕ × USlots Key
abbrev UU : Type := UR sig nD τ × UX

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ UX).trans embR
def ES : Emb (USlots Key) (MT nD τ sig ℕ (Elt F) ℕ UU ℕ) := (Emb.inr : Emb _ UX).trans embR
instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## Cells and points-tos -/

abbrev barS : Sem sig := (SemArray.scalar (sig.barrier 0 rfl) : Sems sig S_).sem
abbrev barCell (c : Dev nD) : GSem nD τ sig := ((c : Thread nD τ), .reg barS)
abbrev creditCell (c : Dev nD) (j : Fin 8) : GSem nD τ sig := ((c : Thread nD τ), .reg (semC j))
abbrev sendCell (c : Dev nD) (j : Fin 8) (k : Fin 2) : GSem nD τ sig := ((c : Thread nD τ), .dma (semS j k))
abbrev recvCell (c : Dev nD) (j : Fin 8) (k : Fin 4) : GSem nD τ sig := ((c : Thread nD τ), .dma (semR j k))
abbrev storeCell (c : Dev nD) (j : Fin 8) : GSem nD τ sig := ((c : Thread nD τ), .dma (semT j))

theorem semS_val : ∀ (j : Fin 8) (k : Fin 2), (semS j k).val = 4 + 2 * j.val + k.val := by decide
theorem semR_val : ∀ (j : Fin 8) (k : Fin 4), (semR j k).val = 20 + 4 * j.val + k.val := by decide
theorem semT_val : ∀ j : Fin 8, (semT j).val = 52 + j.val := by decide
theorem semC_val : ∀ j : Fin 8, (semC j).val = j.val := by decide
theorem barS_val : barS.val = 8 := by decide

/-- Sixteen rows' credit on a DMA semaphore. -/
def N16 : ℕ := (slotR 0 0).view.dmaCredit
theorem N16_pos : 0 < N16 := View.dmaCredit_pos _ (by decide)
theorem credR (j : Fin 8) (k : Fin 4) : (slotR j k).view.dmaCredit = N16 := rfl
theorem credS (j : Fin 8) (k : Fin 2) : (slotS j k).view.dmaCredit = N16 := rfl
theorem credO (r : Row16) : (rowsO r).view.dmaCredit = N16 := rfl

/-- A receive slot at what it holds, a send slot, sixteen rows of the output. -/
def holdR (c : Dev nD) (j : Fin 8) (k : Fin 4) (q : PosShare TreeShare) (v : FVec F S16x2048 .bf16) : sProp 𝕄 :=
  (slotR j k).view.loc (c : Thread nD τ) ↦[(slotR j k).view.set]{q} (slotR j k).view.rep v
def holdS (c : Dev nD) (j : Fin 8) (k : Fin 2) (v : FVec F S16x2048 .bf16) : sProp 𝕄 :=
  (slotS j k).view.loc (c : Thread nD τ) ↦[(slotS j k).view.set]{fullShare} (slotS j k).view.rep v
def holdO (c : Dev nD) (r : Row16) (v : FVec F S16x2048 .bf16) : sProp 𝕄 :=
  (rowsO r).view.loc (c : Thread nD τ) ↦[(rowsO r).view.set]{fullShare} (rowsO r).view.rep v
/-- Slots at contents not chosen. -/
def anyR (c : Dev nD) (j : Fin 8) (k : Fin 4) : sProp 𝕄 := slot ((slotR j k).view.loc (c : Thread nD τ)) (slotR j k).view.set
def anyS (c : Dev nD) (j : Fin 8) (k : Fin 2) : sProp 𝕄 := slot ((slotS j k).view.loc (c : Thread nD τ)) (slotS j k).view.set

instance (c : Dev nD) (j : Fin 8) (k : Fin 4) (q : PosShare TreeShare) (v : FVec F S16x2048 .bf16) : BI.Storable (upEmb : UEmb _ 𝕄) (holdR c j k q v) := by
  unfold holdR; infer_instance
instance (c : Dev nD) (r : Row16) (v : FVec F S16x2048 .bf16) : BI.Storable (upEmb : UEmb _ 𝕄) (holdO c r v) := by
  unfold holdO; infer_instance
instance (c : Dev nD) (j : Fin 8) (k : Fin 4) : BI.Storable (upEmb : UEmb _ 𝕄) (anyR (F := F) c j k) := by unfold anyR; infer_instance
instance (c : Dev nD) (j : Fin 8) (k : Fin 2) : BI.Storable (upEmb : UEmb _ 𝕄) (anyS (F := F) c j k) := by unfold anyS; infer_instance

/-! ## What is delivered -/

/-- Message `n` may be sent into device `d`'s slot: the slot has been given back often enough. -/
def free (d : Dev nD) (j : Fin 8) (n : ℕ) : sProp 𝕄 :=
  iprop(released ES (d, j, f4 n) (n / 4 + 1) ∗ reached ER (recvCell d j (f4 n)) (n / 4))
/-- The first `b + 4` messages may be sent. -/
def freed (d : Dev nD) (j : Fin 8) (b : ℕ) : sProp 𝕄 := bigSep (Finset.range (b + 4)) fun n => free d j n
/-- On every stream the first four messages may be sent, and credits given. -/
def freed0 (d : Dev nD) : sProp 𝕄 := bigSep Finset.univ fun j : Fin 8 => iprop(freed d j 0 ∗ reached ER (creditCell d j) 0)

instance (d : Dev nD) (j : Fin 8) (n : ℕ) : BI.Persistent (free (F := F) d j n) := by unfold free; infer_instance
instance (d : Dev nD) (j : Fin 8) (n : ℕ) : BI.Persistent (freed (F := F) d j n) := by unfold freed; infer_instance
instance (d : Dev nD) : BI.Persistent (freed0 (F := F) d) := by unfold freed0; infer_instance
instance (d : Dev nD) (j : Fin 8) (n : ℕ) : BI.Storable (upEmb : UEmb _ 𝕄) (free (F := F) d j n) := by unfold free; infer_instance
instance (d : Dev nD) (j : Fin 8) (n : ℕ) : BI.Storable (upEmb : UEmb _ 𝕄) (freed (F := F) d j n) := by unfold freed; infer_instance
instance (d : Dev nD) : BI.Storable (upEmb : UEmb _ 𝕄) (freed0 (F := F) d) := by unfold freed0; infer_instance

/-- What comes back when message `n` has left: the slot it was sent from. -/
def sendPay (c : Dev nD) (j : Fin 8) (n : ℕ) : sProp 𝕄 :=
  if n ≤ 31 then anyS c j (f2 n) else holdR c j (f4 (n - 1)) fullShare.left (got X Wt (n - 1) c j)
/-- What comes with message `n`: the slot it landed in. -/
def recvPay (c : Dev nD) (j : Fin 8) (n : ℕ) : sProp 𝕄 := holdR c j (f4 n) fullShare (got X Wt n c j)
/-- The share of a received block that is copied into the output at step `t` of the all-gather. -/
def storeQ (t : ℕ) : PosShare TreeShare := if t = 30 then fullShare else fullShare.right
/-- What comes when the copy into the output of step `t` of the all-gather has landed. -/
def storePay (c : Dev nD) (j : Fin 8) (t : ℕ) : sProp 𝕄 :=
  iprop(holdO c (rowAt c j t) (got X Wt (31 + t) c j) ∗ holdR c j (f4 (31 + t)) (storeQ t) (got X Wt (31 + t) c j))
/-- What comes with credit `i`. -/
def creditPay (c : Dev nD) (j : Fin 8) (i : ℕ) : sProp 𝕄 := freed (snd c j) j (i + 1)
/-- What comes with a neighbour's word that it is there. -/
def barPay (c : Dev nD) (d : ℕ) : sProp 𝕄 := if d = 0 then freed0 (nextD c) else freed0 (prevD c)

instance (c : Dev nD) (j : Fin 8) (n : ℕ) : BI.Storable (upEmb : UEmb _ 𝕄) (sendPay X Wt c j n) := by unfold sendPay; split <;> infer_instance
instance (c : Dev nD) (j : Fin 8) (n : ℕ) : BI.Storable (upEmb : UEmb _ 𝕄) (recvPay X Wt c j n) := by unfold recvPay; infer_instance
instance (c : Dev nD) (j : Fin 8) (n : ℕ) : BI.Storable (upEmb : UEmb _ 𝕄) (storePay X Wt c j n) := by unfold storePay; infer_instance
instance (c : Dev nD) (j : Fin 8) (n : ℕ) : BI.Storable (upEmb : UEmb _ 𝕄) (creditPay (F := F) c j n) := by unfold creditPay; infer_instance
instance (c : Dev nD) (n : ℕ) : BI.Storable (upEmb : UEmb _ 𝕄) (barPay (F := F) c n) := by unfold barPay; split <;> infer_instance

/-! ## The schedule -/

/-- The stream a number stands for. -/
abbrev strm (n : ℕ) : Fin 8 := ⟨n % 8, Nat.mod_lt _ (by decide)⟩

/-- The duties of a regular semaphore: the two neighbours' words, the 58 credits; of a DMA semaphore: a message or a copy
    a round. -/
def dutyR (s r : ℕ) : Finset ℕ := if r = 0 then (if s = 8 then Finset.range 2 else Finset.range 58) else ∅
def dutyD (s r : ℕ) : Finset ℕ :=
  if s < 4 then ∅ else if s < 20 then (if 2 * r + s % 2 < 62 then {0} else ∅) else if s < 52 then (if 4 * r + s % 4 < 62 then {0} else ∅)
  else if r < 31 then {0} else ∅
def payR (c : Dev nD) (s d : ℕ) : sProp 𝕄 := if s = 8 then barPay c d else creditPay c (strm s) d
def payD (c : Dev nD) (s r : ℕ) : sProp 𝕄 :=
  if s < 20 then sendPay X Wt c (strm ((s - 4) / 2)) (2 * r + s % 2)
  else if s < 52 then recvPay X Wt c (strm ((s - 20) / 4)) (4 * r + s % 4)
  else storePay X Wt c (strm (s - 52)) r

instance (c : Dev nD) (s d : ℕ) : BI.Storable (upEmb : UEmb _ 𝕄) (payR (F := F) c s d) := by unfold payR; split <;> infer_instance
instance (c : Dev nD) (s r : ℕ) : BI.Storable (upEmb : UEmb _ 𝕄) (payD X Wt c s r) := by unfold payD; (repeat' split) <;> infer_instance

/-- The whole schedule. -/
def rd : Rounds.Schedule (GSem nD τ sig) ℕ 𝕄 where
  duties g r := match g.2 with | .reg s => dutyR s.val r | .dma s => dutyD s.val r
  unitless _ := False
  amount g _ _ := match g.2 with | .reg _ => 1 | .dma _ => N16
  payload g r d := match g.2 with | .reg s => payR g.1.1 s.val d | .dma s => payD X Wt g.1.1 s.val r
  amount_pos g _ _ _ := by rcases g with ⟨_, s | s⟩; exacts [Nat.one_pos, N16_pos]

instance rd_storable (g : GSem nD τ sig) (r d : ℕ) : BI.Storable (upEmb : UEmb _ 𝕄) ((rd X Wt).payload g r d) := by
  rcases g with ⟨_, s | s⟩
  · show BI.Storable upEmb (payR _ _ _); infer_instance
  · show BI.Storable upEmb (payD _ _ _ _ _); infer_instance

section Sched
variable (c : Dev nD) (j : Fin 8)

theorem duties_bar : (rd X Wt).duties (barCell c) 0 = Finset.range 2 := rfl
theorem duties_credit : (rd X Wt).duties (creditCell c j) 0 = Finset.range 58 := by
  show dutyR (semC j).val 0 = _
  have := j.isLt
  unfold dutyR; rw [semC_val, if_pos rfl, if_neg (by omega)]
theorem duties_send {n : ℕ} (h : n < 62) : (rd X Wt).duties (sendCell c j (f2 n)) (n / 2) = {0} := by
  show dutyD (semS j (f2 n)).val _ = _
  have := j.isLt
  unfold dutyD; rw [semS_val, if_neg (by omega), if_pos (show 4 + 2 * j.val + n % 2 < 20 by omega), if_pos (show 2 * (n / 2) + (4 + 2 * j.val + n % 2) % 2 < 62 by omega)]
theorem duties_recv {n : ℕ} (h : n < 62) : (rd X Wt).duties (recvCell c j (f4 n)) (n / 4) = {0} := by
  show dutyD (semR j (f4 n)).val _ = _
  have := j.isLt
  unfold dutyD; rw [semR_val, if_neg (by omega), if_neg (by omega), if_pos (show 20 + 4 * j.val + n % 4 < 52 by omega), if_pos (show 4 * (n / 4) + (20 + 4 * j.val + n % 4) % 4 < 62 by omega)]
theorem duties_store {n : ℕ} (h : n < 31) : (rd X Wt).duties (storeCell c j) n = {0} := by
  show dutyD (semT j).val _ = _
  unfold dutyD; rw [semT_val, if_neg (by omega), if_neg (by omega), if_neg (by omega), if_pos h]

theorem expect_bar : (rd X Wt).expect (barCell c) 0 = 2 := by
  unfold Schedule.expect Schedule.amountOf; rw [duties_bar]; rfl
theorem expect_credit : (rd X Wt).expect (creditCell c j) 0 = 58 := by
  unfold Schedule.expect Schedule.amountOf; rw [duties_credit]
  show (∑ _d ∈ Finset.range 58, 1) = 58
  rw [Finset.sum_const, Finset.card_range]; rfl
theorem expect_send {n : ℕ} (h : n < 62) : (rd X Wt).expect (sendCell c j (f2 n)) (n / 2) = N16 := by
  unfold Schedule.expect Schedule.amountOf; rw [duties_send X Wt c j h, Finset.sum_singleton]; rfl
theorem expect_recv {n : ℕ} (h : n < 62) : (rd X Wt).expect (recvCell c j (f4 n)) (n / 4) = N16 := by
  unfold Schedule.expect Schedule.amountOf; rw [duties_recv X Wt c j h, Finset.sum_singleton]; rfl
theorem expect_store {n : ℕ} (h : n < 31) : (rd X Wt).expect (storeCell c j) n = N16 := by
  unfold Schedule.expect Schedule.amountOf; rw [duties_store X Wt c j h, Finset.sum_singleton]; rfl

theorem payload_bar (d : ℕ) : (rd X Wt).payload (barCell c) 0 d = barPay c d := rfl
theorem payload_credit (d : ℕ) : (rd X Wt).payload (creditCell c j) 0 d = creditPay c j d := by
  show payR c (semC j).val d = _
  have := j.isLt
  unfold payR; rw [semC_val, if_neg (by omega)]
  congr 1; exact Fin.ext (show j.val % 8 = j.val by omega)
theorem payload_send (n d : ℕ) : (rd X Wt).payload (sendCell c j (f2 n)) (n / 2) d = sendPay X Wt c j n := by
  show payD X Wt c (semS j (f2 n)).val (n / 2) = _
  have := j.isLt
  unfold payD; rw [semS_val, if_pos (show 4 + 2 * j.val + n % 2 < 20 by omega)]
  congr 1
  · exact Fin.ext (show (4 + 2 * j.val + n % 2 - 4) / 2 % 8 = j.val by omega)
  · show 2 * (n / 2) + (4 + 2 * j.val + n % 2) % 2 = n; omega
theorem payload_recv (n d : ℕ) : (rd X Wt).payload (recvCell c j (f4 n)) (n / 4) d = recvPay X Wt c j n := by
  show payD X Wt c (semR j (f4 n)).val (n / 4) = _
  have := j.isLt
  unfold payD; rw [semR_val, if_neg (by omega), if_pos (show 20 + 4 * j.val + n % 4 < 52 by omega)]
  congr 1
  · exact Fin.ext (show (20 + 4 * j.val + n % 4 - 20) / 4 % 8 = j.val by omega)
  · show 4 * (n / 4) + (20 + 4 * j.val + n % 4) % 4 = n; omega
theorem payload_store (n d : ℕ) : (rd X Wt).payload (storeCell c j) n d = storePay X Wt c j n := by
  show payD X Wt c (semT j).val n = _
  have := j.isLt
  unfold payD; rw [semT_val, if_neg (by omega), if_neg (by omega)]
  congr 1; exact Fin.ext (show (52 + j.val - 52) % 8 = j.val by omega)

theorem later_reg (c : Dev nD) (s : Sem sig) : ∀ r, 1 ≤ r → (rd X Wt).duties ((c : Thread nD τ), .reg s) r = ∅ := fun r hr => by
  show dutyR s.val r = ∅
  unfold dutyR; rw [if_neg (by omega)]
theorem later_send {n : ℕ} (h : 62 ≤ n) : ∀ r, n / 2 ≤ r → (rd X Wt).duties (sendCell c j (f2 n)) r = ∅ := fun r hr => by
  show dutyD (semS j (f2 n)).val _ = _
  have := j.isLt
  unfold dutyD; rw [semS_val, if_neg (by omega), if_pos (show 4 + 2 * j.val + n % 2 < 20 by omega), if_neg (show ¬ 2 * r + (4 + 2 * j.val + n % 2) % 2 < 62 by omega)]
theorem later_recv {n : ℕ} (h : 62 ≤ n) : ∀ r, n / 4 ≤ r → (rd X Wt).duties (recvCell c j (f4 n)) r = ∅ := fun r hr => by
  show dutyD (semR j (f4 n)).val _ = _
  have := j.isLt
  unfold dutyD; rw [semR_val, if_neg (by omega), if_neg (by omega), if_pos (show 20 + 4 * j.val + n % 4 < 52 by omega), if_neg (show ¬ 4 * r + (20 + 4 * j.val + n % 4) % 4 < 62 by omega)]
theorem later_store : ∀ r, 31 ≤ r → (rd X Wt).duties (storeCell c j) r = ∅ := fun r hr => by
  show dutyD (semT j).val _ = _
  unfold dutyD; rw [semT_val, if_neg (by omega), if_neg (by omega), if_neg (by omega), if_neg (by omega)]

end Sched

end Cert.KernelIdeal.Allreduce

end
-- ==== Proof.Micro.lean ====
/-
  What one stream of the kernel holds, and how each of its operations — a wait, a copy sent, a credit given, a load, a
  store — changes that.
-/
module

public import proofs.«01_k».proof.Proof.Protocol
public import Mathlib.Algebra.BigOperators.Intervals

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Levels -/

/-- The units a cell's credits may be counted at, and their levels. -/
def L (g : GSem nD τ sig) : Finset ℕ := if g.1.2 = .tc then Finset.range 200 else ∅
def lv (_ : GSem nD τ sig) (ι : ℕ) : ℕ := ι
theorem L_of_ne (g : GSem nD τ sig) (h : g.1.2 ≠ .tc) : L g = ∅ := if_neg h
theorem L_tc (c : Dev nD) (sm : SemLoc sig) : L ((c : Thread nD τ), sm) = Finset.range 200 := if_pos rfl

/-- Everything owed is owed above level `l`. -/
def Above (O : CellTallies nD τ sig ℕ) (l : ℕ) : Prop := ∀ g ι, 0 < O g ι → g.1.2 = .tc ∧ l < ι ∧ ι < 200

theorem Above.mono {O : CellTallies nD τ sig ℕ} {l l' : ℕ} (h : Above O l) (hl : l' ≤ l) : Above O l' :=
  fun g ι hg => ⟨(h g ι hg).1, lt_of_le_of_lt hl (h g ι hg).2.1, (h g ι hg).2.2⟩
theorem Above.zero (l : ℕ) : Above 0 l := fun _ _ h => absurd h (Nat.lt_irrefl 0)
theorem Above.add {O O' : CellTallies nD τ sig ℕ} {l : ℕ} (h : Above O l) (h' : Above O' l) : Above (O + O') l := fun g ι hg => by
  rcases Nat.eq_zero_or_pos (O g ι) with h0 | h0
  · refine h' g ι ?_
    have : 0 < O g ι + O' g ι := hg
    omega
  · exact h g ι h0
theorem Above.at (c : Dev nD) (sm : SemLoc sig) {l ι : ℕ} (N : ℕ) (h : l < ι) (h' : ι < 200) : Above (tallyAt ((c : Thread nD τ), sm) ι N) l := fun g u hg => by
  rw [tallyAt_apply] at hg
  by_cases he : g = ((c : Thread nD τ), sm) ∧ u = ι
  · rw [he.1, he.2]; exact ⟨rfl, h, h'⟩
  · rw [if_neg he] at hg; exact absurd hg (Nat.lt_irrefl 0)
theorem Above.sum {l : ℕ} {ι : Type} (s : Finset ι) (f : ι → CellTallies nD τ sig ℕ) (h : ∀ i ∈ s, Above (f i) l) : Above (∑ i ∈ s, f i) l :=
  Finset.sum_induction f (Above · l) (fun _ _ => Above.add) (Above.zero l) h

/-- What device `c` still owes on stream `j`: messages from `n` on, credits from `g` on. -/
def owedS (c : Dev nD) (j : Fin 8) (n g : ℕ) : CellTallies nD τ sig ℕ :=
  (∑ i ∈ Finset.Ico n 62, tallyAt (recvCell (snd c j) j (f4 i)) (2 * i + 3) N16) + ∑ i ∈ Finset.Ico g 58, tallyAt (creditCell (up c j) j) (2 * i + 8) 1

/-- Both kinds are owed above `l`. -/
def Ahead (l n g : ℕ) : Prop := ∀ i, (n ≤ i → i < 62 → l < 2 * i + 3) ∧ (g ≤ i → i < 58 → l < 2 * i + 8)

theorem owedS_above (c : Dev nD) (j : Fin 8) {l n g : ℕ} (h : Ahead l n g) : Above (owedS c j n g) l :=
  Above.add (Above.sum _ _ fun i hi => by
      have := Finset.mem_Ico.mp hi
      exact Above.at _ _ _ ((h i).1 this.1 this.2) (by omega))
    (Above.sum _ _ fun i hi => by
      have := Finset.mem_Ico.mp hi
      exact Above.at _ _ _ ((h i).2 this.1 this.2) (by omega))

theorem owedS_send (c : Dev nD) (j : Fin 8) {n : ℕ} (h : n < 62) (g : ℕ) :
    owedS c j n g = owedS c j (n + 1) g + tallyAt (recvCell (snd c j) j (f4 n)) (2 * n + 3) N16 := by
  unfold owedS; rw [Finset.sum_eq_sum_Ico_succ_bot h, add_comm (tallyAt _ _ _), add_right_comm]
theorem owedS_give (c : Dev nD) (j : Fin 8) (n : ℕ) {g : ℕ} (h : g < 58) :
    owedS c j n g = owedS c j n (g + 1) + tallyAt (creditCell (up c j) j) (2 * g + 8) 1 := by
  unfold owedS; rw [Finset.sum_eq_sum_Ico_succ_bot h, add_comm (tallyAt _ _ _), ← add_assoc]

/-! ## The cells -/

/-- A device's own semaphores of the protocol, all but the barrier: on every stream two for sending, four for receiving,
    one for copies into the output, one for credits. -/
def ownSem (i : Dev nD → Fin 64) (c : Dev nD) : SemLoc sig :=
  let j : Fin 8 := ⟨(i c).val / 8, by have := (i c).isLt; omega⟩
  let q := (i c).val % 8
  if q < 2 then .dma (semS j (f2 q)) else if q < 6 then .dma (semR j (f4 (q - 2))) else if q = 6 then .dma (semT j) else .reg (semC j)
abbrev osem (i : Fin 64) : SemLoc sig := ownSem (fun _ => i) 0

theorem osem_inj : Function.Injective osem := by decide
theorem osem_ne_bar : ∀ i, osem i ≠ .reg barS := by decide

def barEmb : Dev nD ↪ GSem nD τ sig := ⟨fun c => barCell c, fun _ _ h => congrArg (fun g : GSem nD τ sig => g.1.1) h⟩
def scEmb : Dev nD × Fin 64 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem disjoint_cells : Disjoint barCells scCells := by
  rw [Finset.disjoint_left]
  rintro g hb hs
  obtain ⟨c, -, rfl⟩ := Finset.mem_map.mp hb
  obtain ⟨ck, -, h⟩ := Finset.mem_map.mp hs
  exact osem_ne_bar ck.2 (congrArg Prod.snd h)

/-- Where a semaphore is in that list. -/
abbrev ixS (j : Fin 8) (k : Fin 2) : Fin 64 := ⟨8 * j.val + k.val, by omega⟩
abbrev ixR (j : Fin 8) (k : Fin 4) : Fin 64 := ⟨8 * j.val + 2 + k.val, by omega⟩
abbrev ixT (j : Fin 8) : Fin 64 := ⟨8 * j.val + 6, by omega⟩
abbrev ixC (j : Fin 8) : Fin 64 := ⟨8 * j.val + 7, by omega⟩
theorem osem_S : ∀ (j : Fin 8) (k : Fin 2), osem (ixS j k) = .dma (semS j k) := by decide
theorem osem_R : ∀ (j : Fin 8) (k : Fin 4), osem (ixR j k) = .dma (semR j k) := by decide
theorem osem_T : ∀ j : Fin 8, osem (ixT j) = .dma (semT j) := by decide
theorem osem_C : ∀ j : Fin 8, osem (ixC j) = .reg (semC j) := by decide

theorem own_mem (c : Dev nD) (i : Fin 64) : ((c : Thread nD τ), osem i) ∈ barCells ∪ scCells :=
  Finset.mem_union_right _ (Finset.mem_map_of_mem scEmb (Finset.mem_univ (c, i)))
theorem bar_mem (c : Dev nD) : barCell c ∈ barCells ∪ scCells := Finset.mem_union_left _ (Finset.mem_map_of_mem barEmb (Finset.mem_univ c))
theorem send_mem (c : Dev nD) (j : Fin 8) (k : Fin 2) : sendCell c j k ∈ barCells ∪ scCells := by
  have := own_mem c (ixS j k); rwa [osem_S] at this
theorem recv_mem (c : Dev nD) (j : Fin 8) (k : Fin 4) : recvCell c j k ∈ barCells ∪ scCells := by
  have := own_mem c (ixR j k); rwa [osem_R] at this
theorem store_mem (c : Dev nD) (j : Fin 8) : storeCell c j ∈ barCells ∪ scCells := by
  have := own_mem c (ixT j); rwa [osem_T] at this
theorem credit_mem (c : Dev nD) (j : Fin 8) : creditCell c j ∈ barCells ∪ scCells := by
  have := own_mem c (ixC j); rwa [osem_C] at this

variable (X : Dev nD → Vec F S4096x128 .bf16) (Wt : Dev nD → Vec F S128x2048 .bf16)

/-- What every device may consult at any time: the invariants of all cells and slots, and the levels. -/
def ctx (κ : GSem nD τ sig → ℕ) (ιs : Key → ℕ) : sProp 𝕄 :=
  iprop((bigSep (barCells ∪ scCells) fun g => cellInv ER (rd X Wt) (κ g) g)
    ∗ (bigSep Finset.univ fun k : Key => slotInv ES (ιs k) k (anyR k.1 k.2.1 k.2.2)) ∗ levAts L lv)
instance ctx_persistent (κ : GSem nD τ sig → ℕ) (ιs : Key → ℕ) : BI.Persistent (ctx X Wt κ ιs) := by unfold ctx; infer_instance

section Ctx
variable (κ : GSem nD τ sig → ℕ) (ιs : Key → ℕ)

theorem ctx_cell {g : GSem nD τ sig} (hg : g ∈ barCells ∪ scCells) : ctx X Wt κ ιs ⊢ cellInv ER (rd X Wt) (κ g) g := by
  unfold ctx
  have h : (bigSep (barCells ∪ scCells) fun g => (cellInv ER (rd X Wt) (κ g) g : sProp 𝕄)) ⊢ cellInv ER (rd X Wt) (κ g) g := bigSep_elim hg
  iintro ⟨H, -⟩
  iapply h; iexact H
theorem ctx_slot (c : Dev nD) (j : Fin 8) (k : Fin 4) : ctx X Wt κ ιs ⊢ slotInv ES (ιs (c, j, k)) (c, j, k) (anyR c j k) := by
  unfold ctx
  have h : (bigSep Finset.univ fun k : Key => (slotInv ES (ιs k) k (anyR k.1 k.2.1 k.2.2) : sProp 𝕄)) ⊢ slotInv ES (ιs (c, j, k)) (c, j, k) (anyR c j k) :=
    bigSep_elim (Finset.mem_univ (c, j, k))
  iintro ⟨-, H, -⟩
  iapply h; iexact H
theorem ctx_may (c : Dev nD) (sm : SemLoc sig) {ι : ℕ} {O : CellTallies nD τ sig ℕ} (hι : ι < 200) (hO : Above O ι) :
    ctx X Wt κ ιs ⊢ MayOwe (c : Thread nD τ) {(sm, ι)} O := by
  unfold ctx
  iintro ⟨-, -, H⟩
  iapply (MayOwe.of_cut (L := L) (lev := lv) ι
    (fun p hp => by rw [Finset.mem_singleton.mp hp, L_tc]; exact Finset.mem_range.mpr hι)
    (fun g u hg => by unfold L; rw [if_pos (hO g u hg).1]; exact Finset.mem_range.mpr (hO g u hg).2.2)
    (fun p hp => by rw [Finset.mem_singleton.mp hp]; exact le_rfl)
    (fun g u hg => (hO g u hg).2.1))
  iexact H

end Ctx

/-! ## What a stream holds -/

abbrev 𝒱₀ : Variants := Variants.none
/-- The weakest precondition of a piece of the kernel on a device. -/
abbrev wpc (c : Dev nD) {α : Type} (p : Prog (TC F) α) (Q : α → sProp 𝕄) : sProp 𝕄 := wp frame (wpE (defs₀ (F := F)) 𝒱₀ (c : Thread nD τ) none) Set.univ p Q

def owesX (c : Dev nD) (O : CellTallies nD τ sig ℕ) : sProp 𝕄 := iprop(∃ W, owes (c : Thread nD τ) O W)
def win4 (Φ : ℕ → sProp 𝕄) (m : ℕ) : sProp 𝕄 := iprop(Φ m ∗ Φ (m + 1) ∗ Φ (m + 2) ∗ Φ (m + 3))
def win2 (Φ : ℕ → sProp 𝕄) (m : ℕ) : sProp 𝕄 := iprop(Φ m ∗ Φ (m + 1))

section Pieces
variable (c : Dev nD) (j : Fin 8)

def recvP (n : ℕ) : sProp 𝕄 := atPos ER (recvCell c j (f4 n)) (n / 4) ∅ 0
def recvH (m : ℕ) : sProp 𝕄 := bigSep (Finset.range (m + 4)) fun n => reached ER (recvCell c j (f4 n)) (n / 4)
def sendP (n : ℕ) : sProp 𝕄 := iprop(atPos ER (sendCell c j (f2 n)) (n / 2) ∅ 0 ∗ reached ER (sendCell c j (f2 n)) (n / 2))
def readP (n : ℕ) : sProp 𝕄 := readerAt ES (c, j, f4 n) (n / 4 + 1)
def storeP (t : ℕ) : sProp 𝕄 := iprop(atPos ER (storeCell c j) t ∅ 0 ∗ reached ER (storeCell c j) t)
def creditP (k : ℕ) : sProp 𝕄 :=
  iprop(∃ (T : Finset ℕ) (b : ℕ), atPos ER (creditCell c j) 0 T k ∗ freed (snd c j) j b
    ∗ ⌜(∀ d ∈ T, d < b) ∧ k ≤ b ∧ T ⊆ Finset.range 58 ∧ k + (Finset.range 58 \ T).card ≤ 58⌝)
def sendTok (n : ℕ) : sProp 𝕄 :=
  iprop(dutyTok ER (sendCell c j (f2 n)) (n / 2) 0 ∗ dutyTok ER (recvCell (snd c j) j (f4 n)) (n / 4) 0 ∗ writeTok ES (snd c j, j, f4 n) (n / 4 + 1))
def creditTok (i : ℕ) : sProp 𝕄 := dutyTok ER (creditCell (up c j) j) 0 i
def storeTok (t : ℕ) : sProp 𝕄 := dutyTok ER (storeCell c j) t 0
def recvC (n : ℕ) : sProp 𝕄 := cred (tallyAt (recvCell c j (f4 n)) (2 * n + 3) N16)
def creditC (i : ℕ) : sProp 𝕄 := cred (tallyAt (creditCell c j) (2 * i + 8) 1)
def sendC (n : ℕ) : sProp 𝕄 := cred (tallyAt (sendCell c j (f2 n)) 0 N16)
def storeC : sProp 𝕄 := cred (tallyAt (storeCell c j) 0 N16)

/-- The protocol's share of stream `j` on device `c`: `m` messages have come, `n` have been sent, of which `s` have been seen to have
    left, `g` credits have been given and `r` come, `u` copies into the output have been started and `st` have landed. -/
def pieces (m n s g r st u : ℕ) : sProp 𝕄 :=
  iprop(win4 (recvP c j) m ∗ recvH c j m ∗ bigSep (Finset.Ico m 62) (recvC c j) ∗ bigSep (Finset.Ico n 62) (sendTok c j) ∗ win2 (sendP c j) s
    ∗ bigSep (Finset.Ico g 58) (creditTok c j) ∗ win4 (readP c j) g ∗ freed c j g ∗ reached ER (creditCell (up c j) j) 0
    ∗ bigSep (Finset.Ico r 58) (creditC c j) ∗ creditP c j r ∗ storeP c j st ∗ bigSep (Finset.Ico u 31) (storeTok c j))
/-- With what is owed. -/
def St (O : CellTallies nD τ sig ℕ) (m n s g r st u : ℕ) : sProp 𝕄 := iprop(pieces c j m n s g r st u ∗ owesX c (O + owedS c j n g))

theorem f4_add (n : ℕ) : f4 (n + 4) = f4 n := Fin.ext (Nat.add_mod_right n 4)
theorem f2_add (n : ℕ) : f2 (n + 2) = f2 n := Fin.ext (Nat.add_mod_right n 2)
theorem recvP_add (n : ℕ) : (recvP c j (n + 4) : sProp 𝕄) = atPos ER (recvCell c j (f4 n)) (n / 4 + 1) ∅ 0 := by
  unfold recvP; rw [f4_add, show (n + 4) / 4 = n / 4 + 1 by omega]
theorem sendP_add (n : ℕ) : (sendP c j (n + 2) : sProp 𝕄) = iprop(atPos ER (sendCell c j (f2 n)) (n / 2 + 1) ∅ 0 ∗ reached ER (sendCell c j (f2 n)) (n / 2 + 1)) := by
  unfold sendP; rw [f2_add, show (n + 2) / 2 = n / 2 + 1 by omega]
theorem readP_add (n : ℕ) : (readP c j (n + 4) : sProp 𝕄) = readerAt ES (c, j, f4 n) (n / 4 + 2) := by
  unfold readP; rw [f4_add, show (n + 4) / 4 = n / 4 + 1 by omega]

instance (n : ℕ) : BI.Persistent (recvH (F := F) c j n) := by unfold recvH; infer_instance

theorem recvH_at {m n : ℕ} (h : n < m + 4) : (recvH c j m : sProp 𝕄) ⊢ reached ER (recvCell c j (f4 n)) (n / 4) := by
  unfold recvH; exact bigSep_elim (Φ := fun n => (reached ER (recvCell c j (f4 n)) (n / 4) : sProp 𝕄)) (Finset.mem_range.mpr h)
theorem freed_at {b n : ℕ} (h : n < b + 4) : (freed c j b : sProp 𝕄) ⊢ free c j n := by
  unfold freed; exact bigSep_elim (Φ := fun n => (free c j n : sProp 𝕄)) (Finset.mem_range.mpr h)
theorem freed_mono {b b' : ℕ} (h : b' ≤ b) : (freed c j b : sProp 𝕄) ⊢ freed c j b' := by
  unfold freed; exact bigSep_subset (Finset.range_mono (by omega))
theorem range_snoc (Φ : ℕ → sProp 𝕄) (k : ℕ) : iprop(bigSep (Finset.range k) Φ ∗ Φ k) ⊢ bigSep (Finset.range (k + 1)) Φ := by
  have h : iprop(Φ k ∗ bigSep (Finset.range k) Φ) ⊢ bigSep (Finset.range (k + 1)) Φ :=
    Entails.of_eq (by rw [Finset.range_add_one, bigSep_insert Finset.notMem_range_self]; rfl)
  iintro ⟨A, B⟩; iapply h; isplitl [B] <;> iassumption
theorem freed_succ (b : ℕ) : iprop(freed c j b ∗ free c j (b + 4)) ⊢ (freed c j (b + 1) : sProp 𝕄) := by
  unfold freed; exact range_snoc (fun n => free c j n) (b + 4)
theorem recvH_succ (m : ℕ) : iprop(recvH c j m ∗ reached ER (recvCell c j (f4 (m + 4))) ((m + 4) / 4)) ⊢ (recvH c j (m + 1) : sProp 𝕄) := by
  unfold recvH; exact range_snoc (fun n => reached ER (recvCell c j (f4 n)) (n / 4)) (m + 4)

end Pieces

end Cert.KernelIdeal.Allreduce

end
-- ==== Proof.Ops.lean ====
/-
  Each operation of a stream: what it needs and what it leaves.
-/
module

public import proofs.«01_k».proof.Proof.Micro
public import Idealize.SL.BI.BigOpNat

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (X : Dev nD → Vec F S4096x128 .bf16) (Wt : Dev nD → Vec F S128x2048 .bf16)

/-! ## Loads and stores -/

section Mem
variable (c : Dev nD) (j : Fin 8)

theorem read_slotR (k : Fin 4) (v : FVec F S16x2048 .bf16) : (aR.access (rectR j k)).read (Elt F) ((slotR j k).view.rep v) = lift4 v := by
  have h : (slotR j k).view.read (Elt F) ((slotR j k).view.rep v) = v := View.read_rep _ _
  have h' : (slotR j k).view.read (Elt F) ((slotR j k).view.rep v) = drop4 ((aR.access (rectR j k)).read (Elt F) ((slotR j k).view.rep v)) := rfl
  rw [← lift4_drop4 ((aR.access (rectR j k)).read (Elt F) ((slotR j k).view.rep v)), ← h', h]

theorem wp_loadR (k : Fin 4) {q : PosShare TreeShare} {v : FVec F S16x2048 .bf16} {Φ : FVec F S1x1x16x2048 .bf16 → sProp 𝕄} :
    holdR c j k q v ⊢ iprop((holdR c j k q v -∗ Φ (lift4 v)) -∗ wpc c (loadR j k) Φ) := by
  unfold holdR loadR
  iintro H HΦ
  iapply (wp_load_rect 𝒱₀ (c : Thread nD τ) none Set.univ (m := aR) (r := rectR j k) (S := (slotR j k).view.set) (q := q) (f := (slotR j k).view.rep v)
    (subset_of_eq (View.set_reshape _ _).symm)) $$ [H]
  · iexact H
  rw [read_slotR]
  iintro H
  iapply le_wp_ret
  iapply HΦ; iexact H

theorem read_rowsO (r : Row16) (v : FVec F S16x2048 .bf16) : (rowsO r).view.read (Elt F) ((rowsO r).view.rep v) = v := View.read_rep _ _
theorem access_rowsO (r : Row16) (v : FVec F S16x2048 .bf16) : (aO.access (rectO r)).read (Elt F) ((rowsO r).view.rep v) = v := read_rowsO r v
theorem set_rowsO (r : Row16) : (aO.access (rectO r)).set = (rowsO r).view.set := rfl
theorem setOn_rowsO (r : Row16) : (aO.access (rectO r)).setOn Finset.univ ⊆ (rowsO r).view.set := subset_of_eq rfl
theorem write_rowsO (r : Row16) (f) (v : FVec F S16x2048 .bf16) :
    (rowsO r).view.read (Elt F) ((aO.access (rectO r)).write (Elt F) f v Finset.univ) = v := View.read_write_univ (v := (rowsO r).view) _ _
theorem write_slotS (k : Fin 2) (f) (v : FVec F S1x1x16x2048 .bf16) :
    (slotS j k).view.read (Elt F) ((aS.access (rectS j k)).write (Elt F) f v Finset.univ) = drop4 v := by
  have h' : (slotS j k).view.read (Elt F) ((aS.access (rectS j k)).write (Elt F) f v Finset.univ)
      = drop4 ((aS.access (rectS j k)).read (Elt F) ((aS.access (rectS j k)).write (Elt F) f v Finset.univ)) := rfl
  rw [View.read_write_univ] at h'
  exact h'

theorem wp_loadO (r : Row16) {v : FVec F S16x2048 .bf16} {Φ : FVec F S16x2048 .bf16 → sProp 𝕄} :
    holdO c r v ⊢ iprop((holdO c r v -∗ Φ v) -∗ wpc c (loadO r) Φ) := by
  unfold holdO loadO
  iintro H HΦ
  iapply (wp_load_rect 𝒱₀ (c : Thread nD τ) none Set.univ (m := aO) (r := rectO r) (S := (rowsO r).view.set) (q := fullShare) (f := (rowsO r).view.rep v)
    (subset_of_eq (set_rowsO r))) $$ [H]
  · iexact H
  rw [access_rowsO]
  iintro H
  iapply le_wp_ret
  iapply HΦ; iexact H

theorem wp_loadS (k : Fin 2) {Φ : FVec F S1x1x16x2048 .bf16 → sProp 𝕄} :
    anyS c j k ⊢ iprop((∀ x, anyS c j k -∗ Φ x) -∗ wpc c (loadS j k) Φ) := by
  unfold anyS slot loadS
  iintro ⟨%f, H⟩ HΦ
  iapply (wp_load_rect 𝒱₀ (c : Thread nD τ) none Set.univ (m := aS) (r := rectS j k) (S := (slotS j k).view.set) (q := fullShare) (f := f)
    (subset_of_eq (View.set_reshape _ _).symm)) $$ [H]
  · iexact H
  iintro H
  iapply le_wp_ret
  iapply HΦ; iexists f; iexact H

theorem wp_storeS (k : Fin 2) (v : FVec F S1x1x16x2048 .bf16) {Φ : PUnit → sProp 𝕄} :
    anyS c j k ⊢ iprop((holdS c j k (drop4 v) -∗ Φ ⟨⟩) -∗ wpc c (storeS j k v) Φ) := by
  unfold anyS slot storeS holdS
  iintro ⟨%f, H⟩ HΦ
  iapply (wp_store 𝒱₀ (c : Thread nD τ) none Set.univ (m := aS) (r := rectS j k) (w := v) (Mk := Finset.univ) (S := (slotS j k).view.set) (f := f)
    (subset_of_eq (View.set_reshape _ _).symm)) $$ [H]
  · iexact H
  iintro H
  iapply le_wp_ret
  iapply HΦ
  iapply (pointsTo_rep_of_read (c : Thread nD τ) (slotS j k) _ fullShare (drop4 v) (write_slotS j k f v))
  iexact H

theorem wp_storeO_any (r : Row16) (f : Buf (Elt F) ((aO.access (rectO r)).loc (c : Thread nD τ))) (w : FVec F S16x2048 .bf16) {Φ : PUnit → sProp 𝕄} :
    ((aO.access (rectO r)).loc (c : Thread nD τ) ↦[(rowsO r).view.set]{fullShare} f : sProp 𝕄)
      ⊢ iprop((((aO.access (rectO r)).loc (c : Thread nD τ) ↦[(rowsO r).view.set]{fullShare} ((aO.access (rectO r)).write (Elt F) f w Finset.univ)) -∗ Φ ⟨⟩)
        -∗ wpc c (storeO r w) Φ) := by
  unfold storeO
  iintro H HΦ
  iapply (wp_store 𝒱₀ (c : Thread nD τ) none Set.univ (m := aO) (r := rectO r) (w := w) (Mk := Finset.univ) (S := (rowsO r).view.set) (f := f)
    (setOn_rowsO r)) $$ [H]
  · iexact H
  iintro H
  iapply le_wp_ret
  iapply HΦ
  iexact H
theorem wp_storeO (r : Row16) {v : FVec F S16x2048 .bf16} (w : FVec F S16x2048 .bf16) {Φ : PUnit → sProp 𝕄} :
    holdO c r v ⊢ iprop((holdO c r w -∗ Φ ⟨⟩) -∗ wpc c (storeO r w) Φ) := by
  unfold holdO
  iintro H HΦ
  iapply (wp_storeO_any c r ((rowsO r).view.rep v) w) $$ [H]
  · iexact H
  iintro H
  iapply HΦ
  iapply (pointsTo_rep_of_read (c : Thread nD τ) (rowsO r) _ fullShare w (write_rowsO r _ w))
  iexact H

end Mem

/-! ## Windows -/

theorem win4_shift (Φ : ℕ → sProp 𝕄) (m : ℕ) : win4 Φ m ⊢ iprop(Φ m ∗ (Φ (m + 4) -∗ win4 Φ (m + 1))) := by
  unfold win4
  iintro ⟨A, B, C, D⟩
  isplitl [A]; · iexact A
  iintro E
  isplitl [B]; · iexact B
  isplitl [C]; · iexact C
  isplitl [D] <;> iassumption
theorem win2_shift (Φ : ℕ → sProp 𝕄) (m : ℕ) : win2 Φ m ⊢ iprop(Φ m ∗ (Φ (m + 2) -∗ win2 Φ (m + 1))) := by
  unfold win2
  iintro ⟨A, B⟩
  isplitl [A]; · iexact A
  iintro E
  isplitl [B] <;> iassumption
theorem Ico_head (Φ : ℕ → sProp 𝕄) {a b : ℕ} (h : a < b) : bigSep (Finset.Ico a b) Φ ⊢ iprop(Φ a ∗ bigSep (Finset.Ico (a + 1) b) Φ) :=
  Entails.of_eq (bigSep_Ico_succ_bot h Φ)
theorem single_elim (Φ : ℕ → sProp 𝕄) : bigSep ({0} \ ∅ : Finset ℕ) Φ ⊢ Φ 0 := by
  rw [Finset.sdiff_empty]; exact bigSep_elim (Finset.mem_singleton_self 0)

/-! ## Waits, copies, credits -/

section Talk
variable (κ : GSem nD τ sig → ℕ) (ιs : Key → ℕ) (c : Dev nD) (j : Fin 8)

theorem rest_recv {m : ℕ} (hm : m < 62) : bigSep ((rd X Wt).duties (recvCell c j (f4 m)) (m / 4) \ ∅) (fun d => (rd X Wt).payload (recvCell c j (f4 m)) (m / 4) d)
    ⊢ holdR c j (f4 m) fullShare (got X Wt m c j) := by
  rw [duties_recv X Wt c j hm]
  exact (single_elim _).trans (Entails.of_eq (payload_recv X Wt c j m 0))

theorem wp_recv {O : CellTallies nD τ sig ℕ} {m n s g r st u : ℕ} {Φ : PUnit → sProp 𝕄} {k : Fin 4} (hk : k = f4 m) (hm : m < 62)
    (hO : Above O (2 * m + 3)) (hA : Ahead (2 * m + 3) n g) :
    iprop(ctx X Wt κ ιs ∗ St c j O m n s g r st u)
      ⊢ iprop(((St c j O (m + 1) n s g r st u ∗ holdR c j (f4 m) fullShare (got X Wt m c j)) -∗ Φ ⟨⟩) -∗ wpc c (waitRecv j k) Φ) := by
  subst hk
  unfold St pieces owesX waitRecv
  iintro ⟨#Hctx, ⟨Hp, #Hh, Hc, R1, R2, R3, R4, R5, R6, R7, R8, R9, R10⟩, %W, HO⟩ HΦ
  ihave Hp := (win4_shift _ m) $$ Hp
  icases Hp with ⟨Hp, Hback⟩
  ihave Hc := (Ico_head _ hm) $$ Hc
  icases Hc with ⟨Hc, Hcs⟩
  iapply (Rounds.wp_wait_rest_token 𝒱₀ ER (rd X Wt) (c : Thread nD τ) none (κ := κ (recvCell c j (f4 m)))
      (wpE_waitDma2_eq 𝒱₀ (c : Thread nD τ) none Set.univ (hsrc := wexS j 0) (hdst := wexR j (f4 m))) (Set.mem_univ _) (2 * m + 3) (O := O + owedS c j n g) (W := W) (R := m / 4) (m := 0) (T := ∅)
      ((Nat.zero_add _).trans (expect_recv X Wt c j hm).symm)) $$ [Hc HO Hp]
  · isplitr; · iapply (ctx_cell X Wt κ ιs (recv_mem c j (f4 m))); iexact Hctx
    isplitl [Hc]; · unfold recvC; iexact Hc
    isplitl [HO]; · iexact HO
    isplitr; · iapply (ctx_may X Wt κ ιs c _ (by omega) (Above.add hO (owedS_above c j hA))); iexact Hctx
    unfold recvP; iexact Hp
  iintro ⟨HO, Hat, #Hr, Hpay⟩
  iapply le_wp_ret
  iapply HΦ
  isplitr [Hpay]
  · isplitr [HO]
    · isplitl [Hat Hback]; · iapply Hback; rw [recvP_add]; iexact Hat
      isplitr; · iapply (recvH_succ c j m); isplitr; · iexact Hh
                 rw [f4_add, show (m + 4) / 4 = m / 4 + 1 by omega]; iexact Hr
      isplitl [Hcs]; · iexact Hcs
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9] <;> iassumption
    iexists _; iexact HO
  ihave Hpay := (rest_recv X Wt c j hm) $$ Hpay
  iexact Hpay

theorem rest_send {n : ℕ} (hn : n < 62) : bigSep ((rd X Wt).duties (sendCell c j (f2 n)) (n / 2) \ ∅) (fun d => (rd X Wt).payload (sendCell c j (f2 n)) (n / 2) d)
    ⊢ sendPay X Wt c j n := by
  rw [duties_send X Wt c j hn]
  exact (single_elim _).trans (Entails.of_eq (payload_send X Wt c j n 0))
theorem rest_store {t : ℕ} (ht : t < 31) : bigSep ((rd X Wt).duties (storeCell c j) t \ ∅) (fun d => (rd X Wt).payload (storeCell c j) t d)
    ⊢ storePay X Wt c j t := by
  rw [duties_store X Wt c j ht]
  exact (single_elim _).trans (Entails.of_eq (payload_store X Wt c j t 0))

theorem wp_sent {O : CellTallies nD τ sig ℕ} {m n s g r st u : ℕ} {Φ : PUnit → sProp 𝕄} {k : Fin 2} (hk : k = f2 s) (hs : s < 62)
    (hO : Above O 0) (hA : Ahead 0 n g) :
    iprop(ctx X Wt κ ιs ∗ St c j O m n s g r st u ∗ sendC c j s)
      ⊢ iprop(((St c j O m n (s + 1) g r st u ∗ sendPay X Wt c j s) -∗ Φ ⟨⟩) -∗ wpc c (waitSend j k) Φ) := by
  subst hk
  unfold St pieces owesX waitSend
  iintro ⟨#Hctx, ⟨⟨R1, R2, R3, R4, Hp, R5, R6, R7, R8, R9, R10, R11, R12⟩, %W, HO⟩, Hc⟩ HΦ
  ihave Hp := (win2_shift _ s) $$ Hp
  icases Hp with ⟨Hp, Hback⟩
  unfold sendC
  ihave Hp := (show sendP c j s ⊢ iprop(atPos ER (sendCell c j (f2 s)) (s / 2) ∅ 0 ∗ reached ER (sendCell c j (f2 s)) (s / 2)) from by unfold sendP; exact BI.Entails.refl _) $$ Hp
  icases Hp with ⟨Hp, -⟩
  iapply (Rounds.wp_wait_rest_token 𝒱₀ ER (rd X Wt) (c : Thread nD τ) none (κ := κ (sendCell c j (f2 s)))
      (wpE_waitDma2_eq 𝒱₀ (c : Thread nD τ) none Set.univ (hsrc := wexR j 0) (hdst := wexS j (f2 s))) (Set.mem_univ _) 0 (O := O + owedS c j n g) (W := W) (R := s / 2) (m := 0) (T := ∅)
      ((Nat.zero_add _).trans (expect_send X Wt c j hs).symm)) $$ [Hc HO Hp]
  · isplitr; · iapply (ctx_cell X Wt κ ιs (send_mem c j (f2 s))); iexact Hctx
    isplitl [Hc]; · iexact Hc
    isplitl [HO]; · iexact HO
    isplitr; · iapply (ctx_may X Wt κ ιs c _ (by omega) (Above.add hO (owedS_above c j hA))); iexact Hctx
    iexact Hp
  iintro ⟨HO, Hat, #Hr, Hpay⟩
  iapply le_wp_ret
  iapply HΦ
  isplitr [Hpay]
  · isplitr [HO]
    · isplitl [R1]; · iexact R1
      isplitl [R2]; · iexact R2
      isplitl [R3]; · iexact R3
      isplitl [R4]; · iexact R4
      isplitl [Hat Hback]
      · iapply Hback; rw [sendP_add]; isplitl [Hat]; · iexact Hat
        iexact Hr
      isplitl [R5]; · iexact R5
      isplitl [R6]; · iexact R6
      isplitl [R7]; · iexact R7
      isplitl [R8]; · iexact R8
      isplitl [R9]; · iexact R9
      isplitl [R10]; · iexact R10
      isplitl [R11] <;> iassumption
    iexists _; iexact HO
  iapply (rest_send X Wt c j hs); iexact Hpay

theorem wp_stored {O : CellTallies nD τ sig ℕ} {m n s g r st u : ℕ} {Φ : PUnit → sProp 𝕄} (hs : st < 31)
    (hO : Above O 0) (hA : Ahead 0 n g) :
    iprop(ctx X Wt κ ιs ∗ St c j O m n s g r st u ∗ storeC c j)
      ⊢ iprop(((St c j O m n s g r (st + 1) u ∗ storePay X Wt c j st) -∗ Φ ⟨⟩) -∗ wpc c (waitStore j) Φ) := by
  unfold St pieces owesX waitStore
  iintro ⟨#Hctx, ⟨⟨R1, R2, R3, R4, R5, R6, R7, R8, R9, R10, R11, Hp, R12⟩, %W, HO⟩, Hc⟩ HΦ
  unfold storeC
  ihave Hp := (show storeP c j st ⊢ iprop(atPos ER (storeCell c j) st ∅ 0 ∗ reached ER (storeCell c j) st) from by unfold storeP; exact BI.Entails.refl _) $$ Hp
  icases Hp with ⟨Hp, -⟩
  iapply (Rounds.wp_wait_rest_token 𝒱₀ ER (rd X Wt) (c : Thread nD τ) none (κ := κ (storeCell c j))
      (wpE_waitDma2_eq 𝒱₀ (c : Thread nD τ) none Set.univ (hsrc := wexR j 0) (hdst := wexO _)) (Set.mem_univ _) 0 (O := O + owedS c j n g) (W := W) (R := st) (m := 0) (T := ∅)
      ((Nat.zero_add _).trans (expect_store X Wt c j hs).symm)) $$ [Hc HO Hp]
  · isplitr; · iapply (ctx_cell X Wt κ ιs (store_mem c j)); iexact Hctx
    isplitl [Hc]; · iexact Hc
    isplitl [HO]; · iexact HO
    isplitr; · iapply (ctx_may X Wt κ ιs c _ (by omega) (Above.add hO (owedS_above c j hA))); iexact Hctx
    iexact Hp
  iintro ⟨HO, Hat, #Hr, Hpay⟩
  iapply le_wp_ret
  iapply HΦ
  isplitr [Hpay]
  · isplitr [HO]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitr [R12]
      · unfold storeP; isplitl [Hat]; · iexact Hat
        iexact Hr
      iexact R12
    iexists _; iexact HO
  iapply (rest_store X Wt c j hs); iexact Hpay

/-- One more credit: the position, and what it lets be sent. -/
theorem creditP_step {T S : Finset ℕ} {k b : ℕ} (hT : (∀ d ∈ T, d < b) ∧ k ≤ b ∧ T ⊆ Finset.range 58 ∧ k + (Finset.range 58 \ T).card ≤ 58)
    (hS : T ⊆ S ∧ S ⊆ Finset.range 58 ∧ k + 1 + (Finset.range 58 \ S).card ≤ 58) :
    ∃ b', (∀ d ∈ S, d < b') ∧ k + 1 ≤ b' ∧ S ⊆ Finset.range 58 ∧ k + 1 + (Finset.range 58 \ S).card ≤ 58 ∧ (b' = b ∨ ∃ d ∈ S \ T, b' = d + 1) := by
  have hcard : (Finset.range 58 \ S).card = 58 - S.card := by rw [Finset.card_sdiff_of_subset hS.2.1, Finset.card_range]
  have hle : S.card ≤ 58 := by have := Finset.card_le_card hS.2.1; rwa [Finset.card_range] at this
  have key : ∀ b', (∀ d ∈ S, d < b') → k + 1 ≤ b' := fun b' h => by
    have : S.card ≤ b' := by
      have := Finset.card_le_card (show S ⊆ Finset.range b' from fun d hd => Finset.mem_range.mpr (h d hd))
      rwa [Finset.card_range] at this
    have h3 := hS.2.2
    omega
  by_cases hb : ∀ d ∈ S, d < b
  · exact ⟨b, hb, key b hb, hS.2.1, hS.2.2, Or.inl rfl⟩
  · push Not at hb
    obtain ⟨d, hd, hbd⟩ := hb
    obtain ⟨e, he, hmax⟩ := Finset.exists_max_image S id ⟨d, hd⟩
    have hlt : ∀ x ∈ S, x < e + 1 := fun x hx => Nat.lt_succ_of_le (hmax x hx)
    refine ⟨e + 1, hlt, key _ hlt, hS.2.1, hS.2.2, Or.inr ⟨e, Finset.mem_sdiff.mpr ⟨he, fun heT => ?_⟩, rfl⟩⟩
    have h1 := hT.1 e heT
    have h2 : d ≤ e := hmax d hd
    omega

theorem wp_credit {O : CellTallies nD τ sig ℕ} {m n s g r st u : ℕ} {Φ : PUnit → sProp 𝕄} (hr : r < 58)
    (hO : Above O (2 * r + 8)) (hA : Ahead (2 * r + 8) n g) :
    iprop(ctx X Wt κ ιs ∗ St c j O m n s g r st u)
      ⊢ iprop((St c j O m n s g (r + 1) st u -∗ Φ ⟨⟩) -∗ wpc c (waitCredit j) Φ) := by
  unfold St pieces owesX waitCredit semWaitWord
  rw [show (1#32 : BitVec 32).toInt = ((1 : ℕ) : ℤ) from rfl]
  iintro ⟨#Hctx, ⟨R1, R2, R3, R4, R5, R6, R7, R8, R9, Hc, Hp, R11, R12⟩, %W, HO⟩ HΦ
  ihave Hc := (Ico_head _ hr) $$ Hc
  icases Hc with ⟨Hc, Hcs⟩
  unfold creditP
  icases Hp with ⟨%T, %b, Hat, #Hfr, %hT⟩
  iapply (Rounds.wp_wait 𝒱₀ ER (rd X Wt) (c : Thread nD τ) none (κ := κ (creditCell c j)) (sm := .reg (semC j)) (k' := 1)
      (wpE_semWait_eq 𝒱₀ (c : Thread nD τ) none Set.univ) (Set.mem_univ _) {(.reg (semC j), 2 * r + 8)} (cr := Finsupp.single (2 * r + 8) 1)
      (O := O + owedS c j n g) (W := W) (R := 0) (m := r) (T := T) (Util.total_single _ _) (image_single_subset _ _ _)) $$ [Hc HO Hat]
  · isplitr; · iapply (ctx_cell X Wt κ ιs (credit_mem c j)); iexact Hctx
    isplitl [Hc]; · unfold creditC; iexact Hc
    isplitl [HO]; · iexact HO
    isplitr; · iapply (ctx_may X Wt κ ιs c _ (by omega) (Above.add hO (owedS_above c j hA))); iexact Hctx
    iexact Hat
  iintro %S ⟨%hS, HO, Hat, Hpay⟩
  rw [duties_credit, expect_credit] at hS
  obtain ⟨b', hb1, hb2, hb3, hb4, hb5⟩ := creditP_step hT hS
  have hget : iprop(freed (snd c j) j b ∗ bigSep (S \ T) (fun d => (rd X Wt).payload (creditCell c j) 0 d)) ⊢ freed (snd c j) j b' := by
    rcases hb5 with rfl | ⟨d, hd, rfl⟩
    · iintro ⟨H, -⟩; iexact H
    · have h1 : bigSep (S \ T) (fun d => (rd X Wt).payload (creditCell c j) 0 d) ⊢ (rd X Wt).payload (creditCell c j) 0 d := bigSep_elim hd
      rw [payload_credit] at h1
      iintro ⟨-, H⟩
      ihave H := h1 $$ H
      unfold creditPay; iexact H
  iapply le_wp_ret
  iapply HΦ
  isplitr [HO]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [Hcs]; · iexact Hcs
    isplitl [Hat Hpay]
    · iexists S; iexists b'
      isplitl [Hat]; · iexact Hat
      isplitl [Hpay]
      · iapply hget; isplitr; · iexact Hfr
        iexact Hpay
      ipureintro; exact ⟨hb1, hb2, hb3, hb4⟩
    isplitl [R11] <;> iassumption
  iexists _; iexact HO

theorem got_snd (n : ℕ) : got X Wt n (snd c j) j = msg X Wt n c j := by
  show msg X Wt n (up (snd c j) j) j = _
  rw [up_snd]

/-- A message sent from anywhere. -/
theorem wp_send_core {O : CellTallies nD τ sig ℕ} {m n s g r st u : ℕ} {Φ : PUnit → sProp 𝕄} (hn : n < 62) (hs : n = s ∨ n = s + 1) (hr : n < r + 4)
    (src : Memref sig .tc .vmem S16x2048 .bf16) {hw : src.view.WordExact} {hsc} {hsem : DmaTarget.Typed (nD := nD) (τ := τ) .vmem (.dma (semR j (f4 n))) (.remote (Dev.tc (snd c j)) (slotR j (f4 n)) (.dma (semS j (f2 n))) hsc)}
    {q : PosShare TreeShare} (fs : Buf (Elt F) (src.view.loc (c : Thread nD τ))) (hread : src.view.read (Elt F) fs = msg X Wt n c j)
    (hpay : (src.view.loc (c : Thread nD τ) ↦[src.view.set]{q} fs) ⊢ sendPay X Wt c j n) :
    iprop(ctx X Wt κ ιs ∗ St c j O m n s g r st u ∗ (src.view.loc (c : Thread nD τ) ↦[src.view.set]{q} fs))
      ⊢ iprop(((St c j O m (n + 1) s g r st u ∗ sendC c j n) -∗ Φ ⟨⟩)
        -∗ wpc c (Prog.lift (.enqueueDma src (.remote (Dev.tc (snd c j)) (slotR j (f4 n)) (.dma (semS j (f2 n))) hsc) (.dma (semR j (f4 n))) hw (wexR j (f4 n)) hsem)) Φ) := by
  unfold St pieces owesX
  iintro ⟨#Hctx, ⟨⟨R1, R2, R3, Ht, Hp, R5, R6, R7, R8, R9, Hcr, R11, R12⟩, %W, HO⟩, Hsrc⟩ HΦ
  ihave Ht := (Ico_head _ hn) $$ Ht
  icases Ht with ⟨Ht, Hts⟩
  unfold sendTok
  icases Ht with ⟨Ht1, Ht2, Hwt⟩
  have hreach : win2 (sendP (F := F) c j) s ⊢ iprop(win2 (sendP c j) s ∗ reached ER (sendCell c j (f2 n)) (n / 2)) := by
    unfold win2 sendP
    iintro ⟨⟨A, #B⟩, C, #D⟩
    isplitl [A C]
    · isplitl [A]
      · isplitl [A]; · iexact A
        iexact B
      isplitl [C]; · iexact C
      iexact D
    rcases hs with rfl | rfl
    · iexact B
    · iexact D
  ihave Hp := hreach $$ Hp
  icases Hp with ⟨Hp, #Hrs⟩
  have hfree : creditP (F := F) c j r ⊢ iprop(creditP c j r ∗ free (snd c j) j n) := by
    unfold creditP
    iintro ⟨%T, %b, Hat, #Hfr, %hT⟩
    isplitl [Hat]
    · iexists T; iexists b
      isplitl [Hat]; · iexact Hat
      isplitr; · iexact Hfr
      ipureintro; exact hT
    iapply (freed_at (snd c j) j (show n < b + 4 by omega)); iexact Hfr
  ihave Hcr := hfree $$ Hcr
  icases Hcr with ⟨Hcr, Hfree⟩
  unfold free
  icases Hfree with ⟨#Hrel, #Hrr⟩
  iapply fupd_wp
  imod (slot_take (E := ES) (S := anyR (snd c j) j (f4 n)) (ι := ιs (snd c j, j, f4 n)) (Es := Set.univ) (k := (snd c j, j, f4 n)) (Set.mem_univ _) (n / 4 + 1)) $$ [Hwt] with Hslot
  · isplitr; · iapply (ctx_slot X Wt κ ιs (snd c j) j (f4 n)); iexact Hctx
    isplitr; · iexact Hrel
    iexact Hwt
  unfold anyR slot
  icases Hslot with ⟨%fd, Hdst⟩
  imodintro
  iapply (Rounds.wp_send_pointsTo 𝒱₀ ER (rd X Wt) (c : Thread nD τ) none (c' := (snd c j : Thread nD τ)) (src := src) (dst := slotR j (f4 n))
      (hsrc := hw) (hdst := wexR j (f4 n)) (hsem := hsem)
      (sS := .dma (semS j (f2 n))) (sem := .dma (semR j (f4 n))) (q := q) (fs := fs) (κ₁ := κ (sendCell c j (f2 n))) (κ₂ := κ (recvCell (snd c j) j (f4 n)))
      (r₁ := n / 2) (r₂ := n / 4) (d₁ := 0) (d₂ := 0) (fd := fd)
      (by rw [duties_send X Wt c j hn]; exact Finset.mem_singleton_self _) (by rw [duties_recv X Wt (snd c j) j hn]; exact Finset.mem_singleton_self _)
      (2 * n + 3) 0 N16 rfl rfl rfl (O₀ := O + owedS c j n g) (O + owedS c j (n + 1) g) (by rw [owedS_send c j hn, add_assoc]) (W := W)
      (by rw [payload_send]; exact hpay)
      (by rw [payload_recv]; unfold recvPay holdR; rw [got_snd]
          exact pointsTo_rep_of_read ((snd c j : Dev nD) : Thread nD τ) (slotR j (f4 n)) _ fullShare _ (by rw [View.read_write_univ]; exact hread))) $$ [Hsrc Hdst HO Ht1 Ht2]
  · isplitr; · iapply (ctx_cell X Wt κ ιs (send_mem c j (f2 n))); iexact Hctx
    isplitr; · iapply (ctx_cell X Wt κ ιs (recv_mem (snd c j) j (f4 n))); iexact Hctx
    isplitl [Hsrc]; · iexact Hsrc
    isplitl [Hdst]; · iexact Hdst
    isplitl [HO]; · iexact HO
    isplitl [Ht1]; · iexact Ht1
    isplitr; · iexact Hrs
    isplitl [Ht2]; · iexact Ht2
    iexact Hrr
  iintro ⟨Hc, HO⟩
  iapply le_wp_ret
  iapply HΦ
  isplitr [Hc]
  · isplitr [HO]
    · isplitl [R1]; · iexact R1
      isplitl [R2]; · iexact R2
      isplitl [R3]; · iexact R3
      isplitl [Hts]; · iexact Hts
      isplitl [Hp]; · iexact Hp
      isplitl [R5]; · iexact R5
      isplitl [R6]; · iexact R6
      isplitl [R7]; · iexact R7
      isplitl [R8]; · iexact R8
      isplitl [R9]; · iexact R9
      isplitl [Hcr]; · iexact Hcr
      isplitl [R11] <;> iassumption
    iexists _; iexact HO
  unfold sendC; iexact Hc

theorem wp_sendS {O : CellTallies nD τ sig ℕ} {m n s g r st u : ℕ} {Φ : PUnit → sProp 𝕄} {k2 : Fin 2} {k4 : Fin 4} (hk2 : k2 = f2 n) (hk4 : k4 = f4 n)
    (hn : n ≤ 31) (hs : n = s ∨ n = s + 1) (hr : n < r + 4) :
    iprop(ctx X Wt κ ιs ∗ St c j O m n s g r st u ∗ holdS c j (f2 n) (msg X Wt n c j))
      ⊢ iprop(((St c j O m (n + 1) s g r st u ∗ sendC c j n) -∗ Φ ⟨⟩) -∗ wpc c (sendS (nextD c) (prevD c) j k2 k4) Φ) := by
  subst hk2 hk4
  unfold holdS
  exact wp_send_core X Wt κ ιs c j (by omega) hs hr (slotS j (f2 n)) _ (View.read_rep _ _) (by
    unfold sendPay; rw [if_pos hn]; unfold anyS slot
    iintro H; iexists _; iexact H)

theorem wp_sendR {O : CellTallies nD τ sig ℕ} {m n s g r st u : ℕ} {Φ : PUnit → sProp 𝕄} {k : Fin 4} {k2 : Fin 2} {k4 : Fin 4} (hk : k = f4 n) (hk2 : k2 = f2 (n + 1)) (hk4 : k4 = f4 (n + 1))
    (hn : 31 ≤ n) (hn' : n < 61) (hs : n + 1 = s ∨ n + 1 = s + 1) (hr : n + 1 < r + 4) :
    iprop(ctx X Wt κ ιs ∗ St c j O m (n + 1) s g r st u ∗ holdR c j (f4 n) fullShare.left (got X Wt n c j))
      ⊢ iprop(((St c j O m (n + 1 + 1) s g r st u ∗ sendC c j (n + 1)) -∗ Φ ⟨⟩) -∗ wpc c (sendR (nextD c) (prevD c) j k k2 k4) Φ) := by
  subst hk hk2 hk4
  unfold holdR
  exact wp_send_core X Wt κ ιs c j (by omega) hs hr (slotR j (f4 n)) _ ((View.read_rep _ _).trans (msg_ag X Wt (by omega) c j).symm) (by
    unfold sendPay; rw [if_neg (by omega)]; unfold holdR
    exact BI.Entails.refl _)

theorem wp_give {O : CellTallies nD τ sig ℕ} {m n s g r st u : ℕ} {Φ : PUnit → sProp 𝕄} (hg : g < 58) (hm : g < m) {v : FVec F S16x2048 .bf16} :
    iprop(ctx X Wt κ ιs ∗ St c j O m n s g r st u ∗ holdR c j (f4 g) fullShare v)
      ⊢ iprop((St c j O m n s (g + 1) r st u -∗ Φ ⟨⟩) -∗ wpc c (giveCredit (nextD c) (prevD c) j) Φ) := by
  unfold St pieces owesX giveCredit semSignalWord
  rw [show (1#32 : BitVec 32).toInt = ((1 : ℕ) : ℤ) from rfl]
  iintro ⟨#Hctx, ⟨⟨R1, #Hh, R3, R4, R5, Ht, Hrd, #Hfr, #Hrc, R9, R10, R11, R12⟩, %W, HO⟩, Hslot⟩ HΦ
  ihave Ht := (Ico_head _ hg) $$ Ht
  icases Ht with ⟨Ht, Hts⟩
  ihave Hrd := (win4_shift _ g) $$ Hrd
  icases Hrd with ⟨Hrd, Hback⟩
  iapply fupd_wp
  imod (slot_release (E := ES) (S := anyR c j (f4 g)) (ι := ιs (c, j, f4 g)) (Es := Set.univ) (k := (c, j, f4 g)) (Set.mem_univ _)
    (by unfold anyR; exact slot_slot_false ⟨_, View.emb_mem_set (slotR j (f4 g)).view (fun a => ⟨0, by revert a; decide⟩)⟩) (g / 4 + 1)) $$ [Hrd Hslot] with ⟨Hrd, #Hrel⟩
  · isplitr; · iapply (ctx_slot X Wt κ ιs c j (f4 g)); iexact Hctx
    isplitl [Hrd]; · unfold readP; iexact Hrd
    unfold anyR slot holdR; iexists _; iexact Hslot
  imodintro
  have hfree : iprop(released ES (c, j, f4 g) (g / 4 + 1 + 1) ∗ recvH (F := F) c j m) ⊢ free c j (g + 4) := by
    unfold free; rw [f4_add, show (g + 4) / 4 = g / 4 + 1 by omega]
    have h := recvH_at (F := F) c j (show g + 4 < m + 4 by omega)
    rw [f4_add, show (g + 4) / 4 = g / 4 + 1 by omega] at h
    iintro ⟨A, B⟩
    isplitl [A]; · iexact A
    iapply h; iexact B
  ihave #Hfr' : freed (F := F) c j (g + 1) $$ []
  · iapply (freed_succ c j g)
    isplitr; · iexact Hfr
    iapply hfree
    isplitr; · iexact Hrel
    iexact Hh
  iapply (Rounds.wp_signal 𝒱₀ ER (rd X Wt) (c : Thread nD τ) none (dst := (up c j : Thread nD τ)) (sem := semC j) (r := 0) (d := g) (k' := 1) (κ := κ (creditCell (up c j) j))
      (by rw [duties_credit]; exact Finset.mem_range.mpr hg) rfl (2 * g + 8) (O₀ := O + owedS c j n g) (O + owedS c j n (g + 1)) (by rw [owedS_give c j n hg, add_assoc]) (W := W)) $$ [HO Ht]
  · isplitr; · iapply (ctx_cell X Wt κ ιs (credit_mem (up c j) j)); iexact Hctx
    isplitl [HO]; · iexact HO
    isplitl [Ht]; · unfold creditTok; iexact Ht
    isplitr; · rw [payload_credit]; unfold creditPay; rw [snd_up]; iexact Hfr'
    iexact Hrc
  iintro HO
  iapply le_wp_ret
  iapply HΦ
  isplitr [HO]
  · isplitl [R1]; · iexact R1
    isplitr; · iexact Hh
    isplitl [R3]; · iexact R3
    isplitl [R4]; · iexact R4
    isplitl [R5]; · iexact R5
    isplitl [Hts]; · iexact Hts
    isplitl [Hrd Hback]; · iapply Hback; rw [readP_add]; iexact Hrd
    isplitr; · iexact Hfr'
    isplitr; · iexact Hrc
    isplitl [R9]; · iexact R9
    isplitl [R10]; · iexact R10
    isplitl [R11] <;> iassumption
  iexists _; iexact HO

theorem wp_start {O : CellTallies nD τ sig ℕ} {m n s g r u : ℕ} {Φ : PUnit → sProp 𝕄} {k : Fin 4} {row : Row16} (hk : k = f4 (31 + u)) (hrow : row = rowAt c j u) (hu : u < 31)
    {v : FVec F S16x2048 .bf16} :
    iprop(ctx X Wt κ ιs ∗ St c j O m n s g r u u ∗ holdR c j (f4 (31 + u)) (storeQ u) (got X Wt (31 + u) c j) ∗ holdO c (rowAt c j u) v)
      ⊢ iprop(((St c j O m n s g r u (u + 1) ∗ storeC c j) -∗ Φ ⟨⟩) -∗ wpc c (startStore j k row) Φ) := by
  subst hk hrow
  unfold St pieces startStore holdR holdO
  iintro ⟨#Hctx, ⟨⟨R1, R2, R3, R4, R5, R6, R7, R8, R9, R10, R11, Hp, Ht⟩, HO⟩, Hsrc, Hdst⟩ HΦ
  ihave Ht := (Ico_head _ hu) $$ Ht
  icases Ht with ⟨Ht, Hts⟩
  unfold storeP
  icases Hp with ⟨Hp, #Hr⟩
  iapply (Rounds.wp_copy_pointsTo 𝒱₀ ER (rd X Wt) (c : Thread nD τ) none (src := slotR j (f4 (31 + u))) (dst := rowsO (rowAt c j u)) (sem := .dma (semT j)) (q := storeQ u)
      (hsrc := wexR j (f4 (31 + u))) (hdst := wexO (rowAt c j u))
      (fs := (slotR j (f4 (31 + u))).view.rep (got X Wt (31 + u) c j)) (fd := (rowsO (rowAt c j u)).view.rep v) (r := u) (d := 0) (κ := κ (storeCell c j))
      (by rw [duties_store X Wt c j hu]; exact Finset.mem_singleton_self _) 0 N16 rfl rfl
      (by rw [payload_store]; unfold storePay holdO holdR
          exact sep_mono_left (pointsTo_rep_of_read (c : Thread nD τ) (rowsO (rowAt c j u)) _ fullShare _ (by rw [View.read_write_univ]; exact View.read_rep _ _)))) $$ [Hsrc Hdst Ht]
  · isplitr; · iapply (ctx_cell X Wt κ ιs (store_mem c j)); iexact Hctx
    isplitl [Hsrc]; · iexact Hsrc
    isplitl [Hdst]; · iexact Hdst
    isplitl [Ht]; · unfold storeTok; iexact Ht
    iexact Hr
  iintro Hc
  iapply le_wp_ret
  iapply HΦ
  isplitr [Hc]
  · isplitr [HO]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [Hp]; · isplitl [Hp]; · iexact Hp
                      iexact Hr
      iexact Hts
    iexact HO
  unfold storeC; iexact Hc

end Talk

end Cert.KernelIdeal.Allreduce

end
-- ==== Proof.Stream.lean ====
/-
  The steps of a stream, from the operations; and a step taken on every stream.
-/
module

public import proofs.«01_k».proof.Proof.Ops

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## All streams in order -/

section All
variable (A B : Fin 8 → CellTallies nD τ sig ℕ)

/-- What is owed when the first `n` streams have taken their step. -/
def owedT (n : ℕ) : CellTallies nD τ sig ℕ := ∑ i : Fin 8, if i.val < n then B i else A i
/-- What the other streams owe while stream `j` takes it. -/
def owedR (j : Fin 8) : CellTallies nD τ sig ℕ := ∑ i ∈ Finset.univ.erase j, if i.val < j.val then B i else A i

theorem owedT_zero : owedT A B 0 = ∑ i, A i := Finset.sum_congr rfl fun i _ => if_neg (Nat.not_lt_zero _)
theorem owedT_all : owedT A B 8 = ∑ i, B i := Finset.sum_congr rfl fun i _ => if_pos i.isLt
theorem owedR_before (j : Fin 8) : owedR A B j + A j = owedT A B j.val := by
  unfold owedR owedT
  rw [← Finset.sum_erase_add Finset.univ _ (Finset.mem_univ j), if_neg (Nat.lt_irrefl _)]
theorem owedR_after (j : Fin 8) : owedR A B j + B j = owedT A B (j.val + 1) := by
  unfold owedR owedT
  rw [← Finset.sum_erase_add Finset.univ _ (Finset.mem_univ j), if_pos (Nat.lt_succ_self _)]
  congr 1
  refine Finset.sum_congr rfl fun i hi => ?_
  have hne : i.val ≠ j.val := fun h => (Finset.mem_erase.mp hi).1 (Fin.ext h)
  by_cases h : i.val < j.val
  · rw [if_pos h, if_pos (by omega)]
  · rw [if_neg h, if_neg (by omega)]

variable {A B}

theorem owedR_above {l : ℕ} (hA : ∀ j, Above (A j) l) (hB : ∀ j, Above (B j) l) (j : Fin 8) : Above (owedR A B j) l :=
  Above.sum _ _ fun i _ => by split; exacts [hB i, hA i]

theorem bigSep_eight (P : Fin 8 → sProp 𝕄) : bigSep Finset.univ P = iprop(P 0 ∗ P 1 ∗ P 2 ∗ P 3 ∗ P 4 ∗ P 5 ∗ P 6 ∗ P 7) := by
  rw [bigSep_univ_eq_bigSepL [0, 1, 2, 3, 4, 5, 6, 7] (by decide) (by decide)]
  rfl

/-- A step every stream can take with the others' debts outstanding, all streams can take in order. -/
theorem forJ_wp (c : Dev nD) (f : Fin 8 → Prog (TC F) PUnit) (P Q : Fin 8 → sProp 𝕄) (l : ℕ) (hA : ∀ j, Above (A j) l) (hB : ∀ j, Above (B j) l)
    (C : sProp 𝕄) [BI.Persistent C]
    (h : ∀ j O (Φ : PUnit → sProp 𝕄), Above O l → iprop(C ∗ P j ∗ owesX c (O + A j)) ⊢ iprop(((Q j ∗ owesX c (O + B j)) -∗ Φ ⟨⟩) -∗ wpc c (f j) Φ))
    {Φ : PUnit → sProp 𝕄} :
    iprop(C ∗ bigSep Finset.univ P ∗ owesX c (∑ j, A j)) ⊢ iprop(((bigSep Finset.univ Q ∗ owesX c (∑ j, B j)) -∗ Φ ⟨⟩) -∗ wpc c (forJ f) Φ) := by
  have hj : ∀ (j : Fin 8) (Φ : PUnit → sProp 𝕄), iprop(C ∗ P j ∗ owesX c (owedT A B j.val)) ⊢ iprop(((Q j ∗ owesX c (owedT A B (j.val + 1))) -∗ Φ ⟨⟩) -∗ wpc c (f j) Φ) := fun j Φ => by
    have := h j (owedR A B j) Φ (owedR_above hA hB j)
    rwa [owedR_before, owedR_after] at this
  rw [bigSep_eight, bigSep_eight, ← owedT_zero A B, ← owedT_all A B]
  unfold forJ
  simp only [wp_bind]
  iintro ⟨#HC, ⟨P0, P1, P2, P3, P4, P5, P6, P7⟩, HO⟩ HΦ
  iapply (hj 0 _) $$ [P0 HO]
  · isplitr; · iexact HC
    isplitl [P0]; · iexact P0
    iexact HO
  iintro ⟨Q0, HO⟩
  iapply (hj 1 _) $$ [P1 HO]
  · isplitr; · iexact HC
    isplitl [P1]; · iexact P1
    iexact HO
  iintro ⟨Q1, HO⟩
  iapply (hj 2 _) $$ [P2 HO]
  · isplitr; · iexact HC
    isplitl [P2]; · iexact P2
    iexact HO
  iintro ⟨Q2, HO⟩
  iapply (hj 3 _) $$ [P3 HO]
  · isplitr; · iexact HC
    isplitl [P3]; · iexact P3
    iexact HO
  iintro ⟨Q3, HO⟩
  iapply (hj 4 _) $$ [P4 HO]
  · isplitr; · iexact HC
    isplitl [P4]; · iexact P4
    iexact HO
  iintro ⟨Q4, HO⟩
  iapply (hj 5 _) $$ [P5 HO]
  · isplitr; · iexact HC
    isplitl [P5]; · iexact P5
    iexact HO
  iintro ⟨Q5, HO⟩
  iapply (hj 6 _) $$ [P6 HO]
  · isplitr; · iexact HC
    isplitl [P6]; · iexact P6
    iexact HO
  iintro ⟨Q6, HO⟩
  iapply (hj 7 _) $$ [P7 HO]
  · isplitr; · iexact HC
    isplitl [P7]; · iexact P7
    iexact HO
  iintro ⟨Q7, HO⟩
  iapply HΦ
  isplitr [HO]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6] <;> iassumption
  iexact HO

end All

variable (X : Dev nD → Vec F S4096x128 .bf16) (Wt : Dev nD → Vec F S128x2048 .bf16)

/-! ## The reduce-scatter -/

theorem range_borrow (Φ : ℕ → sProp 𝕄) {t n : ℕ} (h : t < n) : bigSep (Finset.range n) Φ ⊢ iprop(Φ t ∗ (Φ t -∗ bigSep (Finset.range n) Φ)) := by
  have he : bigSep (Finset.range n) Φ = iprop(Φ t ∗ bigSep ((Finset.range n).erase t) Φ) := bigSep_erase (Finset.mem_range.mpr h)
  rw [he]
  iintro ⟨A, B⟩
  isplitl [A]; · iexact A
  iintro A
  isplitl [A] <;> iassumption

theorem range_last (Φ : ℕ → sProp 𝕄) (k : ℕ) : bigSep (Finset.range (k + 1)) Φ ⊢ iprop(bigSep (Finset.range k) Φ ∗ Φ k) := by
  have h : bigSep (Finset.range (k + 1)) Φ ⊢ iprop(Φ k ∗ bigSep (Finset.range k) Φ) :=
    Entails.of_eq (by rw [Finset.range_add_one, bigSep_insert Finset.notMem_range_self]; rfl)
  iintro H
  ihave H := h $$ H
  icases H with ⟨A, B⟩
  isplitl [B] <;> iassumption
theorem range_none (Φ : ℕ → sProp 𝕄) : ⊢ bigSep (Finset.range 0) Φ := by
  rw [Finset.range_zero, bigSep_empty]; exact .rfl

theorem f2_odd (m : ℕ) : f2 (m + 2) = f2 m := f2_add m

section RS
variable (κ : GSem nD τ sig → ℕ) (ιs : Key → ℕ) (c : Dev nD) (j : Fin 8)

/-- The messages sent whose slots have not come back before step `m`, and the slot never used before the first step. -/
def outS (m : ℕ) : sProp 𝕄 := iprop(sendC c j m ∗ if m = 0 then anyS c j (f2 1) else sendC c j (m - 1))
/-- The output's rows on this stream, at the local product. -/
def rowsG : sProp 𝕄 := bigSep (Finset.range 32) fun t => holdO c (rowAt c j t) (gRows X Wt c j t)
/-- A stream before step `m` of the reduce-scatter. -/
def rsP (m : ℕ) : sProp 𝕄 := iprop(pieces c j m (m + 1) (m - 1) m (m - 3) 0 0 ∗ outS c j m ∗ rowsG X Wt c j)

theorem wp_sentIf {O : CellTallies nD τ sig ℕ} {m n g r st u i : ℕ} {Φ : PUnit → sProp 𝕄} {k : Fin 2} {wp : Bool} (hwp : wp = decide (1 ≤ i)) (hk : k = f2 (i + 1)) (hi : i ≤ 30)
    (hO : Above O 0) (hA : Ahead 0 n g) :
    iprop(ctx X Wt κ ιs ∗ St c j O m n (i - 1) g r st u ∗ outS c j i)
      ⊢ iprop(((St c j O m n i g r st u ∗ sendC c j i ∗ anyS c j (f2 (i + 1))) -∗ Φ ⟨⟩) -∗ wpc c (cond wp (waitSend j k) (pure ⟨⟩)) Φ) := by
  subst hwp
  unfold outS
  rcases i with _ | i
  · rw [if_pos rfl]
    iintro ⟨-, HSt, Hc, Hs⟩ HΦ
    iapply le_wp_ret
    iapply HΦ
    isplitl [HSt]; · iexact HSt
    isplitl [Hc] <;> iassumption
  · rw [if_neg (Nat.succ_ne_zero i), show i + 1 - 1 = i from rfl, show decide (1 ≤ i + 1) = true from decide_eq_true (by omega)]
    have hk' : k = f2 i := hk.trans (f2_add i)
    have hpay : sendPay X Wt c j i ⊢ anyS c j (f2 (i + 1 + 1)) := by
      unfold sendPay; rw [if_pos (by omega), f2_add]
    iintro ⟨#Hctx, HSt, Hc, Hc'⟩ HΦ
    iapply (wp_sent X Wt κ ιs c j hk' (by omega) hO hA) $$ [HSt Hc']
    · isplitr; · iexact Hctx
      isplitl [HSt] <;> iassumption
    iintro ⟨HSt, Hpay⟩
    iapply HΦ
    isplitl [HSt]; · iexact HSt
    isplitl [Hc]; · iexact Hc
    iapply hpay; iexact Hpay

theorem wp_creditIf {O : CellTallies nD τ sig ℕ} {m n s g st u i : ℕ} {Φ : PUnit → sProp 𝕄} {cw : Bool} (hcw : cw = decide (3 ≤ i)) (hi : i ≤ 60)
    (hO : Above O (2 * i + 3)) (hA : Ahead (2 * i + 3) n g) :
    iprop(ctx X Wt κ ιs ∗ St c j O m n s g (i - 3) st u)
      ⊢ iprop((St c j O m n s g (i - 2) st u -∗ Φ ⟨⟩) -∗ wpc c (cond cw (waitCredit j) (pure ⟨⟩)) Φ) := by
  subst hcw
  by_cases h : 3 ≤ i
  · rw [decide_eq_true h, show i - 2 = i - 3 + 1 by omega]
    exact wp_credit X Wt κ ιs c j (by omega) (hO.mono (by omega)) fun x => ⟨fun a b => by have := (hA x).1 a b; omega, fun a b => by have := (hA x).2 a b; omega⟩
  · rw [decide_eq_false h, show i - 3 = 0 by omega, show i - 2 = 0 by omega]
    iintro ⟨-, HSt⟩ HΦ
    iapply le_wp_ret
    iapply HΦ; iexact HSt

theorem wp_rsStep {O : CellTallies nD τ sig ℕ} {m : ℕ} {Φ : PUnit → sProp 𝕄} {cw wp : Bool} {k : Fin 4} {k2 : Fin 2} {k4 : Fin 4} {row : Fin 8 → Row16}
    (hcw : cw = decide (3 ≤ m)) (hwp : wp = decide (1 ≤ m)) (hk : k = f4 m) (hk2 : k2 = f2 (m + 1)) (hk4 : k4 = f4 (m + 1)) (hrow : row j = rowAt c j (m + 1))
    (hm : m < 30) (hO : Above O (2 * m + 3)) :
    iprop(ctx X Wt κ ιs ∗ rsP X Wt c j m ∗ owesX c (O + owedS c j (m + 1) m))
      ⊢ iprop(((rsP X Wt c j (m + 1) ∗ owesX c (O + owedS c j (m + 2) (m + 1))) -∗ Φ ⟨⟩) -∗ wpc c (rsStep (nextD c) (prevD c) cw wp k k2 k4 row j) Φ) := by
  have hA : Ahead (2 * m + 3) (m + 1) m := fun i => ⟨fun _ _ => by omega, fun _ _ => by omega⟩
  have hA0 : Ahead 0 (m + 1) m := fun i => ⟨fun _ _ => by omega, fun _ _ => by omega⟩
  unfold rsStep
  simp only [wp_bind]
  rw [hrow]
  unfold rsP
  iintro ⟨#Hctx, ⟨Hp, Hout, Hrows⟩, HO⟩ HΦ
  iapply (wp_recv X Wt κ ιs c j hk (by omega) hO hA) $$ [Hp HO]
  · isplitr; · iexact Hctx
    unfold St; isplitl [Hp]; · iexact Hp
    iexact HO
  iintro ⟨HSt, Hslot⟩
  iapply (wp_sentIf X Wt κ ιs c j hwp hk2 (by omega) (hO.mono (by omega)) hA0) $$ [HSt Hout]
  · isplitr; · iexact Hctx
    isplitl [HSt] <;> iassumption
  iintro ⟨HSt, Hc, Hs⟩
  unfold rowsG
  ihave Hrows := (range_borrow (fun t => holdO c (rowAt c j t) (gRows X Wt c j t)) (show m + 1 < 32 by omega)) $$ Hrows
  icases Hrows with ⟨Hrow, Hrows⟩
  iapply (wp_loadO c (rowAt c j (m + 1))) $$ [Hrow]
  · iexact Hrow
  iintro Hrow
  rw [hk, hk2]
  iapply (wp_loadR c j (f4 m)) $$ [Hslot]
  · iexact Hslot
  iintro Hslot
  iapply (wp_loadS c j (f2 (m + 1))) $$ [Hs]
  · iexact Hs
  iintro %_ Hs
  iapply (wp_storeS c j (f2 (m + 1))) $$ [Hs]
  · iexact Hs
  iintro Hs
  rw [← msg_rs X Wt hm c j]
  iapply (wp_creditIf X Wt κ ιs c j hcw (by omega) hO hA) $$ [HSt]
  · isplitr; · iexact Hctx
    iexact HSt
  iintro HSt
  iapply (wp_sendS X Wt κ ιs c j (r := m - 2) rfl hk4 (by omega) (Or.inr rfl) (by omega)) $$ [HSt Hs]
  · isplitr; · iexact Hctx
    isplitl [HSt] <;> iassumption
  iintro ⟨HSt, Hc'⟩
  iapply (wp_give X Wt κ ιs c j (by omega) (Nat.lt_succ_self m)) $$ [HSt Hslot]
  · isplitr; · iexact Hctx
    isplitl [HSt] <;> iassumption
  iintro HSt
  iapply HΦ
  unfold St
  icases HSt with ⟨Hp, HO⟩
  isplitr [HO]
  · unfold outS
    isplitl [Hp]; · rw [show m + 1 - 1 = m from rfl, show m + 1 - 3 = m - 2 by omega]; iexact Hp
    isplitl [Hc Hc']
    · isplitl [Hc']; · iexact Hc'
      rw [if_neg (Nat.succ_ne_zero m), show m + 1 - 1 = m from rfl]; iexact Hc
    iapply Hrows; iexact Hrow
  iexact HO

/-- A stream when the first chunk of its product has been computed. -/
def fsP : sProp 𝕄 := iprop(pieces c j 0 0 0 0 0 0 0 ∗ anyS c j (f2 0) ∗ anyS c j (f2 1) ∗ holdO c (rowAt c j 0) (firstV X Wt c j))
/-- A stream when its first message is on its way. -/
def fsQ : sProp 𝕄 := iprop(pieces c j 0 1 0 0 0 0 0 ∗ outS c j 0 ∗ holdO c (rowAt c j 0) (firstV X Wt c j))

theorem wp_firstSend {O : CellTallies nD τ sig ℕ} {Φ : PUnit → sProp 𝕄} {row : Fin 8 → Row16} (hrow : row j = rowAt c j 0) :
    iprop(ctx X Wt κ ιs ∗ fsP X Wt c j ∗ owesX c (O + owedS c j 0 0))
      ⊢ iprop(((fsQ X Wt c j ∗ owesX c (O + owedS c j 1 0)) -∗ Φ ⟨⟩) -∗ wpc c (firstSend (nextD c) (prevD c) row j) Φ) := by
  unfold firstSend
  simp only [wp_bind]
  rw [hrow]
  unfold fsP
  iintro ⟨#Hctx, ⟨Hp, Hs, Hs', Hrow⟩, HO⟩ HΦ
  iapply (wp_loadO c (rowAt c j 0)) $$ [Hrow]
  · iexact Hrow
  iintro Hrow
  iapply (wp_loadS c j (f2 0)) $$ [Hs]
  · iexact Hs
  iintro %_ Hs
  iapply (wp_storeS c j (f2 0)) $$ [Hs]
  · iexact Hs
  iintro Hs
  iapply (wp_sendS X Wt κ ιs c j (n := 0) (s := 0) (r := 0) rfl rfl (by omega) (Or.inl rfl) (by omega)) $$ [Hp HO Hs]
  · isplitr; · iexact Hctx
    isplitl [Hp HO]
    · unfold St; isplitl [Hp]; · iexact Hp
      iexact HO
    iexact Hs
  iintro ⟨HSt, Hc⟩
  iapply HΦ
  unfold St
  icases HSt with ⟨Hp, HO⟩
  isplitr [HO]
  · unfold fsQ outS
    rw [if_pos rfl]
    isplitl [Hp]; · iexact Hp
    isplitl [Hc Hs']
    · isplitl [Hc] <;> iassumption
    iexact Hrow
  iexact HO

/-! ## The last step of the reduce-scatter, and the all-gather -/

/-- The output's rows on this stream during the all-gather: from `a` still at the local product, up to `b` at the result. -/
def rowsA (a b : ℕ) : sProp 𝕄 :=
  iprop((bigSep (Finset.Ico a 31) fun t => holdO c (rowAt c j t) (gRows X Wt c j t)) ∗ (bigSep (Finset.range b) fun t => holdO c (rowAt c j t) (finV X Wt c j t))
    ∗ holdO c (rowAt c j 31) (finV X Wt c j 31))
def agA : sProp 𝕄 := iprop(pieces c j 31 32 30 31 28 0 0 ∗ sendC c j 30 ∗ sendC c j 31 ∗ rowsA X Wt c j 0 0)
def agB : sProp 𝕄 := iprop(pieces c j 32 33 31 31 29 0 1 ∗ sendC c j 31 ∗ sendC c j 32 ∗ storeC c j ∗ anyS c j (f2 30) ∗ rowsA X Wt c j 1 0)
/-- The slot kept because no more credit is due for it. -/
def keep58 (i : ℕ) : sProp 𝕄 := if i = 28 then holdR c j (f4 58) fullShare (got X Wt 58 c j) else iprop(emp)
theorem keep58_emp {i : ℕ} (h : i ≠ 28) : ⊢ keep58 X Wt c j i := by
  unfold keep58; rw [if_neg h]; exact .rfl
theorem keep58_slot : keep58 X Wt c j 28 = holdR c j (f4 58) fullShare (got X Wt 58 c j) := if_pos rfl
theorem storePay_right {t : ℕ} (h : t ≠ 30) : storePay X Wt c j t ⊢ iprop(holdO c (rowAt c j t) (got X Wt (31 + t) c j) ∗ holdR c j (f4 (31 + t)) fullShare.right (got X Wt (31 + t) c j)) := by
  unfold storePay storeQ; rw [if_neg h]
theorem storePay_full : storePay X Wt c j 30 ⊢ iprop(holdO c (rowAt c j 30) (got X Wt 61 c j) ∗ holdR c j (f4 61) fullShare (got X Wt 61 c j)) := by
  unfold storePay storeQ; rw [if_pos rfl]
/-- A stream before step `i + 2` of the all-gather. -/
def agM (i : ℕ) : sProp 𝕄 :=
  iprop(pieces c j (33 + i) (34 + i) (32 + i) (min (31 + i) 58) (30 + i) (i + 1) (i + 2) ∗ sendC c j (32 + i) ∗ sendC c j (33 + i) ∗ storeC c j
    ∗ anyS c j (f2 30) ∗ anyS c j (f2 31) ∗ holdR c j (f4 (31 + i)) fullShare.right (got X Wt (31 + i) c j) ∗ rowsA X Wt c j (i + 2) (i + 1)
    ∗ keep58 X Wt c j i)
def agE : sProp 𝕄 :=
  iprop(pieces c j 62 62 61 58 58 30 31 ∗ sendC c j 61 ∗ storeC c j ∗ anyS c j (f2 30) ∗ anyS c j (f2 31) ∗ holdR c j (f4 58) fullShare (got X Wt 58 c j)
    ∗ holdR c j (f4 59) fullShare (got X Wt 59 c j) ∗ holdR c j (f4 60) fullShare.right (got X Wt 60 c j) ∗ rowsA X Wt c j 31 30)
/-- A stream at the end. -/
def agF : sProp 𝕄 :=
  iprop(pieces c j 62 62 62 58 58 31 31 ∗ anyS c j (f2 30) ∗ anyS c j (f2 31) ∗ holdR c j (f4 58) fullShare (got X Wt 58 c j)
    ∗ holdR c j (f4 59) fullShare (got X Wt 59 c j) ∗ holdR c j (f4 60) fullShare (got X Wt 60 c j) ∗ holdR c j (f4 61) fullShare (got X Wt 61 c j)
    ∗ bigSep (Finset.range 32) fun t => holdO c (rowAt c j t) (finV X Wt c j t))

theorem holdR_share (k : Fin 4) (v : FVec F S16x2048 .bf16) : holdR c j k fullShare v ⊣⊢ iprop(holdR c j k fullShare.left v ∗ holdR c j k fullShare.right v) :=
  pointsTo_share (PosShare.mem_left_op_right fullShare)

theorem finV_got {t : ℕ} (h : t ≠ 31) : finV X Wt c j t = got X Wt (31 + t) c j := if_neg h
theorem finV_last : finV X Wt c j 31 = k0_pay129 (gRows X Wt c j 31) (lift4 (got X Wt 30 c j)) := if_pos rfl

theorem wp_rsLast {O : CellTallies nD τ sig ℕ} {Φ : PUnit → sProp 𝕄} {row : Fin 8 → Row16} (hrow : row j = rowAt c j 31) (hO : Above O 63) :
    iprop(ctx X Wt κ ιs ∗ rsP X Wt c j 30 ∗ owesX c (O + owedS c j 31 30))
      ⊢ iprop(((agA X Wt c j ∗ owesX c (O + owedS c j 32 31)) -∗ Φ ⟨⟩) -∗ wpc c (rsLast (nextD c) (prevD c) row j) Φ) := by
  unfold rsLast
  simp only [wp_bind]
  rw [hrow]
  unfold rsP outS rowsG
  rw [if_neg (by decide)]
  iintro ⟨#Hctx, ⟨Hp, ⟨Hc, Hc'⟩, Hrows⟩, HO⟩ HΦ
  iapply (wp_recv X Wt κ ιs c j (m := 30) (n := 31) (s := 29) (g := 30) (r := 27) (k := 2) rfl (by omega) hO (fun i => ⟨fun _ _ => by omega, fun _ _ => by omega⟩)) $$ [Hp HO]
  · isplitr; · iexact Hctx
    unfold St; isplitl [Hp]; · iexact Hp
    iexact HO
  iintro ⟨HSt, Hslot⟩
  iapply (wp_sent X Wt κ ιs c j (s := 29) (k := 1) rfl (by omega) (hO.mono (by omega)) (fun i => ⟨fun _ _ => by omega, fun _ _ => by omega⟩)) $$ [HSt Hc']
  · isplitr; · iexact Hctx
    isplitl [HSt] <;> iassumption
  iintro ⟨HSt, Hpay⟩
  have hpay : sendPay X Wt c j 29 ⊢ anyS c j (f2 31) := by unfold sendPay; rw [if_pos (by omega)]
  ihave Hs := hpay $$ Hpay
  rw [Finset.range_eq_Ico]
  have hsplit : (bigSep (Finset.Ico 0 32) fun t => holdO c (rowAt c j t) (gRows X Wt c j t))
      ⊢ iprop((bigSep (Finset.Ico 0 31) fun t => holdO c (rowAt c j t) (gRows X Wt c j t)) ∗ holdO c (rowAt c j 31) (gRows X Wt c j 31)) := by
    rw [← Finset.range_eq_Ico, ← Finset.range_eq_Ico]; exact (range_last _ 31)
  ihave Hrows := hsplit $$ Hrows
  icases Hrows with ⟨Hrows, Hrow⟩
  iapply (wp_loadO c (rowAt c j 31)) $$ [Hrow]
  · iexact Hrow
  iintro Hrow
  iapply (wp_loadR c j (f4 30)) $$ [Hslot]
  · iexact Hslot
  iintro Hslot
  iapply (wp_loadO c (rowAt c j 31)) $$ [Hrow]
  · iexact Hrow
  iintro Hrow
  iapply (wp_storeO c (rowAt c j 31)) $$ [Hrow]
  · iexact Hrow
  iintro Hrow
  iapply (wp_loadS c j (f2 31)) $$ [Hs]
  · iexact Hs
  iintro %_ Hs
  iapply (wp_storeS c j (f2 31)) $$ [Hs]
  · iexact Hs
  iintro Hs
  rw [← msg_last X Wt c j]
  iapply (wp_credit X Wt κ ιs c j (n := 31) (g := 30) (r := 27) (by omega) (hO.mono (by omega)) (fun i => ⟨fun _ _ => by omega, fun _ _ => by omega⟩)) $$ [HSt]
  · isplitr; · iexact Hctx
    iexact HSt
  iintro HSt
  iapply (wp_sendS X Wt κ ιs c j (n := 31) (s := 30) (r := 28) rfl rfl (by omega) (Or.inr rfl) (by omega)) $$ [HSt Hs]
  · isplitr; · iexact Hctx
    isplitl [HSt] <;> iassumption
  iintro ⟨HSt, Hc'⟩
  iapply (wp_give X Wt κ ιs c j (m := 31) (g := 30) (by omega) (by omega)) $$ [HSt Hslot]
  · isplitr; · iexact Hctx
    isplitl [HSt]; · iexact HSt
    iexact Hslot
  iintro HSt
  iapply HΦ
  unfold St
  icases HSt with ⟨Hp, HO⟩
  isplitr [HO]
  · unfold agA rowsA
    isplitl [Hp]; · iexact Hp
    isplitl [Hc]; · iexact Hc
    isplitl [Hc']; · iexact Hc'
    isplitl [Hrows]; · iexact Hrows
    rw [finV_last]
    isplitr; · iapply (range_none _)
    iexact Hrow
  iexact HO

/-- The head of a step that passes its message on: the halves of the received slot come apart. -/
theorem wp_agHead {O : CellTallies nD τ sig ℕ} {t g st u : ℕ} {k : Fin 4} {k2 : Fin 2} {k4 : Fin 4} {Φ : PUnit → sProp 𝕄}
    (hk : k = f4 (31 + t)) (hk2 : k2 = f2 (30 + t)) (hk4 : k4 = f4 (32 + t)) (ht : t < 30) (hg : 29 + t ≤ g) (hO : Above O (2 * (31 + t) + 3)) :
    iprop(ctx X Wt κ ιs ∗ St c j O (31 + t) (32 + t) (30 + t) g (28 + t) st u ∗ sendC c j (30 + t))
      ⊢ iprop(((St c j O (32 + t) (33 + t) (31 + t) g (29 + t) st u ∗ sendPay X Wt c j (30 + t) ∗ sendC c j (32 + t)
            ∗ holdR c j (f4 (31 + t)) fullShare.right (got X Wt (31 + t) c j)) -∗ Φ ⟨⟩)
        -∗ wpc c (waitRecv j k) fun _ => wpc c (waitSend j k2) fun _ => wpc c (waitCredit j) fun _ => wpc c (sendR (nextD c) (prevD c) j k k2 k4) Φ) := by
  have e1 : 31 + t + 1 = 32 + t := by omega
  have e2 : 30 + t + 1 = 31 + t := by omega
  have e3 : 28 + t + 1 = 29 + t := by omega
  have e4 : 31 + t + 1 + 1 = 33 + t := by omega
  have hr := @wp_recv F _ X Wt κ ιs c j O (31 + t) (32 + t) (30 + t) g (28 + t) st u
  have hs := @wp_sent F _ X Wt κ ιs c j O (32 + t) (32 + t) (30 + t) g (28 + t) st u
  have hc := @wp_credit F _ X Wt κ ιs c j O (32 + t) (32 + t) (31 + t) g (28 + t) st u
  have hd := @wp_sendR F _ X Wt κ ιs c j O (32 + t) (31 + t) (31 + t) g (29 + t) st u Φ k k2 k4
  rw [e1] at hr hd
  rw [e2] at hs
  rw [e3] at hc
  rw [show 32 + t + 1 = 33 + t by omega] at hd
  iintro ⟨#Hctx, HSt, Hc⟩ HΦ
  iapply (hr hk (by omega) hO (fun i => ⟨fun _ _ => by omega, fun _ _ => by omega⟩)) $$ [HSt]
  · isplitr; · iexact Hctx
    iexact HSt
  iintro ⟨HSt, Hslot⟩
  ihave Hslot := (holdR_share c j _ _).1 $$ Hslot
  icases Hslot with ⟨Hl, Hr⟩
  iapply (hs hk2 (by omega) (hO.mono (by omega)) (fun i => ⟨fun _ _ => by omega, fun _ _ => by omega⟩)) $$ [HSt Hc]
  · isplitr; · iexact Hctx
    isplitl [HSt] <;> iassumption
  iintro ⟨HSt, Hpay⟩
  iapply (hc (by omega) (hO.mono (by omega)) (fun i => ⟨fun _ _ => by omega, fun _ _ => by omega⟩)) $$ [HSt]
  · isplitr; · iexact Hctx
    iexact HSt
  iintro HSt
  iapply (hd hk (by rw [hk2, show 32 + t = 30 + t + 2 by omega, f2_add]) hk4 (by omega) (by omega) (by omega) (by omega)) $$ [HSt Hl]
  · isplitr; · iexact Hctx
    isplitl [HSt] <;> iassumption
  iintro ⟨HSt, Hc⟩
  iapply HΦ
  isplitl [HSt]; · iexact HSt
  isplitl [Hpay]; · iexact Hpay
  isplitl [Hc] <;> iassumption

theorem wp_agFirst {O : CellTallies nD τ sig ℕ} {Φ : PUnit → sProp 𝕄} {row : Fin 8 → Row16} (hrow : row j = rowAt c j 0) (hO : Above O 65) :
    iprop(ctx X Wt κ ιs ∗ agA X Wt c j ∗ owesX c (O + owedS c j 32 31))
      ⊢ iprop(((agB X Wt c j ∗ owesX c (O + owedS c j 33 31)) -∗ Φ ⟨⟩) -∗ wpc c (agStep (nextD c) (prevD c) true false false 3 0 0 row j) Φ) := by
  unfold agStep
  simp only [cond_true, cond_false, wp_bind]
  unfold agA rowsA
  iintro ⟨#Hctx, ⟨Hp, Hc, Hc', Hrows, Hfin⟩, HO⟩ HΦ
  iapply (wp_agHead X Wt κ ιs c j (t := 0) (g := 31) rfl rfl rfl (by omega) (by omega) hO) $$ [Hp HO Hc]
  · isplitr; · iexact Hctx
    isplitl [Hp HO]
    · unfold St; isplitl [Hp]; · iexact Hp
      iexact HO
    iexact Hc
  iintro ⟨HSt, Hpay, Hc, Hr⟩
  have hpay : sendPay X Wt c j 30 ⊢ anyS c j (f2 30) := by unfold sendPay; rw [if_pos (by omega)]
  ihave Hs := hpay $$ Hpay
  iapply le_wp_ret
  ihave Hrows := (Ico_head _ (show 0 < 31 by omega)) $$ Hrows
  icases Hrows with ⟨Hrow, Hrows⟩
  iapply (wp_start X Wt κ ιs c j (u := 0) rfl hrow (by omega)) $$ [HSt Hr Hrow]
  · isplitr; · iexact Hctx
    isplitl [HSt]; · iexact HSt
    isplitl [Hr]; · iexact Hr
    iexact Hrow
  iintro ⟨HSt, HT⟩
  iapply le_wp_ret
  iapply HΦ
  unfold St
  icases HSt with ⟨Hp, HO⟩
  isplitr [HO]
  · unfold agB rowsA
    isplitl [Hp]; · iexact Hp
    isplitl [Hc']; · iexact Hc'
    isplitl [Hc]; · iexact Hc
    isplitl [HT]; · iexact HT
    isplitl [Hs]; · iexact Hs
    isplitl [Hrows] <;> iassumption
  iexact HO

theorem fin_snoc {b : ℕ} (h : b < 31) :
    iprop((bigSep (Finset.range b) fun t => holdO c (rowAt c j t) (finV X Wt c j t)) ∗ holdO c (rowAt c j b) (got X Wt (31 + b) c j))
      ⊢ bigSep (Finset.range (b + 1)) fun t => holdO c (rowAt c j t) (finV X Wt c j t) := by
  rw [← finV_got X Wt c j (by omega : b ≠ 31)]
  exact range_snoc (fun t => holdO c (rowAt c j t) (finV X Wt c j t)) b

theorem wp_agSecond {O : CellTallies nD τ sig ℕ} {Φ : PUnit → sProp 𝕄} {row : Fin 8 → Row16} (hrow : row j = rowAt c j 1) (hO : Above O 67) :
    iprop(ctx X Wt κ ιs ∗ agB X Wt c j ∗ owesX c (O + owedS c j 33 31))
      ⊢ iprop(((agM X Wt c j 0 ∗ owesX c (O + owedS c j 34 31)) -∗ Φ ⟨⟩) -∗ wpc c (agStep (nextD c) (prevD c) true true false 0 1 1 row j) Φ) := by
  unfold agStep
  simp only [cond_true, cond_false, wp_bind]
  unfold agB rowsA
  iintro ⟨#Hctx, ⟨Hp, Hc, Hc', HT, Hs, Hrows, Hfin, Hlast⟩, HO⟩ HΦ
  iapply (wp_agHead X Wt κ ιs c j (t := 1) (g := 31) rfl rfl rfl (by omega) (by omega) hO) $$ [Hp HO Hc]
  · isplitr; · iexact Hctx
    isplitl [Hp HO]
    · unfold St; isplitl [Hp]; · iexact Hp
      iexact HO
    iexact Hc
  iintro ⟨HSt, Hpay, Hc, Hr⟩
  have hpay : sendPay X Wt c j 31 ⊢ anyS c j (f2 31) := by unfold sendPay; rw [if_pos (by omega)]
  ihave Hs' := hpay $$ Hpay
  iapply (wp_stored X Wt κ ιs c j (st := 0) (by omega) (hO.mono (by omega)) (fun i => ⟨fun _ _ => by omega, fun _ _ => by omega⟩)) $$ [HSt HT]
  · isplitr; · iexact Hctx
    isplitl [HSt] <;> iassumption
  iintro ⟨HSt, Hpay⟩
  ihave Hpay := (storePay_right X Wt c j (by omega)) $$ Hpay
  icases Hpay with ⟨Hf, Hr'⟩
  ihave Hfin := (fin_snoc X Wt c j (b := 0) (by omega)) $$ [Hfin Hf]
  · isplitl [Hfin] <;> iassumption
  ihave Hrows := (Ico_head _ (show 1 < 31 by omega)) $$ Hrows
  icases Hrows with ⟨Hrow, Hrows⟩
  iapply (wp_start X Wt κ ιs c j (u := 1) rfl hrow (by omega)) $$ [HSt Hr Hrow]
  · isplitr; · iexact Hctx
    isplitl [HSt]; · iexact HSt
    isplitl [Hr]; · iexact Hr
    iexact Hrow
  iintro ⟨HSt, HT⟩
  iapply le_wp_ret
  iapply HΦ
  unfold St
  icases HSt with ⟨Hp, HO⟩
  isplitr [HO]
  · unfold agM rowsA
    isplitl [Hp]; · iexact Hp
    isplitl [Hc']; · iexact Hc'
    isplitl [Hc]; · iexact Hc
    isplitl [HT]; · iexact HT
    isplitl [Hs]; · iexact Hs
    isplitl [Hs']; · iexact Hs'
    isplitl [Hr']; · iexact Hr'
    isplitl [Hrows Hfin Hlast]
    · isplitl [Hrows]; · iexact Hrows
      isplitl [Hfin] <;> iassumption
    iapply (keep58_emp X Wt c j (by omega))
  iexact HO

theorem wp_agMid {O : CellTallies nD τ sig ℕ} {i : ℕ} {Φ : PUnit → sProp 𝕄} {sg : Bool} {k : Fin 4} {k2 : Fin 2} {k4 : Fin 4} {row : Fin 8 → Row16} (hi : i < 28)
    (hsg : sg = decide (i ≤ 26)) (hk : k = f4 (33 + i)) (hk2 : k2 = f2 (32 + i)) (hk4 : k4 = f4 (34 + i)) (hrow : row j = rowAt c j (i + 2)) (hO : Above O (2 * i + 69)) :
    iprop(ctx X Wt κ ιs ∗ agM X Wt c j i ∗ owesX c (O + owedS c j (34 + i) (min (31 + i) 58)))
      ⊢ iprop(((agM X Wt c j (i + 1) ∗ owesX c (O + owedS c j (34 + (i + 1)) (min (31 + (i + 1)) 58))) -∗ Φ ⟨⟩) -∗ wpc c (agStep (nextD c) (prevD c) true true sg k k2 k4 row j) Φ) := by
  subst hsg
  unfold agStep
  simp only [cond_true, wp_bind]
  unfold agM rowsA
  rw [show min (31 + i) 58 = 31 + i by omega]
  have hh := @wp_agHead F _ X Wt κ ιs c j O (i + 2) (31 + i) (i + 1) (i + 2) k k2 k4
  rw [show 31 + (i + 2) = 33 + i by omega, show 30 + (i + 2) = 32 + i by omega, show 32 + (i + 2) = 34 + i by omega, show 28 + (i + 2) = 30 + i by omega,
    show 33 + (i + 2) = 35 + i by omega, show 29 + (i + 2) = 31 + i by omega] at hh
  iintro ⟨#Hctx, ⟨Hp, Hc, Hc', HT, Hs, Hs', Hr', ⟨Hrows, Hfin, Hlast⟩, -⟩, HO⟩ HΦ
  iapply (hh hk hk2 hk4 (by omega) (by omega) (hO.mono (by omega))) $$ [Hp HO Hc]
  · isplitr; · iexact Hctx
    isplitl [Hp HO]
    · unfold St; isplitl [Hp]; · iexact Hp
      iexact HO
    iexact Hc
  iintro ⟨HSt, Hpay, Hc, Hr⟩
  have hpay : iprop(sendPay X Wt c j (32 + i) ∗ holdR c j (f4 (31 + i)) fullShare.right (got X Wt (31 + i) c j)) ⊢ holdR c j (f4 (31 + i)) fullShare (got X Wt (31 + i) c j) := by
    unfold sendPay; rw [if_neg (by omega), show 32 + i - 1 = 31 + i by omega]
    exact (holdR_share c j _ _).2
  ihave Hslot := hpay $$ [Hpay Hr']
  · isplitl [Hpay] <;> iassumption
  iapply (wp_stored X Wt κ ιs c j (st := i + 1) (by omega) (hO.mono (by omega)) (fun x => ⟨fun _ _ => by omega, fun _ _ => by omega⟩)) $$ [HSt HT]
  · isplitr; · iexact Hctx
    isplitl [HSt] <;> iassumption
  iintro ⟨HSt, Hpay⟩
  ihave Hpay := (storePay_right X Wt c j (by omega)) $$ Hpay
  icases Hpay with ⟨Hf, Hr'⟩
  ihave Hfin := (fin_snoc X Wt c j (b := i + 1) (by omega)) $$ [Hfin Hf]
  · isplitl [Hfin] <;> iassumption
  ihave Hrows := (Ico_head _ (show i + 2 < 31 by omega)) $$ Hrows
  icases Hrows with ⟨Hrow, Hrows⟩
  have hst := @wp_start F _ X Wt κ ιs c j O (34 + i) (35 + i) (33 + i) (31 + i) (31 + i) (i + 2)
  unfold storeQ at hst
  rw [if_neg (by omega), show 31 + (i + 2) = 33 + i by omega] at hst
  iapply (hst hk hrow (by omega)) $$ [HSt Hr Hrow]
  · isplitr; · iexact Hctx
    isplitl [HSt]; · iexact HSt
    isplitl [Hr]; · iexact Hr
    iexact Hrow
  iintro ⟨HSt, HT⟩
  by_cases h27 : i ≤ 26
  · rw [decide_eq_true h27, cond_true]
    iapply (wp_give X Wt κ ιs c j (m := 34 + i) (g := 31 + i) (by omega) (by omega)) $$ [HSt Hslot]
    · isplitr; · iexact Hctx
      isplitl [HSt] <;> iassumption
    iintro HSt
    iapply HΦ
    unfold St
    icases HSt with ⟨Hp, HO⟩
    rw [show min (31 + (i + 1)) 58 = 31 + i + 1 by omega, show 34 + (i + 1) = 35 + i by omega, show 33 + (i + 1) = 34 + i by omega, show 32 + (i + 1) = 33 + i by omega,
      show 30 + (i + 1) = 31 + i by omega, show 31 + (i + 1) = 32 + i by omega]
    isplitr [HO]
    · isplitl [Hp]; · iexact Hp
      isplitl [Hc']; · iexact Hc'
      isplitl [Hc]; · iexact Hc
      isplitl [HT]; · iexact HT
      isplitl [Hs]; · iexact Hs
      isplitl [Hs']; · iexact Hs'
      isplitl [Hr']; · iexact Hr'
      isplitl [Hrows Hfin Hlast]
      · isplitl [Hrows]; · iexact Hrows
        isplitl [Hfin] <;> iassumption
      iapply (keep58_emp X Wt c j (by omega))
    iexact HO
  · rw [decide_eq_false h27, cond_false]
    obtain rfl : i = 27 := by omega
    iapply le_wp_ret
    iapply HΦ
    unfold St
    icases HSt with ⟨Hp, HO⟩
    rw [keep58_slot]
    isplitr [HO]
    · isplitl [Hp]; · iexact Hp
      isplitl [Hc']; · iexact Hc'
      isplitl [Hc]; · iexact Hc
      isplitl [HT]; · iexact HT
      isplitl [Hs]; · iexact Hs
      isplitl [Hs']; · iexact Hs'
      isplitl [Hr']; · iexact Hr'
      isplitl [Hrows Hfin Hlast]
      · isplitl [Hrows]; · iexact Hrows
        isplitl [Hfin] <;> iassumption
      iexact Hslot
    iexact HO

theorem wp_agLast {O : CellTallies nD τ sig ℕ} {Φ : PUnit → sProp 𝕄} {row : Fin 8 → Row16} (hrow : row j = rowAt c j 30) (hO : Above O 125) :
    iprop(ctx X Wt κ ιs ∗ agM X Wt c j 28 ∗ owesX c (O + owedS c j 62 58))
      ⊢ iprop(((agE X Wt c j ∗ owesX c (O + owedS c j 62 58)) -∗ Φ ⟨⟩) -∗ wpc c (agStep (nextD c) (prevD c) false true false 1 0 0 row j) Φ) := by
  unfold agStep
  simp only [cond_true, cond_false, wp_bind]
  unfold agM rowsA
  rw [keep58_slot]
  iintro ⟨#Hctx, ⟨Hp, Hc, Hc', HT, Hs, Hs', Hr', ⟨Hrows, Hfin, Hlast⟩, H58⟩, HO⟩ HΦ
  iapply (wp_recv X Wt κ ιs c j (m := 61) (n := 62) (s := 60) (g := 58) (r := 58) (k := 1) rfl (by omega) hO (fun i => ⟨fun _ _ => by omega, fun _ _ => by omega⟩)) $$ [Hp HO]
  · isplitr; · iexact Hctx
    unfold St; isplitl [Hp]; · iexact Hp
    iexact HO
  iintro ⟨HSt, Hslot⟩
  iapply (wp_sent X Wt κ ιs c j (s := 60) (k := 0) rfl (by omega) (hO.mono (by omega)) (fun i => ⟨fun _ _ => by omega, fun _ _ => by omega⟩)) $$ [HSt Hc]
  · isplitr; · iexact Hctx
    isplitl [HSt] <;> iassumption
  iintro ⟨HSt, Hpay⟩
  have hpay : iprop(sendPay X Wt c j 60 ∗ holdR c j (f4 59) fullShare.right (got X Wt 59 c j)) ⊢ holdR c j (f4 59) fullShare (got X Wt 59 c j) := by
    unfold sendPay; rw [if_neg (by omega)]
    exact (holdR_share c j _ _).2
  ihave H59 := hpay $$ [Hpay Hr']
  · isplitl [Hpay] <;> iassumption
  iapply le_wp_ret
  iapply (wp_stored X Wt κ ιs c j (st := 29) (by omega) (hO.mono (by omega)) (fun x => ⟨fun _ _ => by omega, fun _ _ => by omega⟩)) $$ [HSt HT]
  · isplitr; · iexact Hctx
    isplitl [HSt] <;> iassumption
  iintro ⟨HSt, Hpay⟩
  ihave Hpay := (storePay_right X Wt c j (by omega)) $$ Hpay
  icases Hpay with ⟨Hf, Hr'⟩
  ihave Hfin := (fin_snoc X Wt c j (b := 29) (by omega)) $$ [Hfin Hf]
  · isplitl [Hfin] <;> iassumption
  ihave Hrows := (Ico_head _ (show 30 < 31 by omega)) $$ Hrows
  icases Hrows with ⟨Hrow, Hrows⟩
  iapply (wp_start X Wt κ ιs c j (u := 30) rfl hrow (by omega)) $$ [HSt Hslot Hrow]
  · isplitr; · iexact Hctx
    isplitl [HSt]; · iexact HSt
    isplitl [Hslot]; · unfold storeQ; rw [if_pos rfl]; iexact Hslot
    iexact Hrow
  iintro ⟨HSt, HT⟩
  iapply le_wp_ret
  iapply HΦ
  unfold St
  icases HSt with ⟨Hp, HO⟩
  isplitr [HO]
  · unfold agE rowsA
    isplitl [Hp]; · iexact Hp
    isplitl [Hc']; · iexact Hc'
    isplitl [HT]; · iexact HT
    isplitl [Hs]; · iexact Hs
    isplitl [Hs']; · iexact Hs'
    isplitl [H58]; · iexact H58
    isplitl [H59]; · iexact H59
    isplitl [Hr']; · iexact Hr'
    isplitl [Hrows]; · iexact Hrows
    isplitl [Hfin] <;> iassumption
  iexact HO

theorem wp_lastWaits {O : CellTallies nD τ sig ℕ} {Φ : PUnit → sProp 𝕄} (hO : Above O 0) :
    iprop(ctx X Wt κ ιs ∗ agE X Wt c j ∗ owesX c (O + owedS c j 62 58))
      ⊢ iprop(((agF X Wt c j ∗ owesX c (O + owedS c j 62 58)) -∗ Φ ⟨⟩) -∗ wpc c (lastWaits j) Φ) := by
  unfold lastWaits
  simp only [wp_bind]
  unfold agE rowsA
  iintro ⟨#Hctx, ⟨Hp, Hc, HT, Hs, Hs', H58, H59, Hr, Hrows, Hfin, Hlast⟩, HO⟩ HΦ
  iapply (wp_stored X Wt κ ιs c j (m := 62) (n := 62) (s := 61) (g := 58) (r := 58) (st := 30) (u := 31) (by omega) (hO.mono (by omega)) (fun x => ⟨fun _ _ => by omega, fun _ _ => by omega⟩)) $$ [Hp HO HT]
  · isplitr; · iexact Hctx
    isplitl [Hp HO]
    · unfold St; isplitl [Hp]; · iexact Hp
      iexact HO
    iexact HT
  iintro ⟨HSt, Hpay⟩
  ihave Hpay := (storePay_full X Wt c j) $$ Hpay
  icases Hpay with ⟨Hf, H61⟩
  ihave Hfin := (fin_snoc X Wt c j (b := 30) (by omega)) $$ [Hfin Hf]
  · isplitl [Hfin] <;> iassumption
  iapply (wp_sent X Wt κ ιs c j (s := 61) (k := 1) rfl (by omega) (hO.mono (by omega)) (fun i => ⟨fun _ _ => by omega, fun _ _ => by omega⟩)) $$ [HSt Hc]
  · isplitr; · iexact Hctx
    isplitl [HSt] <;> iassumption
  iintro ⟨HSt, Hpay⟩
  have hpay : iprop(sendPay X Wt c j 61 ∗ holdR c j (f4 60) fullShare.right (got X Wt 60 c j)) ⊢ holdR c j (f4 60) fullShare (got X Wt 60 c j) := by
    unfold sendPay; rw [if_neg (by omega)]
    exact (holdR_share c j _ _).2
  ihave H60 := hpay $$ [Hpay Hr]
  · isplitl [Hpay] <;> iassumption
  iapply HΦ
  unfold St
  icases HSt with ⟨Hp, HO⟩
  isplitr [HO]
  · unfold agF
    isplitl [Hp]; · iexact Hp
    isplitl [Hs]; · iexact Hs
    isplitl [Hs']; · iexact Hs'
    isplitl [H58]; · iexact H58
    isplitl [H59]; · iexact H59
    isplitl [H60]; · iexact H60
    isplitl [H61]; · iexact H61
    iapply (range_snoc (fun t => holdO c (rowAt c j t) (finV X Wt c j t)) 31)
    isplitl [Hfin] <;> iassumption
  iexact HO

end RS

end Cert.KernelIdeal.Allreduce

end
-- ==== Proof.Whole.lean ====
/-
  Whole buffers, in the pieces the steps hold: the output in blocks of sixteen rows, the two scratch buffers in slots.
-/
module

public import proofs.«01_k».proof.Proof.Stream
public import Idealize.ShloMosaic.Lib.Pipeline.ValueKit.Geometry
public import Idealize.ShloMosaic.Lib.Pipeline.Value
public import Idealize.ShloMosaic.Lib.SparseCore.Launch

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## The output -/

theorem mem_rowsO (r : Row16) (i : S4096x2048.Idx) : i ∈ (rowsO r).view.set ↔ r.1 ≤ (i 0).val ∧ (i 0).val < r.1 + 16 := by
  refine ValueKit.mem_set_slice_whole_iff cc0_stg3_0 (rectO r) i ?_
  refine Rect.mem_set_unit.trans (Fin.forall_fin_two.trans ⟨fun h => h.1, fun h => ⟨h, Nat.zero_le _, ?_⟩⟩)
  exact (Nat.zero_add 2048).symm ▸ (i 1).isLt

/-- The block a row of the output lies in: its stream and its step. -/
def blockJ (i : S4096x2048.Idx) : Fin 8 := ⟨(i 0).val % 128 / 16, by omega⟩
def blockT (c : Dev nD) (i : S4096x2048.Idx) : ℕ := (posN (posD c) (blockJ i) + 32 - (i 0).val / 128) % 32

theorem posN_lt (p : Fin 32) (j : Fin 8) : posN p.val j < 32 := by have := p.isLt; unfold posN; split <;> omega

theorem mem_rowAt (c : Dev nD) (j : Fin 8) {t : ℕ} (ht : t < 32) (i : S4096x2048.Idx) : i ∈ (rowsO (rowAt c j t)).view.set ↔ blockJ i = j ∧ blockT c i = t := by
  rw [mem_rowsO]
  have hq := posN_lt (posD c) j
  have hi : (i 0).val < 4096 := (i 0).isLt
  have hj := j.isLt
  show rowOf _ _ ≤ _ ∧ _ < rowOf _ _ + 16 ↔ _
  unfold rowOf blockT
  constructor
  · rintro ⟨h1, h2⟩
    have e : blockJ i = j := Fin.ext (by show (i 0).val % 128 / 16 = j.val; omega)
    rw [e]
    exact ⟨rfl, by omega⟩
  · rintro ⟨rfl, h⟩
    have e : (blockJ i).val = (i 0).val % 128 / 16 := rfl
    rw [e]
    omega

def blocks : Finset (Fin 8 × ℕ) := Finset.univ ×ˢ Finset.range 32
def blockSet (c : Dev nD) (x : Fin 8 × ℕ) : Finset (Idx (aO.view.loc (c : Thread nD τ))) := (rowsO (rowAt c x.1 x.2)).view.set

theorem blocks_disj (c : Dev nD) : ∀ x ∈ blocks, ∀ y ∈ blocks, x ≠ y → Disjoint (blockSet c x) (blockSet c y) := by
  intro x hx y hy hne
  refine Finset.disjoint_left.mpr fun i h h' => hne ?_
  have hx := Finset.mem_range.mp (Finset.mem_product.mp hx).2
  have hy := Finset.mem_range.mp (Finset.mem_product.mp hy).2
  have h1 := (mem_rowAt c x.1 hx i).mp h
  have h2 := (mem_rowAt c y.1 hy i).mp h'
  exact Prod.ext (h1.1.symm.trans h2.1) (h1.2.symm.trans h2.2)

theorem blocks_cover (c : Dev nD) : blocks.biUnion (blockSet c) = Finset.univ := by
  refine Finset.eq_univ_of_forall fun i => Finset.mem_biUnion.mpr ⟨(blockJ i, blockT c i), ?_, ?_⟩
  · exact Finset.mem_product.mpr ⟨Finset.mem_univ _, Finset.mem_range.mpr (Nat.mod_lt _ (by decide))⟩
  · exact (mem_rowAt c (blockJ i) (Nat.mod_lt _ (by decide)) i).mpr ⟨rfl, rfl⟩

theorem pointsTo_cover {ℓ : Loc nD τ sig} {T : Type} (S : Finset T) (K : T → Finset (Idx ℓ)) (hd : ∀ x ∈ S, ∀ y ∈ S, x ≠ y → Disjoint (K x) (K y))
    (hc : S.biUnion K = Finset.univ) (f : Buf (Elt F) ℓ) : (ℓ ↦[Finset.univ]{fullShare} f : sProp 𝕄) = bigSep S fun x => ℓ ↦[K x]{fullShare} f := by
  rw [← hc]; exact pointsTo_biUnion S K hd

theorem holdO_read (c : Dev nD) (r : Row16) (f : Buf (Elt F) ((rowsO r).view.loc (c : Thread nD τ))) :
    ((rowsO r).view.loc (c : Thread nD τ) ↦[(rowsO r).view.set]{fullShare} f : sProp 𝕄) = holdO c r ((rowsO r).view.read (Elt F) f) := by
  unfold holdO
  exact pointsTo_rep (Ix := ℕ) (Name := ℕ) (U := UU) (Lvl := ℕ) (c : Thread nD τ) (rowsO r) f fullShare

/-- The whole output, block by block. -/
theorem out_blocks (c : Dev nD) (f : Buf (Elt F) (aO.view.loc (c : Thread nD τ))) :
    (aO.view.loc (c : Thread nD τ) ↦[Finset.univ]{fullShare} f : sProp 𝕄)
      = bigSep Finset.univ fun j : Fin 8 => bigSep (Finset.range 32) fun t => holdO c (rowAt c j t) ((rowsO (rowAt c j t)).view.read (Elt F) f) := by
  refine (pointsTo_cover blocks (blockSet c) (blocks_disj c) (blocks_cover c) f).trans ?_
  unfold blocks
  refine (SparseCore.bigSep_product _ _ _).trans ?_
  exact bigSep_congr fun j _ => bigSep_congr fun t _ => holdO_read c (rowAt c j t) f

/-! ## The scratch buffers -/

theorem mem_slotS (j : Fin 8) (k : Fin 2) (i : S8x2x16x2048.Idx) : i ∈ (slotS j k).view.set ↔ (i 0 = j ∧ i 1 = k) := by
  rw [show (slotS j k).view.set = ((View.whole cc0_scratch0).slice (rectS j k)).set from View.set_reshape _ _]
  refine ValueKit.mem_set_slice_whole_iff cc0_scratch0 (rectS j k) i ?_
  refine Rect.mem_set_unit.trans ⟨fun h => ?_, fun h a => ?_⟩
  · have h0 : j.val ≤ (i 0).val ∧ (i 0).val < j.val + 1 := h 0
    have h1 : k.val ≤ (i 1).val ∧ (i 1).val < k.val + 1 := h 1
    exact ⟨Fin.ext (by omega), Fin.ext (by omega)⟩
  · obtain ⟨h0, h1⟩ := h
    subst h0 h1
    fin_cases a
    · exact ⟨Nat.le_refl _, Nat.lt_succ_self _⟩
    · exact ⟨Nat.le_refl _, Nat.lt_succ_self _⟩
    · exact ⟨Nat.zero_le _, (Nat.zero_add 16).symm ▸ (i 2).isLt⟩
    · exact ⟨Nat.zero_le _, (Nat.zero_add 2048).symm ▸ (i 3).isLt⟩
theorem mem_slotR (j : Fin 8) (k : Fin 4) (i : S8x4x16x2048.Idx) : i ∈ (slotR j k).view.set ↔ (i 0 = j ∧ i 1 = k) := by
  rw [show (slotR j k).view.set = ((View.whole cc0_scratch1).slice (rectR j k)).set from View.set_reshape _ _]
  refine ValueKit.mem_set_slice_whole_iff cc0_scratch1 (rectR j k) i ?_
  refine Rect.mem_set_unit.trans ⟨fun h => ?_, fun h a => ?_⟩
  · have h0 : j.val ≤ (i 0).val ∧ (i 0).val < j.val + 1 := h 0
    have h1 : k.val ≤ (i 1).val ∧ (i 1).val < k.val + 1 := h 1
    exact ⟨Fin.ext (by omega), Fin.ext (by omega)⟩
  · obtain ⟨h0, h1⟩ := h
    subst h0 h1
    fin_cases a
    · exact ⟨Nat.le_refl _, Nat.lt_succ_self _⟩
    · exact ⟨Nat.le_refl _, Nat.lt_succ_self _⟩
    · exact ⟨Nat.zero_le _, (Nat.zero_add 16).symm ▸ (i 2).isLt⟩
    · exact ⟨Nat.zero_le _, (Nat.zero_add 2048).symm ▸ (i 3).isLt⟩

def slotSetS (x : Fin 8 × Fin 2) : Finset S8x2x16x2048.Idx := (slotS x.1 x.2).view.set
def slotSetR (x : Fin 8 × Fin 4) : Finset S8x4x16x2048.Idx := (slotR x.1 x.2).view.set

/-- Pieces of a buffer at contents not chosen, parted by a label of the elements: the buffer at contents not chosen. -/
theorem slots_whole {ℓ : Loc nD τ sig} {T : Type} [Fintype T] [DecidableEq T] (K : T → Finset (Idx ℓ)) (lab : Idx ℓ → T) (hK : ∀ x i, i ∈ K x ↔ lab i = x)
    [Nonempty (Buf (Elt F) ℓ)] :
    (iprop(∃ f, ℓ ↦[Finset.univ]{fullShare} f) : sProp 𝕄) ⊣⊢ bigSep Finset.univ fun x => slot ℓ (K x) := by
  have hd : ∀ x ∈ (Finset.univ : Finset T), ∀ y ∈ (Finset.univ : Finset T), x ≠ y → Disjoint (K x) (K y) := fun x _ y _ hne =>
    Finset.disjoint_left.mpr fun i h h' => hne (((hK x i).mp h).symm.trans ((hK y i).mp h'))
  have hc : (Finset.univ : Finset T).biUnion K = Finset.univ :=
    Finset.eq_univ_of_forall fun i => Finset.mem_biUnion.mpr ⟨lab i, Finset.mem_univ _, (hK _ i).mpr rfl⟩
  have hin : ∀ f : Buf (Elt F) ℓ, (ℓ ↦[Finset.univ]{fullShare} f : sProp 𝕄) ⊢ bigSep Finset.univ fun x => slot ℓ (K x) := fun f => by
    rw [pointsTo_cover Finset.univ K hd hc f]
    refine bigSep_mono fun x _ => ?_
    have : (ℓ ↦[K x]{fullShare} f : sProp 𝕄) ⊢ slot ℓ (K x) := by unfold slot; iintro H; iexists f; iexact H
    exact this
  constructor
  · iintro ⟨%f, H⟩
    iapply (hin f); iexact H
  · unfold slot
    iintro H
    ihave H := (bigSep_exists_pi Finset.univ fun x (f : Buf (Elt F) ℓ) => (ℓ ↦[K x]{fullShare} f : sProp 𝕄)) $$ H
    icases H with ⟨%fs, H⟩
    ihave H := (pointsTo_biUnion_join Finset.univ K fs (Classical.choice inferInstance) hd) $$ H
    icases H with ⟨%g, -, H⟩
    rw [hc]
    iexists g
    iexact H

instance {ℓ : Loc nD τ sig} : Nonempty (Buf (Elt F) ℓ) := ⟨fun _ => Classical.choice inferInstance⟩

theorem sendBuf_slots (c : Dev nD) : (iprop(∃ f, aS.view.loc (c : Thread nD τ) ↦[Finset.univ]{fullShare} f) : sProp 𝕄)
    ⊣⊢ bigSep Finset.univ fun j : Fin 8 => bigSep Finset.univ fun k : Fin 2 => anyS c j k := by
  have h := slots_whole (F := F) (ℓ := aS.view.loc (c : Thread nD τ)) (T := Fin 8 × Fin 2) (fun x => slotSetS x) (fun i => (i 0, i 1)) fun x i =>
    (mem_slotS x.1 x.2 i).trans Prod.mk_inj.symm
  rw [← Finset.univ_product_univ, SparseCore.bigSep_product] at h
  exact h
theorem recvBuf_slots (c : Dev nD) : (iprop(∃ f, aR.view.loc (c : Thread nD τ) ↦[Finset.univ]{fullShare} f) : sProp 𝕄)
    ⊣⊢ bigSep Finset.univ fun j : Fin 8 => bigSep Finset.univ fun k : Fin 4 => anyR c j k := by
  have h := slots_whole (F := F) (ℓ := aR.view.loc (c : Thread nD τ)) (T := Fin 8 × Fin 4) (fun x => slotSetR x) (fun i => (i 0, i 1)) fun x i =>
    (mem_slotR x.1 x.2 i).trans Prod.mk_inj.symm
  rw [← Finset.univ_product_univ, SparseCore.bigSep_product] at h
  exact h

end Cert.KernelIdeal.Allreduce

end
-- ==== Proof.All.lean ====
/-
  A device's streams together: the reduce-scatter and the all-gather, step by step and through the two loops.
-/
module

public import proofs.«01_k».proof.Proof.Whole

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

theorem rowRS_at (c : Dev nD) (j : Fin 8) {sw : BitVec 32} (hs : sw.toNat < 32) {t : ℕ} (ht : t = sw.toNat + 1) : rowRS (posD c) sw hs j = rowAt c j t := by
  subst ht
  refine Subtype.ext ?_
  show (Scalar.indexCast (wordRS (BitVec.ofNat 32 (posD c).val) sw j)).toNat = rowOf (posN (posD c) j + 32 - (sw.toNat + 1)) j
  have h := wordRS_nat (posD c) ⟨_, hs⟩ j
  rw [show posN (posD c) j + 32 - (sw.toNat + 1) = posN (posD c) j + 31 - sw.toNat by omega]
  refine Eq.trans ?_ h
  exact congrArg (fun v => (wordRS _ v j).toNat) (ofNat_toNat_fin hs)
theorem rowAG_at (c : Dev nD) (j : Fin 8) {tw : BitVec 32} (hs : tw.toNat < 32) {t : ℕ} (ht : t = tw.toNat) : rowAG (posD c) tw hs j = rowAt c j t := by
  subst ht
  refine Subtype.ext ?_
  refine Eq.trans ?_ (wordAG_nat (posD c) ⟨_, hs⟩ j)
  exact congrArg (fun v => (wordAG _ v j).toNat) (ofNat_toNat_fin hs)
theorem rowFS_at (c : Dev nD) (j : Fin 8) : rowFS (posD c) j = rowAt c j 0 := by
  refine Subtype.ext ?_
  refine (wordFS_nat (posD c) j).trans ?_
  show rowOf _ _ = rowOf _ _
  unfold rowOf
  omega

variable (X : Dev nD → Vec F S4096x128 .bf16) (Wt : Dev nD → Vec F S128x2048 .bf16)
variable (κ : GSem nD τ sig → ℕ) (ιs : Key → ℕ) (c : Dev nD)

/-- Every stream at `P`, with what the streams owe. -/
def allP (P : Fin 8 → sProp 𝕄) (n g : ℕ) : sProp 𝕄 := iprop(bigSep Finset.univ P ∗ owesX c (∑ j, owedS c j n g))

theorem all_wp (f : Fin 8 → Prog (TC F) PUnit) (P Q : Fin 8 → sProp 𝕄) {n g n' g' : ℕ} (l : ℕ) (hA : Ahead l n g) (hB : Ahead l n' g')
    (h : ∀ j O (Φ : PUnit → sProp 𝕄), Above O l → iprop(ctx X Wt κ ιs ∗ P j ∗ owesX c (O + owedS c j n g))
      ⊢ iprop(((Q j ∗ owesX c (O + owedS c j n' g')) -∗ Φ ⟨⟩) -∗ wpc c (f j) Φ)) {Φ : PUnit → sProp 𝕄} :
    iprop(ctx X Wt κ ιs ∗ allP c P n g) ⊢ iprop((allP c Q n' g' -∗ Φ ⟨⟩) -∗ wpc c (forJ f) Φ) :=
  forJ_wp c f P Q l (fun j => owedS_above c j hA) (fun j => owedS_above c j hB) (ctx X Wt κ ιs) h

theorem all_rs {m : ℕ} {cw wp : Bool} {k : Fin 4} {k2 : Fin 2} {k4 : Fin 4} {row : Fin 8 → Row16} {Φ : PUnit → sProp 𝕄}
    (hcw : cw = decide (3 ≤ m)) (hwp : wp = decide (1 ≤ m)) (hk : k = f4 m) (hk2 : k2 = f2 (m + 1)) (hk4 : k4 = f4 (m + 1)) (hrow : ∀ j, row j = rowAt c j (m + 1))
    (hm : m < 30) :
    iprop(ctx X Wt κ ιs ∗ allP c (fun j => rsP X Wt c j m) (m + 1) m)
      ⊢ iprop((allP c (fun j => rsP X Wt c j (m + 1)) (m + 2) (m + 1) -∗ Φ ⟨⟩) -∗ wpc c (forJ (rsStep (nextD c) (prevD c) cw wp k k2 k4 row)) Φ) :=
  all_wp X Wt κ ιs c _ _ _ (2 * m + 3) (fun i => ⟨fun _ _ => by omega, fun _ _ => by omega⟩) (fun i => ⟨fun _ _ => by omega, fun _ _ => by omega⟩)
    fun j _ _ hO => wp_rsStep X Wt κ ιs c j hcw hwp hk hk2 hk4 (hrow j) hm hO

theorem all_agMid {i : ℕ} {sg : Bool} {k : Fin 4} {k2 : Fin 2} {k4 : Fin 4} {row : Fin 8 → Row16} {Φ : PUnit → sProp 𝕄} (hi : i < 28)
    (hsg : sg = decide (i ≤ 26)) (hk : k = f4 (33 + i)) (hk2 : k2 = f2 (32 + i)) (hk4 : k4 = f4 (34 + i)) (hrow : ∀ j, row j = rowAt c j (i + 2)) :
    iprop(ctx X Wt κ ιs ∗ allP c (fun j => agM X Wt c j i) (34 + i) (min (31 + i) 58))
      ⊢ iprop((allP c (fun j => agM X Wt c j (i + 1)) (34 + (i + 1)) (min (31 + (i + 1)) 58) -∗ Φ ⟨⟩)
        -∗ wpc c (forJ (agStep (nextD c) (prevD c) true true sg k k2 k4 row)) Φ) :=
  all_wp X Wt κ ιs c _ _ _ (2 * i + 69) (fun i => ⟨fun _ _ => by omega, fun _ _ => by omega⟩) (fun i => ⟨fun _ _ => by omega, fun _ _ => by omega⟩)
    fun j _ _ hO => wp_agMid X Wt κ ιs c j hi hsg hk hk2 hk4 (hrow j) hO

theorem f4_mul (a b : ℕ) : f4 (4 * a + b) = f4 b := Fin.ext (by show (4 * a + b) % 4 = b % 4; omega)
theorem f2_mul (a b : ℕ) : f2 (4 * a + b) = f2 b := Fin.ext (by show (4 * a + b) % 2 = b % 2; omega)

def rsI (k : ℕ) : sProp 𝕄 := iprop(ctx X Wt κ ιs ∗ allP c (fun j => rsP X Wt c j (4 * k + 4)) (4 * k + 5) (4 * k + 4))
def agI (k : ℕ) : sProp 𝕄 := iprop(ctx X Wt κ ιs ∗ allP c (fun j => agM X Wt c j (4 * k)) (34 + 4 * k) (min (31 + 4 * k) 58))

theorem rs_row (t : Fin k0_t1_loop.trips) (a : Fin 4) (w : BitVec 32) (hw : w = BitVec.ofNat 32 a.val) (h : (rsWord t w).toNat < 32) (j : Fin 8) :
    rowRS (posD c) (rsWord t w) h j = rowAt c j (4 * t.val + 4 + a.val + 1) :=
  rowRS_at c j h (by subst hw; have := rsWord_nat t a; omega)
theorem ag_row (t : Fin k0_t2_loop.trips) (a : Fin 4) (w : BitVec 32) (hw : w = BitVec.ofNat 32 a.val) (h : (agWord t w).toNat < 32) (j : Fin 8) :
    rowAG (posD c) (agWord t w) h j = rowAt c j (4 * t.val + a.val + 2) :=
  rowAG_at c j h (by subst hw; have := agWord_nat t a; omega)

theorem trips_rs : k0_t1_loop.trips = 6 := by decide
theorem trips_ag : k0_t2_loop.trips = 7 := by decide

theorem wp_rsBody (t : Fin k0_t1_loop.trips) (acc : Unit) : rsI X Wt κ ιs c t.val ⊢ wpc c (rsBody (nextD c) (prevD c) (posD c) t acc) fun _ => rsI X Wt κ ιs c (t.val + 1) := by
  have ht : t.val < 6 := trips_rs ▸ t.isLt
  unfold rsBody
  simp only [wp_bind]
  unfold rsI
  iintro ⟨#Hctx, H⟩
  iapply (all_rs X Wt κ ιs c (m := 4 * t.val + 4) (decide_eq_true (by omega)).symm (decide_eq_true (by omega)).symm (f4_mul t.val 4).symm (f2_mul t.val 5).symm (f4_mul t.val 5).symm (rs_row c t 0 _ rfl _) (by omega)) $$ [H]
  · isplitr; · iexact Hctx
    iexact H
  iintro H
  iapply (all_rs X Wt κ ιs c (m := 4 * t.val + 5) (decide_eq_true (by omega)).symm (decide_eq_true (by omega)).symm (f4_mul t.val 5).symm (f2_mul t.val 6).symm (f4_mul t.val 6).symm (rs_row c t 1 _ rfl _) (by omega)) $$ [H]
  · isplitr; · iexact Hctx
    iexact H
  iintro H
  iapply (all_rs X Wt κ ιs c (m := 4 * t.val + 6) (decide_eq_true (by omega)).symm (decide_eq_true (by omega)).symm (f4_mul t.val 6).symm (f2_mul t.val 7).symm (f4_mul t.val 7).symm (rs_row c t 2 _ rfl _) (by omega)) $$ [H]
  · isplitr; · iexact Hctx
    iexact H
  iintro H
  iapply (all_rs X Wt κ ιs c (m := 4 * t.val + 7) (decide_eq_true (by omega)).symm (decide_eq_true (by omega)).symm (f4_mul t.val 7).symm (f2_mul t.val 8).symm (f4_mul t.val 8).symm (rs_row c t 3 _ rfl _) (by omega)) $$ [H]
  · isplitr; · iexact Hctx
    iexact H
  iintro H
  iapply le_wp_ret
  isplitr; · iexact Hctx
  iexact H

theorem ble_decide {a b : ℕ} (i : ℕ) (h : a ≤ b ↔ i ≤ 26) : Nat.ble a b = decide (i ≤ 26) := by
  rw [Bool.eq_iff_iff, Nat.ble_eq, decide_eq_true_eq]; exact h

theorem wp_agBody (t : Fin k0_t2_loop.trips) (acc : Unit) : agI X Wt κ ιs c t.val ⊢ wpc c (agBody (nextD c) (prevD c) (posD c) t acc) fun _ => agI X Wt κ ιs c (t.val + 1) := by
  have ht : t.val < 7 := trips_ag ▸ t.isLt
  unfold agBody
  simp only [wp_bind]
  unfold agI
  have e33 : ∀ i, 33 + (4 * t.val + i) = 4 * t.val + (33 + i) := fun i => by omega
  have e32 : ∀ i, 32 + (4 * t.val + i) = 4 * t.val + (32 + i) := fun i => by omega
  have e34 : ∀ i, 34 + (4 * t.val + i) = 4 * t.val + (34 + i) := fun i => by omega
  iintro ⟨#Hctx, H⟩
  iapply (all_agMid X Wt κ ιs c (i := 4 * t.val + 0) (by omega) (ble_decide _ (by omega)) (by rw [e33, f4_mul]; rfl) (by rw [e32, f2_mul]; rfl) (by rw [e34, f4_mul]; rfl) (ag_row c t 0 _ rfl _)) $$ [H]
  · isplitr; · iexact Hctx
    iexact H
  iintro H
  iapply (all_agMid X Wt κ ιs c (i := 4 * t.val + 1) (by omega) (ble_decide _ (by omega)) (by rw [e33, f4_mul]; rfl) (by rw [e32, f2_mul]; rfl) (by rw [e34, f4_mul]; rfl) (ag_row c t 1 _ rfl _)) $$ [H]
  · isplitr; · iexact Hctx
    iexact H
  iintro H
  iapply (all_agMid X Wt κ ιs c (i := 4 * t.val + 2) (by omega) (ble_decide _ (by omega)) (by rw [e33, f4_mul]; rfl) (by rw [e32, f2_mul]; rfl) (by rw [e34, f4_mul]; rfl) (ag_row c t 2 _ rfl _)) $$ [H]
  · isplitr; · iexact Hctx
    iexact H
  iintro H
  iapply (all_agMid X Wt κ ιs c (i := 4 * t.val + 3) (by omega) (ble_decide _ (by omega)) (by rw [e33, f4_mul]; rfl) (by rw [e32, f2_mul]; rfl) (by rw [e34, f4_mul]; rfl) (ag_row c t 3 _ rfl _)) $$ [H]
  · isplitr; · iexact Hctx
    iexact H
  iintro H
  iapply le_wp_ret
  isplitr; · iexact Hctx
  iexact H

theorem loop_wp (c : Dev nD) (lp : Scf.Loop 32) (ok : lp.OK) (body : Fin lp.trips → Unit → Prog (TC F) Unit) (I : ℕ → Unit → sProp 𝕄)
    (hb : ∀ k acc, I k.val acc ⊢ wpc c (body k acc) (I (k.val + 1))) {Q : Unit → sProp 𝕄} :
    iprop(I 0 () ∗ (∀ acc, I lp.trips acc -∗ Q acc)) ⊢ wpc c (Scf.Loop.for lp ok () body) Q :=
  Scf.wp_for _ _ _ lp.lb lp.ub lp.st ok () body I hb

/-- From the first step of the reduce-scatter on. -/
def steps (dR dL : Dev nD) (p : Fin 32) : Prog (TC F) PUnit := do
  forJ (rsStep dR dL false false 0 1 1 (rowRS p 0#32 (by decide)))
  forJ (rsStep dR dL false true 1 0 2 (rowRS p 1#32 (by decide)))
  forJ (rsStep dR dL false true 2 1 3 (rowRS p 2#32 (by decide)))
  forJ (rsStep dR dL true true 3 0 0 (rowRS p 3#32 (by decide)))
  Scf.Loop.for k0_t1_loop Facts₀.k0_t1_ok ⟨⟩ (rsBody dR dL p)
  forJ (rsStep dR dL true true 0 1 1 (rowRS p 28#32 (by decide)))
  forJ (rsStep dR dL true true 1 0 2 (rowRS p 29#32 (by decide)))
  forJ (rsLast dR dL (rowRS p 30#32 (by decide)))
  forJ (agStep dR dL true false false 3 0 0 (rowAG p 0#32 (by decide)))
  forJ (agStep dR dL true true false 0 1 1 (rowAG p 1#32 (by decide)))
  Scf.Loop.for k0_t2_loop Facts₀.k0_t2_ok ⟨⟩ (agBody dR dL p)
  forJ (agStep dR dL false true false 1 0 0 (rowAG p 30#32 (by decide)))
  forJ lastWaits

theorem rest_steps (dR dL : Dev nD) (p : Fin 32) :
    rest (F := F) dR dL p = (do let w ← front dR dL p; forJ (firstSend dR dL (rowFS p)); gemm w; steps dR dL p) := rfl

theorem wp_steps {Φ : PUnit → sProp 𝕄} :
    iprop(ctx X Wt κ ιs ∗ allP c (fun j => rsP X Wt c j 0) 1 0)
      ⊢ iprop((allP c (fun j => agF X Wt c j) 62 58 -∗ Φ ⟨⟩) -∗ wpc c (steps (nextD c) (prevD c) (posD c)) Φ) := by
  unfold steps
  simp only [wp_bind]
  iintro ⟨#Hctx, H⟩ HΦ
  iapply (all_rs X Wt κ ιs c (m := 0) rfl rfl rfl rfl rfl (fun j => rowRS_at c j _ rfl) (by omega)) $$ [H]
  · isplitr; · iexact Hctx
    iexact H
  iintro H
  iapply (all_rs X Wt κ ιs c (m := 1) rfl rfl rfl rfl rfl (fun j => rowRS_at c j _ rfl) (by omega)) $$ [H]
  · isplitr; · iexact Hctx
    iexact H
  iintro H
  iapply (all_rs X Wt κ ιs c (m := 2) rfl rfl rfl rfl rfl (fun j => rowRS_at c j _ rfl) (by omega)) $$ [H]
  · isplitr; · iexact Hctx
    iexact H
  iintro H
  iapply (all_rs X Wt κ ιs c (m := 3) rfl rfl rfl rfl rfl (fun j => rowRS_at c j _ rfl) (by omega)) $$ [H]
  · isplitr; · iexact Hctx
    iexact H
  iintro H
  iapply (loop_wp c k0_t1_loop Facts₀.k0_t1_ok (rsBody (nextD c) (prevD c) (posD c))
    (fun k _ => rsI X Wt κ ιs c k) (wp_rsBody X Wt κ ιs c))
  isplitl [H]
  · unfold rsI
    isplitr; · iexact Hctx
    iexact H
  iintro %_ H
  rw [trips_rs]
  unfold rsI
  icases H with ⟨-, H⟩
  iapply (all_rs X Wt κ ιs c (m := 28) rfl rfl rfl rfl rfl (fun j => rowRS_at c j _ rfl) (by omega)) $$ [H]
  · isplitr; · iexact Hctx
    iexact H
  iintro H
  iapply (all_rs X Wt κ ιs c (m := 29) rfl rfl rfl rfl rfl (fun j => rowRS_at c j _ rfl) (by omega)) $$ [H]
  · isplitr; · iexact Hctx
    iexact H
  iintro H
  iapply (all_wp X Wt κ ιs c _ _ (fun j => agA X Wt c j) (n := 31) (g := 30) (n' := 32) (g' := 31) 63 (fun i => ⟨fun _ _ => by omega, fun _ _ => by omega⟩) (fun i => ⟨fun _ _ => by omega, fun _ _ => by omega⟩)
    fun j _ _ hO => wp_rsLast X Wt κ ιs c j (rowRS_at c j _ rfl) hO) $$ [H]
  · isplitr; · iexact Hctx
    iexact H
  iintro H
  iapply (all_wp X Wt κ ιs c _ _ (fun j => agB X Wt c j) (n := 32) (g := 31) (n' := 33) (g' := 31) 65 (fun i => ⟨fun _ _ => by omega, fun _ _ => by omega⟩) (fun i => ⟨fun _ _ => by omega, fun _ _ => by omega⟩)
    fun j _ _ hO => wp_agFirst X Wt κ ιs c j (rowAG_at c j _ rfl) hO) $$ [H]
  · isplitr; · iexact Hctx
    iexact H
  iintro H
  iapply (all_wp X Wt κ ιs c _ _ (fun j => agM X Wt c j 0) (n := 33) (g := 31) (n' := 34) (g' := 31) 67 (fun i => ⟨fun _ _ => by omega, fun _ _ => by omega⟩) (fun i => ⟨fun _ _ => by omega, fun _ _ => by omega⟩)
    fun j _ _ hO => wp_agSecond X Wt κ ιs c j (rowAG_at c j _ rfl) hO) $$ [H]
  · isplitr; · iexact Hctx
    iexact H
  iintro H
  iapply (loop_wp c k0_t2_loop Facts₀.k0_t2_ok (agBody (nextD c) (prevD c) (posD c))
    (fun k _ => agI X Wt κ ιs c k) (wp_agBody X Wt κ ιs c))
  isplitl [H]
  · unfold agI
    isplitr; · iexact Hctx
    iexact H
  iintro %_ H
  rw [trips_ag]
  unfold agI
  icases H with ⟨-, H⟩
  iapply (all_wp X Wt κ ιs c _ _ (fun j => agE X Wt c j) (n := 62) (g := 58) (n' := 62) (g' := 58) 125 (fun i => ⟨fun _ _ => by omega, fun _ _ => by omega⟩) (fun i => ⟨fun _ _ => by omega, fun _ _ => by omega⟩)
    fun j _ _ hO => wp_agLast X Wt κ ιs c j (rowAG_at c j _ rfl) hO) $$ [H]
  · isplitr; · iexact Hctx
    iexact H
  iintro H
  iapply (all_wp X Wt κ ιs c _ _ (fun j => agF X Wt c j) (n := 62) (g := 58) (n' := 62) (g' := 58) 0 (fun i => ⟨fun _ _ => by omega, fun _ _ => by omega⟩) (fun i => ⟨fun _ _ => by omega, fun _ _ => by omega⟩)
    fun j _ _ hO => wp_lastWaits X Wt κ ιs c j hO) $$ [H]
  · isplitr; · iexact Hctx
    iexact H
  iintro H
  iapply HΦ; iexact H

end Cert.KernelIdeal.Allreduce

end
-- ==== Proof.Front.lean ====
/-
  The entry of a device's body — the barrier and the two chunks of the first messages — and the local product.
-/
module

public import proofs.«01_k».proof.Proof.All

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Whole buffers -/

def holdX (c : Dev nD) (x : Vec F S4096x128 .bf16) : sProp 𝕄 := aX.view.loc (c : Thread nD τ) ↦[Finset.univ]{fullShare} x
def holdW (c : Dev nD) (w : Vec F S128x2048 .bf16) : sProp 𝕄 := aW.view.loc (c : Thread nD τ) ↦[Finset.univ]{fullShare} w
def allO (c : Dev nD) (f : Vec F S4096x2048 .bf16) : sProp 𝕄 := aO.view.loc (c : Thread nD τ) ↦[Finset.univ]{fullShare} f

theorem wp_gemm (c : Dev nD) (x : Vec F S4096x128 .bf16) (f : Vec F S4096x2048 .bf16) (w : FVec F S128x2048 .bf16) {Φ : PUnit → sProp 𝕄} :
    iprop(holdX c x ∗ allO c f) ⊢ iprop(((holdX c x ∗ allO c (k0_pay56 w x)) -∗ Φ ⟨⟩) -∗ wpc c (gemm w) Φ) := by
  have hx : (aX.access (Rect.unit (s := S4096x128) ![0, 0] S4096x128.size Facts₀.inb_S4096x128_S4096x128_0_0)).read (Elt F) x = x :=
    funext fun i => congrArg x (Rect.emb_unit_full _ i)
  have hw : ∀ v : Vec F S4096x2048 .bf16, (aO.access (Rect.unit (s := S4096x2048) ![0, 0] S4096x2048.size Facts₀.inb_S4096x2048_S4096x2048_0_0)).write (Elt F) f v Finset.univ = v :=
    fun v => funext fun i => (congrArg _ (Rect.emb_unit_full (s := S4096x2048) Facts₀.inb_S4096x2048_S4096x2048_0_0 i).symm).trans
      (View.write_emb_of_mem (v := aO.access (Rect.unit (s := S4096x2048) ![0, 0] S4096x2048.size Facts₀.inb_S4096x2048_S4096x2048_0_0)) f v (Finset.mem_univ i))
  unfold holdX allO gemm
  simp only [wp_bind]
  iintro ⟨Hx, Ho⟩ HΦ
  iapply (wp_load_rect 𝒱₀ (c : Thread nD τ) none Set.univ (m := aX) (r := Rect.unit (s := S4096x128) ![0, 0] S4096x128.size Facts₀.inb_S4096x128_S4096x128_0_0)
    (S := Finset.univ) (q := fullShare) (f := x) (Finset.subset_univ _)) $$ [Hx]
  · iexact Hx
  rw [hx]
  iintro Hx
  iapply le_wp_ret
  iapply (wp_load_rect 𝒱₀ (c : Thread nD τ) none Set.univ (m := aO) (r := Rect.unit (s := S4096x2048) ![0, 0] S4096x2048.size Facts₀.inb_S4096x2048_S4096x2048_0_0)
    (S := Finset.univ) (q := fullShare) (f := f) (Finset.subset_univ _)) $$ [Ho]
  · iexact Ho
  iintro Ho
  iapply le_wp_ret
  iapply (wp_store 𝒱₀ (c : Thread nD τ) none Set.univ (m := aO) (r := Rect.unit (s := S4096x2048) ![0, 0] S4096x2048.size Facts₀.inb_S4096x2048_S4096x2048_0_0)
    (w := k0_pay56 w x) (Mk := Finset.univ) (S := Finset.univ) (f := f) (Finset.subset_univ _)) $$ [Ho]
  · iexact Ho
  rw [hw]
  iintro Ho
  iapply le_wp_ret
  iapply HΦ
  isplitl [Hx]; · iexact Hx
  iexact Ho

/-! ## The two chunks -/

section Chunk
variable (v : Row128 → FVec F S128x2048 .bf16)

theorem mem_rowsOC (r : Row128) (i : S4096x2048.Idx) : i ∈ (aO.access (rectOC r)).set ↔ r.1 ≤ (i 0).val ∧ (i 0).val < r.1 + 128 := by
  refine ValueKit.mem_set_slice_whole_iff cc0_stg3_0 (rectOC r) i ?_
  refine Rect.mem_set_unit.trans (Fin.forall_fin_two.trans ⟨fun h => h.1, fun h => ⟨h, Nat.zero_le _, ?_⟩⟩)
  exact (Nat.zero_add 2048).symm ▸ (i 1).isLt

/-- A chunk written, read at a row of it. -/
theorem chunk_on (r : Row128) (f : Vec F S4096x2048 .bf16) (i : S4096x2048.Idx) (z : S128x2048.Idx) (h0 : (i 0).val = r.1 + (z 0).val) (h1 : (i 1).val = (z 1).val) :
    (aO.access (rectOC r)).write (Elt F) f (v r) Finset.univ i = v r z := by
  have hi : (rectOC r).emb z = i := funext fun a => Fin.ext (by
    refine (ValueKit.rect_emb_unit_val _ _ _ _ _).trans ?_
    match a with
    | ⟨0, _⟩ => exact h0.symm
    | ⟨1, _⟩ => exact (Nat.zero_add _).trans h1.symm)
  exact (congrArg _ hi.symm).trans (View.write_emb_of_mem (v := aO.access (rectOC r)) f (v r) (Finset.mem_univ z))
/-- Off it. -/
theorem chunk_off (r : Row128) (f : Vec F S4096x2048 .bf16) (i : S4096x2048.Idx) (h : ¬ (r.1 ≤ (i 0).val ∧ (i 0).val < r.1 + 128)) :
    (aO.access (rectOC r)).write (Elt F) f (v r) Finset.univ i = f i :=
  View.write_of_not_mem (v := aO.access (rectOC r)) f (v r) Finset.univ fun hm => h ((mem_rowsOC r i).mp hm)

/-- Both chunks written, each is there: the same rows hold the same product. -/
theorem chunk_two (r r' s : Row128) (hs : s = r ∨ s = r') (f : Vec F S4096x2048 .bf16) (i : S4096x2048.Idx) (z : S128x2048.Idx)
    (h0 : (i 0).val = s.1 + (z 0).val) (h1 : (i 1).val = (z 1).val) :
    (aO.access (rectOC r')).write (Elt F) ((aO.access (rectOC r)).write (Elt F) f (v r) Finset.univ) (v r') Finset.univ i = v s z := by
  by_cases he : s = r'
  · subst he; exact chunk_on v s _ i z h0 h1
  · obtain rfl := hs.resolve_right he
    refine (chunk_off v r' _ i ?_).trans (chunk_on v s f i z h0 h1)
    have hne : s.1 ≠ r'.1 := fun h => he (Subtype.ext h)
    obtain ⟨a, ha⟩ := s.2.1
    obtain ⟨b, hb⟩ := r'.2.1
    have hz : (z 0).val < 128 := (z 0).isLt
    omega

end Chunk

theorem wordCF (p : Fin 32) (j : Fin 8) (hj : j.val < 4) : (rowCF p).1 = 128 * posN p.val j := by
  unfold posN; rw [if_pos hj]
  have : ∀ p : Fin 32, (Scalar.indexCast (Scalar.muli (BitVec.ofNat 32 p.val) 128#32)).toNat = 128 * p.val := by decide
  exact this p
theorem wordCB (p : Fin 32) (j : Fin 8) (hj : ¬ j.val < 4) : (rowCB p).1 = 128 * posN p.val j := by
  unfold posN; rw [if_neg hj]
  have : ∀ p : Fin 32, (Scalar.indexCast (Scalar.muli (Scalar.remsi (Scalar.subi 32#32 (BitVec.ofNat 32 p.val)) 32#32) 128#32)).toNat = 128 * ((32 - p.val) % 32) := by decide
  exact this p

theorem chunkRow_mem (c : Dev nD) (j : Fin 8) : chunkRow c j = rowCF (posD c) ∨ chunkRow c j = rowCB (posD c) := by
  by_cases h : j.val < 4
  · exact .inl (Subtype.ext (wordCF (posD c) j h).symm)
  · exact .inr (Subtype.ext (wordCB (posD c) j h).symm)

variable (X : Dev nD → Vec F S4096x128 .bf16) (Wt : Dev nD → Vec F S128x2048 .bf16)
variable (κ : GSem nD τ sig → ℕ) (ιs : Key → ℕ) (c : Dev nD)

/-- The product of 128 rows. -/
def chunkAt (r : Row128) : FVec F S128x2048 .bf16 := k0_pay46 (k0_pay44 (Wt c)) ((aX.access (rectXC r)).read (Elt F) (X c))

/-- The output with both chunks written. -/
def twoChunks (f : Vec F S4096x2048 .bf16) : Vec F S4096x2048 .bf16 :=
  (aO.access (rectOC (rowCB (posD c)))).write (Elt F) ((aO.access (rectOC (rowCF (posD c)))).write (Elt F) f (chunkAt X Wt c (rowCF (posD c))) Finset.univ) (chunkAt X Wt c (rowCB (posD c))) Finset.univ

/-- Where a row of a stream's first message is in its chunk. -/
def inChunk (j : Fin 8) (i : S16x2048.Idx) : S128x2048.Idx := fun a => match a with
  | ⟨0, _⟩ => ⟨16 * j.val + (i 0).val, by have h := j.isLt; have h' : (i 0).val < 16 := (i 0).isLt; show _ < 128; omega⟩
  | ⟨1, _⟩ => i 1
theorem firstV_at (j : Fin 8) (i : S16x2048.Idx) : firstV X Wt c j i = chunkAt X Wt c (chunkRow c j) (inChunk j i) := by
  have e : chunkV X Wt c j = chunkAt X Wt c (chunkRow c j) := rfl
  unfold firstV
  rw [e]
  exact congrArg _ (funext fun a => match a with | ⟨0, _⟩ => rfl | ⟨1, _⟩ => rfl)

theorem twoChunks_read (f : Vec F S4096x2048 .bf16) (j : Fin 8) : (rowsO (rowAt c j 0)).view.read (Elt F) (twoChunks X Wt c f) = firstV X Wt c j := by
  funext i
  have hi : (i 0).val < 16 := (i 0).isLt
  have hj := j.isLt
  have hread : ∀ g : Vec F S4096x2048 .bf16, (rowsO (rowAt c j 0)).view.read (Elt F) g i = g ((rectO (rowAt c j 0)).emb i) := fun g => rfl
  rw [hread, firstV_at]
  unfold twoChunks
  refine chunk_two (chunkAt X Wt c) (rowCF (posD c)) (rowCB (posD c)) (chunkRow c j) (chunkRow_mem c j) f ((rectO (rowAt c j 0)).emb i) (inChunk j i) ?_ ?_
  · refine (ValueKit.rect_emb_unit_val _ _ _ _ _).trans ?_
    show rowOf (posN (posD c).val j + 32 - 0) j + (i 0).val = 128 * posN (posD c).val j + (16 * j.val + (i 0).val)
    have := posN_lt (posD c) j
    unfold rowOf; omega
  · exact (ValueKit.rect_emb_unit_val _ _ _ _ _).trans (Nat.zero_add _)

/-! ## The barrier -/

/-- What a device holds of the barrier at the start. -/
def barPre (c : Dev nD) : sProp 𝕄 :=
  iprop(dutyTok ER (barCell (prevD c)) 0 0 ∗ dutyTok ER (barCell (nextD c)) 0 1 ∗ reached ER (barCell (prevD c)) 0 ∗ reached ER (barCell (nextD c)) 0
    ∗ cred (tallyAt (barCell c) 1 2) ∗ atPos ER (barCell c) 0 ∅ 0)
/-- What it owes of it. -/
def owedB (c : Dev nD) : CellTallies nD τ sig ℕ := tallyAt (barCell (nextD c)) 1 1 + tallyAt (barCell (prevD c)) 1 1

theorem rest_bar (c : Dev nD) : bigSep ((rd X Wt).duties (barCell c) 0 \ ∅) (fun d => (rd X Wt).payload (barCell c) 0 d) ⊢ iprop(freed0 (F := F) (nextD c) ∗ freed0 (prevD c)) := by
  rw [duties_bar, Finset.sdiff_empty]
  rw [show Finset.range 2 = insert 0 {1} from by decide, bigSep_insert (by decide), bigSep_singleton, payload_bar, payload_bar]
  unfold barPay
  rw [if_pos rfl, if_neg (by decide)]
  exact .rfl

/-- The three operations. -/
def barOps (dR dL : Dev nD) : Prog (TC F) PUnit := do
  semSignalWord dL (SemArray.scalar (sig.barrier 0 rfl) : Sems sig S_).sem 1#32
  semSignalWord dR (SemArray.scalar (sig.barrier 0 rfl) : Sems sig S_).sem 1#32
  semWaitWord (SemArray.scalar (sig.barrier 0 rfl) : Sems sig S_).sem 2#32

theorem wp_bar {O : CellTallies nD τ sig ℕ} {Φ : PUnit → sProp 𝕄} (hO : Above O 1) :
    iprop(ctx X Wt κ ιs ∗ barPre c ∗ freed0 c ∗ owesX c (O + owedB c))
      ⊢ iprop(((freed0 (nextD c) ∗ freed0 (prevD c) ∗ atPos ER (barCell c) 1 ∅ 0 ∗ owesX c O) -∗ Φ ⟨⟩) -∗ wpc c (barOps (nextD c) (prevD c)) Φ) := by
  unfold barPre owesX barOps semSignalWord semWaitWord
  simp only [wp_bind]
  rw [show (1#32 : BitVec 32).toInt = ((1 : ℕ) : ℤ) from rfl, show (2#32 : BitVec 32).toInt = ((2 : ℕ) : ℤ) from rfl]
  iintro ⟨#Hctx, ⟨HtP, HtN, #HrP, #HrN, Hc, Hat⟩, #Hfr, %W, HO⟩ HΦ
  iapply (Rounds.wp_signal 𝒱₀ ER (rd X Wt) (c : Thread nD τ) none (dst := (prevD c : Thread nD τ)) (sem := barS) (r := 0) (d := 0) (k' := 1) (κ := κ (barCell (prevD c)))
      (by rw [duties_bar]; decide) rfl 1 (O₀ := O + owedB c) (O + tallyAt (barCell (nextD c)) 1 1) (by unfold owedB; rw [add_assoc]) (W := W)) $$ [HO HtP]
  · isplitr; · iapply (ctx_cell X Wt κ ιs (bar_mem (prevD c))); iexact Hctx
    isplitl [HO]; · iexact HO
    isplitl [HtP]; · iexact HtP
    isplitr; · rw [payload_bar]; unfold barPay; rw [if_pos rfl, next_prev]; iexact Hfr
    iexact HrP
  iintro HO
  iapply le_wp_ret
  iapply (Rounds.wp_signal 𝒱₀ ER (rd X Wt) (c : Thread nD τ) none (dst := (nextD c : Thread nD τ)) (sem := barS) (r := 0) (d := 1) (k' := 1) (κ := κ (barCell (nextD c)))
      (by rw [duties_bar]; decide) rfl 1 (O₀ := O + tallyAt (barCell (nextD c)) 1 1) O rfl (W := W)) $$ [HO HtN]
  · isplitr; · iapply (ctx_cell X Wt κ ιs (bar_mem (nextD c))); iexact Hctx
    isplitl [HO]; · iexact HO
    isplitl [HtN]; · iexact HtN
    isplitr; · rw [payload_bar]; unfold barPay; rw [if_neg (by decide), prev_next]; iexact Hfr
    iexact HrN
  iintro HO
  iapply le_wp_ret
  iapply (Rounds.wp_wait_rest_token 𝒱₀ ER (rd X Wt) (c : Thread nD τ) none (κ := κ (barCell c)) (sm := .reg barS) (k' := 2)
      (wpE_semWait_eq 𝒱₀ (c : Thread nD τ) none Set.univ) (Set.mem_univ _) 1 (O := O) (W := W) (R := 0) (m := 0) (T := ∅)
      ((Nat.zero_add 2).trans (expect_bar X Wt c).symm)) $$ [Hc HO Hat]
  · isplitr; · iapply (ctx_cell X Wt κ ιs (bar_mem c)); iexact Hctx
    isplitl [Hc]; · iexact Hc
    isplitl [HO]; · iexact HO
    isplitr; · iapply (ctx_may X Wt κ ιs c _ (by omega) hO); iexact Hctx
    iexact Hat
  iintro ⟨HO, Hat, -, Hpay⟩
  iapply le_wp_ret
  ihave Hp := (rest_bar X Wt c) $$ Hpay
  icases Hp with ⟨Hn, Hp⟩
  iapply HΦ
  isplitl [Hn]; · iexact Hn
  isplitl [Hp]; · iexact Hp
  isplitl [Hat]; · iexact Hat
  iexists _; iexact HO

/-- The loads and stores of the entry. -/
def chunkOps (p : Fin 32) : Prog (TC F) (FVec F S128x2048 .bf16) := do
  let w ← Prog.lift (.load aW (Rect.unit (s := S128x2048) ![0, 0] S128x2048.size Facts₀.inb_S128x2048_S128x2048_0_0).toLoadRect (View.loadsAt_vmem Facts₀.h_S128x2048))
  let x ← Prog.lift (.load aX (rectXC (rowCF p)).toLoadRect (View.loadsAt_vmem Facts₀.h_S128x128))
  let _ ← Prog.lift (.load aO (rectOC (rowCF p)).toLoadRect (View.loadsAt_vmem Facts₀.h_S128x2048))
  Prog.lift (.store aO (rectOC (rowCF p)) (k0_pay45 w x) Finset.univ (View.stores_vmem Facts₀.h_S128x2048 (wholeO.storeExact_slice rfl _ (packedOC (rowCF p))) (fun _ => rfl)) (.inl rfl))
  let y ← Prog.lift (.load aX (rectXC (rowCB p)).toLoadRect (View.loadsAt_vmem Facts₀.h_S128x128))
  let _ ← Prog.lift (.load aO (rectOC (rowCB p)).toLoadRect (View.loadsAt_vmem Facts₀.h_S128x2048))
  Prog.lift (.store aO (rectOC (rowCB p)) (k0_pay46 (k0_pay44 w) y) Finset.univ (View.stores_vmem Facts₀.h_S128x2048 (wholeO.storeExact_slice rfl _ (packedOC (rowCB p))) (fun _ => rfl)) (.inl rfl))
  pure (k0_pay44 w)

theorem front_eq (dR dL : Dev nD) (p : Fin 32) : front (F := F) dR dL p = (do barOps dR dL; chunkOps p) := rfl

theorem wp_chunks (f : Vec F S4096x2048 .bf16) {Φ : FVec F S128x2048 .bf16 → sProp 𝕄} :
    iprop(holdX c (X c) ∗ holdW c (Wt c) ∗ allO c f)
      ⊢ iprop(((holdX c (X c) ∗ holdW c (Wt c) ∗ allO c (twoChunks X Wt c f)) -∗ Φ (k0_pay44 (Wt c))) -∗ wpc c (chunkOps (posD c)) Φ) := by
  have hw : ∀ w : Vec F S128x2048 .bf16, (aW.access (Rect.unit (s := S128x2048) ![0, 0] S128x2048.size Facts₀.inb_S128x2048_S128x2048_0_0)).read (Elt F) w = w :=
    fun w => funext fun i => congrArg w (Rect.emb_unit_full _ i)
  unfold holdX holdW allO chunkOps
  simp only [wp_bind]
  iintro ⟨Hx, Hw, Ho⟩ HΦ
  iapply (wp_load_rect 𝒱₀ (c : Thread nD τ) none Set.univ (m := aW) (r := Rect.unit (s := S128x2048) ![0, 0] S128x2048.size Facts₀.inb_S128x2048_S128x2048_0_0)
    (S := Finset.univ) (q := fullShare) (f := Wt c) (Finset.subset_univ _)) $$ [Hw]
  · iexact Hw
  rw [hw]
  iintro Hw
  iapply le_wp_ret
  iapply (wp_load_rect 𝒱₀ (c : Thread nD τ) none Set.univ (m := aX) (r := rectXC (rowCF (posD c))) (S := Finset.univ) (q := fullShare) (f := X c) (Finset.subset_univ _)) $$ [Hx]
  · iexact Hx
  iintro Hx
  iapply le_wp_ret
  iapply (wp_load_rect 𝒱₀ (c : Thread nD τ) none Set.univ (m := aO) (r := rectOC (rowCF (posD c))) (S := Finset.univ) (q := fullShare) (f := f) (Finset.subset_univ _)) $$ [Ho]
  · iexact Ho
  iintro Ho
  iapply le_wp_ret
  iapply (wp_store 𝒱₀ (c : Thread nD τ) none Set.univ (m := aO) (r := rectOC (rowCF (posD c)))
    (w := chunkAt X Wt c (rowCF (posD c))) (Mk := Finset.univ) (S := Finset.univ) (f := f) (Finset.subset_univ _)) $$ [Ho]
  · iexact Ho
  iintro Ho
  iapply le_wp_ret
  iapply (wp_load_rect 𝒱₀ (c : Thread nD τ) none Set.univ (m := aX) (r := rectXC (rowCB (posD c))) (S := Finset.univ) (q := fullShare) (f := X c) (Finset.subset_univ _)) $$ [Hx]
  · iexact Hx
  iintro Hx
  iapply le_wp_ret
  iapply (wp_load_rect 𝒱₀ (c : Thread nD τ) none Set.univ (m := aO) (r := rectOC (rowCB (posD c))) (S := Finset.univ) (q := fullShare)
    (f := (aO.access (rectOC (rowCF (posD c)))).write (Elt F) f (chunkAt X Wt c (rowCF (posD c))) Finset.univ) (Finset.subset_univ _)) $$ [Ho]
  · iexact Ho
  iintro Ho
  iapply le_wp_ret
  iapply (wp_store 𝒱₀ (c : Thread nD τ) none Set.univ (m := aO) (r := rectOC (rowCB (posD c)))
    (w := chunkAt X Wt c (rowCB (posD c))) (Mk := Finset.univ) (S := Finset.univ)
    (f := (aO.access (rectOC (rowCF (posD c)))).write (Elt F) f (chunkAt X Wt c (rowCF (posD c))) Finset.univ) (Finset.subset_univ _)) $$ [Ho]
  · iexact Ho
  iintro Ho
  iapply le_wp_ret
  iapply le_wp_ret
  iapply HΦ
  isplitl [Hx]; · iexact Hx
  isplitl [Hw]; · iexact Hw
  unfold twoChunks
  iexact Ho

end Cert.KernelIdeal.Allreduce

end
-- ==== Proof.Eq.lean ====
module

public import proofs.«01_k».proof.Proof.Steps

@[expose] public section

noncomputable section

namespace Cert.KernelIdeal.Allreduce

open Idealize.ShloMosaic Idealize.ShloMosaic.TcCoe Idealize.SL.Sem
open Cert.KernelIdeal.Gen

variable {F : FTy → Type} [FloatOps F]

abbrev devW (v : BitVec 32) : Nat := (Scalar.addi 0#32 (Scalar.muli v 1#32)).toNat
theorem devR_lt (v21 : BitVec 32) (h : k0_chk2 v21) : devW v21 < nD := k0_dev2_lt v21 h
theorem devL_lt (v30 : BitVec 32) (h : k0_chk1 v30) : devW v30 < nD := k0_dev1_lt v30 h

/-- Two programs whose next effect is the same and which continue alike are the same. -/
theorem op_congr {E : Type → Type} {α β : Type} {e : E β} {k k' : β → Prog E α} (h : ∀ x, k x = k' x) : Prog.op e k = Prog.op e k' := congrArg (Prog.op e) (funext h)

set_option maxRecDepth 65536 in
set_option maxHeartbeats 4000000 in
theorem rsBody_eq (p : Fin 32) (h3 : k0_chk3 (BitVec.ofNat 32 p.val)) (v21 : BitVec 32) (h2 : k0_chk2 v21) (v30 : BitVec 32) (h1 : k0_chk1 v30) (t : Fin k0_t1_loop.trips) :
    Gen.k0_t1_body (F := F) aX (Memref.isWhole_whole _) aW (Memref.isWhole_whole _) aT (Memref.isWhole_whole _) aO (Memref.isWhole_whole _) aS (Memref.isWhole_whole _) aR (Memref.isWhole_whole _) cc0_scratch2 cc0_scratch3 cc0_scratch4 cc0_scratch5 cc0_scratch6 cc0_scratch7 cc0_scratch8 cc0_scratch9 cc0_scratch10 cc0_scratch11 cc0_scratch12
      (BitVec.ofNat 32 p.val) h3 v21 h2 v30 h1 (Scalar.remsi (Scalar.subi 32#32 (BitVec.ofNat 32 p.val)) 32#32) t () = rsBody ⟨devW v21, devR_lt v21 h2⟩ ⟨devW v30, devL_lt v30 h1⟩ p t () := by
  repeat (refine op_congr fun _ => ?_)
  rfl

/-- The condition under which an all-gather step gives a credit, as a word. -/
abbrev agCond (t : Fin k0_t2_loop.trips) (c : BitVec 32) : BitVec 1 := Scalar.cmpi .ne ((Scalar.extui (Scalar.cmpi .sle (agWord t c) 28#32)) : BitVec 32) 0#32

theorem agCond_nat : ∀ (t : Fin k0_t2_loop.trips) (c : Fin 4), (agCond t (BitVec.ofNat 32 c.val) = 1#1 ↔ Nat.ble (2 + c.val + 4 * t.val) 28 = true) := by decide

theorem agCond_pos {t : Fin k0_t2_loop.trips} {c : BitVec 32} (h : c.toNat < 4) (h' : Nat.ble (2 + c.toNat + 4 * t.val) 28 = true) : agCond t c = 1#1 := by
  have := (agCond_nat t ⟨_, h⟩).2 h'
  rwa [BitVec.ofNat_toNat, BitVec.setWidth_eq] at this
theorem agCond_neg {t : Fin k0_t2_loop.trips} {c : BitVec 32} (h : c.toNat < 4) (h' : Nat.ble (2 + c.toNat + 4 * t.val) 28 = false) : ¬ agCond t c = 1#1 := by
  intro hc
  have := (agCond_nat t ⟨_, h⟩).1 (by rwa [BitVec.ofNat_toNat, BitVec.setWidth_eq])
  rw [h'] at this; cases this

/-- A program that has returned goes on with what follows. -/
theorem ret_step {E : Type → Type} {α β : Type} {x : β} {k : β → Prog E α} {R : Prog E α} (h : k x = R) : (Prog.ret x >>= k) = R := h

/-- A branch taken, and one not taken, at the head of a program. -/
theorem dif_step {E : Type → Type} {α β : Type} {c : Prop} {inst : Decidable c} {A : c → Prog E β} {B : ¬ c → Prog E β} {k : β → Prog E α} {R : Prog E α} (hc : c) (h : (A hc >>= k) = R) : (dite c A B >>= k) = R := by
  rw [dif_pos hc]; exact h
theorem dif_step_neg {E : Type → Type} {α β : Type} {c : Prop} {inst : Decidable c} {A : c → Prog E β} {B : ¬ c → Prog E β} {k : β → Prog E α} {R : Prog E α} (hc : ¬ c) (h : (B hc >>= k) = R) : (dite c A B >>= k) = R := by
  rw [dif_neg hc]; exact h

theorem dif_last {E : Type → Type} {α : Type} {c : Prop} {inst : Decidable c} {A : c → Prog E α} {B : ¬ c → Prog E α} {R : Prog E α} (hc : c) (h : A hc = R) : dite c A B = R := by
  rw [dif_pos hc]; exact h
theorem dif_last_neg {E : Type → Type} {α : Type} {c : Prop} {inst : Decidable c} {A : c → Prog E α} {B : ¬ c → Prog E α} {R : Prog E α} (hc : ¬ c) (h : B hc = R) : dite c A B = R := by
  rw [dif_neg hc]; exact h

section
attribute [local irreducible] instDecidableEqBitVec

set_option maxRecDepth 65536 in
set_option maxHeartbeats 4000000 in
theorem agBody_eq (p : Fin 32) (h3 : k0_chk3 (BitVec.ofNat 32 p.val)) (v21 : BitVec 32) (h2 : k0_chk2 v21) (v30 : BitVec 32) (h1 : k0_chk1 v30) (v34 v36 v38 v40 v42 v44 v46 v48 : BitVec 32) (t : Fin k0_t2_loop.trips) :
    Gen.k0_t2_body (F := F) aX (Memref.isWhole_whole _) aW (Memref.isWhole_whole _) aT (Memref.isWhole_whole _) aO (Memref.isWhole_whole _) aS (Memref.isWhole_whole _) aR (Memref.isWhole_whole _) cc0_scratch2 cc0_scratch3 cc0_scratch4 cc0_scratch5 cc0_scratch6 cc0_scratch7 cc0_scratch8 cc0_scratch9 cc0_scratch10 cc0_scratch11 cc0_scratch12
      (BitVec.ofNat 32 p.val) h3 v21 h2 v30 h1 v34 v36 v38 v40 v42 v44 v46 v48 t () = agBody ⟨devW v21, devR_lt v21 h2⟩ ⟨devW v30, devL_lt v30 h1⟩ p t () := by
  have ht : t.val < 7 := t.isLt
  have h0 : Nat.ble (2 + 4 * t.val) 28 = true := Nat.ble_eq_true_of_le (by omega)
  have h1' : Nat.ble (3 + 4 * t.val) 28 = true := Nat.ble_eq_true_of_le (by omega)
  have h2' : Nat.ble (4 + 4 * t.val) 28 = true := Nat.ble_eq_true_of_le (by omega)
  unfold agBody
  rw [h0, h1', h2']
  rcases h : Nat.ble (5 + 4 * t.val) 28
  all_goals
    repeat (first
        | refine op_congr fun _ => ?_
        | refine ret_step (dif_step (agCond_pos (by decide) (by assumption)) ?_)
        | refine ret_step (dif_step_neg (agCond_neg (by decide) (by assumption)) ?_)
        | refine dif_step (agCond_pos (by decide) (by assumption)) ?_
        | refine dif_step_neg (agCond_neg (by decide) (by assumption)) ?_
        | refine (Prog.bind_assoc _ _ _).trans ?_)
    first
      | refine ret_step (dif_last (agCond_pos (by decide) (by assumption)) ?_)
      | refine ret_step (dif_last_neg (agCond_neg (by decide) (by assumption)) ?_)
    repeat (refine op_congr fun _ => ?_)
    rfl
end

end Cert.KernelIdeal.Allreduce
-- ==== Proof.Split.lean ====
module

public import proofs.«01_k».proof.Proof.Eq

@[expose] public section

noncomputable section

namespace Cert.KernelIdeal.Allreduce

open Idealize.ShloMosaic Idealize.ShloMosaic.TcCoe Idealize.SL.Sem
open Cert.KernelIdeal.Gen

variable {F : FTy → Type} [FloatOps F]

/-- Two counted loops with the same trips, followed by programs that agree, agree. -/
theorem for_step {E : Type → Type} {α β : Type} {w : Nat} {L : Scf.Loop w} {ok : L.OK} {i : β} {b b' : Fin L.trips → β → Prog E β} {k k' : β → Prog E α} (hb : ∀ t x, b t x = b' t x) (hk : ∀ x, k x = k' x) :
    (Scf.Loop.for L ok i b >>= k) = (Scf.Loop.for L ok i b' >>= k') := by
  have h1 : b = b' := funext fun t => funext fun x => hb t x
  have h2 : k = k' := funext hk
  rw [h1, h2]

set_option maxRecDepth 65536 in
set_option maxHeartbeats 4000000 in
/-- The printed body is its opening (the device's word, the table's three words) and then the steps. -/
theorem body_split : ∃ R : _ → Prog (TC F) PUnit, cc0_body (F := F) aX (Memref.isWhole_whole _) aW (Memref.isWhole_whole _) aT (Memref.isWhole_whole _) aO (Memref.isWhole_whole _) aS (Memref.isWhole_whole _) aR (Memref.isWhole_whole _) cc0_scratch2 cc0_scratch3 cc0_scratch4 cc0_scratch5 cc0_scratch6 cc0_scratch7 cc0_scratch8 cc0_scratch9 cc0_scratch10 cc0_scratch11 cc0_scratch12 = (k0_part120_skel (F := F) aX (Memref.isWhole_whole _) aW (Memref.isWhole_whole _) aT (Memref.isWhole_whole _) aO (Memref.isWhole_whole _) aS (Memref.isWhole_whole _) aR (Memref.isWhole_whole _) cc0_scratch2 cc0_scratch3 cc0_scratch4 cc0_scratch5 cc0_scratch6 cc0_scratch7 cc0_scratch8 cc0_scratch9 cc0_scratch10 cc0_scratch11 cc0_scratch12 >>= R) ∧
    ∀ (p : Fin 32) (h3 : k0_chk3 (BitVec.ofNat 32 p.val)) (v21 : BitVec 32) (h2 : k0_chk2 v21) (v30 : BitVec 32) (h1 : k0_chk1 v30),
      R ⟨BitVec.ofNat 32 p.val, h3, v21, h2, v30, h1, Scalar.remsi (Scalar.subi 32#32 (BitVec.ofNat 32 p.val)) 32#32, Scalar.remsi (Scalar.addi (BitVec.ofNat 32 p.val) 1#32) 32#32, Scalar.addi (BitVec.ofNat 32 p.val) 1#32, 32#32⟩
        = rest ⟨devW v21, devR_lt v21 h2⟩ ⟨devW v30, devL_lt v30 h1⟩ p := by
  refine ⟨?R, ?a, ?b⟩
  case a =>
    rw [cc0_body_eq_skeleton]; unfold cc0_body_skel; rw [k0_part268_eq_skeleton]; unfold k0_part268_skel
    rw [Prog.bind_assoc]; rfl
  intro p h3 v21 h2 v30 h1
  repeat (refine op_congr fun _ => ?_)
  iterate 8 (try refine (Prog.bind_assoc _ _ _).trans ?_)
  iterate 8 (try refine Eq.trans ?_ (Prog.bind_assoc _ _ _).symm)
  refine for_step (fun _ _ => rsBody_eq _ _ _ _ _ _ _) fun _ => ?_
  repeat (refine op_congr fun _ => ?_)
  iterate 8 (try refine (Prog.bind_assoc _ _ _).trans ?_)
  iterate 8 (try refine Eq.trans ?_ (Prog.bind_assoc _ _ _).symm)
  refine for_step (fun _ _ => agBody_eq _ _ _ _ _ _ _ _ _ _ _ _ _ _ _) fun _ => ?_
  repeat (refine op_congr fun _ => ?_)
  rfl

end Cert.KernelIdeal.Allreduce
-- ==== Proof.Table.lean ====
/-
  The opening of a device's body: the table's words for its place on the ring and its two neighbours, and the conditions on them.
-/
module

public import proofs.«01_k».proof.Proof.Front
public import proofs.«01_k».proof.Proof.Split
public import Idealize.ShloMosaic.PureOps.Reduce
public import Mathlib.Data.BitVec

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## The conditions on the words -/

/-- Offsets at sixteen rows of the output. -/
def Good (off : Fin 2 → ℕ) : Prop := ∃ r : Row16, off = ![r.1, 0]

theorem good_inb {off : Fin 2 → ℕ} (h : Good off) : ∀ a, off a + S16x2048.size a ≤ S4096x2048.size a := by
  obtain ⟨r, rfl⟩ := h; exact row16_inb r
theorem good_packed {off : Fin 2 → ℕ} (h : Good off) (hinb : ∀ a, off a + S16x2048.size a ≤ S4096x2048.size a) :
    (Rect.unit (s := S4096x2048) off S16x2048.size hinb).PackedRows (EltTy.packing .bf16) := by
  obtain ⟨r, rfl⟩ := h; exact packedO r

theorem good_fs (p : Fin 32) (j : Fin 8) : Good ![(wordFS (BitVec.ofNat 32 p.val) j).toNat, 0] := ⟨rowFS p j, rfl⟩
theorem good_rs (p : Fin 32) {s : BitVec 32} (hs : s.toNat < 32) (j : Fin 8) : Good ![(wordRS (BitVec.ofNat 32 p.val) s j).toNat, 0] := ⟨rowRS p s hs j, rfl⟩
theorem good_ag (p : Fin 32) {s : BitVec 32} (hs : s.toNat < 32) (j : Fin 8) : Good ![(wordAG (BitVec.ofNat 32 p.val) s j).toNat, 0] := ⟨rowAG p s hs j, rfl⟩

theorem word_lt (s : Fin 32) : (BitVec.ofNat 32 s.val).toNat < 32 := by rw [BitVec.toNat_ofNat]; omega

theorem at7 : ∀ r : Fin 28, ∃ s : Fin 32, ∃ j : Fin 4, k0_off7_at r = (BitVec.ofNat 32 s.val, BitVec.ofNat 32 (16 * j.val)) := by decide
theorem at8 : ∀ r : Fin 28, ∃ s : Fin 32, ∃ j : Fin 4, k0_off8_at r = (BitVec.ofNat 32 s.val, BitVec.ofNat 32 (64 + 16 * j.val)) := by decide
theorem at11 : ∀ r : Fin 12, ∃ s : Fin 32, ∃ j : Fin 4, k0_off11_at r = (BitVec.ofNat 32 s.val, BitVec.ofNat 32 (16 * j.val)) := by decide
theorem at12 : ∀ r : Fin 12, ∃ s : Fin 32, ∃ j : Fin 4, k0_off12_at r = (BitVec.ofNat 32 s.val, BitVec.ofNat 32 (64 + 16 * j.val)) := by decide

section
variable (p : Fin 32)

theorem good5 (r : Fin 4) : Good (k0_off5 (BitVec.ofNat 32 p.val) (BitVec.ofNat 32 (16 * r.val))) := by
  fin_cases r
  exacts [good_fs p 0, good_fs p 1, good_fs p 2, good_fs p 3]
theorem good6 (r : Fin 4) : Good (k0_off6 (BitVec.ofNat 32 p.val) (BitVec.ofNat 32 (64 + 16 * r.val))) := by
  fin_cases r
  exacts [good_fs p 4, good_fs p 5, good_fs p 6, good_fs p 7]
theorem good7 (r : Fin 28) : Good (k0_off7 (BitVec.ofNat 32 p.val) (k0_off7_at r).1 (k0_off7_at r).2) := by
  obtain ⟨s, j, h⟩ := at7 r
  rw [h]
  have hs := word_lt s
  fin_cases j
  exacts [good_rs p hs 0, good_rs p hs 1, good_rs p hs 2, good_rs p hs 3]
theorem good8 (r : Fin 28) : Good (k0_off8 (BitVec.ofNat 32 p.val) (k0_off8_at r).1 (k0_off8_at r).2) := by
  obtain ⟨s, j, h⟩ := at8 r
  rw [h]
  have hs := word_lt s
  fin_cases j
  exacts [good_rs p hs 4, good_rs p hs 5, good_rs p hs 6, good_rs p hs 7]
theorem good9 (t : Fin k0_t1_loop.trips) (a j : Fin 4) : Good (k0_off9 (BitVec.ofNat 32 p.val) t (BitVec.ofNat 32 a.val) (BitVec.ofNat 32 (16 * j.val))) := by
  have hs := rsWord_lt t a
  fin_cases j
  exacts [good_rs p hs 0, good_rs p hs 1, good_rs p hs 2, good_rs p hs 3]
theorem good10 (t : Fin k0_t1_loop.trips) (a j : Fin 4) : Good (k0_off10 (BitVec.ofNat 32 p.val) t (BitVec.ofNat 32 a.val) (BitVec.ofNat 32 (64 + 16 * j.val))) := by
  have hs := rsWord_lt t a
  fin_cases j
  exacts [good_rs p hs 4, good_rs p hs 5, good_rs p hs 6, good_rs p hs 7]
theorem good11 (r : Fin 12) : Good (k0_off11 (BitVec.ofNat 32 p.val) (k0_off11_at r).1 (k0_off11_at r).2) := by
  obtain ⟨s, j, h⟩ := at11 r
  rw [h]
  have hs := word_lt s
  fin_cases j
  exacts [good_ag p hs 0, good_ag p hs 1, good_ag p hs 2, good_ag p hs 3]
theorem good12 (r : Fin 12) : Good (k0_off12 (BitVec.ofNat 32 p.val) (k0_off12_at r).1 (k0_off12_at r).2) := by
  obtain ⟨s, j, h⟩ := at12 r
  rw [h]
  have hs := word_lt s
  fin_cases j
  exacts [good_ag p hs 4, good_ag p hs 5, good_ag p hs 6, good_ag p hs 7]
theorem good13 (t : Fin k0_t2_loop.trips) (a j : Fin 4) : Good (k0_off13 (BitVec.ofNat 32 p.val) t (BitVec.ofNat 32 a.val) (BitVec.ofNat 32 (16 * j.val))) := by
  have hs := agWord_lt t a
  fin_cases j
  exacts [good_ag p hs 0, good_ag p hs 1, good_ag p hs 2, good_ag p hs 3]
theorem good14 (t : Fin k0_t2_loop.trips) (a j : Fin 4) : Good (k0_off14 (BitVec.ofNat 32 p.val) t (BitVec.ofNat 32 a.val) (BitVec.ofNat 32 (64 + 16 * j.val))) := by
  have hs := agWord_lt t a
  fin_cases j
  exacts [good_ag p hs 4, good_ag p hs 5, good_ag p hs 6, good_ag p hs 7]

/-- A place on the ring meets the conditions. -/
theorem chk3_ok : k0_chk3 (BitVec.ofNat 32 p.val) :=
  ⟨row128_inbX (rowCF p), row128_inb (rowCF p), fun _ => packedOC (rowCF p), row128_inbX (rowCB p), row128_inb (rowCB p), fun _ => packedOC (rowCB p),
    fun r => good_inb (good5 p r), fun r => good_inb (good6 p r), fun r => good_inb (good7 p r), fun r => good_inb (good8 p r),
    fun t a j => good_inb (good9 p t a j), fun t a j => good_inb (good10 p t a j),
    fun r => good_packed (good7 p r), fun r => good_packed (good8 p r),
    fun r => good_inb (good11 p r), fun r => fun hb => (good_packed (good11 p r) hb).wholeWords, fun r => good_inb (good12 p r), fun r => fun hb => (good_packed (good12 p r) hb).wholeWords,
    fun t a j => good_inb (good13 p t a j), fun t a j => fun hb => (good_packed (good13 p t a j) hb).wholeWords,
    fun t a j => good_inb (good14 p t a j), fun t a j => fun hb => (good_packed (good14 p t a j) hb).wholeWords⟩

end

/-- So does a device. -/
theorem chk2_ok {v : BitVec 32} (h : devW v < nD) : k0_chk2 v := by
  unfold k0_chk2 k0_chk2_0 k0_chk2_1 k0_chk2_2 k0_chk2_3 k0_chk2_4
  repeat' apply And.intro
  all_goals first | exact h | exact fun _ _ => h
theorem chk1_ok {v : BitVec 32} (h : devW v < nD) : k0_chk1 v := by
  unfold k0_chk1 k0_chk1_0 k0_chk1_1 k0_chk1_2 k0_chk1_3 k0_chk1_4
  repeat' apply And.intro
  all_goals first | exact h | exact fun _ _ => h

/-! ## The table -/

/-- Column `d` of a row of the table. -/
def atCol (d : Dev nD) : S1x128.Idx := fun a => ⟨![0, d.val] a, by
  have := d.isLt
  fin_cases a
  · exact Nat.one_pos
  · exact lt_trans this (by decide)⟩

theorem sum_col (d : Dev nD) (v : IVec S1x128 32) :
    ∑ k : S1x128.Idx, select (cmpi .eq (iota .tc S1x128 32 [1] Facts₀.iota_S1x128_d1_w32) (broadcast S1x128 (BitVec.ofNat 32 d.val))) v (broadcast S1x128 0#32) k = v (atCol d) := by
  have hi : ∀ k : S1x128.Idx, iota .tc S1x128 32 [1] Facts₀.iota_S1x128_d1_w32 k = BitVec.ofNat 32 (k 1).val := fun k => by simp [iota]
  have hd := d.isLt
  rw [Finset.sum_eq_single (atCol d)]
  · unfold select cmpi broadcast
    rw [hi]
    simp [Scalar.select, IntOp.cmpi, atCol]
  · intro k _ hk
    unfold select cmpi broadcast
    rw [hi]
    have hne : (k 1).val ≠ d.val := by
      intro h
      refine hk (funext fun a => Fin.ext ?_)
      fin_cases a
      · have := (k 0).isLt
        have h0 : (k 0).val = 0 := by change (k 0).val < 1 at this; omega
        exact h0
      · exact h
    have hw : (BitVec.ofNat 32 (k 1).val == BitVec.ofNat 32 d.val) = false := by
      rw [beq_eq_false_iff_ne]
      intro h
      have h2 := congrArg BitVec.toNat h
      rw [BitVec.toNat_ofNat, BitVec.toNat_ofNat] at h2
      have hk1 : (k 1).val < 128 := (k 1).isLt
      have : nD = 32 := rfl
      omega
    simp [Scalar.select, IntOp.cmpi, hw]
  · intro h; exact absurd (Finset.mem_univ _) h

/-- A sum over one row that keeps one column is the word in that column. -/
theorem lookup_sum (d : Dev nD) (v : IVec S1x128 32) (h : ∀ a, (![0, 0, 0] : Fin 3 → ℕ) a < S1x1x1.size a) :
    extractAt ![0, 0, 0] (k0_pay41 (F := F) d v) h = v (atCol d) := by
  have hd : Scalar.remsi (Scalar.divsi (Dev.word d) 1#32) 32#32 = BitVec.ofNat 32 d.val := by
    have : ∀ d : Dev nD, Scalar.remsi (Scalar.divsi (Dev.word d) 1#32) 32#32 = BitVec.ofNat 32 d.val := by decide
    exact this d
  rw [← sum_col d v, ← hd]
  unfold extractAt k0_pay41
  simp only [shapeCast]
  refine (congrFun (multiReductionI_eq_reduceFold .add _ _ _ _) _).trans ?_
  refine (reduceFold_add_eq_sum _ _ _ _).trans ?_
  refine (BitVec.zero_add _).trans ?_
  rw [Finset.filter_true_of_mem]
  · exact Equiv.sum_comp (Shape.reshapeEquiv Facts₀.shapeCasts_S1x128_S1x1x128) _
  · intro i _
    funext b
    apply Fin.ext
    have hb : ∀ b, S1.size b = 1 := by decide
    have h0 := hb b
    refine (Nat.lt_one_iff.1 (lt_of_lt_of_eq (Fin.isLt _) h0)).trans (Nat.lt_one_iff.1 (lt_of_lt_of_eq (Fin.isLt _) h0)).symm

/-- The table. -/
def tabV : IVec S3x128 32 := fun i => lit0 (S3x128.rowMajor i)

def rectT (r : Fin 3) : Rect S3x128 := Rect.unit (s := S3x128) ![r.val, 0] S1x128.size (by revert r; decide)

theorem tab_pos : ∀ d : Dev nD, tabV ((rectT 0).emb (atCol d)) = BitVec.ofNat 32 (posD d).val := by decide
theorem tab_next : ∀ d : Dev nD, tabV ((rectT 1).emb (atCol d)) = BitVec.ofNat 32 (nextD d).val := by decide
theorem tab_prev : ∀ d : Dev nD, tabV ((rectT 2).emb (atCol d)) = BitVec.ofNat 32 (prevD d).val := by decide

theorem devW_dev : ∀ d : Dev nD, devW (BitVec.ofNat 32 d.val) = d.val := by decide

/-! ## The opening -/

/-- A device's body. -/
def bodyProg : Prog (TC F) PUnit :=
  cc0_body (F := F) aX (Memref.isWhole_whole _) aW (Memref.isWhole_whole _) aT (Memref.isWhole_whole _) aO (Memref.isWhole_whole _) aS (Memref.isWhole_whole _) aR (Memref.isWhole_whole _)
    cc0_scratch2 cc0_scratch3 cc0_scratch4 cc0_scratch5 cc0_scratch6 cc0_scratch7 cc0_scratch8 cc0_scratch9 cc0_scratch10 cc0_scratch11 cc0_scratch12

def holdT (c : Dev nD) (t : Vec F S3x128 .i32) : sProp 𝕄 := aT.view.loc (c : Thread nD τ) ↦[Finset.univ]{fullShare} t

theorem read_rowT (r : Rect S3x128) (t : Vec F S3x128 .i32) : (aT.access r).read (Elt F) t = fun i => t (r.emb i) := rfl

theorem wp_loadT (c : Dev nD) (r : Rect S3x128) (t : Vec F S3x128 .i32) {h} {k : (r.shape.Idx → Elt F .i32) → Prog (TC F) PUnit} {Φ : PUnit → sProp 𝕄} :
    holdT c t ⊢ iprop((holdT c t -∗ wpc c (k (fun i => t (r.emb i))) Φ) -∗ wpc c (.op (.load aT r.toLoadRect h) k) Φ) := by
  unfold holdT
  iintro H HΦ
  iapply (wp_load_rect 𝒱₀ (c : Thread nD τ) none Set.univ (m := aT) (r := r) (S := Finset.univ) (q := fullShare) (f := t) (Finset.subset_univ _)) $$ [H]
  · iexact H
  rw [read_rowT]
  iintro H
  iapply HΦ
  iexact H

theorem wp_chk (c : Dev nD) {P : Prop} {d : Decidable P} (h : P) {k : PLift P → Prog (TC F) PUnit} {Φ : PUnit → sProp 𝕄} :
    wpc c (k ⟨h⟩) Φ ⊢ wpc c (.op (.assume P d) k) Φ := wp_assume 𝒱₀ (c : Thread nD τ) none Set.univ h

theorem wp_id (c : Dev nD) {k : Dev nD → Prog (TC F) PUnit} {Φ : PUnit → sProp 𝕄} :
    wpc c (k c) Φ ⊢ wpc c (.op .deviceId k) Φ := Entails.of_eq (wp_deviceId 𝒱₀ (c : Thread nD τ) none Set.univ).symm

/-- The table gives a device its place on the ring and its two neighbours. -/
theorem wp_opening (c : Dev nD) {Φ : PUnit → sProp 𝕄} :
    holdT c (tabV : Vec F S3x128 .i32)
      ⊢ iprop((holdT c (tabV : Vec F S3x128 .i32) -∗ wpc c (rest (nextD c) (prevD c) (posD c)) Φ) -∗ wpc c bodyProg Φ) := by
  obtain ⟨R, hb, hR⟩ := body_split (F := F)
  have hrest : ∀ (v12 : BitVec 32) (h3 : k0_chk3 v12) (v21 : BitVec 32) (h2 : k0_chk2 v21) (v30 : BitVec 32) (h1 : k0_chk1 v30),
      v12 = BitVec.ofNat 32 (posD c).val → v21 = BitVec.ofNat 32 (nextD c).val → v30 = BitVec.ofNat 32 (prevD c).val →
      R ⟨v12, h3, v21, h2, v30, h1, Scalar.remsi (Scalar.subi 32#32 v12) 32#32, Scalar.remsi (Scalar.addi v12 1#32) 32#32, Scalar.addi v12 1#32, 32#32⟩
        = rest (nextD c) (prevD c) (posD c) := by
    intro v12 h3 v21 h2 v30 h1 e12 e21 e30
    subst e12 e21 e30
    rw [hR, show (⟨devW (BitVec.ofNat 32 (nextD c).val), devR_lt _ h2⟩ : Dev nD) = nextD c from Fin.ext (devW_dev _),
      show (⟨devW (BitVec.ofNat 32 (prevD c).val), devL_lt _ h1⟩ : Dev nD) = prevD c from Fin.ext (devW_dev _)]
  clear hR
  have e12 := (lookup_sum (F := F) c (fun i => tabV ((rectT 0).emb i)) Facts₀.inpos_S1x1x1_p0_0_0).trans (tab_pos c)
  have e21 := (lookup_sum (F := F) c (fun i => tabV ((rectT 1).emb i)) Facts₀.inpos_S1x1x1_p0_0_0).trans (tab_next c)
  have e30 := (lookup_sum (F := F) c (fun i => tabV ((rectT 2).emb i)) Facts₀.inpos_S1x1x1_p0_0_0).trans (tab_prev c)
  have h3 : k0_chk3 (extractAt ![0, 0, 0] (k0_pay41 (F := F) c (fun i => tabV ((rectT 0).emb i))) Facts₀.inpos_S1x1x1_p0_0_0) := by rw [e12]; exact chk3_ok _
  have h2 : k0_chk2 (extractAt ![0, 0, 0] (k0_pay41 (F := F) c (fun i => tabV ((rectT 1).emb i))) Facts₀.inpos_S1x1x1_p0_0_0) := by
    rw [e21]; exact chk2_ok (by rw [devW_dev]; exact (nextD c).isLt)
  have h1 : k0_chk1 (extractAt ![0, 0, 0] (k0_pay41 (F := F) c (fun i => tabV ((rectT 2).emb i))) Facts₀.inpos_S1x1x1_p0_0_0) := by
    rw [e30]; exact chk1_ok (by rw [devW_dev]; exact (prevD c).isLt)
  unfold bodyProg
  rw [hb]
  clear hb
  unfold k0_part120_skel
  iintro Ht HΦ
  iapply (wp_id c)
  iapply (wp_loadT c (rectT 0) tabV) $$ [Ht]
  · iexact Ht
  iintro Ht
  iapply (wp_chk c h3)
  iapply (wp_loadT c (rectT 1) tabV) $$ [Ht]
  · iexact Ht
  iintro Ht
  iapply (wp_chk c h2)
  iapply (wp_loadT c (rectT 2) tabV) $$ [Ht]
  · iexact Ht
  iintro Ht
  iapply (wp_chk c h1)
  iapply (Entails.of_eq (congrArg (fun q => wpc c q Φ) (hrest _ h3 _ h2 _ h1 e12 e21 e30).symm))
  iapply HΦ
  iexact Ht

end Cert.KernelIdeal.Allreduce

end
-- ==== Proof.Entry.lean ====
/-
  A device's body from its table to the last step: its own slots handed over, the barrier, the first message, the local product,
  the steps.
-/
module

public import proofs.«01_k».proof.Proof.Table
public import Idealize.ShloMosaic.Lib.SparseCore.Stream

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Whole buffers -/
variable (X : Dev nD → Vec F S4096x128 .bf16) (Wt : Dev nD → Vec F S128x2048 .bf16)
variable (κ : GSem nD τ sig → ℕ) (ιs : Key → ℕ) (c : Dev nD)

/-- What a device holds of a stream at the start. -/
def openJ (j : Fin 8) : sProp 𝕄 :=
  iprop(win4 (recvP c j) 0 ∗ recvH c j 0 ∗ bigSep (Finset.Ico 0 62) (recvC c j) ∗ bigSep (Finset.Ico 0 62) (sendTok c j) ∗ win2 (sendP c j) 0
    ∗ bigSep (Finset.Ico 0 58) (creditTok c j) ∗ win4 (fun n => readerAt ES (c, j, f4 n) 0) 0 ∗ atPos ER (creditCell c j) 0 ∅ 0 ∗ reached ER (creditCell c j) 0
    ∗ bigSep (Finset.Ico 0 58) (creditC c j) ∗ storeP c j 0 ∗ bigSep (Finset.Ico 0 31) (storeTok c j))
/-- The same when its receive slots are given out. -/
def preJ (j : Fin 8) : sProp 𝕄 :=
  iprop(win4 (recvP c j) 0 ∗ recvH c j 0 ∗ bigSep (Finset.Ico 0 62) (recvC c j) ∗ bigSep (Finset.Ico 0 62) (sendTok c j) ∗ win2 (sendP c j) 0
    ∗ bigSep (Finset.Ico 0 58) (creditTok c j) ∗ win4 (readP c j) 0 ∗ atPos ER (creditCell c j) 0 ∅ 0
    ∗ bigSep (Finset.Ico 0 58) (creditC c j) ∗ storeP c j 0 ∗ bigSep (Finset.Ico 0 31) (storeTok c j) ∗ freed c j 0)

theorem give_slot (j : Fin 8) {n : ℕ} (h : n < 4) :
    iprop(ctx X Wt κ ιs ∗ readerAt ES (c, j, f4 n) 0 ∗ anyR c j (f4 n) ∗ recvH c j 0) ⊢ iprop(|={Set.univ}=> (readP c j n ∗ free c j n)) := by
  have hr := recvH_at (F := F) c j (m := 0) (n := n) (by omega)
  have h0 : n / 4 = 0 := by omega
  unfold readP free
  rw [h0] at hr ⊢
  iintro ⟨#Hctx, Hrd, Hslot, #HrH⟩
  imod (slot_release (E := ES) (S := anyR c j (f4 n)) (ι := ιs (c, j, f4 n)) (Es := Set.univ) (k := (c, j, f4 n)) (Set.mem_univ _)
    (by unfold anyR; exact slot_slot_false ⟨_, View.emb_mem_set (slotR j (f4 n)).view (fun a => ⟨0, by revert a; decide⟩)⟩) 0) $$ [Hrd Hslot] with ⟨Hrd, #Hrel⟩
  · isplitr; · iapply (ctx_slot X Wt κ ιs c j (f4 n)); iexact Hctx
    isplitl [Hrd]; · iexact Hrd
    iexact Hslot
  imodintro
  isplitl [Hrd]; · iexact Hrd
  isplitr; · iexact Hrel
  iapply hr; iexact HrH

theorem bigSep_four (P : Fin 4 → sProp 𝕄) : bigSep Finset.univ P = win4 (fun n => P (f4 n)) 0 := by
  rw [bigSep_univ_eq_bigSepL [0, 1, 2, 3] (by decide) (by decide)]
  rfl

theorem freed_zero (j : Fin 8) : win4 (fun n => free c j n) 0 ⊢ (freed c j 0 : sProp 𝕄) := by
  unfold freed win4
  rw [show Finset.range (0 + 4) = insert 0 (insert 1 (insert 2 {3})) from by decide, bigSep_insert (by decide), bigSep_insert (by decide), bigSep_insert (by decide), bigSep_singleton]
  exact .rfl

theorem give_slots (j : Fin 8) :
    iprop(ctx X Wt κ ιs ∗ (openJ c j ∗ bigSep Finset.univ fun k : Fin 4 => anyR c j k))
      ⊢ iprop(|={Set.univ}=> (preJ c j ∗ (freed c j 0 ∗ reached ER (creditCell c j) 0))) := by
  rw [bigSep_four]
  unfold openJ win4
  iintro ⟨#Hctx, ⟨Hr, #HrH, HrC, Hst, Hsp, Hct, ⟨R0, R1, R2, R3⟩, Hat, #Hre, HcC, Hstp, Hstt⟩, S0, S1, S2, S3⟩
  imod (give_slot X Wt κ ιs c j (n := 0) (by omega)) $$ [R0 S0] with ⟨R0, #F0⟩
  · isplitr; · iexact Hctx
    isplitl [R0]; · iexact R0
    isplitl [S0]; · iexact S0
    iexact HrH
  imod (give_slot X Wt κ ιs c j (n := 1) (by omega)) $$ [R1 S1] with ⟨R1, #F1⟩
  · isplitr; · iexact Hctx
    isplitl [R1]; · iexact R1
    isplitl [S1]; · iexact S1
    iexact HrH
  imod (give_slot X Wt κ ιs c j (n := 2) (by omega)) $$ [R2 S2] with ⟨R2, #F2⟩
  · isplitr; · iexact Hctx
    isplitl [R2]; · iexact R2
    isplitl [S2]; · iexact S2
    iexact HrH
  imod (give_slot X Wt κ ιs c j (n := 3) (by omega)) $$ [R3 S3] with ⟨R3, #F3⟩
  · isplitr; · iexact Hctx
    isplitl [R3]; · iexact R3
    isplitl [S3]; · iexact S3
    iexact HrH
  imodintro
  ihave Hf : (freed c j 0 : sProp 𝕄) $$ []
  · iapply (freed_zero c j)
    unfold win4
    isplitr; · iexact F0
    isplitr; · iexact F1
    isplitr; · iexact F2
    iexact F3
  icases Hf with #Hf
  isplitl
  · unfold preJ win4
    isplitl [Hr]; · iexact Hr
    isplitr; · iexact HrH
    isplitl [HrC]; · iexact HrC
    isplitl [Hst]; · iexact Hst
    isplitl [Hsp]; · iexact Hsp
    isplitl [Hct]; · iexact Hct
    isplitl [R0 R1 R2 R3]
    · isplitl [R0]; · iexact R0
      isplitl [R1]; · iexact R1
      isplitl [R2]; · iexact R2
      iexact R3
    isplitl [Hat]; · iexact Hat
    isplitl [HcC]; · iexact HcC
    isplitl [Hstp]; · iexact Hstp
    isplitl [Hstt]; · iexact Hstt
    iexact Hf
  · isplitr; · iexact Hf
    iexact Hre

/-- Every stream's receive slots are given out. -/
theorem give_all :
    iprop(ctx X Wt κ ιs ∗ bigSep Finset.univ (openJ c) ∗ (∃ f, aR.view.loc (c : Thread nD τ) ↦[Finset.univ]{fullShare} f))
      ⊢ iprop(|={Set.univ}=> (bigSep Finset.univ (preJ c) ∗ freed0 c)) := by
  have h1 := (recvBuf_slots (F := F) c).1
  have h2 := Transfers.bigSep_sep_in (Finset.univ : Finset (Fin 8)) (openJ (F := F) c) (fun j => bigSep Finset.univ fun k : Fin 4 => anyR c j k)
  have h3 := Transfers.bigSep_mono_pers (Finset.univ : Finset (Fin 8)) (ctx X Wt κ ιs) _ _ fun j _ => give_slots X Wt κ ιs c j
  have h4 := Transfers.bigSep_sep_out (Finset.univ : Finset (Fin 8)) (preJ (F := F) c) (fun j => iprop(freed c j 0 ∗ reached ER (creditCell c j) 0))
  iintro ⟨#Hctx, Ho, Hbuf⟩
  ihave Hbuf := h1 $$ Hbuf
  ihave H := h2 $$ [Ho Hbuf]
  · isplitl [Ho]; · iexact Ho
    iexact Hbuf
  ihave H := h3 $$ [H]
  · isplitr; · iexact Hctx
    iexact H
  ihave H := (bigSep_fupd Finset.univ fun j => iprop(preJ (F := F) c j ∗ (freed c j 0 ∗ reached ER (creditCell c j) 0))) $$ H
  imod H
  imodintro
  ihave H := h4 $$ H
  unfold freed0
  iexact H

theorem nb_at (j : Fin 8) : iprop(freed0 (nextD c) ∗ freed0 (prevD c)) ⊢ iprop(freed (F := F) (snd c j) j 0 ∗ reached ER (creditCell (up c j) j) 0) := by
  have h : ∀ d, freed0 (F := F) d ⊢ iprop(freed d j 0 ∗ reached ER (creditCell d j) 0) := fun d => by unfold freed0; exact bigSep_elim (Finset.mem_univ j)
  iintro ⟨#A, #B⟩
  ihave A := (h _) $$ A
  ihave B := (h _) $$ B
  icases A with ⟨#A1, #A2⟩
  icases B with ⟨#B1, #B2⟩
  unfold snd up sndTo crdTo
  cases Nat.blt j.val 4
  · isplitr; · iexact B1
    iexact A2
  · isplitr; · iexact A1
    iexact B2

/-- With the neighbours there, the protocol can start. -/
theorem start_one (j : Fin 8) : iprop((freed0 (nextD c) ∗ freed0 (prevD c)) ∗ preJ c j) ⊢ (pieces c j 0 0 0 0 0 0 0 : sProp 𝕄) := by
  iintro ⟨#H, Hp⟩
  ihave Hn := (nb_at c j) $$ H
  icases Hn with ⟨#Hf, #Hre⟩
  unfold preJ pieces
  icases Hp with ⟨Hr, HrH, HrC, Hst, Hsp, Hct, Hrd, Hat, HcC, Hstp, Hstt, Hown⟩
  isplitl [Hr]; · iexact Hr
  isplitl [HrH]; · iexact HrH
  isplitl [HrC]; · iexact HrC
  isplitl [Hst]; · iexact Hst
  isplitl [Hsp]; · iexact Hsp
  isplitl [Hct]; · iexact Hct
  isplitl [Hrd]; · iexact Hrd
  isplitl [Hown]; · iexact Hown
  isplitr; · iexact Hre
  isplitl [HcC]; · iexact HcC
  isplitl [Hat]
  · unfold creditP
    iexists ∅, 0
    isplitl [Hat]; · iexact Hat
    isplitr; · iexact Hf
    ipureintro
    exact ⟨fun d hd => absurd hd (Finset.notMem_empty d), le_rfl, Finset.empty_subset _, by decide⟩
  isplitl [Hstp]; · iexact Hstp
  iexact Hstt

/-! ## The output in blocks -/

/-- A stream's rows but the first block's. -/
def tailO (f : Vec F S4096x2048 .bf16) (j : Fin 8) : sProp 𝕄 :=
  bigSep ((Finset.range 32).erase 0) fun t => holdO c (rowAt c j t) ((rowsO (rowAt c j t)).view.read (Elt F) f)

theorem out_tail (f : Vec F S4096x2048 .bf16) :
    allO c f = iprop((bigSep Finset.univ fun j : Fin 8 => holdO c (rowAt c j 0) ((rowsO (rowAt c j 0)).view.read (Elt F) f)) ∗ bigSep Finset.univ (tailO c f)) := by
  unfold allO
  rw [out_blocks, ← bigSep_sep']
  refine bigSep_congr fun j _ => ?_
  unfold tailO
  exact bigSep_erase (Finset.mem_range.mpr (by decide))

/-- Where in its sixteen rows an element is. -/
def inner (i : S4096x2048.Idx) : S16x2048.Idx := fun a => match a with
  | ⟨0, _⟩ => ⟨(i 0).val % 16, Nat.mod_lt _ (by decide)⟩
  | ⟨1, _⟩ => i 1
/-- An output given by its blocks. -/
def outOf (V : Fin 8 → ℕ → FVec F S16x2048 .bf16) : Vec F S4096x2048 .bf16 := fun i => V (blockJ i) (blockT c i) (inner i)

theorem read_outOf (V : Fin 8 → ℕ → FVec F S16x2048 .bf16) (j : Fin 8) {t : ℕ} (ht : t < 32) : (rowsO (rowAt c j t)).view.read (Elt F) (outOf c V) = V j t := by
  funext i
  have hread : ∀ g : Vec F S4096x2048 .bf16, (rowsO (rowAt c j t)).view.read (Elt F) g i = g ((rectO (rowAt c j t)).emb i) := fun g => rfl
  rw [hread]
  have hv : ∀ a, ((rectO (rowAt c j t)).emb i a).val = (![(rowAt c j t).1, 0] : Fin 2 → ℕ) a + (i a).val := fun a => ValueKit.rect_emb_unit_val _ _ _ _ _
  have h0 : ((rectO (rowAt c j t)).emb i 0).val = (rowAt c j t).1 + (i 0).val := hv 0
  have h1 : ((rectO (rowAt c j t)).emb i 1).val = 0 + (i 1).val := hv 1
  have hi : (i 0).val < 16 := (i 0).isLt
  have hm := (mem_rowAt c j ht ((rectO (rowAt c j t)).emb i)).mp ((mem_rowsO _ _).mpr ⟨by omega, by omega⟩)
  unfold outOf
  rw [hm.1, hm.2]
  congr 1
  funext a
  match a with
  | ⟨0, _⟩ =>
    refine Fin.ext ?_
    obtain ⟨b, hb⟩ := (rowAt c j t).2.1
    show ((rectO (rowAt c j t)).emb i 0).val % 16 = (i 0).val
    omega
  | ⟨1, _⟩ => exact Fin.ext (h1.trans (Nat.zero_add _))

theorem rows_join (V : Fin 8 → ℕ → FVec F S16x2048 .bf16) :
    (bigSep Finset.univ fun j : Fin 8 => bigSep (Finset.range 32) fun t => (holdO c (rowAt c j t) (V j t) : sProp 𝕄)) = allO c (outOf c V) := by
  unfold allO
  rw [out_blocks]
  exact bigSep_congr fun j _ => bigSep_congr fun t ht => congrArg _ (read_outOf c V j (Finset.mem_range.mp ht)).symm

/-- The output, its first blocks written over. -/
theorem out_any (v : Fin 8 → FVec F S16x2048 .bf16) (f : Vec F S4096x2048 .bf16) :
    iprop((bigSep Finset.univ fun j : Fin 8 => holdO c (rowAt c j 0) (v j)) ∗ bigSep Finset.univ (tailO c f)) ⊢ iprop(∃ g, allO c g) := by
  have h : iprop((bigSep Finset.univ fun j : Fin 8 => holdO c (rowAt c j 0) (v j)) ∗ bigSep Finset.univ (tailO c f))
      = allO c (outOf c fun j t => if t = 0 then v j else (rowsO (rowAt c j t)).view.read (Elt F) f) := by
    rw [← rows_join, ← bigSep_sep']
    refine bigSep_congr fun j _ => ?_
    unfold tailO
    refine Eq.trans ?_ (bigSep_erase (show 0 ∈ Finset.range 32 by decide)).symm
    refine congrArg₂ _ (congrArg _ (if_pos rfl).symm) (bigSep_congr fun t ht => congrArg _ (if_neg (Finset.ne_of_mem_erase ht)).symm)
  iintro H
  ihave H := (Entails.of_eq h) $$ H
  iexists _; iexact H

theorem fs_in (j : Fin 8) : iprop(pieces (F := F) c j 0 0 0 0 0 0 0 ∗ (bigSep Finset.univ fun k : Fin 2 => anyS c j k) ∗ holdO c (rowAt c j 0) (firstV X Wt c j)) ⊢ fsP X Wt c j := by
  have he : (bigSep Finset.univ fun k : Fin 2 => anyS (F := F) c j k) = iprop(anyS c j 0 ∗ anyS c j 1) := BI.bigSep_fin_two _
  rw [he]
  unfold fsP
  iintro ⟨A, ⟨B, C⟩, D⟩
  isplitl [A]; · iexact A
  isplitl [B]; · iexact B
  isplitl [C]; · iexact C
  iexact D
theorem fs_out (j : Fin 8) : fsQ X Wt c j ⊢ iprop((pieces (F := F) c j 0 1 0 0 0 0 0 ∗ outS c j 0) ∗ holdO c (rowAt c j 0) (firstV X Wt c j)) := by
  unfold fsQ
  iintro ⟨A, B, C⟩
  isplitr [C]
  · isplitl [A]; · iexact A
    iexact B
  iexact C
theorem rs_in (j : Fin 8) : iprop((pieces (F := F) c j 0 1 0 0 0 0 0 ∗ outS c j 0)
    ∗ bigSep (Finset.range 32) fun t => holdO c (rowAt c j t) ((rowsO (rowAt c j t)).view.read (Elt F) (prodG X Wt c))) ⊢ rsP X Wt c j 0 := by
  unfold rsP rowsG gRows
  iintro ⟨⟨A, B⟩, C⟩
  isplitl [A]; · iexact A
  isplitl [B]; · iexact B
  iexact C

theorem wp_rest {f : Vec F S4096x2048 .bf16} {Φ : PUnit → sProp 𝕄} :
    iprop(ctx X Wt κ ιs ∗ barPre c ∗ bigSep Finset.univ (openJ c) ∗ holdX c (X c) ∗ holdW c (Wt c) ∗ allO c f
        ∗ (∃ f, aS.view.loc (c : Thread nD τ) ↦[Finset.univ]{fullShare} f) ∗ (∃ f, aR.view.loc (c : Thread nD τ) ↦[Finset.univ]{fullShare} f)
        ∗ owesX c ((∑ j, owedS c j 0 0) + owedB c))
      ⊢ iprop(((holdX c (X c) ∗ holdW c (Wt c) ∗ atPos ER (barCell c) 1 ∅ 0 ∗ allP c (fun j => agF X Wt c j) 62 58) -∗ Φ ⟨⟩)
        -∗ wpc c (rest (nextD c) (prevD c) (posD c)) Φ) := by
  have hstart := Transfers.bigSep_mono_pers (Finset.univ : Finset (Fin 8)) (iprop(freed0 (F := F) (nextD c) ∗ freed0 (prevD c))) _ _ fun j _ => start_one (F := F) c j
  have hsend := (sendBuf_slots (F := F) c).1
  have hAb : Above (∑ j, owedS c j 0 0) 1 := Above.sum _ _ fun j _ => owedS_above c j fun i => ⟨fun _ _ => by omega, fun _ _ => by omega⟩
  have hin : iprop((bigSep Finset.univ fun j => pieces (F := F) c j 0 0 0 0 0 0 0) ∗ (bigSep Finset.univ fun j : Fin 8 => bigSep Finset.univ fun k : Fin 2 => anyS c j k)
      ∗ bigSep Finset.univ fun j : Fin 8 => holdO c (rowAt c j 0) (firstV X Wt c j)) ⊢ bigSep Finset.univ fun j => fsP X Wt c j := by
    rw [← bigSep_sep', ← bigSep_sep']
    exact bigSep_mono fun j _ => fs_in X Wt c j
  have hmid : (bigSep Finset.univ fun j => fsQ X Wt c j) ⊢ iprop((bigSep Finset.univ fun j => iprop(pieces (F := F) c j 0 1 0 0 0 0 0 ∗ outS c j 0))
      ∗ bigSep Finset.univ fun j : Fin 8 => holdO c (rowAt c j 0) (firstV X Wt c j)) := by
    rw [← bigSep_sep']
    exact bigSep_mono fun j _ => fs_out X Wt c j
  have hgo : iprop((bigSep Finset.univ fun j => iprop(pieces (F := F) c j 0 1 0 0 0 0 0 ∗ outS c j 0)) ∗ allO c (prodG X Wt c)) ⊢ bigSep Finset.univ fun j => rsP X Wt c j 0 := by
    unfold allO
    rw [out_blocks, ← bigSep_sep']
    exact bigSep_mono fun j _ => rs_in X Wt c j
  have htail := Entails.of_eq (out_tail c (twoChunks X Wt c f))
  rw [show (bigSep Finset.univ fun j : Fin 8 => (holdO c (rowAt c j 0) ((rowsO (rowAt c j 0)).view.read (Elt F) (twoChunks X Wt c f)) : sProp 𝕄))
      = bigSep Finset.univ fun j : Fin 8 => holdO c (rowAt c j 0) (firstV X Wt c j) from bigSep_congr fun j _ => congrArg _ (twoChunks_read X Wt c f j)] at htail
  have hback := out_any c (firstV X Wt c) (twoChunks X Wt c f)
  rw [rest_steps, front_eq]
  simp only [wp_bind]
  iintro ⟨#Hctx, Hbar, Hop, Hx, Hw, Ho, Hs, Hr, HO⟩ HΦ
  iapply fupd_wp
  imod (give_all X Wt κ ιs c) $$ [Hop Hr] with ⟨Hpre, Hfr⟩
  · isplitr; · iexact Hctx
    isplitl [Hop]; · iexact Hop
    iexact Hr
  imodintro
  iapply (wp_bar X Wt κ ιs c hAb) $$ [Hbar Hfr HO]
  · isplitr; · iexact Hctx
    isplitl [Hbar]; · iexact Hbar
    isplitl [Hfr]; · iexact Hfr
    iexact HO
  iintro ⟨Hn, Hp, Hat, HO⟩
  ihave Hpc := hstart $$ [Hn Hp Hpre]
  · isplitl [Hn Hp]
    · isplitl [Hn]; · iexact Hn
      iexact Hp
    iexact Hpre
  ihave Hs := hsend $$ Hs
  iapply (wp_chunks X Wt c f) $$ [Hx Hw Ho]
  · isplitl [Hx]; · iexact Hx
    isplitl [Hw]; · iexact Hw
    iexact Ho
  iintro ⟨Hx, Hw, Ho⟩
  ihave Ho := htail $$ Ho
  icases Ho with ⟨Ho, Htl⟩
  ihave H := hin $$ [Hpc Hs Ho]
  · isplitl [Hpc]; · iexact Hpc
    isplitl [Hs]; · iexact Hs
    iexact Ho
  iapply (all_wp X Wt κ ιs c (firstSend (nextD c) (prevD c) (rowFS (posD c))) (fun j => fsP X Wt c j) (fun j => fsQ X Wt c j) 0
    (fun i => ⟨fun _ _ => by omega, fun _ _ => by omega⟩) (fun i => ⟨fun _ _ => by omega, fun _ _ => by omega⟩)
    (fun j _ _ _ => wp_firstSend X Wt κ ιs c j (rowFS_at c j))) $$ [H HO]
  · isplitr; · iexact Hctx
    unfold allP
    isplitl [H]; · iexact H
    iexact HO
  iintro H
  unfold allP
  icases H with ⟨H, HO⟩
  ihave H := hmid $$ H
  icases H with ⟨H, Ho⟩
  ihave Ho := hback $$ [Ho Htl]
  · isplitl [Ho]; · iexact Ho
    iexact Htl
  icases Ho with ⟨%g, Ho⟩
  iapply (wp_gemm c (X c) g (k0_pay44 (Wt c))) $$ [Hx Ho]
  · isplitl [Hx]; · iexact Hx
    iexact Ho
  iintro ⟨Hx, Ho⟩
  ihave H := hgo $$ [H Ho]
  · isplitl [H]; · iexact H
    unfold prodG; iexact Ho
  iapply (wp_steps X Wt κ ιs c) $$ [H HO]
  · isplitr; · iexact Hctx
    unfold allP
    isplitl [H]; · iexact H
    iexact HO
  iintro H
  iapply HΦ
  isplitl [Hx]; · iexact Hx
  isplitl [Hw]; · iexact Hw
  isplitl [Hat]; · iexact Hat
  unfold allP; iexact H

end Cert.KernelIdeal.Allreduce

end
-- ==== Proof.Exit.lean ====
/-
  A device's body at its end: every semaphore's cell closed at zero, the buffers whole again.
-/
module

public import proofs.«01_k».proof.Proof.Entry

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Whole buffers -/
/-- A device's semaphores of the protocol, stream by stream. -/
theorem own64 (Φ : SemLoc sig → sProp 𝕄) : (bigSep Finset.univ fun i : Fin 64 => Φ (osem i))
    = bigSep Finset.univ fun j : Fin 8 => iprop(Φ (.dma (semS j 0)) ∗ Φ (.dma (semS j 1)) ∗ Φ (.dma (semR j 0)) ∗ Φ (.dma (semR j 1)) ∗ Φ (.dma (semR j 2)) ∗ Φ (.dma (semR j 3))
      ∗ Φ (.dma (semT j)) ∗ Φ (.reg (semC j))) := by
  have h : ∀ q j : Fin 8, (finProdFinEquiv (j, q) : Fin 64) = ⟨8 * j.val + q.val, by omega⟩ := fun q j => Fin.ext (Nat.add_comm q.val (8 * j.val))
  rw [bigSep_univ_equiv (finProdFinEquiv : Fin 8 × Fin 8 ≃ Fin 64) fun i => Φ (osem i), ← Finset.univ_product_univ, SparseCore.bigSep_product]
  refine bigSep_congr fun j _ => ?_
  rw [bigSep_eight]
  simp only [h]
  rw [← osem_S j 0, ← osem_S j 1, ← osem_R j 0, ← osem_R j 1, ← osem_R j 2, ← osem_R j 3, ← osem_T j, ← osem_C j]
  rfl

variable (X : Dev nD → Vec F S4096x128 .bf16) (Wt : Dev nD → Vec F S128x2048 .bf16)
variable (κ : GSem nD τ sig → ℕ) (ιs : Key → ℕ) (c : Dev nD)

theorem shut {g : GSem nD τ sig} (hg : g ∈ barCells ∪ scCells) {R : ℕ} (hR : ∀ r, R ≤ r → (rd X Wt).duties g r = ∅) :
    iprop(ctx X Wt κ ιs ∗ atPos ER g R ∅ 0) ⊢ iprop(|={Set.univ}=> semVal g 0) := by
  iintro ⟨#Hctx, Hat⟩
  iapply (cell_close ER (rd X Wt) (κ := κ g) (Set.mem_univ _) id hR)
  isplitr; · iapply (ctx_cell X Wt κ ιs hg); iexact Hctx
  iexact Hat

theorem shut_credit (j : Fin 8) : iprop(ctx X Wt κ ιs ∗ creditP c j 58) ⊢ iprop(|={Set.univ}=> semVal (creditCell c j) 0) := by
  unfold creditP
  iintro ⟨#Hctx, %T, %b, Hat, -, %h⟩
  have hT : (rd X Wt).duties (creditCell c j) 0 ⊆ T := by
    rw [duties_credit]
    have h0 : (Finset.range 58 \ T).card = 0 := by omega
    exact Finset.sdiff_eq_empty_iff_subset.mp (Finset.card_eq_zero.mp h0)
  imod (fupd_skip ER (rd X Wt) (κ := κ (creditCell c j)) hT (expect_credit X Wt c j).symm (Set.mem_univ _)) $$ [Hat] with ⟨Hat, -⟩
  · isplitr; · iapply (ctx_cell X Wt κ ιs (credit_mem c j)); iexact Hctx
    iexact Hat
  iapply (shut X Wt κ ιs (credit_mem c j) (later_reg X Wt c (semC j)))
  isplitr; · iexact Hctx
  iexact Hat

/-- A stream's semaphores at zero. -/
def zerosJ (j : Fin 8) : sProp 𝕄 :=
  iprop(semVal (sendCell c j 0) 0 ∗ semVal (sendCell c j 1) 0 ∗ semVal (recvCell c j 0) 0 ∗ semVal (recvCell c j 1) 0 ∗ semVal (recvCell c j 2) 0 ∗ semVal (recvCell c j 3) 0
    ∗ semVal (storeCell c j) 0 ∗ semVal (creditCell c j) 0)

theorem anyR_of (j : Fin 8) (k : Fin 4) (v : FVec F S16x2048 .bf16) : holdR c j k fullShare v ⊢ anyR c j k := by
  unfold anyR slot holdR
  iintro H
  iexists _; iexact H

theorem shut_stream (j : Fin 8) :
    iprop(ctx X Wt κ ιs ∗ agF X Wt c j)
      ⊢ iprop(|={Set.univ}=> (zerosJ c j ∗ (bigSep Finset.univ fun k : Fin 2 => anyS c j k) ∗ (bigSep Finset.univ fun k : Fin 4 => anyR c j k)
        ∗ bigSep (Finset.range 32) fun t => holdO c (rowAt c j t) (finV X Wt c j t))) := by
  have he : (bigSep Finset.univ fun k : Fin 2 => anyS (F := F) c j k) = iprop(anyS c j 0 ∗ anyS c j 1) := BI.bigSep_fin_two _
  rw [he, bigSep_four]
  unfold agF pieces win4 win2 recvP sendP storeP zerosJ
  iintro ⟨#Hctx, ⟨⟨R2, R3, R0, R1⟩, -, -, -, ⟨⟨S0, -⟩, S1, -⟩, -, -, -, -, -, Hc, ⟨Ht, -⟩, -⟩, A0, A1, B2, B3, B0, B1, Ho⟩
  imod (shut X Wt κ ιs (recv_mem c j (f4 62)) (later_recv X Wt c j (n := 62) (by omega))) $$ [R2] with R2
  · isplitr; · iexact Hctx
    iexact R2
  imod (shut X Wt κ ιs (recv_mem c j (f4 63)) (later_recv X Wt c j (n := 63) (by omega))) $$ [R3] with R3
  · isplitr; · iexact Hctx
    iexact R3
  imod (shut X Wt κ ιs (recv_mem c j (f4 64)) (later_recv X Wt c j (n := 64) (by omega))) $$ [R0] with R0
  · isplitr; · iexact Hctx
    iexact R0
  imod (shut X Wt κ ιs (recv_mem c j (f4 65)) (later_recv X Wt c j (n := 65) (by omega))) $$ [R1] with R1
  · isplitr; · iexact Hctx
    iexact R1
  imod (shut X Wt κ ιs (send_mem c j (f2 62)) (later_send X Wt c j (n := 62) (by omega))) $$ [S0] with S0
  · isplitr; · iexact Hctx
    iexact S0
  imod (shut X Wt κ ιs (send_mem c j (f2 63)) (later_send X Wt c j (n := 63) (by omega))) $$ [S1] with S1
  · isplitr; · iexact Hctx
    iexact S1
  imod (shut X Wt κ ιs (store_mem c j) (later_store X Wt c j)) $$ [Ht] with Ht
  · isplitr; · iexact Hctx
    iexact Ht
  imod (shut_credit X Wt κ ιs c j) $$ [Hc] with Hc
  · isplitr; · iexact Hctx
    iexact Hc
  imodintro
  isplitr [A0 A1 B0 B1 B2 B3 Ho]
  · isplitl [S0]; · iexact S0
    isplitl [S1]; · iexact S1
    isplitl [R0]; · iexact R0
    isplitl [R1]; · iexact R1
    isplitl [R2]; · iexact R2
    isplitl [R3]; · iexact R3
    isplitl [Ht]; · iexact Ht
    iexact Hc
  isplitl [A0 A1]
  · isplitl [A0]; · iexact A0
    iexact A1
  isplitr [Ho]
  · isplitl [B0]; · iapply (anyR_of c j _ _); iexact B0
    isplitl [B1]; · iapply (anyR_of c j _ _); iexact B1
    isplitl [B2]; · iapply (anyR_of c j _ _); iexact B2
    iapply (anyR_of c j _ _); iexact B3
  iexact Ho

/-- The output at the end. -/
def outF : Vec F S4096x2048 .bf16 := outOf c (finV X Wt c)

theorem shut_all :
    iprop(ctx X Wt κ ιs ∗ atPos ER (barCell c) 1 ∅ 0 ∗ bigSep Finset.univ fun j => agF X Wt c j)
      ⊢ iprop(|={Set.univ}=> (semVal (barCell c) 0 ∗ (bigSep Finset.univ fun i : Fin 64 => semVal ((c : Thread nD τ), osem i) 0) ∗ allO c (outF X Wt c)
        ∗ (∃ f, aS.view.loc (c : Thread nD τ) ↦[Finset.univ]{fullShare} f) ∗ (∃ f, aR.view.loc (c : Thread nD τ) ↦[Finset.univ]{fullShare} f))) := by
  have h3 := Transfers.bigSep_mono_pers (Finset.univ : Finset (Fin 8)) (ctx X Wt κ ιs) _ _ fun j _ => shut_stream X Wt κ ιs c j
  have h4 : (bigSep Finset.univ fun j : Fin 8 => iprop(zerosJ (F := F) c j ∗ (bigSep Finset.univ fun k : Fin 2 => anyS c j k) ∗ (bigSep Finset.univ fun k : Fin 4 => anyR c j k)
        ∗ bigSep (Finset.range 32) fun t => holdO c (rowAt c j t) (finV X Wt c j t)))
      = iprop(bigSep Finset.univ (zerosJ c) ∗ (bigSep Finset.univ fun j : Fin 8 => bigSep Finset.univ fun k : Fin 2 => anyS c j k)
        ∗ (bigSep Finset.univ fun j : Fin 8 => bigSep Finset.univ fun k : Fin 4 => anyR c j k) ∗ allO c (outOf c (finV X Wt c))) := by
    rw [bigSep_sep', bigSep_sep', bigSep_sep', rows_join]
  have h5 := Entails.of_eq (own64 (fun sm => (semVal ((c : Thread nD τ), sm) 0 : sProp 𝕄))).symm
  have hs := (sendBuf_slots (F := F) c).2
  have hr := (recvBuf_slots (F := F) c).2
  iintro ⟨#Hctx, Hat, H⟩
  imod (shut X Wt κ ιs (bar_mem c) (later_reg X Wt c barS)) $$ [Hat] with Hbar
  · isplitr; · iexact Hctx
    iexact Hat
  ihave H := h3 $$ [H]
  · isplitr; · iexact Hctx
    iexact H
  ihave H := (bigSep_fupd Finset.univ _) $$ H
  imod H
  imodintro
  ihave H := (Entails.of_eq h4) $$ H
  icases H with ⟨Hz, HS, HR, Ho⟩
  isplitl [Hbar]; · iexact Hbar
  isplitl [Hz]; · iapply h5; unfold zerosJ; iexact Hz
  isplitl [Ho]; · unfold outF; iexact Ho
  isplitl [HS]; · iapply hs; iexact HS
  iapply hr; iexact HR

theorem owed_end : (∑ j, owedS c j 62 58) = 0 :=
  Finset.sum_eq_zero fun j _ => by unfold owedS; rw [Finset.Ico_self, Finset.Ico_self, Finset.sum_empty, Finset.sum_empty]; exact add_zero 0

/-- What a device owes at the start. -/
def O₀ (c : Dev nD) : CellTallies nD τ sig ℕ := (∑ j, owedS c j 0 0) + owedB c

theorem wp_body {f : Vec F S4096x2048 .bf16} {Φ : PUnit → sProp 𝕄} :
    iprop(ctx X Wt κ ιs ∗ barPre c ∗ bigSep Finset.univ (openJ c) ∗ holdX c (X c) ∗ holdW c (Wt c) ∗ holdT c (tabV : Vec F S3x128 .i32) ∗ allO c f
        ∗ (∃ f, aS.view.loc (c : Thread nD τ) ↦[Finset.univ]{fullShare} f) ∗ (∃ f, aR.view.loc (c : Thread nD τ) ↦[Finset.univ]{fullShare} f)
        ∗ owesX c (O₀ c))
      ⊢ iprop(((holdX c (X c) ∗ holdW c (Wt c) ∗ holdT c (tabV : Vec F S3x128 .i32) ∗ allO c (outF X Wt c)
          ∗ (∃ f, aS.view.loc (c : Thread nD τ) ↦[Finset.univ]{fullShare} f) ∗ (∃ f, aR.view.loc (c : Thread nD τ) ↦[Finset.univ]{fullShare} f)
          ∗ semVal (barCell c) 0 ∗ (bigSep Finset.univ fun i : Fin 64 => semVal ((c : Thread nD τ), osem i) 0) ∗ owesX c 0) -∗ Φ ⟨⟩)
        -∗ wpc c bodyProg Φ) := by
  unfold O₀
  iintro ⟨#Hctx, Hbar, Hop, Hx, Hw, Ht, Ho, Hs, Hr, HO⟩ HΦ
  iapply (wp_fupd frame (wpE (defs₀ (F := F)) 𝒱₀ (c : Thread nD τ) none) Set.univ bodyProg Φ)
  iapply (wp_opening c) $$ [Ht]
  · iexact Ht
  iintro Ht
  iapply (wp_rest X Wt κ ιs c (f := f)) $$ [Hbar Hop Hx Hw Ho Hs Hr HO]
  · isplitr; · iexact Hctx
    isplitl [Hbar]; · iexact Hbar
    isplitl [Hop]; · iexact Hop
    isplitl [Hx]; · iexact Hx
    isplitl [Hw]; · iexact Hw
    isplitl [Ho]; · iexact Ho
    isplitl [Hs]; · iexact Hs
    isplitl [Hr]; · iexact Hr
    iexact HO
  unfold allP
  rw [owed_end]
  iintro ⟨Hx, Hw, Hat, H, HO⟩
  imod (shut_all X Wt κ ιs c) $$ [Hat H] with ⟨Hbar, Hz, Ho, Hs, Hr⟩
  · isplitr; · iexact Hctx
    isplitl [Hat]; · iexact Hat
    iexact H
  imodintro
  iapply HΦ
  isplitl [Hx]; · iexact Hx
  isplitl [Hw]; · iexact Hw
  isplitl [Ht]; · iexact Ht
  isplitl [Ho]; · iexact Ho
  isplitl [Hs]; · iexact Hs
  isplitl [Hr]; · iexact Hr
  isplitl [Hbar]; · iexact Hbar
  isplitl [Hz]; · iexact Hz
  iexact HO

end Cert.KernelIdeal.Allreduce

end
-- ==== Proof.Deal.lean ====
/-
  What the devices are dealt at the start: the tokens of every duty handed to the device that does it, the rights to write
  a slot to the device that writes it, the credit for what is owed to the device it is owed to.
-/
module

public import proofs.«01_k».proof.Proof.Exit

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Counting out -/

/-- Numbers counted out by remainder and quotient. -/
theorem pick {K W M : ℕ} (hK : 0 < K) (h : M ≤ K * W) (P : Fin K → ℕ → sProp 𝕄) :
    (bigSep Finset.univ fun a : Fin K => bigSep (Finset.range W) (P a)) ⊢ bigSep (Finset.Ico 0 M) fun n => P ⟨n % K, Nat.mod_lt _ hK⟩ (n / K) := by
  have inj : Set.InjOn (fun n : ℕ => ((⟨n % K, Nat.mod_lt _ hK⟩ : Fin K), n / K)) (Finset.Ico 0 M) := fun a _ b _ e => by
    have h1 : a % K = b % K := congrArg (fun p : Fin K × ℕ => p.1.val) e
    have h2 : a / K = b / K := congrArg (fun p : Fin K × ℕ => p.2) e
    rw [← Nat.div_add_mod a K, ← Nat.div_add_mod b K, h1, h2]
  have e := SparseCore.bigSep_image_of_injOn inj (fun p : Fin K × ℕ => P p.1 p.2)
  rw [← SparseCore.bigSep_product Finset.univ (Finset.range W) (fun p : Fin K × ℕ => P p.1 p.2), ← e]
  refine bigSep_subset fun p hp => ?_
  obtain ⟨n, hn, rfl⟩ := Finset.mem_image.mp hp
  refine Finset.mem_product.mpr ⟨Finset.mem_univ _, Finset.mem_range.mpr ((Nat.div_lt_iff_lt_mul hK).mpr ?_)⟩
  rw [Nat.mul_comm]; exact lt_of_lt_of_le (Finset.mem_Ico.mp hn).2 h

/-- The tokens of all duties a cell may have. -/
def tokC (g : GSem nD τ sig) : sProp 𝕄 := bigSep (Finset.range 62) fun r => bigSep (Finset.range 58) fun d => dutyTok ER g r d
/-- The tokens made at the start. -/
def cellToks : Finset (GSem nD τ sig × ℕ × ℕ) := (barCells ∪ scCells) ×ˢ (Finset.range 62 ×ˢ Finset.range 58)

theorem toks_cells : bigSep cellToks (fun x => (dutyTok ER x.1 x.2.1 x.2.2 : sProp 𝕄))
    = iprop((bigSep Finset.univ fun c : Dev nD => tokC (barCell c)) ∗ bigSep Finset.univ fun c : Dev nD => bigSep Finset.univ fun i : Fin 64 => tokC ((c : Thread nD τ), osem i)) := by
  unfold cellToks
  rw [SparseCore.bigSep_product, bigSep_congr (Ψ := fun g => (tokC g : sProp 𝕄)) fun g _ => by unfold tokC; rw [SparseCore.bigSep_product],
    bigSep_union disjoint_cells, bigSep_map, bigSep_map, bigSep_univ_prod]
  rfl

theorem tok_first (g : GSem nD τ sig) : (tokC g : sProp 𝕄) ⊢ bigSep (Finset.range 62) fun r => dutyTok ER g r 0 := by
  unfold tokC
  exact bigSep_mono fun r _ => bigSep_elim (Φ := fun d => (dutyTok ER g r d : sProp 𝕄)) (Finset.mem_range.mpr (by decide))
theorem tok_round (g : GSem nD τ sig) {M : ℕ} (h : M ≤ 58) : (tokC g : sProp 𝕄) ⊢ bigSep (Finset.Ico 0 M) fun d => dutyTok ER g 0 d := by
  unfold tokC
  refine (bigSep_elim (Φ := fun r => (bigSep (Finset.range 58) fun d => (dutyTok ER g r d : sProp 𝕄))) (Finset.mem_range.mpr (show 0 < 62 by decide))).trans ?_
  exact bigSep_subset fun d hd => Finset.mem_range.mpr (lt_of_lt_of_le (Finset.mem_Ico.mp hd).2 h)

section Tok
variable (c : Dev nD) (j : Fin 8)

theorem tok_bar : (tokC (barCell c) : sProp 𝕄) ⊢ iprop(dutyTok ER (barCell c) 0 0 ∗ dutyTok ER (barCell c) 0 1) := by
  refine (tok_round (barCell c) (M := 2) (by decide)).trans ?_
  rw [show Finset.Ico 0 2 = insert 0 {1} from by decide, bigSep_insert (by decide), bigSep_singleton]
  exact .rfl
theorem tok_send : iprop(tokC (sendCell c j 0) ∗ tokC (sendCell c j 1)) ⊢ bigSep (Finset.Ico 0 62) fun n => (dutyTok ER (sendCell c j (f2 n)) (n / 2) 0 : sProp 𝕄) := by
  have he : (bigSep Finset.univ fun k : Fin 2 => (tokC (sendCell c j k) : sProp 𝕄)) = iprop(tokC (sendCell c j 0) ∗ tokC (sendCell c j 1)) := BI.bigSep_fin_two _
  rw [← he]
  exact (bigSep_mono fun k _ => tok_first (sendCell c j k)).trans (pick (K := 2) (W := 62) (by decide) (by decide) fun k r => dutyTok ER (sendCell c j k) r 0)
theorem tok_recv : iprop(tokC (recvCell c j 0) ∗ tokC (recvCell c j 1) ∗ tokC (recvCell c j 2) ∗ tokC (recvCell c j 3))
    ⊢ bigSep (Finset.Ico 0 62) fun n => (dutyTok ER (recvCell c j (f4 n)) (n / 4) 0 : sProp 𝕄) := by
  have he : (bigSep Finset.univ fun k : Fin 4 => (tokC (recvCell c j k) : sProp 𝕄)) = iprop(tokC (recvCell c j 0) ∗ tokC (recvCell c j 1) ∗ tokC (recvCell c j 2) ∗ tokC (recvCell c j 3)) :=
    bigSep_four _
  rw [← he]
  exact (bigSep_mono fun k _ => tok_first (recvCell c j k)).trans (pick (K := 4) (W := 62) (by decide) (by decide) fun k r => dutyTok ER (recvCell c j k) r 0)
theorem tok_store : (tokC (storeCell c j) : sProp 𝕄) ⊢ bigSep (Finset.Ico 0 31) (storeTok c j) :=
  (tok_first (storeCell c j)).trans (bigSep_subset fun d hd => Finset.mem_range.mpr (lt_of_lt_of_le (Finset.mem_Ico.mp hd).2 (by decide)))
theorem tok_credit : (tokC (creditCell c j) : sProp 𝕄) ⊢ bigSep (Finset.Ico 0 58) fun i => dutyTok ER (creditCell c j) 0 i := tok_round _ le_rfl

/-- The tokens of a stream's duties on a device. -/
def ownToks : sProp 𝕄 :=
  iprop((bigSep (Finset.Ico 0 62) fun n => dutyTok ER (sendCell c j (f2 n)) (n / 2) 0) ∗ (bigSep (Finset.Ico 0 62) fun n => dutyTok ER (recvCell c j (f4 n)) (n / 4) 0)
    ∗ bigSep (Finset.Ico 0 31) (storeTok c j) ∗ bigSep (Finset.Ico 0 58) fun i => dutyTok ER (creditCell c j) 0 i)

theorem tok_own : iprop(tokC (sendCell c j 0) ∗ tokC (sendCell c j 1) ∗ tokC (recvCell c j 0) ∗ tokC (recvCell c j 1) ∗ tokC (recvCell c j 2) ∗ tokC (recvCell c j 3)
    ∗ tokC (storeCell c j) ∗ tokC (creditCell c j)) ⊢ (ownToks c j : sProp 𝕄) := by
  unfold ownToks
  iintro ⟨S0, S1, R0, R1, R2, R3, T, C⟩
  isplitl [S0 S1]
  · iapply (tok_send c j) $$ [S0 S1]
    isplitl [S0] <;> iassumption
  isplitl [R0 R1 R2 R3]
  · iapply (tok_recv c j) $$ [R0 R1 R2 R3]
    isplitl [R0]; · iexact R0
    isplitl [R1]; · iexact R1
    isplitl [R2] <;> iassumption
  isplitl [T]
  · iapply (tok_store c j) $$ T
  iapply (tok_credit c j) $$ C
end Tok

theorem toks_own : bigSep cellToks (fun x => (dutyTok ER x.1 x.2.1 x.2.2 : sProp 𝕄))
    ⊢ iprop((bigSep Finset.univ fun c : Dev nD => iprop(dutyTok ER (barCell c) 0 0 ∗ dutyTok ER (barCell c) 0 1)) ∗ bigSep Finset.univ fun c : Dev nD => bigSep Finset.univ fun j => ownToks c j) := by
  rw [toks_cells]
  have h1 : (bigSep Finset.univ fun c : Dev nD => (tokC (barCell c) : sProp 𝕄)) ⊢ bigSep Finset.univ fun c : Dev nD => iprop(dutyTok ER (barCell c) 0 0 ∗ dutyTok ER (barCell c) 0 1) :=
    bigSep_mono fun c _ => tok_bar c
  have h2 : (bigSep Finset.univ fun c : Dev nD => bigSep Finset.univ fun i : Fin 64 => (tokC ((c : Thread nD τ), osem i) : sProp 𝕄))
      ⊢ bigSep Finset.univ fun c : Dev nD => bigSep Finset.univ fun j => ownToks c j :=
    bigSep_mono fun c _ => (Entails.of_eq (own64 fun sm => tokC ((c : Thread nD τ), sm))).trans (bigSep_mono fun j _ => tok_own c j)
  iintro ⟨A, B⟩
  isplitl [A]
  · iapply h1 $$ A
  iapply h2 $$ B

/-! ## Handing round -/

def sndE : Dev nD × Fin 8 ≃ Dev nD × Fin 8 where
  toFun p := (snd p.1 p.2, p.2)
  invFun p := (up p.1 p.2, p.2)
  left_inv p := Prod.ext (up_snd p.1 p.2) rfl
  right_inv p := Prod.ext (snd_up p.1 p.2) rfl
def nextE : Dev nD ≃ Dev nD := ⟨nextD, prevD, prev_next, next_prev⟩

theorem around (P : Dev nD → Fin 8 → sProp 𝕄) : (bigSep Finset.univ fun c => bigSep Finset.univ fun j => P c j) = bigSep Finset.univ fun c => bigSep Finset.univ fun j => P (snd c j) j := by
  rw [← bigSep_univ_prod (fun p : Dev nD × Fin 8 => P p.1 p.2), bigSep_univ_equiv sndE, bigSep_univ_prod]
  rfl
theorem around_up (P : Dev nD → Fin 8 → sProp 𝕄) : (bigSep Finset.univ fun c => bigSep Finset.univ fun j => P c j) = bigSep Finset.univ fun c => bigSep Finset.univ fun j => P (up c j) j := by
  rw [← bigSep_univ_prod (fun p : Dev nD × Fin 8 => P p.1 p.2), bigSep_univ_equiv sndE.symm, bigSep_univ_prod]
  rfl

/-- What a device is handed of the slots' right to be written. -/
theorem writes_own : bigSep ((Finset.univ : Finset Key) ×ˢ Finset.range 16) (fun x => (writeTok ES x.1 (x.2 + 1) : sProp 𝕄))
    ⊢ bigSep Finset.univ fun c : Dev nD => bigSep Finset.univ fun j : Fin 8 => bigSep (Finset.Ico 0 62) fun n => writeTok ES (c, j, f4 n) (n / 4 + 1) := by
  rw [SparseCore.bigSep_product, bigSep_univ_prod]
  refine bigSep_mono fun c _ => ?_
  rw [bigSep_univ_prod]
  exact bigSep_mono fun j _ => pick (K := 4) (W := 16) (by decide) (by decide) fun k r => writeTok ES (c, j, k) (r + 1)
theorem readers_own : bigSep (Finset.univ : Finset Key) (fun k => (readerAt ES k 0 : sProp 𝕄))
    = bigSep Finset.univ fun c : Dev nD => bigSep Finset.univ fun j : Fin 8 => win4 (fun n => readerAt ES (c, j, f4 n) 0) 0 := by
  rw [bigSep_univ_prod]
  refine bigSep_congr fun c _ => ?_
  rw [bigSep_univ_prod]
  exact bigSep_congr fun j _ => bigSep_four fun k => readerAt ES (c, j, k) 0

/-- What a device holds of a stream before its semaphores are opened. -/
def linJ (c : Dev nD) (j : Fin 8) : sProp 𝕄 :=
  iprop(bigSep (Finset.Ico 0 62) (sendTok c j) ∗ bigSep (Finset.Ico 0 58) (creditTok c j) ∗ win4 (fun n => readerAt ES (c, j, f4 n) 0) 0 ∗ bigSep (Finset.Ico 0 31) (storeTok c j))

theorem deal_streams :
    iprop((bigSep Finset.univ fun c : Dev nD => bigSep Finset.univ fun j => ownToks c j)
      ∗ (bigSep Finset.univ fun c : Dev nD => bigSep Finset.univ fun j : Fin 8 => bigSep (Finset.Ico 0 62) fun n => (writeTok ES (c, j, f4 n) (n / 4 + 1) : sProp 𝕄))
      ∗ bigSep Finset.univ fun c : Dev nD => bigSep Finset.univ fun j : Fin 8 => win4 (fun n => readerAt ES (c, j, f4 n) 0) 0)
      ⊢ bigSep Finset.univ fun c : Dev nD => bigSep Finset.univ fun j => linJ c j := by
  rw [around fun c j => bigSep (Finset.Ico 0 62) fun n => (writeTok ES (c, j, f4 n) (n / 4 + 1) : sProp 𝕄)]
  unfold ownToks linJ sendTok creditTok
  simp only [bigSep_sep']
  rw [around fun c j => bigSep (Finset.Ico 0 62) fun n => (dutyTok ER (recvCell c j (f4 n)) (n / 4) 0 : sProp 𝕄),
    around_up fun c j => bigSep (Finset.Ico 0 58) fun n => (dutyTok ER (creditCell c j) 0 n : sProp 𝕄)]
  iintro ⟨⟨A, B, C, D⟩, E, G⟩
  isplitl [A B E]
  · isplitl [A]; · iexact A
    isplitl [B]; · iexact B
    iexact E
  isplitl [D]; · iexact D
  isplitl [G]; · iexact G
  iexact C

theorem deal_bar : (bigSep Finset.univ fun c : Dev nD => iprop(dutyTok ER (barCell c) 0 0 ∗ dutyTok ER (barCell c) 0 1))
    ⊢ bigSep Finset.univ fun c : Dev nD => iprop(dutyTok ER (barCell (prevD c)) 0 0 ∗ (dutyTok ER (barCell (nextD c)) 0 1 : sProp 𝕄)) := by
  rw [bigSep_sep', bigSep_sep', bigSep_univ_equiv nextE.symm fun c : Dev nD => (dutyTok ER (barCell c) 0 0 : sProp 𝕄),
    bigSep_univ_equiv nextE fun c : Dev nD => (dutyTok ER (barCell c) 0 1 : sProp 𝕄)]
  exact .rfl

/-! ## The credit -/

/-- What is owed to a device's own semaphores. -/
def dueJ (c : Dev nD) (j : Fin 8) : CellTallies nD τ sig ℕ :=
  (∑ i ∈ Finset.Ico 0 62, tallyAt (recvCell c j (f4 i)) (2 * i + 3) N16) + ∑ i ∈ Finset.Ico 0 58, tallyAt (creditCell c j) (2 * i + 8) 1
def due (c : Dev nD) : CellTallies nD τ sig ℕ := (∑ j, dueJ c j) + tallyAt (barCell c) 1 2

theorem sum_around {M : Type} [AddCommMonoid M] (f : Dev nD → Fin 8 → M) : (∑ c, ∑ j, f (snd c j) j) = ∑ c, ∑ j, f c j := by
  rw [← Fintype.sum_prod_type' f, ← Fintype.sum_prod_type' fun c j => f (snd c j) j]
  exact Equiv.sum_comp sndE fun p => f p.1 p.2
theorem sum_around_up {M : Type} [AddCommMonoid M] (f : Dev nD → Fin 8 → M) : (∑ c, ∑ j, f (up c j) j) = ∑ c, ∑ j, f c j := by
  rw [← Fintype.sum_prod_type' f, ← Fintype.sum_prod_type' fun c j => f (up c j) j]
  exact Equiv.sum_comp sndE.symm fun p => f p.1 p.2

theorem two_at (g : GSem nD τ sig) : (tallyAt g 1 2 : CellTallies nD τ sig ℕ) = tallyAt g 1 1 + tallyAt g 1 1 := by
  funext g'
  refine Finsupp.ext fun u => ?_
  show tallyAt g 1 2 g' u = tallyAt g 1 1 g' u + tallyAt g 1 1 g' u
  rw [tallyAt_apply, tallyAt_apply]; split <;> rfl

theorem owed_due : (∑ d, O₀ d) = ∑ d, due d := by
  unfold O₀ due owedS owedB dueJ
  simp only [Finset.sum_add_distrib, two_at]
  rw [sum_around fun c j => ∑ i ∈ Finset.Ico 0 62, tallyAt (recvCell c j (f4 i)) (2 * i + 3) N16,
    sum_around_up fun c j => ∑ i ∈ Finset.Ico 0 58, (tallyAt (creditCell c j) (2 * i + 8) 1 : CellTallies nD τ sig ℕ),
    show (∑ c, (tallyAt (barCell (nextD c)) 1 1 : CellTallies nD τ sig ℕ)) = ∑ c, tallyAt (barCell c) 1 1 from Equiv.sum_comp nextE fun c => (tallyAt (barCell c) 1 1 : CellTallies nD τ sig ℕ),
    show (∑ c, (tallyAt (barCell (prevD c)) 1 1 : CellTallies nD τ sig ℕ)) = ∑ c, tallyAt (barCell c) 1 1 from Equiv.sum_comp nextE.symm fun c => (tallyAt (barCell c) 1 1 : CellTallies nD τ sig ℕ)]

/-- Everything counted on the semaphores of one device. -/
def Own (c : Dev nD) (T : CellTallies nD τ sig ℕ) : Prop := ∀ g, T g ≠ 0 → g.1 = (c.tc : Thread nD τ)
theorem Own.add {c : Dev nD} {T T' : CellTallies nD τ sig ℕ} (h : Own c T) (h' : Own c T') : Own c (T + T') := fun g hg => by
  by_cases h0 : T g = 0
  · refine h' g fun h1 => hg ?_
    show T g + T' g = 0
    rw [h0, h1, add_zero]
  · exact h g h0
theorem Own.sum {c : Dev nD} {ι : Type} (s : Finset ι) (f : ι → CellTallies nD τ sig ℕ) (h : ∀ i ∈ s, Own c (f i)) : Own c (∑ i ∈ s, f i) :=
  Finset.sum_induction f (Own c) (fun _ _ => Own.add) (fun _ h => absurd rfl h) h
theorem Own.at (c : Dev nD) (sm : SemLoc sig) (ι n : ℕ) : Own c (tallyAt ((c : Thread nD τ), sm) ι n) := fun g hg => by
  by_contra hne
  refine hg (Finsupp.ext fun u => ?_)
  rw [tallyAt_apply, if_neg fun h => hne (by rw [h.1])]; rfl

theorem due_own (c : Dev nD) : Own c (due c) :=
  (Own.sum _ _ fun j _ => (Own.sum _ _ fun i _ => Own.at c _ _ _).add (Own.sum _ _ fun i _ => Own.at c _ _ _)).add (Own.at c _ _ _)

theorem creds (c : Dev nD) : (Pipeline.launchCred O₀ c : sProp 𝕄)
    = iprop((bigSep Finset.univ fun j : Fin 8 => iprop(bigSep (Finset.Ico 0 62) (recvC c j) ∗ bigSep (Finset.Ico 0 58) (creditC c j))) ∗ cred (tallyAt (barCell c) 1 2)) := by
  rw [Pipeline.launchCred_of_sum O₀ due owed_due (fun d g h => due_own d g h) c]
  have ha (T T' : CellTallies nD τ sig ℕ) : (cred (T + T') : sProp 𝕄) = iprop(cred T ∗ cred T') := BI.Entails.antisymm (cred_add _ _).1 (cred_add _ _).2
  unfold due dueJ
  rw [ha, Pipeline.cred_finsetSum]
  refine congrArg (fun A => iprop(A ∗ cred (tallyAt (barCell c) 1 2))) (bigSep_congr fun j _ => ?_)
  rw [ha, Pipeline.cred_finsetSum, Pipeline.cred_finsetSum]
  rfl

end Cert.KernelIdeal.Allreduce

end
-- ==== Proof.Launch.lean ====
/-
  The kernel launched: the region's proof data around a device's body, the cells and slots made and dealt out, the run of
  all devices to its end.
-/
module

public import proofs.«01_k».proof.Proof.Deal
public import proofs.«01_k».proof.Proof.Gen.KernelIdeal.Frame
public import Idealize.ShloMosaic.Lib.Pipeline.RegionTalk
public import Idealize.ShloMosaic.Lib.Pipeline.ValueKit

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The operands -/

/-- A device's block of the first operand, of the second, as the region's windows stage them. -/
def xBlk (c : Dev nD) : Vec F S4096x128 .bf16 := m ((c : Thread nD τ).loc main_arg0)
def wBlk (c : Dev nD) : Vec F S128x2048 .bf16 := m ((c : Thread nD τ).loc main_arg1)

/-- A device's buffers at launch, and when the region is entered. -/
abbrev W₀ (c : Dev nD) : Valuation τ sig (Elt F) := fun b => m ((c : Dev nD), b)
abbrev W₁ (c : Dev nD) : Valuation τ sig (Elt F) := StableHlo.after hostOps0 (W₀ m c)

theorem iblk0 (c : Dev nD) (t : Fin cfg0.N) : iblk m c 0 t = xBlk m c := by
  obtain rfl := fin_N0 t
  funext y
  show V m c main_arg0 (((cfg0.win 0).blk t0_0).view.emb y) = xBlk m c y
  rw [V_main_arg0]
  show xBlk m c (((cfg0.win 0).blk t0_0).view.emb y) = xBlk m c y
  congr 1
  funext a
  refine Fin.ext ?_
  exact Pipeline.Window.rect_emb_val_of_index_zero (cfg0.win 0) t0_0 a (by revert a; decide) y

theorem iblk1 (c : Dev nD) (t : Fin cfg0.N) : iblk m c 1 t = wBlk m c := by
  obtain rfl := fin_N0 t
  funext y
  show V m c main_arg1 (((cfg0.win 1).blk t0_0).view.emb y) = wBlk m c y
  rw [V_main_arg1]
  show wBlk m c (((cfg0.win 1).blk t0_0).view.emb y) = wBlk m c y
  congr 1
  funext a
  refine Fin.ext ?_
  exact Pipeline.Window.rect_emb_val_of_index_zero (cfg0.win 1) t0_0 a (by revert a; decide) y

theorem V_main_c (c : Dev nD) : V m c main_c = tabV := by
  unfold V hostOps0
  rw [StableHlo.after_cons, StableHlo.after_nil, StableHlo.nullary_result]
  rfl

theorem iblk2 (c : Dev nD) (t : Fin cfg0.N) : iblk m c 2 t = tabV := by
  obtain rfl := fin_N0 t
  funext y
  show V m c main_c (((cfg0.win 2).blk t0_0).view.emb y) = tabV y
  rw [V_main_c]
  congr 1
  funext a
  refine Fin.ext ?_
  exact Pipeline.Window.rect_emb_val_of_index_zero (cfg0.win 2) t0_0 a (by revert a; decide) y

/-! ## The buffers and the counters -/

def bufs : Finset (DevRef τ sig) := (StableHlo.tcRefs τ sig).filter fun b => ¬ b.isScoped

theorem arrRefs_bufs : Pipeline.arrRefs (τ := τ) (pcfgs (F := F) 0).spec = bufs := by
  show Pipeline.arrRefs (τ := τ) spec0 = bufs
  decide

theorem held_launch (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem held_four (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_c ↦{fullShare} W (Proc.devRef .tc main_c)) ∗ ((c : Thread nD τ).loc main_v1 ↦{fullShare} W (Proc.devRef .tc main_v1))) := by
  unfold StableHlo.held
  rw [bigSep_eq_bigSepL_of_eq [Proc.devRef .tc main_arg0, Proc.devRef .tc main_arg1, Proc.devRef .tc main_c, Proc.devRef .tc main_v1] (by decide) (by decide)]
  rfl

theorem held_none (c : Dev nD) (W : Valuation τ sig (Elt F)) : (StableHlo.held (c : Thread nD τ) ∅ W : sProp 𝕄) = BI.emp := by
  unfold StableHlo.held
  exact BI.bigSep_empty

theorem counters_launch (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem kept_counter : ∀ sm : SemLoc sig, sm.isScoped .tc = false → sm = .reg barS := by decide

/-! ## The region's data -/

/-- The two scratch buffers, and the register of random bits, at whatever they hold. -/
def loose (c : Dev nD) : sProp 𝕄 :=
  iprop(((∃ f, aS.view.loc (c : Thread nD τ) ↦[Finset.univ]{fullShare} f) ∗ (∃ f, aR.view.loc (c : Thread nD τ) ↦[Finset.univ]{fullShare} f)) ∗ ∃ r, prngReg c r)
/-- What a device enters the kernel with. -/
def enter (c : Dev nD) : sProp 𝕄 :=
  iprop(∃ κ ιs, ctx (xBlk m) (wBlk m) κ ιs ∗ barPre c ∗ bigSep Finset.univ (openJ c))
/-- What it leaves with: all its counters at zero. -/
def leave (c : Dev nD) : sProp 𝕄 := iprop(semVal (barCell c) 0 ∗ Pipeline.ownSems0 osem c)

def dat (c : Dev nD) : Pipeline.Dat τ (Elt F) ℕ ℕ UU ℕ cfg0 c where
  A w := V m c (Pipeline.arrRef spec0 w)
  after w _ := match w with
    | 0 => xBlk m c
    | 1 => wBlk m c
    | 2 => tabV
    | 3 => outF (xBlk m) (wBlk m) c
  Φ t := if t.val = 0 then iprop(enter m c ∗ loose c) else iprop(leave c ∗ loose c)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem owed_succ (c : Dev nD) : (dat m c).owed t0_0.succ = 0 := by
  show (if (t0_0.succ : Fin (cfg0.N + 1)).val = 0 then O₀ c else 0) = 0
  exact if_neg (Nat.succ_ne_zero _)

theorem owes_in {cfg : Pipeline.Cfg sig Λ₀} {c : Dev nD} (d : Pipeline.Dat τ (Elt F) ℕ ℕ UU ℕ cfg c) (t : Fin (cfg.N + 1)) {O : CellTallies nD τ sig ℕ} (h0 : d.owed t = O)
    (hr : d.recorded t = Set.univ := by rfl) : (owesX c O : sProp 𝕄) ⊢ d.owesAt 0 t := by
  unfold owesX Pipeline.Dat.owesAt Pipeline.owesWithin Pipeline.Dat.bound; rw [h0, hr]
  iintro ⟨%W, HO⟩; iexists W; isplitr; · ipureintro; exact fun _ _ => Or.inl trivial
  iexact HO
theorem owes_out {cfg : Pipeline.Cfg sig Λ₀} {c : Dev nD} (d : Pipeline.Dat τ (Elt F) ℕ ℕ UU ℕ cfg c) (t : Fin (cfg.N + 1)) {O : CellTallies nD τ sig ℕ} (h0 : d.owed t = O) :
    (d.owesAt 0 t : sProp 𝕄) ⊢ owesX c O := by
  unfold owesX Pipeline.Dat.owesAt Pipeline.owesWithin; rw [h0]
  iintro ⟨%W, -, HO⟩; iexists W; iexact HO

theorem before0 (c : Dev nD) (d) : (dat m c).before 0 t0_0 d = xBlk m c := by
  unfold Pipeline.Dat.before; rw [if_pos (by decide)]; exact iblk0 m c t0_0
theorem before1 (c : Dev nD) (d) : (dat m c).before 1 t0_0 d = wBlk m c := by
  unfold Pipeline.Dat.before; rw [if_pos (by decide)]; exact iblk1 m c t0_0
theorem before2 (c : Dev nD) (d) : (dat m c).before 2 t0_0 d = tabV := by
  unfold Pipeline.Dat.before; rw [if_pos (by decide)]; exact iblk2 m c t0_0

theorem owns_all (c : Dev nD) (b : Ref sig .tc) (v : b.ty.Contents (Elt F)) :
    (owns (Ix := ℕ) (Name := ℕ) (U := UU) (Lvl := ℕ) (c : Thread nD τ) (Memref.whole b) fullShare v : sProp 𝕄)
      = iprop(∃ f : Buf (Elt F) ((c : Thread nD τ).loc b), ⌜f = v⌝ ∗ ((c : Thread nD τ).loc b ↦{fullShare} f)) := by
  unfold owns; simp only [Memref.view_whole, View.read_whole, View.set_whole]

/-- The kernel's body meets the region's demand. -/
theorem body_ok (c : Dev nD) : Pipeline.BodyObligation (dat m c) (defs₀ (F := F)) 𝒱₀ 0 Set.univ := fun t => by
  obtain rfl := fin_N0 t
  rw [bigSep_W0, bigSep_W0]
  simp only [owns_all]
  rw [show (dat m c).Φ t0_0.castSucc = iprop(enter m c ∗ loose c) from rfl, show (dat m c).Φ t0_0.succ = iprop(leave c ∗ loose c) from rfl]
  unfold enter loose leave
  iintro ⟨⟨⟨%κ, %ιs, #Hctx, Hbar, Hop⟩, ⟨Hs, Hr⟩, Hp⟩, HO, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  ihave HO := (owes_out (dat m c) _ (owed_first m c)) $$ HO
  iapply (wp_body (xBlk m) (wBlk m) κ ιs c (f := f3)) $$ [Hbar Hop H0 H1 H2 H3 Hs Hr HO]
  · isplitr; · iexact Hctx
    isplitl [Hbar]; · iexact Hbar
    isplitl [Hop]; · iexact Hop
    isplitl [H0]; · unfold holdX; iexact H0
    isplitl [H1]; · unfold holdW; iexact H1
    isplitl [H2]; · unfold holdT; iexact H2
    isplitl [H3]; · unfold allO; iexact H3
    isplitl [Hs]; · iexact Hs
    isplitl [Hr]; · iexact Hr
    iexact HO
  unfold holdX holdW holdT allO Pipeline.ownSems0
  iintro ⟨H0, H1, H2, H3, Hs, Hr, Hb, Hz, HO⟩
  ihave HO := (owes_in (dat m c) t0_0.succ (owed_succ m c)) $$ HO
  isplitl [Hb Hz Hs Hr Hp]
  · isplitl [Hb Hz]
    · isplitl [Hb]; · iexact Hb
      iexact Hz
    isplitl [Hs Hr]
    · isplitl [Hs]; · iexact Hs
      iexact Hr
    iexact Hp
  isplitl [HO]; · iexact HO
  isplitl [H0]
  · iexists (xBlk m c); isplitr; · ipureintro; rfl
    iexact H0
  isplitl [H1]
  · iexists (wBlk m c); isplitr; · ipureintro; rfl
    iexact H1
  isplitl [H2]
  · iexists tabV; isplitr; · ipureintro; rfl
    iexact H2
  iexists (outF (xBlk m) (wBlk m) c); isplitr; · ipureintro; rfl
  iexact H3

end Cert.KernelIdeal.Allreduce

end
-- ==== Proof.Run.lean ====
/-
  The run: every cell and slot made, their tokens dealt, the cells of the region opened on entering it, and the whole
  program followed from launch to end on all devices.
-/
module

public import proofs.«01_k».proof.Proof.Launch
public import proofs.«01_k».proof.Proof.Gen.KernelIdeal.Frame
public import Idealize.ShloMosaic.Lib.Pipeline.RegionTalk
public import Idealize.ShloMosaic.Lib.Pipeline.ValueKit

@[expose] public section

noncomputable section

namespace Cert.KernelIdeal.Allreduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## Opening the cells -/

/-- The right to open each cell of a stream, its counter, and the rest of what the stream starts with. -/
def shutJ (c : Dev nD) (j : Fin 8) : sProp 𝕄 :=
  iprop((openTok ER (sendCell c j 0) ∗ openTok ER (sendCell c j 1) ∗ openTok ER (recvCell c j 0) ∗ openTok ER (recvCell c j 1) ∗ openTok ER (recvCell c j 2) ∗ openTok ER (recvCell c j 3)
      ∗ openTok ER (storeCell c j) ∗ openTok ER (creditCell c j))
    ∗ (semVal (sendCell c j 0) 0 ∗ semVal (sendCell c j 1) 0 ∗ semVal (recvCell c j 0) 0 ∗ semVal (recvCell c j 1) 0 ∗ semVal (recvCell c j 2) 0 ∗ semVal (recvCell c j 3) 0
      ∗ semVal (storeCell c j) 0 ∗ semVal (creditCell c j) 0)
    ∗ linJ c j ∗ bigSep (Finset.Ico 0 62) (recvC c j) ∗ bigSep (Finset.Ico 0 58) (creditC c j))

section Open
variable (X : Dev nD → Vec F S4096x128 .bf16) (Wt : Dev nD → Vec F S128x2048 .bf16) (κ : GSem nD τ sig → ℕ) (ιs : Key → ℕ)

theorem open_cell {g : GSem nD τ sig} (hg : g ∈ barCells ∪ scCells) :
    iprop(ctx X Wt κ ιs ∗ openTok ER g ∗ semVal g 0) ⊢ iprop(|={Set.univ}=> (atPos ER g 0 ∅ 0 ∗ reached ER g 0)) := by
  iintro ⟨#Hctx, Ho, Hv⟩
  iapply (cell_open ER (rd X Wt) (κ := κ g) (g := g) (Set.mem_univ _))
  isplitr; · iapply (ctx_cell X Wt κ ιs hg); iexact Hctx
  isplitl [Ho]; · iexact Ho
  iexact Hv

theorem recvs_reached (c : Dev nD) (j : Fin 8) :
    iprop(reached ER (recvCell c j 0) 0 ∗ reached ER (recvCell c j 1) 0 ∗ reached ER (recvCell c j 2) 0 ∗ reached ER (recvCell c j 3) 0) ⊢ (recvH c j 0 : sProp 𝕄) := by
  unfold recvH
  rw [show Finset.range (0 + 4) = insert 0 (insert 1 (insert 2 {3})) from by decide, bigSep_insert (by decide), bigSep_insert (by decide), bigSep_insert (by decide), bigSep_singleton]
  exact .rfl

theorem recvs_at (c : Dev nD) (j : Fin 8) :
    iprop(atPos ER (recvCell c j 0) 0 ∅ 0 ∗ atPos ER (recvCell c j 1) 0 ∅ 0 ∗ atPos ER (recvCell c j 2) 0 ∅ 0 ∗ atPos ER (recvCell c j 3) 0 ∅ 0) ⊢ (win4 (recvP c j) 0 : sProp 𝕄) := .rfl

theorem sends_at (c : Dev nD) (j : Fin 8) :
    iprop((atPos ER (sendCell c j 0) 0 ∅ 0 ∗ reached ER (sendCell c j 0) 0) ∗ (atPos ER (sendCell c j 1) 0 ∅ 0 ∗ reached ER (sendCell c j 1) 0)) ⊢ (win2 (sendP c j) 0 : sProp 𝕄) := .rfl

theorem open_stream (c : Dev nD) (j : Fin 8) : iprop(ctx X Wt κ ιs ∗ shutJ c j) ⊢ iprop(|={Set.univ}=> openJ c j) := by
  unfold shutJ linJ
  iintro ⟨#Hctx, ⟨OS0, OS1, OR0, OR1, OR2, OR3, OT, OC⟩, ⟨VS0, VS1, VR0, VR1, VR2, VR3, VT, VC⟩, ⟨Hst, Hct, Hrd, Htt⟩, HrC, HcC⟩
  imod (open_cell X Wt κ ιs (send_mem c j 0)) $$ [OS0 VS0] with ⟨AS0, #RS0⟩
  · isplitr; · iexact Hctx
    isplitl [OS0] <;> iassumption
  imod (open_cell X Wt κ ιs (send_mem c j 1)) $$ [OS1 VS1] with ⟨AS1, #RS1⟩
  · isplitr; · iexact Hctx
    isplitl [OS1] <;> iassumption
  imod (open_cell X Wt κ ιs (recv_mem c j 0)) $$ [OR0 VR0] with ⟨AR0, #RR0⟩
  · isplitr; · iexact Hctx
    isplitl [OR0] <;> iassumption
  imod (open_cell X Wt κ ιs (recv_mem c j 1)) $$ [OR1 VR1] with ⟨AR1, #RR1⟩
  · isplitr; · iexact Hctx
    isplitl [OR1] <;> iassumption
  imod (open_cell X Wt κ ιs (recv_mem c j 2)) $$ [OR2 VR2] with ⟨AR2, #RR2⟩
  · isplitr; · iexact Hctx
    isplitl [OR2] <;> iassumption
  imod (open_cell X Wt κ ιs (recv_mem c j 3)) $$ [OR3 VR3] with ⟨AR3, #RR3⟩
  · isplitr; · iexact Hctx
    isplitl [OR3] <;> iassumption
  imod (open_cell X Wt κ ιs (store_mem c j)) $$ [OT VT] with ⟨AT, #RT⟩
  · isplitr; · iexact Hctx
    isplitl [OT] <;> iassumption
  imod (open_cell X Wt κ ιs (credit_mem c j)) $$ [OC VC] with ⟨AC, #RC⟩
  · isplitr; · iexact Hctx
    isplitl [OC] <;> iassumption
  imodintro
  unfold openJ
  isplitl [AR0 AR1 AR2 AR3]
  · iapply (recvs_at c j)
    isplitl [AR0]; · iexact AR0
    isplitl [AR1]; · iexact AR1
    isplitl [AR2] <;> iassumption
  isplitr
  · iapply (recvs_reached c j)
    isplitr; · iexact RR0
    isplitr; · iexact RR1
    isplitr; · iexact RR2
    iexact RR3
  isplitl [HrC]; · iexact HrC
  isplitl [Hst]; · iexact Hst
  isplitl [AS0 AS1]
  · iapply (sends_at c j)
    isplitl [AS0]
    · isplitl [AS0]; · iexact AS0
      iexact RS0
    isplitl [AS1]; · iexact AS1
    iexact RS1
  isplitl [Hct]; · iexact Hct
  isplitl [Hrd]; · iexact Hrd
  isplitl [AC]; · iexact AC
  isplitr; · iexact RC
  isplitl [HcC]; · iexact HcC
  isplitl [AT]
  · unfold storeP
    isplitl [AT]; · iexact AT
    iexact RT
  iexact Htt

theorem open_all (c : Dev nD) : iprop(ctx X Wt κ ιs ∗ bigSep Finset.univ fun j => shutJ c j) ⊢ iprop(|={Set.univ}=> bigSep Finset.univ (openJ c)) := by
  have h := Transfers.bigSep_mono_pers (Finset.univ : Finset (Fin 8)) (ctx X Wt κ ιs) _ _ fun j _ => open_stream X Wt κ ιs c j
  exact h.trans (bigSep_fupd Finset.univ fun j => openJ (F := F) c j)

end Open

/-- The pieces a device brings, put together stream by stream. -/
theorem streams_shut (c : Dev nD) :
    iprop((bigSep Finset.univ fun i : Fin 64 => openTok ER ((c : Thread nD τ), osem i)) ∗ Pipeline.ownSems0 osem c ∗ (bigSep Finset.univ fun j => linJ c j)
      ∗ bigSep Finset.univ fun j : Fin 8 => iprop(bigSep (Finset.Ico 0 62) (recvC c j) ∗ bigSep (Finset.Ico 0 58) (creditC c j)))
      ⊢ (bigSep Finset.univ fun j => shutJ c j : sProp 𝕄) := by
  unfold shutJ Pipeline.ownSems0
  rw [own64 fun s => (openTok ER ((c : Thread nD τ), s) : sProp 𝕄), own64 fun s => (semVal ((c : Thread nD τ), s) 0 : sProp 𝕄)]
  simp only [bigSep_sep']
  exact .rfl

/-! ## The region -/

/-- What waits beside the buffers from launch to the region: the invariants, and the device's tokens, rights and credit. -/
def Tk (c : Dev nD) : sProp 𝕄 :=
  iprop((∃ κ ιs, ctx (xBlk m) (wBlk m) κ ιs) ∗ barPre c ∗ (bigSep Finset.univ fun i : Fin 64 => openTok ER ((c : Thread nD τ), osem i))
    ∗ (bigSep Finset.univ fun j => linJ c j) ∗ bigSep Finset.univ fun j : Fin 8 => iprop(bigSep (Finset.Ico 0 62) (recvC c j) ∗ bigSep (Finset.Ico 0 58) (creditC c j)))
def Yk (c : Dev nD) : sProp 𝕄 := semVal (barCell c) 0

theorem reg_open (c : Dev nD) : iprop(Tk m c ∗ Pipeline.ownSems0 osem c ∗ levAts L lv) ⊢ (|={Set.univ}=> enter m c : sProp 𝕄) := by
  unfold Tk enter
  iintro ⟨⟨⟨%κ, %ιs, #Hctx⟩, Hbar, Ho, Hl, Hcr⟩, Hz, -⟩
  ihave H := (streams_shut c) $$ [Ho Hz Hl Hcr]
  · isplitl [Ho]; · iexact Ho
    isplitl [Hz]; · iexact Hz
    isplitl [Hl]; · iexact Hl
    iexact Hcr
  imod (open_all (xBlk m) (wBlk m) κ ιs c) $$ [H] with H
  · isplitr; · iexact Hctx
    iexact H
  imodintro
  iexists κ; iexists ιs
  isplitr; · iexact Hctx
  isplitl [Hbar]; · iexact Hbar
  iexact H

theorem reg_kit : Pipeline.PLaunchFacts (nD := nD) (τ := τ) (pcfgs (F := F)) 0 where
  cellOf_inj a := by rw [Subsingleton.elim a adm]; exact cellOf_inj
  win := winFacts0
  pre := Pipeline.PreFacts.none _
  block_pos := launch0.block_pos
  arr_whole := launch0.arr_whole
  stage_whole := launch0.stage_whole

theorem O₀_above (c : Dev nD) : Above (O₀ c) 0 := by
  unfold O₀ owedB
  exact Above.add (Above.sum _ _ fun j _ => owedS_above c j fun i => ⟨fun _ _ => by omega, fun _ _ => by omega⟩)
    (Above.add (Above.at _ _ _ (by omega) (by omega)) (Above.at _ _ _ (by omega) (by omega)))

theorem reg_in (c : Dev nD) : iprop(Pipeline.scopedRest (Pipeline.pin (pcfgs (F := F)) adm 0).spec c ∗ (∃ r, prngReg c r) ∗ StableHlo.held (c.tc : Thread nD τ) ∅ (W₁ m c) ∗ enter m c)
    ⊢ (pdats m 0 c).Φ 0 := by
  rw [show (pdats m 0 c).Φ 0 = iprop(enter m c ∗ loose c) from rfl]
  have h := scopedRest0_eq (Ix := ℕ) (Val := Elt F) (Name := ℕ) (U := UU) (Lvl := ℕ) c
  unfold loose
  iintro ⟨Hs, Hp, -, He⟩
  isplitl [He]; · iexact He
  isplitl [Hs]
  · iapply (Entails.of_eq h); iexact Hs
  iexact Hp

theorem reg_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₁ m c) ∗ Pipeline.ownSems0 osem c ∗ Yk c) := by
  rw [show (pdats m 0 c).Φ (Fin.last _) = iprop(leave c ∗ loose c) from rfl, held_none]
  have h := scopedRest0_eq (Ix := ℕ) (Val := Elt F) (Name := ℕ) (U := UU) (Lvl := ℕ) c
  unfold loose leave Yk
  iintro ⟨⟨Hb, Hz⟩, Hs, Hp⟩
  isplitl [Hs]
  · iapply (Entails.of_eq h.symm); iexact Hs
  isplitl [Hp]; · iexact Hp
  isplitr; · iempintro
  isplitl [Hz]; · iexact Hz
  iexact Hb

/-- The kernel's result array after the run. -/
theorem result_arr (c : Dev nD) : (dat m c).arrAt 3 cfg0.N = outF (xBlk m) (wBlk m) c :=
  (dat m c).arrAt_eq_of_after_last 3 t0_0 (by decide +kernel) _ fun j => rfl

/-- A device's buffers when the region is left. -/
abbrev W₂ (c : Dev nD) : Valuation τ sig (Elt F) := Function.update (W₁ m c) (Proc.devRef .tc main_v1) (outF (xBlk m) (wBlk m) c)

theorem W₂_v1 (c : Dev nD) : W₂ m c (Proc.devRef .tc main_v1) = outF (xBlk m) (wBlk m) c := Function.update_self _ _ _
theorem W₂_keep (c : Dev nD) (b : Ref sig .tc) (h : (Proc.devRef .tc b : DevRef τ sig) ≠ Proc.devRef .tc main_v1) : W₂ m c (Proc.devRef .tc b) = V m c b :=
  Function.update_of_ne h _ _

theorem arr_before (c : Dev nD) (w : Fin cfg0.W) : (dat m c).arrAt w 0 = W₁ m c (Proc.devRef .tc (Pipeline.arrRef spec0 w)) := rfl
theorem arr_after (c : Dev nD) (w : Fin cfg0.W) : (dat m c).arrAt w cfg0.N = W₂ m c (Proc.devRef .tc (Pipeline.arrRef spec0 w)) := by
  match w with
  | 0 => exact ((dat m c).arrAt_in 0 rfl _).trans (W₂_keep m c main_arg0 (by decide)).symm
  | 1 => exact ((dat m c).arrAt_in 1 rfl _).trans (W₂_keep m c main_arg1 (by decide)).symm
  | 2 => exact ((dat m c).arrAt_in 2 rfl _).trans (W₂_keep m c main_c (by decide)).symm
  | 3 => exact (result_arr m c).trans (W₂_v1 m c).symm

theorem owed_levels (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then O₀ c else 0 := rfl
  rw [e] at h
  split at h
  · obtain ⟨h1, h2, h3⟩ := O₀_above c g i h
    exact ⟨by unfold L; rw [if_pos h1]; exact Finset.mem_range.mpr h3, h2⟩
  · exact absurd h (Nat.lt_irrefl 0)

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ ∅ (Finset.Subset.refl _) reg_kit rfl (fun c => (body_ok m c).loose)
    (fun _ => 0) O₀ (fun c => (owed_zero m c).trans (zero_add _).symm) (owed_last m) (fun _ => rfl) (fun c w => (dat m c).share_full (fun _ => rfl) w)
    (W₁ m) (W₂ m) (fun _ b hb => absurd hb (by rw [Finset.sdiff_self]; exact Finset.notMem_empty b))
    (Tk m) Yk (enter m) Yk (reg_open m) (reg_in m) (fun c => by
      have h := reg_out m c
      rw [held_none] at h ⊢
      exact h)
    (fun c => by iintro H; imodintro; iexact H)
    (fun _ => 0)
    ⟨fun c w s => by rw [L_tc]; decide, fun _ _ _ => le_rfl, fun c t g i h => owed_levels m c t g i h⟩
    (fun _ => iprop(emp))
    (arr_before m) (arr_after m)

theorem reg0_pre (c : Dev nD) : iprop(StableHlo.held (c : Thread nD τ) bufs (W₁ m c) ∗ (Tk m c ∗ (∃ r, prngReg c r) ∗ owesX c (O₀ c))) ⊢ (reg0 m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) ∅ (W₁ m c) ∗ emp) ∗ Tk m c ∗ ∃ Wd, owes (c : Thread nD τ) (0 + O₀ c) Wd)
  rw [held_none, zero_add, arrRefs_bufs]
  unfold owesX
  iintro ⟨Hh, Ht, Hp, HO⟩
  isplitl [Hh]; · iexact Hh
  isplitl [Hp]; · iexact Hp
  isplitr
  · isplitr <;> iempintro
  isplitl [Ht]; · iexact Ht
  iexact HO

theorem reg0_post (c : Dev nD) : (reg0 m).post c
    ⊢ iprop((StableHlo.held (c : Thread nD τ) bufs (W₂ m c) ∗ semVal (barCell c) 0) ∗ ∃ W, owes (c : Thread nD τ) (0 : CellTallies nD τ sig ℕ) W) := by
  show iprop(StableHlo.held (c.tc : Thread nD τ) (Pipeline.arrRefs (τ := τ) (pcfgs (F := F) 0).spec) (W₂ m c) ∗ (∃ r, prngReg c r)
    ∗ (StableHlo.held (c.tc : Thread nD τ) ∅ (W₂ m c) ∗ emp) ∗ Yk c ∗ ∃ Wd, owes (c : Thread nD τ) (0 : CellTallies nD τ sig ℕ) Wd) ⊢ _
  rw [arrRefs_bufs]
  unfold Yk
  iintro ⟨Hh, -, -, Hb, HO⟩
  isplitr [HO]
  · isplitl [Hh]; · iexact Hh
    iexact Hb
  iexact HO

/-- What rides beside the buffers before the region. -/
def ride (c : Dev nD) : sProp 𝕄 := iprop(Tk m c ∗ (∃ r, prngReg c r) ∗ owesX c (O₀ c))

theorem ops_sub : ∀ op ∈ (hostOps0 : List (HloOp τ sig (Elt F))), op.bufs ⊆ bufs := fun op h => by
  simp only [hostOps0, List.mem_singleton] at h; subst h
  show ({Proc.devRef .tc main_c} : Finset (DevRef τ sig)) ⊆ bufs; decide
theorem ops_fresh : ∀ op ∈ (hostOps0 : List (HloOp τ sig (Elt F))), op.fresh = ∅ := fun op h => by
  simp only [hostOps0, List.mem_singleton] at h; subst h; rfl

def seg0 : Pipeline.HostSeg (Name := ℕ) (U := UU) (pcfgs (F := F)) defs₀ 𝒱₀ L lv :=
  Pipeline.HostSeg.ofOps _ _ _ _ _ bufs hostOps0 ops_sub ops_fresh (W₀ m) (ride m)

def segs : List (Pipeline.Seg (pcfgs (F := F)) adm (pdats m) 0 defs₀ 𝒱₀ L lv) := [.host (seg0 m), .region (reg0 m)]

theorem main_run (c : Dev nD) : main (F := F) c = Pipeline.Seg.run (segs m) := main_segs adm (pdats m) 0 𝒱₀ L lv (seg0 m) (reg0 m) rfl c

/-! ## The launch -/

/-- What the protocol is launched with: the cells and their tokens, the slots. -/
def u₁ : UX := (launchOf barCells scCells cellToks, initSlots (Finset.univ : Finset Key) 16)
def u₀ : UU := (initOf (Pipeline.cells (Pipeline.pin (pcfgs (F := F)) adm) cellOf_inj) (Pipeline.launchToks (Pipeline.pin (pcfgs (F := F)) adm) cellOf_inj), u₁)

/-- Held whole by the first device until it is dealt. -/
def G (c : Dev nD) : sProp 𝕄 := if c = 0 then BI.own ((embR : Emb UX 𝕄) u₁) else iprop(emp)
theorem G_all : bigSep Finset.univ (G (F := F)) = BI.own ((embR : Emb UX 𝕄) u₁) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem u₁_split : (BI.own ((embR : Emb UX 𝕄) u₁) : sProp 𝕄)
    ⊢ iprop(BI.own ((ER : Emb _ 𝕄) (launchOf barCells scCells cellToks)) ∗ BI.own ((ES : Emb _ 𝕄) (initSlots (Finset.univ : Finset Key) 16))) :=
  own_pair_emb (embR : Emb UX 𝕄) _ _

/-- What all devices share. -/
def common (κ : GSem nD τ sig → ℕ) (ιs : Key → ℕ) : sProp 𝕄 := iprop(ctx (xBlk m) (wBlk m) κ ιs ∗ bigSep barCells fun g => reached ER g 0)
instance common_persistent (κ : GSem nD τ sig → ℕ) (ιs : Key → ℕ) : BI.Persistent (common m κ ιs) := by unfold common; infer_instance

/-- What is dealt to a device. -/
def dealt (c : Dev nD) : sProp 𝕄 :=
  iprop((dutyTok ER (barCell (prevD c)) 0 0 ∗ dutyTok ER (barCell (nextD c)) 0 1) ∗ atPos ER (barCell c) 0 ∅ 0
    ∗ (bigSep Finset.univ fun i : Fin 64 => openTok ER ((c : Thread nD τ), osem i)) ∗ bigSep Finset.univ fun j => linJ c j)
/-- What a device has of its own at launch. -/
def mine (c : Dev nD) : sProp 𝕄 :=
  iprop(StableHlo.held (c : Thread nD τ) bufs (W₀ m c) ∗ ((bigSep Finset.univ fun j : Fin 8 => iprop(bigSep (Finset.Ico 0 62) (recvC c j) ∗ bigSep (Finset.Ico 0 58) (creditC c j)))
    ∗ cred (tallyAt (barCell c) 1 2)) ∗ owesX c (O₀ c) ∗ ∃ r, prngReg c r)

theorem bar_reached (c : Dev nD) : (bigSep barCells fun g => (reached ER g 0 : sProp 𝕄)) ⊢ reached ER (barCell c) 0 :=
  bigSep_elim (Finset.mem_map_of_mem barEmb (Finset.mem_univ c))

abbrev T₀ (c : Dev nD) : sProp 𝕄 := iprop(StableHlo.held (c : Thread nD τ) bufs (W₀ m c) ∗ ride m c)
abbrev Tₙ (c : Dev nD) : sProp 𝕄 := iprop(StableHlo.held (c : Thread nD τ) bufs (W₂ m c) ∗ semVal (barCell c) 0)

theorem start_one_dev (κ : GSem nD τ sig → ℕ) (ιs : Key → ℕ) (c : Dev nD) : iprop(common m κ ιs ∗ (dealt c ∗ mine m c)) ⊢ T₀ m c := by
  unfold common dealt mine T₀ ride Tk barPre
  iintro ⟨⟨#Hctx, #HR⟩, ⟨⟨Ht0, Ht1⟩, Hat, Ho, Hl⟩, Hh, ⟨Hcr, Hcb⟩, HO, Hp⟩
  isplitl [Hh]; · iexact Hh
  isplitr [Hp HO]
  · isplitr
    · iexists κ; iexists ιs; iexact Hctx
    isplitl [Ht0 Ht1 Hcb Hat]
    · isplitl [Ht0]; · iexact Ht0
      isplitl [Ht1]; · iexact Ht1
      isplitr; · iapply (bar_reached (prevD c)); iexact HR
      isplitr; · iapply (bar_reached (nextD c)); iexact HR
      isplitl [Hcb] <;> iassumption
    isplitl [Ho]; · iexact Ho
    isplitl [Hl] <;> iassumption
  isplitl [Hp]; · iexact Hp
  iexact HO

theorem own_start (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(mine m c ∗ (semVal (barCell c) 0 ∗ G c)) : sProp 𝕄) := by
  rw [show unscopedBufs c (fun b => m ((c : Thread nD τ).loc b)) = StableHlo.held (c : Thread nD τ) bufs (W₀ m c) from held_launch c (W₀ m c),
    counters_launch, creds]
  unfold mine owesX
  iintro ⟨Hh, Hus, HO, Hcr, Hp, HG⟩
  isplitr [Hus HG]
  · isplitl [Hh]; · iexact Hh
    isplitl [Hcr]; · iexact Hcr
    isplitl [HO]
    · iexists ∅; iexact HO
    iexists (ρ c); iexact Hp
  isplitl [Hus] <;> iassumption

/-- A pair of families together, or apart. -/
theorem two_in {Φ Ψ : Dev nD → sProp 𝕄} : iprop(bigSep Finset.univ Φ ∗ bigSep Finset.univ Ψ) ⊢ bigSep Finset.univ fun c => iprop(Φ c ∗ Ψ c) :=
  Entails.of_eq (bigSep_sep' Finset.univ Φ Ψ).symm
theorem two_out {Φ Ψ : Dev nD → sProp 𝕄} : (bigSep Finset.univ fun c => iprop(Φ c ∗ Ψ c)) ⊢ iprop(bigSep Finset.univ Φ ∗ bigSep Finset.univ Ψ) :=
  Entails.of_eq (bigSep_sep' Finset.univ Φ Ψ)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hown : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(mine m c ∗ (semVal (barCell c) 0 ∗ G c)) : sProp 𝕄) := bigSep_mono fun c _ => own_start m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun i : Fin 64 => openTok ER ((c : Thread nD τ), osem i)) :=
    Entails.of_eq (by
      rw [bigSep_map, bigSep_univ_prod]
      rfl)
  iintro ⟨H, #Hlev⟩
  ihave H := hown $$ H
  ihave H := two_out $$ H; icases H with ⟨HB, H⟩
  ihave H := two_out $$ H; icases H with ⟨Hv, HG⟩
  ihave Hu := (Entails.of_eq (G_all (F := F))) $$ HG
  ihave Hu := u₁_split $$ Hu
  icases Hu with ⟨HuR, HuS⟩
  imod (fund_launch ER (rd (xBlk m) (wBlk m)) disjoint_cells (fun g _ h => h) cellToks) $$ [Hv HuR] with ⟨%κ, -, #Hinv, #Hr, Hat, Hopen, Htok⟩
  · isplitl [Hv]
    · iapply hv $$ Hv
    · iexact HuR
  imod (slots_init (E := ES) (Finset.univ : Finset Key) 16 (fun k : Key => (anyR k.1 k.2.1 k.2.2 : sProp 𝕄))) $$ HuS with ⟨%ιs, -, #Hsl, Hrd, Hwr⟩
  imodintro
  ihave Htok := toks_own $$ Htok
  icases Htok with ⟨Hbt, Hst⟩
  ihave Hbt := deal_bar $$ Hbt
  ihave Hwr := writes_own $$ Hwr
  ihave Hrd := (Entails.of_eq readers_own) $$ Hrd
  ihave Hl := deal_streams $$ [Hst Hwr Hrd]
  · isplitl [Hst]; · iexact Hst
    isplitl [Hwr]; · iexact Hwr
    iexact Hrd
  iapply (bigSep_with_persistent (R := common m κ ιs) (Φ := fun c => iprop(dealt c ∗ mine m c)) fun c _ => start_one_dev m κ ιs c)
  isplitr
  · unfold common ctx
    isplitr
    · isplitr; · iexact Hinv
      isplitr; · iexact Hsl
      iexact Hlev
    iexact Hr
  iapply two_in
  isplitr [HB]
  · unfold dealt
    iapply two_in; isplitl [Hbt]; · iexact Hbt
    iapply two_in; isplitl [Hat]; · iapply hat $$ Hat
    iapply two_in; isplitl [Hopen]; · iapply hopen $$ Hopen
    iexact Hl
  · iexact HB

/-! ## The run -/

theorem W₂_arg0 (c : Dev nD) : W₂ m c (Proc.devRef .tc main_arg0) = xBlk m c :=
  (Function.update_of_ne (by decide) _ _).trans (V_main_arg0 m c)
theorem W₂_arg1 (c : Dev nD) : W₂ m c (Proc.devRef .tc main_arg1) = wBlk m c :=
  (Function.update_of_ne (by decide) _ _).trans (V_main_arg1 m c)

set_option backward.isDefEq.respectTransparency.types false in
/-- From any memory with every counter at zero the program ends on all devices: the operands are unchanged, the result is
    `outF`, every counter is at zero again. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outF (xBlk m) (wBlk m) c) ∧ r.2.sem = fun _ => 0) :=
  Pipeline.θ_run_regions_kit_sems (pcfgs (F := F)) adm (pdats m) 0 cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((Memref.whole main_arg0).view.loc (c : Thread nD τ)) = W₂ m c (Proc.devRef .tc main_arg0)
      ∧ s.mem ((Memref.whole main_arg1).view.loc (c : Thread nD τ)) = W₂ m c (Proc.devRef .tc main_arg1)
      ∧ s.mem ((Memref.whole main_v1).view.loc (c : Thread nD τ)) = W₂ m c (Proc.devRef .tc main_v1)) ∧ s.sem (barCell c) = 0)
    (hfin := fun c s' => by
      dsimp only [Tₙ]; rw [held_four]
      iintro ⟨⟨⟨Hx, Hw, -, Hv⟩, Hb0⟩, HSI⟩
      icombine HSI Hx gives %hx
      icombine HSI Hw gives %hw
      icombine HSI Hv gives %hv
      icombine HSI Hb0 gives %hb
      imodintro
      isplitr
      · ipureintro
        exact ⟨⟨Buf.eq_of_forall_mem_univ hx, Buf.eq_of_forall_mem_univ hw, Buf.eq_of_forall_mem_univ hv⟩, by simpa using hb⟩
      iexact HSI)
    (hQ := fun s h hs => ⟨fun c => by
        obtain ⟨⟨hx, hw, hv⟩, -⟩ := h c
        rw [W₂_arg0] at hx; rw [W₂_arg1] at hw; rw [W₂_v1] at hv
        exact ⟨hx, hw, hv⟩,
      sem_eq_zero hs fun c sm hsm => by
        obtain rfl := kept_counter sm hsm
        exact (h c).2⟩)

end Cert.KernelIdeal.Allreduce

end
-- ==== Proof.Frames.lean ====
/-
  The frame claims. The run of the launch (Proof/Run.lean) holds over any float values; the printed program and the
  idealized one are the same text in two namespaces, so the run at the bit patterns is carried across by the equality of
  the two tables of definitions. The reference runs on the host and declares no semaphore.
-/
module

public import proofs.«01_k».proof.Defs
public import proofs.«01_k».proof.Proof.Gen.Kernel
public import proofs.«01_k».proof.Proof.Gen.Kernel.Launch
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

/-- The frame of the launch, over any float values: the idealized program's text. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (Cert.KernelIdeal.Allreduce.run_main (F := F) m ρ)

/-- The idealized program's frame. -/
theorem frame_ideal : Cert.quiescent_KernelIdeal := fun m ρ _ => frame_any m ρ

/-- The kernel's body is the same in both programs. -/
theorem body_same : Cert.Kernel.cc0_body (F := Bits) = Cert.KernelIdeal.cc0_body (F := Bits) := rfl

/-- So is the table holding it, -/
theorem table_same : Cert.Kernel.defs₀ (F := Bits) = Cert.KernelIdeal.defs₀ (F := Bits) := by
  refine congrArg (Defs.onTc (nD := Cert.KernelIdeal.nD) (τ := Cert.KernelIdeal.τ) (sig := Cert.KernelIdeal.sig)
    (Val := Elt Bits) (Λ := Cert.KernelIdeal.Λ₀)) (funext fun l => funext fun a => ?_)
  match l, a with
  | ⟨0, _⟩, (t, s) =>
    dsimp only
    rw [body_same]

/-- and the table with the pipeline around it. -/
theorem defs_same : Cert.Kernel.defs (F := Bits) = Cert.KernelIdeal.defs (F := Bits) :=
  congrArg (Pipeline.defs (Cert.KernelIdeal.pcfgs (F := Bits))) table_same

/-- The printed program's frame. -/
theorem frame_kernel : Cert.quiescent_Kernel := fun m ρ _ => by
  have h := frame_any (F := Bits) m ρ
  rw [← defs_same] at h
  exact h

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sum.lean ====
/-
  What the kernel's result holds over the extended reals: at every entry the activation of the sum, over all devices,
  of the devices' products.

  A stream's message grows by one device's rows at each step, so that after `n` steps it holds the sum over the `n + 1`
  devices behind it on the ring; the last step adds the thirty-second device's and applies the activation; the
  all-gather only moves finished rows.
-/
module

public import proofs.«01_k».proof.Proof.Exit
public import Idealize.ShloMosaic.Lib.MatmulPlain
public import Idealize.ShloMosaic.Lib.IdealHost
public import Idealize.ShloMosaic.Lib.Pipeline.Value

@[expose] public section

noncomputable section

namespace Cert.KernelIdeal.Allreduce

open Idealize.ShloMosaic Idealize.ShloMosaic.TcCoe Idealize.ShloMosaic.ValueIdx
open Cert.KernelIdeal.Gen
open scoped BigOperators

section Casts
variable {F : FTy → Type} [FloatOps F]

theorem drop4_cast (w : FVec F S16x2048 .bf16) (h : S16x2048.ShapeCasts S1x1x16x2048) : drop4 (shapeCast S1x1x16x2048 w h) = w := by
  funext y
  show w (Shape.reshapeEquiv _ (Shape.reshapeEquiv _ y)) = w y
  rw [Shape.reshapeEquiv_reshapeEquiv, Shape.reshapeEquiv_self]

theorem cast_lift4 (v : FVec F S16x2048 .bf16) (h : S1x1x16x2048.ShapeCasts S16x2048) : shapeCast S16x2048 (lift4 v) h = v := by
  funext y
  show v ((Shape.reshapeEquiv numel_slot).symm (Shape.reshapeEquiv _ y)) = v y
  exact congrArg v ((Shape.reshapeEquiv numel_slot).symm_apply_apply y)

end Casts

variable (X : Dev nD → Vec Ideal S4096x128 .bf16) (Wt : Dev nD → Vec Ideal S128x2048 .bf16)

/-! ## The products -/

/-- An entry of a device's product. -/
def entry (d : Dev nD) (r : Fin 4096) (q : Fin 2048) : EReal := ∑ k : Fin 128, (X d (ix2 r k) * Wt d (ix2 k q) : EReal)

theorem prodG_apply (d : Dev nD) (r : Fin 4096) (q : Fin 2048) : prodG X Wt d (ix2 r q) = entry X Wt d r q := by
  unfold prodG k0_pay56 k0_pay44
  simp only [shapeCast_self]
  refine (Ideal.matmul_plain_apply (M := 4096) (K := 128) (N := 2048) (φ₁ := .bf16) (φ₂ := .bf16) none (X d) (Wt d) _ r q).trans ?_
  exact (congrArg (· + _) (show Ideal.ofBits .f32 0x00000000#32 = 0 by simp [Ideal.ofBits, Ideal.ieee])).trans (zero_add _)

/-- The row of the whole that a block's row is. -/
def at16 (r : Row16) (y : S16x2048.Idx) : Fin 4096 :=
  ⟨r.1 + (y 0).val, by have h : (y 0).val < 16 := (y 0).isLt; have := r.2.2; omega⟩

theorem emb_at16 (r : Row16) (y : S16x2048.Idx) : (rectO r).emb y = ix2 (n0 := 4096) (n1 := 2048) (at16 r y) (y 1) := by
  funext a
  apply Fin.ext
  rw [ValueKit.rect_emb_unit_val]
  match a with
  | ⟨0, _⟩ => rfl
  | ⟨1, _⟩ => exact Nat.zero_add _

theorem gRows_apply (c : Dev nD) (j : Fin 8) (t : ℕ) (y : S16x2048.Idx) :
    gRows X Wt c j t y = entry X Wt c (at16 (rowAt c j t) y) (y 1) := by
  show prodG X Wt c ((rectO (rowAt c j t)).emb y) = _
  rw [emb_at16]; exact prodG_apply X Wt c _ _

theorem firstV_apply (c : Dev nD) (j : Fin 8) (y : S16x2048.Idx) :
    firstV X Wt c j y = entry X Wt c (at16 (rowAt c j 0) y) (y 1) := by
  have hy : (y 0).val < 16 := (y 0).isLt
  have hj := j.isLt
  have hp : posN (posD c).val j < 32 := by have := (posD c).isLt; unfold posN; split <;> omega
  have hr : 16 * j.val + (y 0).val < 128 := by omega
  have h1 : firstV X Wt c j y = chunkV X Wt c j (ix2 (n0 := 128) (n1 := 2048) ⟨16 * j.val + (y 0).val, hr⟩ (y 1)) :=
    congrArg (chunkV X Wt c j) (funext fun a => match a with | ⟨0, _⟩ => rfl | ⟨1, _⟩ => rfl)
  rw [h1]
  unfold chunkV k0_pay46 k0_pay44
  simp only [shapeCast_self]
  refine (Ideal.matmul_plain_apply (M := 128) (K := 128) (N := 2048) (φ₁ := .bf16) (φ₂ := .bf16) none _ (Wt c) _ _ (y 1)).trans ?_
  refine ((congrArg (· + _) (show Ideal.ofBits .f32 0x00000000#32 = 0 by simp [Ideal.ofBits, Ideal.ieee])).trans (zero_add _)).trans ?_
  unfold entry
  refine Finset.sum_congr rfl fun k _ => congrArg (· * _) ?_
  show X c ((rectXC (chunkRow c j)).emb (ix2 ⟨16 * j.val + (y 0).val, hr⟩ k)) = _
  refine congrArg (X c) (funext fun a => Fin.ext ?_)
  rw [ValueKit.rect_emb_unit_val]
  match a with
  | ⟨0, _⟩ =>
    show 128 * posN (posD c).val j + (16 * j.val + (y 0).val) = rowOf (posN (posD c).val j + 32 - 0) j + (y 0).val
    unfold rowOf; omega
  | ⟨1, _⟩ => exact Nat.zero_add _

/-! ## Along the ring -/

theorem rowAt_up (c : Dev nD) (j : Fin 8) {n : ℕ} (h : n + 1 ≤ 32) : rowAt (up c j) j n = rowAt c j (n + 1) := by
  refine Subtype.ext ?_
  show rowOf (posN (posD (up c j)).val j + 32 - n) j = rowOf (posN (posD c).val j + 32 - (n + 1)) j
  have := posN_up c j
  unfold rowOf; omega

/-- The device `i` places behind on a stream. -/
def back (j : Fin 8) : ℕ → Dev nD → Dev nD
  | 0, c => c
  | i + 1, c => back j i (up c j)

theorem msg_sum (j : Fin 8) : ∀ (n : ℕ) (_ : n ≤ 30) (c : Dev nD) (y : S16x2048.Idx),
    msg X Wt n c j y = ∑ i ∈ Finset.range (n + 1), entry X Wt (back j i c) (at16 (rowAt c j n) y) (y 1)
  | 0, _, c, y => by
    rw [Finset.sum_range_one]
    show drop4 (k0_pay47 (firstV X Wt c j)) y = _
    unfold k0_pay47
    simp only [shapeCast_self]
    rw [drop4_cast]
    exact firstV_apply X Wt c j y
  | n + 1, h, c, y => by
    rw [msg_rs X Wt (by omega) c j, Finset.sum_range_succ', ← rowAt_up c j (show n + 1 ≤ 32 by omega)]
    unfold k0_pay1
    simp only [shapeCast_self]
    rw [drop4_cast, cast_lift4]
    show (gRows X Wt c j (n + 1) y + got X Wt n c j y : EReal) = _
    rw [add_comm, gRows_apply, ← rowAt_up c j (show n + 1 ≤ 32 by omega)]
    exact congrArg (· + _) (msg_sum j n (by omega) (up c j) y)

/-- A stream's place of a device is its alone, -/
theorem posN_inj : ∀ (j : Fin 8) (c d : Dev nD), posN (posD c).val j = posN (posD d).val j → c = d := by decide

theorem posN_back (j : Fin 8) : ∀ (i : ℕ) (_ : i ≤ 32) (c : Dev nD), posN (posD (back j i c)).val j = (posN (posD c).val j + 32 - i) % 32
  | 0, _, c => by have := posN_lt (posD c) j; show posN (posD c).val j = _; omega
  | i + 1, h, c => by
    show posN (posD (back j i (up c j))).val j = _
    rw [posN_back j i (by omega) (up c j)]
    have := posN_up c j; have := posN_lt (posD (up c j)) j
    omega

/-- so that thirty-two steps back meet every device once. -/
theorem back_bij (j : Fin 8) (c : Dev nD) : Function.Bijective fun i : Fin 32 => back j i.val c := by
  refine (Fintype.bijective_iff_injective_and_card _).mpr ⟨fun a b h => ?_, rfl⟩
  have h' := congrArg (fun d => posN (posD d).val j) h
  simp only [] at h'
  rw [posN_back j _ (by omega), posN_back j _ (by omega)] at h'
  have := posN_lt (posD c) j
  exact Fin.ext (by omega)

/-- The sum over all devices. -/
def total (r : Fin 4096) (q : Fin 2048) : EReal := ∑ d : Dev nD, entry X Wt d r q

theorem sum_back (j : Fin 8) (c : Dev nD) (r : Fin 4096) (q : Fin 2048) :
    ∑ i ∈ Finset.range 32, entry X Wt (back j i c) r q = total X Wt r q := by
  rw [Finset.sum_range (fun i => entry X Wt (back j i c) r q)]
  exact (back_bij j c).sum_comp fun d => entry X Wt d r q

/-- The activation. -/
def act (s : EReal) : EReal := s * Ideal.logistic s

theorem last_apply (c : Dev nD) (j : Fin 8) (y : S16x2048.Idx) :
    k0_pay129 (gRows X Wt c j 31) (lift4 (got X Wt 30 c j)) y = act (total X Wt (at16 (rowAt c j 31) y) (y 1)) := by
  have hs : (gRows X Wt c j 31 y + got X Wt 30 c j y : EReal) = total X Wt (at16 (rowAt c j 31) y) (y 1) := by
    rw [← sum_back X Wt j c (at16 (rowAt c j 31) y) (y 1), Finset.sum_range_succ', add_comm, gRows_apply, ← rowAt_up c j (show 30 + 1 ≤ 32 by omega)]
    exact congrArg (· + _) (msg_sum X Wt j 30 le_rfl (up c j) y)
  unfold k0_pay129
  simp only [shapeCast_self]
  rw [cast_lift4, ← hs]
  rfl

theorem msg_fin (j : Fin 8) (y : S16x2048.Idx) : ∀ (t : ℕ) (_ : t ≤ 31) (c : Dev nD),
    msg X Wt (31 + t) c j y = act (total X Wt (at16 (rowAt (back j t c) j 31) y) (y 1))
  | 0, _, c => by
    show msg X Wt 31 c j y = _
    rw [msg_last]
    unfold k0_pay130
    rw [drop4_cast]
    exact last_apply X Wt c j y
  | t + 1, h, c => by
    show msg X Wt ((31 + t) + 1) c j y = _
    rw [msg_ag X Wt (by omega) c j]
    exact msg_fin j y t (by omega) (up c j)

theorem rowAt_back (c : Dev nD) (j : Fin 8) {t : ℕ} (h : t < 32) : rowAt (back j (t + 1) c) j 31 = rowAt c j t := by
  refine Subtype.ext ?_
  show rowOf (posN (posD (back j (t + 1) c)).val j + 32 - 31) j = rowOf (posN (posD c).val j + 32 - t) j
  rw [posN_back j (t + 1) (by omega) c]
  unfold rowOf; omega

theorem finV_apply (c : Dev nD) (j : Fin 8) {t : ℕ} (h : t < 32) (y : S16x2048.Idx) :
    finV X Wt c j t y = act (total X Wt (at16 (rowAt c j t) y) (y 1)) := by
  unfold finV
  split
  · next ht => subst ht; exact last_apply X Wt c j y
  · next ht =>
    rw [← rowAt_back c j h]
    exact msg_fin X Wt j y t (by omega) (up c j)

/-- The result on every device. -/
theorem outF_apply (c : Dev nD) (r : Fin 4096) (q : Fin 2048) : outF X Wt c (ix2 r q) = act (total X Wt r q) := by
  have hr := r.isLt
  let j : Fin 8 := ⟨r.val % 128 / 16, by omega⟩
  let t : ℕ := (posN (posD c).val j + 32 - r.val / 128) % 32
  have hp := posN_lt (posD c) j
  have ht : t < 32 := Nat.mod_lt _ (by decide)
  let y : S16x2048.Idx := ix2 (n0 := 16) (n1 := 2048) ⟨r.val % 16, Nat.mod_lt _ (by decide)⟩ q
  have ha : at16 (rowAt c j t) y = r := Fin.ext (by
    show 128 * ((posN (posD c).val j + 32 - (posN (posD c).val j + 32 - r.val / 128) % 32) % 32) + 16 * (r.val % 128 / 16) + r.val % 16 = r.val
    omega)
  have h := congrFun (read_outOf c (finV X Wt c) j ht) y
  have h2 : (rowsO (rowAt c j t)).view.read (Elt Ideal) (outOf c (finV X Wt c)) y = outF X Wt c ((rectO (rowAt c j t)).emb y) := rfl
  rw [h2, emb_at16, ha, finV_apply X Wt c j ht y, ha] at h
  exact h

end Cert.KernelIdeal.Allreduce

end
-- ==== Proof.Agree.lean ====
/-
  The reference's entry: its sum of 4096 products is the sum over the devices of their sums of 128, and where that sum
  lies within the bounds of the clip, the quotient the reference takes is the activation the kernel takes.
-/
module

public import proofs.«01_k».proof.Proof.Sum
public import Idealize.ShloMosaic.Lib.StackMember
public import Idealize.ShloMosaic.Lib.Layout

@[expose] public section

noncomputable section

namespace Cert.KernelIdeal.Allreduce

open Idealize.ShloMosaic Idealize.ShloMosaic.TcCoe Idealize.ShloMosaic.ValueIdx
open scoped BigOperators

theorem exp_nonneg (x : EReal) : 0 ≤ Ideal.exp x := by
  induction x with
  | bot => exact le_rfl
  | top => exact le_top
  | coe r => exact EReal.coe_nonneg.mpr (Real.exp_pos r).le

theorem one_add_exp_ne (x : EReal) : (1 : EReal) + Ideal.exp x ≠ 0 := fun e => by
  have h : (1 : EReal) ≤ 1 + Ideal.exp x := le_add_of_nonneg_right (exp_nonneg x)
  rw [e] at h; exact absurd h (by simp)

/-- Within the clip's bounds the quotient is the activation. -/
theorem act_eq (s lo hi : EReal) (h1 : lo ≤ s) (h2 : s ≤ hi) : act s = Ideal.div s (1 + Ideal.exp (-(min hi (max lo s)))) := by
  rw [max_eq_right h1, min_eq_right h2]
  exact Ideal.mul_one_div (one_add_exp_ne _)

/-- The float words of the clip's bounds, of one, and of the bound on a device's product. -/
theorem word_lo : Ideal.ofBits .f32 0xC2700000#32 = ((-60 : ℝ) : EReal) := by
  simp [Ideal.ofBits, Ideal.ieee]; norm_num; rw [← EReal.coe_mul]; norm_num
theorem word_hi : Ideal.ofBits .f32 0x42700000#32 = ((60 : ℝ) : EReal) := by
  simp [Ideal.ofBits, Ideal.ieee]; norm_num; rw [← EReal.coe_mul]; norm_num
theorem word_bound : Ideal.ofBits .f32 0x3FF00000#32 = ((1.875 : ℝ) : EReal) := by
  simp [Ideal.ofBits, Ideal.ieee]; norm_num; rw [← EReal.coe_mul]; norm_num

variable (X : Dev nD → Vec Ideal S4096x128 .bf16) (Wt : Dev nD → Vec Ideal S128x2048 .bf16)

theorem nsmul_coe (n : ℕ) (b : ℝ) : n • (b : EReal) = ((n * b : ℝ) : EReal) := by
  induction n with
  | zero => simp
  | succ n ih => rw [succ_nsmul, ih, ← EReal.coe_add]; congr 1; push_cast; ring

/-- Thirty-two numbers of size at most 1.875 add up to one of size at most 60. -/
theorem total_bounds (r : Fin 4096) (q : Fin 2048) (h : ∀ d, max (entry X Wt d r q) (-(entry X Wt d r q)) ≤ ((1.875 : ℝ) : EReal)) :
    ((-60 : ℝ) : EReal) ≤ total X Wt r q ∧ total X Wt r q ≤ ((60 : ℝ) : EReal) := by
  have hc : (Finset.univ : Finset (Dev nD)).card = 32 := rfl
  constructor
  · have h1 := Finset.card_nsmul_le_sum (Finset.univ : Finset (Dev nD)) (fun d => entry X Wt d r q) ((-1.875 : ℝ) : EReal)
      fun d _ => by rw [EReal.coe_neg]; exact EReal.neg_le.mp ((le_max_right _ _).trans (h d))
    rw [hc, nsmul_coe] at h1
    refine le_trans (le_of_eq (congrArg _ ?_)) h1
    norm_num
  · have h1 := Finset.sum_le_card_nsmul (Finset.univ : Finset (Dev nD)) (fun d => entry X Wt d r q) ((1.875 : ℝ) : EReal)
      fun d _ => (le_max_left _ _).trans (h d)
    rw [hc, nsmul_coe] at h1
    refine h1.trans (le_of_eq (congrArg _ ?_))
    norm_num

/-- The sum over all 4096 positions, device by device. -/
theorem total_whole (x : Vec Ideal ⟨2, ![4096, 4096]⟩ .bf16) (w : Vec Ideal ⟨2, ![4096, 2048]⟩ .bf16) (r : Fin 4096) (q : Fin 2048)
    (hx : ∀ (d : Dev nD) (k : Fin 128), X d (ix2 r k) = x (ix2 r ⟨k.val + 128 * d.val, by have := k.isLt; have : d.val < 32 := d.isLt; omega⟩))
    (hw : ∀ (d : Dev nD) (k : Fin 128), Wt d (ix2 k q) = w (ix2 ⟨k.val + 128 * d.val, by have := k.isLt; have : d.val < 32 := d.isLt; omega⟩ q)) :
    total X Wt r q = ∑ k : Fin 4096, (x (ix2 r k) * w (ix2 k q) : EReal) := by
  rw [← Equiv.sum_comp (finProdFinEquiv : Fin 32 × Fin 128 ≃ Fin 4096), Fintype.sum_prod_type]
  unfold total entry
  refine Finset.sum_congr rfl fun d _ => Finset.sum_congr rfl fun k _ => ?_
  rw [hx, hw]
  rfl

end Cert.KernelIdeal.Allreduce

end
-- ==== Proof.Values.lean ====
/-
  The value claim: on every device the kernel's result is the reference's, over the extended reals, where every
  device's own product is bounded so that the sum stays within the reference's clip.
-/
module

public import proofs.«01_k».proof.Proof.Frames
public import proofs.«01_k».proof.Proof.Agree

@[expose] public section

noncomputable section

namespace Cert.Proof

open Idealize.ShloMosaic hiding ix2 eq_ix2
open Idealize.ShloMosaic.TcCoe Idealize.SL.Sem
open Idealize.ShloMosaic.ValueIdx (ix2 eq_ix2)
open Cert.KernelIdeal.Allreduce
open scoped BigOperators

/-- The reference's entry from its sum of products. -/
theorem reference_apply [Cert.ReferenceIdeal.Facts] (x : Vec Ideal ⟨2, ![4096, 4096]⟩ .bf16) (w : Vec Ideal ⟨2, ![4096, 2048]⟩ .bf16) (r : Fin 4096) (q : Fin 2048) :
    Host.dotGeneral (F := Ideal) (φ₁ := .f32) (φ₂ := .f32) Cert.ReferenceIdeal.dot_S4096x4096_S4096x2048_S4096x2048_1_0_0_1_n_n none x w (ix2 r q)
      = ∑ k : Fin 4096, (x (ix2 r k) * w (ix2 k q) : EReal) :=
  StackMember.dotGeneral_plain_apply (m := 4096) (n := 2048) (k := 4096) (φ₁ := .f32) (φ₂ := .f32) none x w r q

/-- What the precondition says of a device's entry. -/
theorem bounded [Cert.Pre_products_bounded_KernelIdeal.Facts] (X : Dev Cert.KernelIdeal.nD → Vec Ideal ⟨2, ![4096, 128]⟩ .bf16)
    (W : Dev Cert.KernelIdeal.nD → Vec Ideal ⟨2, ![128, 2048]⟩ .bf16) (d : Dev Cert.KernelIdeal.nD)
    (h : Cert.Pre_products_bounded_KernelIdeal.fn (F := Ideal) (X d) (W d) = fun _ => 1#1) (r : Fin 4096) (q : Fin 2048) :
    max (entry X W d r q) (-(entry X W d r q)) ≤ ((1.875 : ℝ) : EReal) := by
  have e : Host.dotGeneral (F := Ideal) (φ₁ := .f32) (φ₂ := .f32) Cert.Pre_products_bounded_KernelIdeal.dot_S4096x128_S128x2048_S4096x2048_1_0_0_1_n_n none (X d) (W d) (ix2 r q)
      = entry X W d r q :=
    StackMember.dotGeneral_plain_apply (m := 4096) (n := 2048) (k := 128) (φ₁ := .f32) (φ₂ := .f32) none (X d) (W d) r q
  have h1 := congrFun h (ix2 r q)
  have h2 : Ideal.cmp .ole (max (Host.dotGeneral (F := Ideal) (φ₁ := .f32) (φ₂ := .f32) Cert.Pre_products_bounded_KernelIdeal.dot_S4096x128_S128x2048_S4096x2048_1_0_0_1_n_n none (X d) (W d) (ix2 r q))
      (-(Host.dotGeneral (F := Ideal) (φ₁ := .f32) (φ₂ := .f32) Cert.Pre_products_bounded_KernelIdeal.dot_S4096x128_S128x2048_S4096x2048_1_0_0_1_n_n none (X d) (W d) (ix2 r q))))
      (Ideal.ofBits .f32 0x3FF00000#32) = 1#1 := h1
  rw [e, word_bound] at h2
  have h3 : max (entry X W d r q) (-(entry X W d r q)) ≤ ((1.875 : ℝ) : EReal) := by
    by_contra hn
    rw [show Ideal.cmp .ole (max (entry X W d r q) (-(entry X W d r q))) ((1.875 : ℝ) : EReal) = BitVec.ofBool (decide (max (entry X W d r q) (-(entry X W d r q)) ≤ ((1.875 : ℝ) : EReal))) from rfl,
      decide_eq_false hn] at h2
    exact absurd h2 (by decide)
  exact h3

/-- The reference's result, entry by entry. -/
def value (x : Vec Ideal ⟨2, ![4096, 4096]⟩ .bf16) (w : Vec Ideal ⟨2, ![4096, 2048]⟩ .bf16) : Vec Ideal ⟨2, ![4096, 2048]⟩ .bf16 :=
  fun i => (fun s : EReal => Ideal.div s (1 + Ideal.exp (-(min ((60 : ℝ) : EReal) (max ((-60 : ℝ) : EReal) s)))))
    (∑ k : Fin 4096, (x (ix2 (i 0) k) * w (ix2 k (i 1)) : EReal))

/-- The term the reference's run ends with is that. -/
theorem reference_value [Cert.ReferenceIdeal.Facts] (x : Vec Ideal ⟨2, ![4096, 4096]⟩ .bf16) (w : Vec Ideal ⟨2, ![4096, 2048]⟩ .bf16)
    (D : Vec Ideal ⟨2, ![4096, 2048]⟩ .f32)
    (hD : D = Host.dotGeneral (F := Ideal) (φ₁ := .f32) (φ₂ := .f32) Cert.ReferenceIdeal.dot_S4096x4096_S4096x2048_S4096x2048_1_0_0_1_n_n none x w) :
    (fun i => Ideal.div (D i) (Ideal.ofBits .f32 0x3F800000#32 + Ideal.exp (-(min (Ideal.ofBits .f32 0x42700000#32) (max (Ideal.ofBits .f32 0xC2700000#32) (D i)))))
      : Vec Ideal ⟨2, ![4096, 2048]⟩ .bf16) = value x w := by
  funext i
  obtain ⟨r, q, rfl⟩ : ∃ (r : Fin 4096) (q : Fin 2048), i = ix2 r q := ⟨i 0, i 1, eq_ix2 i⟩
  have e : D (ix2 r q) = ∑ k : Fin 4096, (x (ix2 r k) * w (ix2 k q) : EReal) := by rw [hD]; exact reference_apply x w r q
  show Ideal.div (D (ix2 r q)) (Ideal.ofBits .f32 0x3F800000#32 + Ideal.exp (-(min (Ideal.ofBits .f32 0x42700000#32) (max (Ideal.ofBits .f32 0xC2700000#32) (D (ix2 r q)))))) = _
  rw [e, Ideal.ofBits_one_f32, word_lo, word_hi]
  rfl

/-- The kernel's result array is the reference's. -/
theorem kernel_value [Cert.Pre_products_bounded_KernelIdeal.Facts] (X : Dev Cert.KernelIdeal.nD → Vec Ideal ⟨2, ![4096, 128]⟩ .bf16)
    (W : Dev Cert.KernelIdeal.nD → Vec Ideal ⟨2, ![128, 2048]⟩ .bf16)
    (x : Vec Ideal ⟨2, ![4096, 4096]⟩ .bf16) (w : Vec Ideal ⟨2, ![4096, 2048]⟩ .bf16)
    (hx : ∀ d : Dev Cert.KernelIdeal.nD, X d = Layout.block ⟨2, ![4096, 128]⟩ ⟨2, ![4096, 4096]⟩ 1 32 d x)
    (hw : ∀ d : Dev Cert.KernelIdeal.nD, W d = Layout.block ⟨2, ![128, 2048]⟩ ⟨2, ![4096, 2048]⟩ 0 32 d w)
    (hp : ∀ d, Cert.Pre_products_bounded_KernelIdeal.fn (F := Ideal) (X d) (W d) = fun _ => 1#1) (c : Dev Cert.KernelIdeal.nD) :
    outF X W c = value x w := by
  funext i
  obtain ⟨r, q, rfl⟩ : ∃ (r : Fin 4096) (q : Fin 2048), i = ix2 r q := ⟨i 0, i 1, eq_ix2 i⟩
  have hb := total_bounds X W r q fun d => bounded X W d (hp d) r q
  have ht := total_whole X W x w r q
    (fun d k => by
      rw [hx d, Layout.block_apply]
      congr 1
      funext b
      apply Fin.ext
      rw [Layout.Tiles.idx_val]
      match b with
      | ⟨0, _⟩ => rfl
      | ⟨1, _⟩ => show d.val * 128 + k.val = k.val + 128 * d.val; omega)
    (fun d k => by
      rw [hw d, Layout.block_apply]
      congr 1
      funext b
      apply Fin.ext
      rw [Layout.Tiles.idx_val]
      match b with
      | ⟨0, _⟩ => show d.val * 128 + k.val = k.val + 128 * d.val; omega
      | ⟨1, _⟩ => rfl)
  refine (outF_apply X W c r q).trans ?_
  refine (act_eq _ _ _ hb.1 hb.2).trans ?_
  rw [ht]
  rfl

/-- The value claim. -/
theorem algebraic [Cert.Pre_products_bounded_KernelIdeal.Facts] : Cert.algebraic_KernelIdeal_ReferenceIdeal_pre_products_bounded_KernelIdeal :=
  fun m g m' g' hp ha => by
    refine ⟨value (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
    · refine (θ_run Cert.KernelIdeal.defs _ _).mono (fun r h c => ⟨(h.1 c).2.2.trans ?_, (h.1 c).1, (h.1 c).2.1⟩) (run_main (F := Ideal) m g)
      exact kernel_value (xBlk m) (wBlk m) _ _ (fun d => (ha d).1) (fun d => (ha d).2) hp c
    · refine (θ_run Cert.ReferenceIdeal.defs _ _).mono (fun r h => ⟨(h 0).1.trans ?_, (h 0).2⟩) (Cert.ReferenceIdeal.Value.run (F := Ideal) m' g')
      exact reference_value _ _ _ rfl

end Cert.Proof

end
-- ==== Proof.lean ====
/-
  The proof of `Cert.Claim`: the two runs of the kernel (Proof/Frames.lean, from Proof/Run.lean), the run of the
  reference, the idealized program, which is the printed one, and the value of the result (Proof/Values.lean).
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_products_bounded_KernelIdeal
public import proofs.«01_k».proof.Proof.Gen.Pre_products_bounded_ReferenceIdeal
public import proofs.«01_k».proof.Proof.Frames
public import proofs.«01_k».proof.Proof.Values

@[expose] public section

noncomputable section

namespace Cert.Proof

/-- The claims of the certificate. -/
theorem claim : Cert.Claim :=
  ⟨Cert.Kernel.Gen.facts, Cert.KernelIdeal.Gen.facts, Cert.ReferenceIdeal.Gen.facts,
    Cert.Pre_products_bounded_KernelIdeal.Gen.facts, Cert.Pre_products_bounded_ReferenceIdeal.Gen.facts,
    frame_kernel, frame_ideal, (fun m ρ _ => frame_ideal m ρ trivial), frame_reference, (fun m ρ _ => frame_reference m ρ trivial),
    trivial, algebraic⟩

end Cert.Proof
